-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))) = (fun _ => 1#1)

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetReferenceIdeal (m : (ℓ : Loc Cert.RetReferenceIdeal.nD Cert.RetReferenceIdeal.τ Cert.RetReferenceIdeal.sig) → Buf (Elt Ideal) ℓ) : Prop :=
  True

def Pre_RetQ (m : (ℓ : Loc Cert.RetQ.nD Cert.RetQ.τ Cert.RetQ.sig) → Buf (Elt Bits) ℓ) : Prop :=
  True

def Pre_RetQIdeal (m : (ℓ : Loc Cert.RetQIdeal.nD Cert.RetQIdeal.τ Cert.RetQIdeal.sig) → Buf (Elt Ideal) ℓ) : Prop :=
  True

def Pre_RetQReferenceIdeal (m : (ℓ : Loc Cert.RetQReferenceIdeal.nD Cert.RetQReferenceIdeal.τ Cert.RetQReferenceIdeal.sig) → Buf (Elt Ideal) ℓ) : Prop :=
  True

def Pre_RetFwd (m : (ℓ : Loc Cert.RetFwd.nD Cert.RetFwd.τ Cert.RetFwd.sig) → Buf (Elt Bits) ℓ) : Prop :=
  True

def Pre_RetFwdIdeal (m : (ℓ : Loc Cert.RetFwdIdeal.nD Cert.RetFwdIdeal.τ Cert.RetFwdIdeal.sig) → Buf (Elt Ideal) ℓ) : Prop :=
  True

def Pre_RetFwdReferenceIdeal (m : (ℓ : Loc Cert.RetFwdReferenceIdeal.nD Cert.RetFwdReferenceIdeal.τ Cert.RetFwdReferenceIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdReferenceIdeal (m : (ℓ : Loc Cert.InFwdReferenceIdeal.nD Cert.InFwdReferenceIdeal.τ Cert.InFwdReferenceIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdReferenceIdeal (m : (ℓ : Loc Cert.OutFwdReferenceIdeal.nD Cert.OutFwdReferenceIdeal.τ Cert.OutFwdReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_in_finite [hPre_in_finite : Cert.Pre_in_finite.Facts] (m : (ℓ : Loc Cert.InProjIdeal.nD Cert.InProjIdeal.τ Cert.InProjIdeal.sig) → Buf (Elt Ideal) ℓ) : Prop :=
  ∀ c : Dev Cert.InProjIdeal.nD,
    (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))) = (fun _ => 1#1)

def Pre_InProjReferenceIdeal (m : (ℓ : Loc Cert.InProjReferenceIdeal.nD Cert.InProjReferenceIdeal.τ Cert.InProjReferenceIdeal.sig) → Buf (Elt Ideal) ℓ) : Prop :=
  True

def Pre_InProjReferenceIdeal_in_finite [hPre_in_finite : Cert.Pre_in_finite.Facts] (m : (ℓ : Loc Cert.InProjReferenceIdeal.nD Cert.InProjReferenceIdeal.τ Cert.InProjReferenceIdeal.sig) → Buf (Elt Ideal) ℓ) : Prop :=
  ∀ c : Dev Cert.InProjReferenceIdeal.nD,
    (Cert.Pre_in_finite.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))) = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_MlpReferenceIdeal_mlp_finite [hPre_mlp_finite : Cert.Pre_mlp_finite.Facts] (m : (ℓ : Loc Cert.MlpReferenceIdeal.nD Cert.MlpReferenceIdeal.τ Cert.MlpReferenceIdeal.sig) → Buf (Elt Ideal) ℓ) : Prop :=
  ∀ c : Dev Cert.MlpReferenceIdeal.nD,
    (Cert.Pre_mlp_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5))) = (fun _ => 1#1)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetReferenceIdeal [hRetReferenceIdeal : Cert.RetReferenceIdeal.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1))
      ∧ r.2.sem = fun _ => 0)

def quiescent_RetQ [hRetQ : Cert.RetQ.Facts] : Prop :=
  ∀ (m : (ℓ : Loc Cert.RetQ.nD Cert.RetQ.τ Cert.RetQ.sig) → Buf (Elt Bits) ℓ) (g : Dev Cert.RetQ.nD → PrngReg), Pre_RetQ m →
    θ_run (Cert.RetQ.defs (F := Bits)) (onTc (τ := Cert.RetQ.τ) (Cert.RetQ.main (F := Bits))) ⟨m, fun _ => 0, g⟩ (fun r => (∀ c : Dev Cert.RetQ.nD,
      r.2.mem ((c.tc : Thread Cert.RetQ.nD Cert.RetQ.τ).loc Cert.RetQ.main_arg0) = m ((c.tc : Thread Cert.RetQ.nD Cert.RetQ.τ).loc Cert.RetQ.main_arg0)
      ∧ r.2.mem ((c.tc : Thread Cert.RetQ.nD Cert.RetQ.τ).loc Cert.RetQ.main_arg1) = m ((c.tc : Thread Cert.RetQ.nD Cert.RetQ.τ).loc Cert.RetQ.main_arg1))
      ∧ r.2.sem = fun _ => 0)

def quiescent_RetQIdeal [hRetQIdeal : Cert.RetQIdeal.Facts] : Prop :=
  ∀ (m : (ℓ : Loc Cert.RetQIdeal.nD Cert.RetQIdeal.τ Cert.RetQIdeal.sig) → Buf (Elt Ideal) ℓ) (g : Dev Cert.RetQIdeal.nD → PrngReg), Pre_RetQIdeal m →
    θ_run (Cert.RetQIdeal.defs (F := Ideal)) (onTc (τ := Cert.RetQIdeal.τ) (Cert.RetQIdeal.main (F := Ideal))) ⟨m, fun _ => 0, g⟩ (fun r => (∀ c : Dev Cert.RetQIdeal.nD,
      r.2.mem ((c.tc : Thread Cert.RetQIdeal.nD Cert.RetQIdeal.τ).loc Cert.RetQIdeal.main_arg0) = m ((c.tc : Thread Cert.RetQIdeal.nD Cert.RetQIdeal.τ).loc Cert.RetQIdeal.main_arg0)
      ∧ r.2.mem ((c.tc : Thread Cert.RetQIdeal.nD Cert.RetQIdeal.τ).loc Cert.RetQIdeal.main_arg1) = m ((c.tc : Thread Cert.RetQIdeal.nD Cert.RetQIdeal.τ).loc Cert.RetQIdeal.main_arg1))
      ∧ r.2.sem = fun _ => 0)

def quiescent_RetQReferenceIdeal [hRetQReferenceIdeal : Cert.RetQReferenceIdeal.Facts] : Prop :=
  ∀ (m : (ℓ : Loc Cert.RetQReferenceIdeal.nD Cert.RetQReferenceIdeal.τ Cert.RetQReferenceIdeal.sig) → Buf (Elt Ideal) ℓ) (g : Dev Cert.RetQReferenceIdeal.nD → PrngReg), Pre_RetQReferenceIdeal m →
    θ_run (Cert.RetQReferenceIdeal.defs (F := Ideal)) (onTc (τ := Cert.RetQReferenceIdeal.τ) (Cert.RetQReferenceIdeal.main (F := Ideal))) ⟨m, fun _ => 0, g⟩ (fun r => (∀ c : Dev Cert.RetQReferenceIdeal.nD,
      r.2.mem ((c.tc : Thread Cert.RetQReferenceIdeal.nD Cert.RetQReferenceIdeal.τ).loc Cert.RetQReferenceIdeal.main_arg0) = m ((c.tc : Thread Cert.RetQReferenceIdeal.nD Cert.RetQReferenceIdeal.τ).loc Cert.RetQReferenceIdeal.main_arg0)
      ∧ r.2.mem ((c.tc : Thread Cert.RetQReferenceIdeal.nD Cert.RetQReferenceIdeal.τ).loc Cert.RetQReferenceIdeal.main_arg1) = m ((c.tc : Thread Cert.RetQReferenceIdeal.nD Cert.RetQReferenceIdeal.τ).loc Cert.RetQReferenceIdeal.main_arg1))
      ∧ r.2.sem = fun _ => 0)

def quiescent_RetFwd [hRetFwd : Cert.RetFwd.Facts] : Prop :=
  ∀ (m : (ℓ : Loc Cert.RetFwd.nD Cert.RetFwd.τ Cert.RetFwd.sig) → Buf (Elt Bits) ℓ) (g : Dev Cert.RetFwd.nD → PrngReg), Pre_RetFwd m →
    θ_run (Cert.RetFwd.defs (F := Bits)) (onTc (τ := Cert.RetFwd.τ) (Cert.RetFwd.main (F := Bits))) ⟨m, fun _ => 0, g⟩ (fun r => (∀ c : Dev Cert.RetFwd.nD,
      r.2.mem ((c.tc : Thread Cert.RetFwd.nD Cert.RetFwd.τ).loc Cert.RetFwd.main_arg0) = m ((c.tc : Thread Cert.RetFwd.nD Cert.RetFwd.τ).loc Cert.RetFwd.main_arg0))
      ∧ r.2.sem = fun _ => 0)

def quiescent_RetFwdIdeal [hRetFwdIdeal : Cert.RetFwdIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg), Pre_RetFwdIdeal m →
    θ_run (Cert.RetFwdIdeal.defs (F := Ideal)) (onTc (τ := Cert.RetFwdIdeal.τ) (Cert.RetFwdIdeal.main (F := Ideal))) ⟨m, fun _ => 0, g⟩ (fun r => (∀ c : Dev Cert.RetFwdIdeal.nD,
      r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0))
      ∧ r.2.sem = fun _ => 0)

def quiescent_RetFwdReferenceIdeal [hRetFwdReferenceIdeal : Cert.RetFwdReferenceIdeal.Facts] : Prop :=
  ∀ (m : (ℓ : Loc Cert.RetFwdReferenceIdeal.nD Cert.RetFwdReferenceIdeal.τ Cert.RetFwdReferenceIdeal.sig) → Buf (Elt Ideal) ℓ) (g : Dev Cert.RetFwdReferenceIdeal.nD → PrngReg), Pre_RetFwdReferenceIdeal m →
    θ_run (Cert.RetFwdReferenceIdeal.defs (F := Ideal)) (onTc (τ := Cert.RetFwdReferenceIdeal.τ) (Cert.RetFwdReferenceIdeal.main (F := Ideal))) ⟨m, fun _ => 0, g⟩ (fun r => (∀ c : Dev Cert.RetFwdReferenceIdeal.nD,
      r.2.mem ((c.tc : Thread Cert.RetFwdReferenceIdeal.nD Cert.RetFwdReferenceIdeal.τ).loc Cert.RetFwdReferenceIdeal.main_arg0) = m ((c.tc : Thread Cert.RetFwdReferenceIdeal.nD Cert.RetFwdReferenceIdeal.τ).loc Cert.RetFwdReferenceIdeal.main_arg0))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdReferenceIdeal [hInFwdReferenceIdeal : Cert.InFwdReferenceIdeal.Facts] : Prop :=
  ∀ (m : (ℓ : Loc Cert.InFwdReferenceIdeal.nD Cert.InFwdReferenceIdeal.τ Cert.InFwdReferenceIdeal.sig) → Buf (Elt Ideal) ℓ) (g : Dev Cert.InFwdReferenceIdeal.nD → PrngReg), Pre_InFwdReferenceIdeal m →
    θ_run (Cert.InFwdReferenceIdeal.defs (F := Ideal)) (onTc (τ := Cert.InFwdReferenceIdeal.τ) (Cert.InFwdReferenceIdeal.main (F := Ideal))) ⟨m, fun _ => 0, g⟩ (fun r => (∀ c : Dev Cert.InFwdReferenceIdeal.nD,
      r.2.mem ((c.tc : Thread Cert.InFwdReferenceIdeal.nD Cert.InFwdReferenceIdeal.τ).loc Cert.InFwdReferenceIdeal.main_arg0) = m ((c.tc : Thread Cert.InFwdReferenceIdeal.nD Cert.InFwdReferenceIdeal.τ).loc Cert.InFwdReferenceIdeal.main_arg0)
      ∧ r.2.mem ((c.tc : Thread Cert.InFwdReferenceIdeal.nD Cert.InFwdReferenceIdeal.τ).loc Cert.InFwdReferenceIdeal.main_arg1) = m ((c.tc : Thread Cert.InFwdReferenceIdeal.nD Cert.InFwdReferenceIdeal.τ).loc Cert.InFwdReferenceIdeal.main_arg1)
      ∧ r.2.mem ((c.tc : Thread Cert.InFwdReferenceIdeal.nD Cert.InFwdReferenceIdeal.τ).loc Cert.InFwdReferenceIdeal.main_arg2) = m ((c.tc : Thread Cert.InFwdReferenceIdeal.nD Cert.InFwdReferenceIdeal.τ).loc Cert.InFwdReferenceIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ r.2.sem = fun _ => 0)

def quiescent_OutFwdReferenceIdeal [hOutFwdReferenceIdeal : Cert.OutFwdReferenceIdeal.Facts] : Prop :=
  ∀ (m : (ℓ : Loc Cert.OutFwdReferenceIdeal.nD Cert.OutFwdReferenceIdeal.τ Cert.OutFwdReferenceIdeal.sig) → Buf (Elt Ideal) ℓ) (g : Dev Cert.OutFwdReferenceIdeal.nD → PrngReg), Pre_OutFwdReferenceIdeal m →
    θ_run (Cert.OutFwdReferenceIdeal.defs (F := Ideal)) (onTc (τ := Cert.OutFwdReferenceIdeal.τ) (Cert.OutFwdReferenceIdeal.main (F := Ideal))) ⟨m, fun _ => 0, g⟩ (fun r => (∀ c : Dev Cert.OutFwdReferenceIdeal.nD,
      r.2.mem ((c.tc : Thread Cert.OutFwdReferenceIdeal.nD Cert.OutFwdReferenceIdeal.τ).loc Cert.OutFwdReferenceIdeal.main_arg0) = m ((c.tc : Thread Cert.OutFwdReferenceIdeal.nD Cert.OutFwdReferenceIdeal.τ).loc Cert.OutFwdReferenceIdeal.main_arg0)
      ∧ r.2.mem ((c.tc : Thread Cert.OutFwdReferenceIdeal.nD Cert.OutFwdReferenceIdeal.τ).loc Cert.OutFwdReferenceIdeal.main_arg1) = m ((c.tc : Thread Cert.OutFwdReferenceIdeal.nD Cert.OutFwdReferenceIdeal.τ).loc Cert.OutFwdReferenceIdeal.main_arg1)
      ∧ r.2.mem ((c.tc : Thread Cert.OutFwdReferenceIdeal.nD Cert.OutFwdReferenceIdeal.τ).loc Cert.OutFwdReferenceIdeal.main_arg2) = m ((c.tc : Thread Cert.OutFwdReferenceIdeal.nD Cert.OutFwdReferenceIdeal.τ).loc Cert.OutFwdReferenceIdeal.main_arg2)
      ∧ r.2.mem ((c.tc : Thread Cert.OutFwdReferenceIdeal.nD Cert.OutFwdReferenceIdeal.τ).loc Cert.OutFwdReferenceIdeal.main_arg3) = m ((c.tc : Thread Cert.OutFwdReferenceIdeal.nD Cert.OutFwdReferenceIdeal.τ).loc Cert.OutFwdReferenceIdeal.main_arg3)
      ∧ r.2.mem ((c.tc : Thread Cert.OutFwdReferenceIdeal.nD Cert.OutFwdReferenceIdeal.τ).loc Cert.OutFwdReferenceIdeal.main_arg4) = m ((c.tc : Thread Cert.OutFwdReferenceIdeal.nD Cert.OutFwdReferenceIdeal.τ).loc Cert.OutFwdReferenceIdeal.main_arg4)
      ∧ r.2.mem ((c.tc : Thread Cert.OutFwdReferenceIdeal.nD Cert.OutFwdReferenceIdeal.τ).loc Cert.OutFwdReferenceIdeal.main_arg5) = m ((c.tc : Thread Cert.OutFwdReferenceIdeal.nD Cert.OutFwdReferenceIdeal.τ).loc Cert.OutFwdReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_in_finite [hInProjIdeal : Cert.InProjIdeal.Facts] [hPre_in_finite : Cert.Pre_in_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_in_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_InProjReferenceIdeal_pre_in_finite [hInProjReferenceIdeal : Cert.InProjReferenceIdeal.Facts] [hPre_in_finite : Cert.Pre_in_finite.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal_in_finite m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5))
      ∧ r.2.sem = fun _ => 0)

def quiescent_MlpReferenceIdeal_pre_mlp_finite [hMlpReferenceIdeal : Cert.MlpReferenceIdeal.Facts] [hPre_mlp_finite : Cert.Pre_mlp_finite.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal_mlp_finite m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5))
      ∧ r.2.sem = fun _ => 0)

def preserves_Loss_LossIdeal : Prop :=
  True

def algebraic_LossIdeal_LossReferenceIdeal_pre_loss_finite [hLossIdeal : Cert.LossIdeal.Facts] [hLossReferenceIdeal : Cert.LossReferenceIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal_loss_finite m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v52) = v0 c
          ∧ r.2.mem ((c.tc : Thread Cert.LossReferenceIdeal.nD Cert.LossReferenceIdeal.τ).loc Cert.LossReferenceIdeal.main_v54) = v1 c
          ∧ r.2.mem ((c.tc : Thread Cert.LossReferenceIdeal.nD Cert.LossReferenceIdeal.τ).loc Cert.LossReferenceIdeal.main_v55) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_Ret_RetIdeal : Prop :=
  True

def algebraic_RetIdeal_RetReferenceIdeal [hRetIdeal : Cert.RetIdeal.Facts] [hRetReferenceIdeal : Cert.RetReferenceIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetReferenceIdeal.nD Cert.RetReferenceIdeal.τ Cert.RetReferenceIdeal.sig) → Buf (Elt Ideal) ℓ) (g' : Dev Cert.RetReferenceIdeal.nD → PrngReg), Pre_RetIdeal m →
    (∀ c : Dev Cert.RetIdeal.nD,
      m' ((c.tc : Thread Cert.RetReferenceIdeal.nD Cert.RetReferenceIdeal.τ).loc Cert.RetReferenceIdeal.main_arg0) = m ((c.tc : Thread Cert.RetIdeal.nD Cert.RetIdeal.τ).loc Cert.RetIdeal.main_arg0)
      ∧ m' ((c.tc : Thread Cert.RetReferenceIdeal.nD Cert.RetReferenceIdeal.τ).loc Cert.RetReferenceIdeal.main_arg1) = m ((c.tc : Thread Cert.RetIdeal.nD Cert.RetIdeal.τ).loc Cert.RetIdeal.main_arg1)) →
    ∃ (v0 : (c : Dev Cert.RetIdeal.nD) → Buf (Elt Ideal) ((c.tc : Thread Cert.RetIdeal.nD Cert.RetIdeal.τ).loc Cert.RetIdeal.main_v140_1)) (v1 : (c : Dev Cert.RetIdeal.nD) → Buf (Elt Ideal) ((c.tc : Thread Cert.RetIdeal.nD Cert.RetIdeal.τ).loc Cert.RetIdeal.main_v140_2)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v140_1) = v0 c
          ∧ r.2.mem ((c.tc : Thread Cert.RetIdeal.nD Cert.RetIdeal.τ).loc Cert.RetIdeal.main_v140_2) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ θ_run (Cert.RetReferenceIdeal.defs (F := Ideal)) (onTc (τ := Cert.RetReferenceIdeal.τ) (Cert.RetReferenceIdeal.main (F := Ideal))) ⟨m', fun _ => 0, g'⟩ (fun r => ∀ c : Dev Cert.RetReferenceIdeal.nD,
          r.2.mem ((c.tc : Thread Cert.RetReferenceIdeal.nD Cert.RetReferenceIdeal.τ).loc Cert.RetReferenceIdeal.main_v178) = v0 c
          ∧ r.2.mem ((c.tc : Thread Cert.RetReferenceIdeal.nD Cert.RetReferenceIdeal.τ).loc Cert.RetReferenceIdeal.main_v180) = v1 c
          ∧ r.2.mem ((c.tc : Thread Cert.RetReferenceIdeal.nD Cert.RetReferenceIdeal.τ).loc Cert.RetReferenceIdeal.main_arg0) = m' ((c.tc : Thread Cert.RetReferenceIdeal.nD Cert.RetReferenceIdeal.τ).loc Cert.RetReferenceIdeal.main_arg0)
          ∧ r.2.mem ((c.tc : Thread Cert.RetReferenceIdeal.nD Cert.RetReferenceIdeal.τ).loc Cert.RetReferenceIdeal.main_arg1) = m' ((c.tc : Thread Cert.RetReferenceIdeal.nD Cert.RetReferenceIdeal.τ).loc Cert.RetReferenceIdeal.main_arg1))

def preserves_RetQ_RetQIdeal : Prop :=
  True

def algebraic_RetQIdeal_RetQReferenceIdeal [hRetQIdeal : Cert.RetQIdeal.Facts] [hRetQReferenceIdeal : Cert.RetQReferenceIdeal.Facts] : Prop :=
  ∀ (m : (ℓ : Loc Cert.RetQIdeal.nD Cert.RetQIdeal.τ Cert.RetQIdeal.sig) → Buf (Elt Ideal) ℓ) (g : Dev Cert.RetQIdeal.nD → PrngReg)
    (m' : (ℓ : Loc Cert.RetQReferenceIdeal.nD Cert.RetQReferenceIdeal.τ Cert.RetQReferenceIdeal.sig) → Buf (Elt Ideal) ℓ) (g' : Dev Cert.RetQReferenceIdeal.nD → PrngReg), Pre_RetQIdeal m →
    (∀ c : Dev Cert.RetQIdeal.nD,
      m' ((c.tc : Thread Cert.RetQReferenceIdeal.nD Cert.RetQReferenceIdeal.τ).loc Cert.RetQReferenceIdeal.main_arg0) = m ((c.tc : Thread Cert.RetQIdeal.nD Cert.RetQIdeal.τ).loc Cert.RetQIdeal.main_arg0)
      ∧ m' ((c.tc : Thread Cert.RetQReferenceIdeal.nD Cert.RetQReferenceIdeal.τ).loc Cert.RetQReferenceIdeal.main_arg1) = m ((c.tc : Thread Cert.RetQIdeal.nD Cert.RetQIdeal.τ).loc Cert.RetQIdeal.main_arg1)) →
    ∃ (v0 : (c : Dev Cert.RetQIdeal.nD) → Buf (Elt Ideal) ((c.tc : Thread Cert.RetQIdeal.nD Cert.RetQIdeal.τ).loc Cert.RetQIdeal.main_v140_0)),
      θ_run (Cert.RetQIdeal.defs (F := Ideal)) (onTc (τ := Cert.RetQIdeal.τ) (Cert.RetQIdeal.main (F := Ideal))) ⟨m, fun _ => 0, g⟩ (fun r => ∀ c : Dev Cert.RetQIdeal.nD,
          r.2.mem ((c.tc : Thread Cert.RetQIdeal.nD Cert.RetQIdeal.τ).loc Cert.RetQIdeal.main_v140_0) = v0 c
          ∧ r.2.mem ((c.tc : Thread Cert.RetQIdeal.nD Cert.RetQIdeal.τ).loc Cert.RetQIdeal.main_arg0) = m ((c.tc : Thread Cert.RetQIdeal.nD Cert.RetQIdeal.τ).loc Cert.RetQIdeal.main_arg0)
          ∧ r.2.mem ((c.tc : Thread Cert.RetQIdeal.nD Cert.RetQIdeal.τ).loc Cert.RetQIdeal.main_arg1) = m ((c.tc : Thread Cert.RetQIdeal.nD Cert.RetQIdeal.τ).loc Cert.RetQIdeal.main_arg1))
      ∧ θ_run (Cert.RetQReferenceIdeal.defs (F := Ideal)) (onTc (τ := Cert.RetQReferenceIdeal.τ) (Cert.RetQReferenceIdeal.main (F := Ideal))) ⟨m', fun _ => 0, g'⟩ (fun r => ∀ c : Dev Cert.RetQReferenceIdeal.nD,
          r.2.mem ((c.tc : Thread Cert.RetQReferenceIdeal.nD Cert.RetQReferenceIdeal.τ).loc Cert.RetQReferenceIdeal.main_v144) = v0 c
          ∧ r.2.mem ((c.tc : Thread Cert.RetQReferenceIdeal.nD Cert.RetQReferenceIdeal.τ).loc Cert.RetQReferenceIdeal.main_arg0) = m' ((c.tc : Thread Cert.RetQReferenceIdeal.nD Cert.RetQReferenceIdeal.τ).loc Cert.RetQReferenceIdeal.main_arg0)
          ∧ r.2.mem ((c.tc : Thread Cert.RetQReferenceIdeal.nD Cert.RetQReferenceIdeal.τ).loc Cert.RetQReferenceIdeal.main_arg1) = m' ((c.tc : Thread Cert.RetQReferenceIdeal.nD Cert.RetQReferenceIdeal.τ).loc Cert.RetQReferenceIdeal.main_arg1))

def preserves_RetFwd_RetFwdIdeal : Prop :=
  True

def algebraic_RetFwdIdeal_RetFwdReferenceIdeal [hRetFwdIdeal : Cert.RetFwdIdeal.Facts] [hRetFwdReferenceIdeal : Cert.RetFwdReferenceIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg)
    (m' : (ℓ : Loc Cert.RetFwdReferenceIdeal.nD Cert.RetFwdReferenceIdeal.τ Cert.RetFwdReferenceIdeal.sig) → Buf (Elt Ideal) ℓ) (g' : Dev Cert.RetFwdReferenceIdeal.nD → PrngReg), Pre_RetFwdIdeal m →
    (∀ c : Dev Cert.RetFwdIdeal.nD,
      m' ((c.tc : Thread Cert.RetFwdReferenceIdeal.nD Cert.RetFwdReferenceIdeal.τ).loc Cert.RetFwdReferenceIdeal.main_arg0) = m ((c.tc : Thread Cert.RetFwdIdeal.nD Cert.RetFwdIdeal.τ).loc Cert.RetFwdIdeal.main_arg0)) →
    ∃ (v0 : (c : Dev Cert.RetFwdIdeal.nD) → Buf (Elt Ideal) ((c.tc : Thread Cert.RetFwdIdeal.nD Cert.RetFwdIdeal.τ).loc Cert.RetFwdIdeal.main_v64_0)) (v1 : (c : Dev Cert.RetFwdIdeal.nD) → Buf (Elt Ideal) ((c.tc : Thread Cert.RetFwdIdeal.nD Cert.RetFwdIdeal.τ).loc Cert.RetFwdIdeal.main_v64_1)),
      θ_run (Cert.RetFwdIdeal.defs (F := Ideal)) (onTc (τ := Cert.RetFwdIdeal.τ) (Cert.RetFwdIdeal.main (F := Ideal))) ⟨m, fun _ => 0, g⟩ (fun r => ∀ c : Dev Cert.RetFwdIdeal.nD,
          r.2.mem ((c.tc : Thread Cert.RetFwdIdeal.nD Cert.RetFwdIdeal.τ).loc Cert.RetFwdIdeal.main_v64_0) = v0 c
          ∧ r.2.mem ((c.tc : Thread Cert.RetFwdIdeal.nD Cert.RetFwdIdeal.τ).loc Cert.RetFwdIdeal.main_v64_1) = v1 c
          ∧ r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0))
      ∧ θ_run (Cert.RetFwdReferenceIdeal.defs (F := Ideal)) (onTc (τ := Cert.RetFwdReferenceIdeal.τ) (Cert.RetFwdReferenceIdeal.main (F := Ideal))) ⟨m', fun _ => 0, g'⟩ (fun r => ∀ c : Dev Cert.RetFwdReferenceIdeal.nD,
          r.2.mem ((c.tc : Thread Cert.RetFwdReferenceIdeal.nD Cert.RetFwdReferenceIdeal.τ).loc Cert.RetFwdReferenceIdeal.main_v140) = v0 c
          ∧ r.2.mem ((c.tc : Thread Cert.RetFwdReferenceIdeal.nD Cert.RetFwdReferenceIdeal.τ).loc Cert.RetFwdReferenceIdeal.main_v143) = v1 c
          ∧ r.2.mem ((c.tc : Thread Cert.RetFwdReferenceIdeal.nD Cert.RetFwdReferenceIdeal.τ).loc Cert.RetFwdReferenceIdeal.main_arg0) = m' ((c.tc : Thread Cert.RetFwdReferenceIdeal.nD Cert.RetFwdReferenceIdeal.τ).loc Cert.RetFwdReferenceIdeal.main_arg0))

def preserves_InFwd_InFwdIdeal : Prop :=
  True

def algebraic_InFwdIdeal_InFwdReferenceIdeal [hInFwdIdeal : Cert.InFwdIdeal.Facts] [hInFwdReferenceIdeal : Cert.InFwdReferenceIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdReferenceIdeal.nD Cert.InFwdReferenceIdeal.τ Cert.InFwdReferenceIdeal.sig) → Buf (Elt Ideal) ℓ) (g' : Dev Cert.InFwdReferenceIdeal.nD → PrngReg), Pre_InFwdIdeal m →
    (∀ c : Dev Cert.InFwdIdeal.nD,
      m' ((c.tc : Thread Cert.InFwdReferenceIdeal.nD Cert.InFwdReferenceIdeal.τ).loc Cert.InFwdReferenceIdeal.main_arg0) = m ((c.tc : Thread Cert.InFwdIdeal.nD Cert.InFwdIdeal.τ).loc Cert.InFwdIdeal.main_arg0)
      ∧ m' ((c.tc : Thread Cert.InFwdReferenceIdeal.nD Cert.InFwdReferenceIdeal.τ).loc Cert.InFwdReferenceIdeal.main_arg1) = m ((c.tc : Thread Cert.InFwdIdeal.nD Cert.InFwdIdeal.τ).loc Cert.InFwdIdeal.main_arg1)
      ∧ m' ((c.tc : Thread Cert.InFwdReferenceIdeal.nD Cert.InFwdReferenceIdeal.τ).loc Cert.InFwdReferenceIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v3)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v3) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdReferenceIdeal.defs (F := Ideal)) (onTc (τ := Cert.InFwdReferenceIdeal.τ) (Cert.InFwdReferenceIdeal.main (F := Ideal))) ⟨m', fun _ => 0, g'⟩ (fun r => ∀ c : Dev Cert.InFwdReferenceIdeal.nD,
          r.2.mem ((c.tc : Thread Cert.InFwdReferenceIdeal.nD Cert.InFwdReferenceIdeal.τ).loc Cert.InFwdReferenceIdeal.main_v14) = v0 c
          ∧ r.2.mem ((c.tc : Thread Cert.InFwdReferenceIdeal.nD Cert.InFwdReferenceIdeal.τ).loc Cert.InFwdReferenceIdeal.main_arg0) = m' ((c.tc : Thread Cert.InFwdReferenceIdeal.nD Cert.InFwdReferenceIdeal.τ).loc Cert.InFwdReferenceIdeal.main_arg0)
          ∧ r.2.mem ((c.tc : Thread Cert.InFwdReferenceIdeal.nD Cert.InFwdReferenceIdeal.τ).loc Cert.InFwdReferenceIdeal.main_arg1) = m' ((c.tc : Thread Cert.InFwdReferenceIdeal.nD Cert.InFwdReferenceIdeal.τ).loc Cert.InFwdReferenceIdeal.main_arg1)
          ∧ r.2.mem ((c.tc : Thread Cert.InFwdReferenceIdeal.nD Cert.InFwdReferenceIdeal.τ).loc Cert.InFwdReferenceIdeal.main_arg2) = m' ((c.tc : Thread Cert.InFwdReferenceIdeal.nD Cert.InFwdReferenceIdeal.τ).loc Cert.InFwdReferenceIdeal.main_arg2))

def preserves_OutFwd_OutFwdIdeal : Prop :=
  True

def algebraic_OutFwdIdeal_OutFwdReferenceIdeal [hOutFwdIdeal : Cert.OutFwdIdeal.Facts] [hOutFwdReferenceIdeal : Cert.OutFwdReferenceIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdReferenceIdeal.nD Cert.OutFwdReferenceIdeal.τ Cert.OutFwdReferenceIdeal.sig) → Buf (Elt Ideal) ℓ) (g' : Dev Cert.OutFwdReferenceIdeal.nD → PrngReg), Pre_OutFwdIdeal m →
    (∀ c : Dev Cert.OutFwdIdeal.nD,
      m' ((c.tc : Thread Cert.OutFwdReferenceIdeal.nD Cert.OutFwdReferenceIdeal.τ).loc Cert.OutFwdReferenceIdeal.main_arg0) = m ((c.tc : Thread Cert.OutFwdIdeal.nD Cert.OutFwdIdeal.τ).loc Cert.OutFwdIdeal.main_arg0)
      ∧ m' ((c.tc : Thread Cert.OutFwdReferenceIdeal.nD Cert.OutFwdReferenceIdeal.τ).loc Cert.OutFwdReferenceIdeal.main_arg1) = m ((c.tc : Thread Cert.OutFwdIdeal.nD Cert.OutFwdIdeal.τ).loc Cert.OutFwdIdeal.main_arg1)
      ∧ m' ((c.tc : Thread Cert.OutFwdReferenceIdeal.nD Cert.OutFwdReferenceIdeal.τ).loc Cert.OutFwdReferenceIdeal.main_arg2) = m ((c.tc : Thread Cert.OutFwdIdeal.nD Cert.OutFwdIdeal.τ).loc Cert.OutFwdIdeal.main_arg2)
      ∧ m' ((c.tc : Thread Cert.OutFwdReferenceIdeal.nD Cert.OutFwdReferenceIdeal.τ).loc Cert.OutFwdReferenceIdeal.main_arg3) = m ((c.tc : Thread Cert.OutFwdIdeal.nD Cert.OutFwdIdeal.τ).loc Cert.OutFwdIdeal.main_arg3)
      ∧ m' ((c.tc : Thread Cert.OutFwdReferenceIdeal.nD Cert.OutFwdReferenceIdeal.τ).loc Cert.OutFwdReferenceIdeal.main_arg4) = m ((c.tc : Thread Cert.OutFwdIdeal.nD Cert.OutFwdIdeal.τ).loc Cert.OutFwdIdeal.main_arg4)
      ∧ m' ((c.tc : Thread Cert.OutFwdReferenceIdeal.nD Cert.OutFwdReferenceIdeal.τ).loc Cert.OutFwdReferenceIdeal.main_arg5) = m ((c.tc : Thread Cert.OutFwdIdeal.nD Cert.OutFwdIdeal.τ).loc Cert.OutFwdIdeal.main_arg5)) →
    ∃ (v0 : (c : Dev Cert.OutFwdIdeal.nD) → Buf (Elt Ideal) ((c.tc : Thread Cert.OutFwdIdeal.nD Cert.OutFwdIdeal.τ).loc Cert.OutFwdIdeal.main_v7_0)) (v1 : (c : Dev Cert.OutFwdIdeal.nD) → Buf (Elt Ideal) ((c.tc : Thread Cert.OutFwdIdeal.nD Cert.OutFwdIdeal.τ).loc Cert.OutFwdIdeal.main_v7_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v7_0) = v0 c
          ∧ r.2.mem ((c.tc : Thread Cert.OutFwdIdeal.nD Cert.OutFwdIdeal.τ).loc Cert.OutFwdIdeal.main_v7_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ θ_run (Cert.OutFwdReferenceIdeal.defs (F := Ideal)) (onTc (τ := Cert.OutFwdReferenceIdeal.τ) (Cert.OutFwdReferenceIdeal.main (F := Ideal))) ⟨m', fun _ => 0, g'⟩ (fun r => ∀ c : Dev Cert.OutFwdReferenceIdeal.nD,
          r.2.mem ((c.tc : Thread Cert.OutFwdReferenceIdeal.nD Cert.OutFwdReferenceIdeal.τ).loc Cert.OutFwdReferenceIdeal.main_v31) = v0 c
          ∧ r.2.mem ((c.tc : Thread Cert.OutFwdReferenceIdeal.nD Cert.OutFwdReferenceIdeal.τ).loc Cert.OutFwdReferenceIdeal.main_v32) = v1 c
          ∧ r.2.mem ((c.tc : Thread Cert.OutFwdReferenceIdeal.nD Cert.OutFwdReferenceIdeal.τ).loc Cert.OutFwdReferenceIdeal.main_arg0) = m' ((c.tc : Thread Cert.OutFwdReferenceIdeal.nD Cert.OutFwdReferenceIdeal.τ).loc Cert.OutFwdReferenceIdeal.main_arg0)
          ∧ r.2.mem ((c.tc : Thread Cert.OutFwdReferenceIdeal.nD Cert.OutFwdReferenceIdeal.τ).loc Cert.OutFwdReferenceIdeal.main_arg1) = m' ((c.tc : Thread Cert.OutFwdReferenceIdeal.nD Cert.OutFwdReferenceIdeal.τ).loc Cert.OutFwdReferenceIdeal.main_arg1)
          ∧ r.2.mem ((c.tc : Thread Cert.OutFwdReferenceIdeal.nD Cert.OutFwdReferenceIdeal.τ).loc Cert.OutFwdReferenceIdeal.main_arg2) = m' ((c.tc : Thread Cert.OutFwdReferenceIdeal.nD Cert.OutFwdReferenceIdeal.τ).loc Cert.OutFwdReferenceIdeal.main_arg2)
          ∧ r.2.mem ((c.tc : Thread Cert.OutFwdReferenceIdeal.nD Cert.OutFwdReferenceIdeal.τ).loc Cert.OutFwdReferenceIdeal.main_arg3) = m' ((c.tc : Thread Cert.OutFwdReferenceIdeal.nD Cert.OutFwdReferenceIdeal.τ).loc Cert.OutFwdReferenceIdeal.main_arg3)
          ∧ r.2.mem ((c.tc : Thread Cert.OutFwdReferenceIdeal.nD Cert.OutFwdReferenceIdeal.τ).loc Cert.OutFwdReferenceIdeal.main_arg4) = m' ((c.tc : Thread Cert.OutFwdReferenceIdeal.nD Cert.OutFwdReferenceIdeal.τ).loc Cert.OutFwdReferenceIdeal.main_arg4)
          ∧ r.2.mem ((c.tc : Thread Cert.OutFwdReferenceIdeal.nD Cert.OutFwdReferenceIdeal.τ).loc Cert.OutFwdReferenceIdeal.main_arg5) = m' ((c.tc : Thread Cert.OutFwdReferenceIdeal.nD Cert.OutFwdReferenceIdeal.τ).loc Cert.OutFwdReferenceIdeal.main_arg5))

def preserves_InProj_InProjIdeal : Prop :=
  True

def algebraic_InProjIdeal_InProjReferenceIdeal_pre_in_finite [hInProjIdeal : Cert.InProjIdeal.Facts] [hInProjReferenceIdeal : Cert.InProjReferenceIdeal.Facts] [hPre_in_finite : Cert.Pre_in_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal_in_finite m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v11_0)) (v1 : (c : Dev Cert.InProjIdeal.nD) → Buf (Elt Ideal) ((c.tc : Thread Cert.InProjIdeal.nD Cert.InProjIdeal.τ).loc Cert.InProjIdeal.main_v11_1)) (v2 : (c : Dev Cert.InProjIdeal.nD) → Buf (Elt Ideal) ((c.tc : Thread Cert.InProjIdeal.nD Cert.InProjIdeal.τ).loc Cert.InProjIdeal.main_v11_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11_0) = v0 c
          ∧ r.2.mem ((c.tc : Thread Cert.InProjIdeal.nD Cert.InProjIdeal.τ).loc Cert.InProjIdeal.main_v11_1) = v1 c
          ∧ r.2.mem ((c.tc : Thread Cert.InProjIdeal.nD Cert.InProjIdeal.τ).loc Cert.InProjIdeal.main_v11_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v43) = v0 c
          ∧ r.2.mem ((c.tc : Thread Cert.InProjReferenceIdeal.nD Cert.InProjReferenceIdeal.τ).loc Cert.InProjReferenceIdeal.main_v44) = v1 c
          ∧ r.2.mem ((c.tc : Thread Cert.InProjReferenceIdeal.nD Cert.InProjReferenceIdeal.τ).loc Cert.InProjReferenceIdeal.main_v45) = v2 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4))

def preserves_Mlp_MlpIdeal : Prop :=
  True

def algebraic_MlpIdeal_MlpReferenceIdeal_pre_mlp_finite [hMlpIdeal : Cert.MlpIdeal.Facts] [hMlpReferenceIdeal : Cert.MlpReferenceIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal_mlp_finite m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v7_0)) (v1 : (c : Dev Cert.MlpIdeal.nD) → Buf (Elt Ideal) ((c.tc : Thread Cert.MlpIdeal.nD Cert.MlpIdeal.τ).loc Cert.MlpIdeal.main_v7_3)) (v2 : (c : Dev Cert.MlpIdeal.nD) → Buf (Elt Ideal) ((c.tc : Thread Cert.MlpIdeal.nD Cert.MlpIdeal.τ).loc Cert.MlpIdeal.main_v9_0)) (v3 : (c : Dev Cert.MlpIdeal.nD) → Buf (Elt Ideal) ((c.tc : Thread Cert.MlpIdeal.nD Cert.MlpIdeal.τ).loc Cert.MlpIdeal.main_v9_1)) (v4 : (c : Dev Cert.MlpIdeal.nD) → Buf (Elt Ideal) ((c.tc : Thread Cert.MlpIdeal.nD Cert.MlpIdeal.τ).loc Cert.MlpIdeal.main_v9_2)) (v5 : (c : Dev Cert.MlpIdeal.nD) → Buf (Elt Ideal) ((c.tc : Thread Cert.MlpIdeal.nD Cert.MlpIdeal.τ).loc Cert.MlpIdeal.main_v9_3)) (v6 : (c : Dev Cert.MlpIdeal.nD) → Buf (Elt Ideal) ((c.tc : Thread Cert.MlpIdeal.nD Cert.MlpIdeal.τ).loc Cert.MlpIdeal.main_v9_4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v7_0) = v0 c
          ∧ r.2.mem ((c.tc : Thread Cert.MlpIdeal.nD Cert.MlpIdeal.τ).loc Cert.MlpIdeal.main_v7_3) = v1 c
          ∧ r.2.mem ((c.tc : Thread Cert.MlpIdeal.nD Cert.MlpIdeal.τ).loc Cert.MlpIdeal.main_v9_0) = v2 c
          ∧ r.2.mem ((c.tc : Thread Cert.MlpIdeal.nD Cert.MlpIdeal.τ).loc Cert.MlpIdeal.main_v9_1) = v3 c
          ∧ r.2.mem ((c.tc : Thread Cert.MlpIdeal.nD Cert.MlpIdeal.τ).loc Cert.MlpIdeal.main_v9_2) = v4 c
          ∧ r.2.mem ((c.tc : Thread Cert.MlpIdeal.nD Cert.MlpIdeal.τ).loc Cert.MlpIdeal.main_v9_3) = v5 c
          ∧ r.2.mem ((c.tc : Thread Cert.MlpIdeal.nD Cert.MlpIdeal.τ).loc Cert.MlpIdeal.main_v9_4) = v6 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v23) = v0 c
          ∧ r.2.mem ((c.tc : Thread Cert.MlpReferenceIdeal.nD Cert.MlpReferenceIdeal.τ).loc Cert.MlpReferenceIdeal.main_v56) = v1 c
          ∧ r.2.mem ((c.tc : Thread Cert.MlpReferenceIdeal.nD Cert.MlpReferenceIdeal.τ).loc Cert.MlpReferenceIdeal.main_v55) = v2 c
          ∧ r.2.mem ((c.tc : Thread Cert.MlpReferenceIdeal.nD Cert.MlpReferenceIdeal.τ).loc Cert.MlpReferenceIdeal.main_v57) = v3 c
          ∧ r.2.mem ((c.tc : Thread Cert.MlpReferenceIdeal.nD Cert.MlpReferenceIdeal.τ).loc Cert.MlpReferenceIdeal.main_v58) = v4 c
          ∧ r.2.mem ((c.tc : Thread Cert.MlpReferenceIdeal.nD Cert.MlpReferenceIdeal.τ).loc Cert.MlpReferenceIdeal.main_v59) = v5 c
          ∧ r.2.mem ((c.tc : Thread Cert.MlpReferenceIdeal.nD Cert.MlpReferenceIdeal.τ).loc Cert.MlpReferenceIdeal.main_v60) = v6 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5))

def Claim : Prop :=
  ∃ (hLoss : Cert.Loss.Facts) (hLossIdeal : Cert.LossIdeal.Facts) (hLossReferenceIdeal : Cert.LossReferenceIdeal.Facts) (hRet : Cert.Ret.Facts) (hRetIdeal : Cert.RetIdeal.Facts) (hRetReferenceIdeal : Cert.RetReferenceIdeal.Facts) (hRetQ : Cert.RetQ.Facts) (hRetQIdeal : Cert.RetQIdeal.Facts) (hRetQReferenceIdeal : Cert.RetQReferenceIdeal.Facts) (hRetFwd : Cert.RetFwd.Facts) (hRetFwdIdeal : Cert.RetFwdIdeal.Facts) (hRetFwdReferenceIdeal : Cert.RetFwdReferenceIdeal.Facts) (hInFwd : Cert.InFwd.Facts) (hInFwdIdeal : Cert.InFwdIdeal.Facts) (hInFwdReferenceIdeal : Cert.InFwdReferenceIdeal.Facts) (hOutFwd : Cert.OutFwd.Facts) (hOutFwdIdeal : Cert.OutFwdIdeal.Facts) (hOutFwdReferenceIdeal : Cert.OutFwdReferenceIdeal.Facts) (hInProj : Cert.InProj.Facts) (hInProjIdeal : Cert.InProjIdeal.Facts) (hInProjReferenceIdeal : Cert.InProjReferenceIdeal.Facts) (hMlp : Cert.Mlp.Facts) (hMlpIdeal : Cert.MlpIdeal.Facts) (hMlpReferenceIdeal : Cert.MlpReferenceIdeal.Facts) (hPre_loss_finite : Cert.Pre_loss_finite.Facts) (hPre_in_finite : Cert.Pre_in_finite.Facts) (hPre_mlp_finite : Cert.Pre_mlp_finite.Facts),
    quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_Ret (hRet := hRet)
    ∧ quiescent_RetIdeal (hRetIdeal := hRetIdeal)
    ∧ quiescent_RetReferenceIdeal (hRetReferenceIdeal := hRetReferenceIdeal)
    ∧ quiescent_RetQ (hRetQ := hRetQ)
    ∧ quiescent_RetQIdeal (hRetQIdeal := hRetQIdeal)
    ∧ quiescent_RetQReferenceIdeal (hRetQReferenceIdeal := hRetQReferenceIdeal)
    ∧ quiescent_RetFwd (hRetFwd := hRetFwd)
    ∧ quiescent_RetFwdIdeal (hRetFwdIdeal := hRetFwdIdeal)
    ∧ quiescent_RetFwdReferenceIdeal (hRetFwdReferenceIdeal := hRetFwdReferenceIdeal)
    ∧ quiescent_InFwd (hInFwd := hInFwd)
    ∧ quiescent_InFwdIdeal (hInFwdIdeal := hInFwdIdeal)
    ∧ quiescent_InFwdReferenceIdeal (hInFwdReferenceIdeal := hInFwdReferenceIdeal)
    ∧ quiescent_OutFwd (hOutFwd := hOutFwd)
    ∧ quiescent_OutFwdIdeal (hOutFwdIdeal := hOutFwdIdeal)
    ∧ quiescent_OutFwdReferenceIdeal (hOutFwdReferenceIdeal := hOutFwdReferenceIdeal)
    ∧ quiescent_InProj (hInProj := hInProj)
    ∧ quiescent_InProjIdeal (hInProjIdeal := hInProjIdeal)
    ∧ quiescent_InProjIdeal_pre_in_finite (hInProjIdeal := hInProjIdeal) (hPre_in_finite := hPre_in_finite)
    ∧ quiescent_InProjReferenceIdeal (hInProjReferenceIdeal := hInProjReferenceIdeal)
    ∧ quiescent_InProjReferenceIdeal_pre_in_finite (hInProjReferenceIdeal := hInProjReferenceIdeal) (hPre_in_finite := hPre_in_finite)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpReferenceIdeal (hMlpReferenceIdeal := hMlpReferenceIdeal)
    ∧ quiescent_MlpReferenceIdeal_pre_mlp_finite (hMlpReferenceIdeal := hMlpReferenceIdeal) (hPre_mlp_finite := hPre_mlp_finite)
    ∧ preserves_Loss_LossIdeal
    ∧ algebraic_LossIdeal_LossReferenceIdeal_pre_loss_finite (hLossIdeal := hLossIdeal) (hLossReferenceIdeal := hLossReferenceIdeal) (hPre_loss_finite := hPre_loss_finite)
    ∧ preserves_Ret_RetIdeal
    ∧ algebraic_RetIdeal_RetReferenceIdeal (hRetIdeal := hRetIdeal) (hRetReferenceIdeal := hRetReferenceIdeal)
    ∧ preserves_RetQ_RetQIdeal
    ∧ algebraic_RetQIdeal_RetQReferenceIdeal (hRetQIdeal := hRetQIdeal) (hRetQReferenceIdeal := hRetQReferenceIdeal)
    ∧ preserves_RetFwd_RetFwdIdeal
    ∧ algebraic_RetFwdIdeal_RetFwdReferenceIdeal (hRetFwdIdeal := hRetFwdIdeal) (hRetFwdReferenceIdeal := hRetFwdReferenceIdeal)
    ∧ preserves_InFwd_InFwdIdeal
    ∧ algebraic_InFwdIdeal_InFwdReferenceIdeal (hInFwdIdeal := hInFwdIdeal) (hInFwdReferenceIdeal := hInFwdReferenceIdeal)
    ∧ preserves_OutFwd_OutFwdIdeal
    ∧ algebraic_OutFwdIdeal_OutFwdReferenceIdeal (hOutFwdIdeal := hOutFwdIdeal) (hOutFwdReferenceIdeal := hOutFwdReferenceIdeal)
    ∧ preserves_InProj_InProjIdeal
    ∧ algebraic_InProjIdeal_InProjReferenceIdeal_pre_in_finite (hInProjIdeal := hInProjIdeal) (hInProjReferenceIdeal := hInProjReferenceIdeal) (hPre_in_finite := hPre_in_finite)
    ∧ preserves_Mlp_MlpIdeal
    ∧ algebraic_MlpIdeal_MlpReferenceIdeal_pre_mlp_finite (hMlpIdeal := hMlpIdeal) (hMlpReferenceIdeal := hMlpReferenceIdeal) (hPre_mlp_finite := hPre_mlp_finite)
-- ==== Pre_in_finite.lean ====
abbrev S1x8192x1024 : Shape := ⟨3, ![1, 8192, 1024]⟩
abbrev S1024 : Shape := ⟨1, ![1024]⟩
abbrev S1024x3072 : Shape := ⟨2, ![1024, 3072]⟩
abbrev S1x8192x3072 : Shape := ⟨3, ![1, 8192, 3072]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S1x8192x3072 : S_.BroadcastsInDim S1x8192x3072 (![] : Fin 0 → Fin S1x8192x3072.rank)
  reducesTo_S1x8192x3072_S_d0_1_2 : S1x8192x3072.ReducesTo [0, 1, 2] S_

variable [Facts]

def fn_part1 {F : FTy → Type} [FloatOps F] (main_v13 : IVec S_ 1) (main_v16 : IVec S1x8192x3072 1) : IVec S_ 1 :=
  let main_c_5 : IVec S_ 1 := constantI S_ 1 1#1
  let main_v17 : IVec S_ 1 := (fun x v => Host.reduce IntOp.andi x v reducesTo_S1x8192x3072_S_d0_1_2 h_S_) main_v16 main_c_5
  let main_v18 : IVec S_ 1 := andi main_v13 main_v17
  main_v18

def fn {F : FTy → Type} [FloatOps F] (main_arg0 : FVec F S1x8192x1024 .f32) (main_arg1 : FVec F S1024 .f32) (main_arg2 : FVec F S1024x3072 .f32) (main_arg3 : FVec F S1x8192x3072 .f32) (main_arg4 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S1x8192x3072 .f32 := Host.absf main_arg3
  let main_cst_4 : FVec F S_ .f32 := constant S_ .f32 0x7F800000#32
  let main_v15 : FVec F S1x8192x3072 .f32 := broadcastInDim S1x8192x3072 ![] bcast_S_S1x8192x3072 main_cst_4
  let main_v16 : IVec S1x8192x3072 1 := cmpf .olt main_v14 main_v15
  fn_part1 (F := F) main_v13 main_v16
-- ==== Pre_loss_finite.lean ====
abbrev S1x8192x1024 : Shape := ⟨3, ![1, 8192, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1x8192x1024 .f32) (main_arg1 : FVec F S1024 .f32) (main_arg2 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x8192x1024 .f32 := Host.absf main_arg2
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  let main_c_3 : IVec S_ 1 := constantI S_ 1 1#1
  let main_v12 : IVec S_ 1 := (fun x v => Host.reduce IntOp.andi x v reducesTo_S1x8192x1024_S_d0_1_2 h_S_) main_v11 main_c_3
  let main_v13 : IVec S_ 1 := andi main_v8 main_v12
  main_v13
-- ==== Pre_mlp_finite.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S1x8192x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S1x8192x1024 .f32 := Host.absf main_arg5
  let main_cst_8 : FVec F S_ .f32 := constant S_ .f32 0x7F800000#32
  let main_v25 : FVec F S1x8192x1024 .f32 := broadcastInDim S1x8192x1024 ![] bcast_S_S1x8192x1024 main_cst_8
  let main_v26 : IVec S1x8192x1024 1 := cmpf .olt main_v24 main_v25
  let main_c_9 : IVec S_ 1 := constantI S_ 1 1#1
  let main_v27 : IVec S_ 1 := (fun x v => Host.reduce IntOp.andi x v reducesTo_S1x8192x1024_S_d0_1_2 h_S_) main_v26 main_c_9
  let main_v28 : IVec S_ 1 := andi main_v23 main_v27
  main_v28

def fn {F : FTy → Type} [FloatOps F] (main_arg0 : FVec F S1x8192x1024 .f32) (main_arg1 : FVec F S1024 .f32) (main_arg2 : FVec F S1024x2816 .f32) (main_arg3 : FVec F S1024x2816 .f32) (main_arg4 : FVec F S2816x1024 .f32) (main_arg5 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Loss.lean ====
abbrev S1x8192x1024 : Shape := ⟨3, ![1, 8192, 1024]⟩
abbrev S1024 : Shape := ⟨1, ![1024]⟩
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8x128, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S1x8192x1024 : Shape := ⟨3, ![1, 8192, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S_, .f32⟩
  | .hbm, ⟨75, _⟩ => ⟨S8x128, .f32⟩
  | .hbm, ⟨76, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_cst_8 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_cst_15 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_16 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Ret.lean ====
abbrev S1x8192x3072 : Shape := ⟨3, ![1, 8192, 3072]⟩
abbrev S1x8192x512 : Shape := ⟨3, ![1, 8192, 512]⟩
abbrev S8192 : Shape := ⟨1, ![8192]⟩
abbrev S1x8192x4x128 : Shape := ⟨4, ![1, 8192, 4, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S8192x4x128 : Shape := ⟨3, ![8192, 4, 128]⟩
abbrev S4x8192x128 : Shape := ⟨3, ![4, 8192, 128]⟩
abbrev S4 : Shape := ⟨1, ![4]⟩
abbrev S128 : Shape := ⟨1, ![128]⟩
abbrev S128x1 : Shape := ⟨2, ![128, 1]⟩
abbrev S1x8192 : Shape := ⟨2, ![1, 8192]⟩
abbrev S128x8192 : Shape := ⟨2, ![128, 8192]⟩
abbrev S4x1x1 : Shape := ⟨3, ![4, 1, 1]⟩
abbrev S1x128x8192 : Shape := ⟨3, ![1, 128, 8192]⟩
abbrev S4x128x8192 : Shape := ⟨3, ![4, 128, 8192]⟩
abbrev S4x128x8192x1 : Shape := ⟨4, ![4, 128, 8192, 1]⟩
abbrev S4x1x8192x128 : Shape := ⟨4, ![4, 1, 8192, 128]⟩
abbrev S4x128x8192x128 : Shape := ⟨4, ![4, 128, 8192, 128]⟩
abbrev S4x128x128x128 : Shape := ⟨4, ![4, 128, 128, 128]⟩
abbrev S8192x512 : Shape := ⟨2, ![8192, 512]⟩
abbrev S8192x3072 : Shape := ⟨2, ![8192, 3072]⟩
abbrev S8192x128 : Shape := ⟨2, ![8192, 128]⟩
abbrev S64x1 : Shape := ⟨2, ![64, 1]⟩
abbrev S64x64 : Shape := ⟨2, ![64, 64]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S4x64x1 : Shape := ⟨3, ![4, 64, 1]⟩
abbrev S4x64x128 : Shape := ⟨3, ![4, 64, 128]⟩
abbrev S4x128x128 : Shape := ⟨3, ![4, 128, 128]⟩
abbrev S512x512 : Shape := ⟨2, ![512, 512]⟩
abbrev S512x128 : Shape := ⟨2, ![512, 128]⟩
abbrev S4x8x128x128 : Shape := ⟨4, ![4, 8, 128, 128]⟩
abbrev S64x128 : Shape := ⟨2, ![64, 128]⟩
abbrev S1x1x128x128 : Shape := ⟨4, ![1, 1, 128, 128]⟩
abbrev S128x128 : Shape := ⟨2, ![128, 128]⟩
abbrev S1x128x128 : Shape := ⟨3, ![1, 128, 128]⟩
abbrev S1x64x128 : Shape := ⟨3, ![1, 64, 128]⟩

abbrev nBuf : Space → Nat
  | .hbm => 166
  | .vmem => 25
  | .smem => 0
  | _ => 0

abbrev hbmTy0_0 (i : Nat) : BufTy := match i % 128 with
  | 0 => ⟨S1x8192x3072, .f32⟩
  | 1 => ⟨S1x8192x512, .f32⟩
  | 2 => ⟨S1x8192x512, .f32⟩
  | 3 => ⟨S1x8192x512, .f32⟩
  | 4 => ⟨S1x8192x512, .f32⟩
  | 5 => ⟨S8192, .f32⟩
  | 6 => ⟨S1x8192x4x128, .f32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S8192x1, .f32⟩
  | 16 => ⟨S1x64, .f32⟩
  | 17 => ⟨S8192x64, .f32⟩
  | 18 => ⟨S8192x64, .f32⟩
  | 19 => ⟨S8192x64, .f32⟩
  | 20 => ⟨S8192x64, .f32⟩
  | 21 => ⟨S1x8192x1x64, .f32⟩
  | 22 => ⟨S8192x64, .f32⟩
  | 23 => ⟨S1x8192x1x64, .f32⟩
  | 24 => ⟨S1x8192x4x64, .f32⟩
  | 25 => ⟨S1x8192x4x64, .f32⟩
  | 26 => ⟨S1x8192x4x64, .f32⟩
  | 27 => ⟨S1x8192x4x64, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x128, .f32⟩
  | 37 => ⟨S_, .f32⟩
  | 38 => ⟨S1x8192x4x128, .f32⟩
  | 39 => ⟨S1x8192x4x128, .f32⟩
  | 40 => ⟨S8192x4x128, .f32⟩
  | 41 => ⟨S4x8192x128, .f32⟩
  | 42 => ⟨S8192x4x128, .f32⟩
  | 43 => ⟨S4x8192x128, .f32⟩
  | 44 => ⟨S4, .f32⟩
  | 45 => ⟨S_, .f32⟩
  | 46 => ⟨S4, .f32⟩
  | 47 => ⟨S4, .f32⟩
  | 48 => ⟨S_, .f32⟩
  | 49 => ⟨S4, .f32⟩
  | 50 => ⟨S4, .f32⟩
  | 51 => ⟨S_, .f32⟩
  | 52 => ⟨S4, .f32⟩
  | 53 => ⟨S4, .f32⟩
  | 54 => ⟨S4, .f32⟩
  | 55 => ⟨S128, .f32⟩
  | 56 => ⟨S128x1, .f32⟩
  | 57 => ⟨S_, .f32⟩
  | 58 => ⟨S128x1, .f32⟩
  | 59 => ⟨S128x1, .f32⟩
  | 60 => ⟨S_, .f32⟩
  | 61 => ⟨S128x1, .f32⟩
  | 62 => ⟨S128x1, .f32⟩
  | 63 => ⟨S8192, .f32⟩
  | 64 => ⟨S1x8192, .f32⟩
  | 65 => ⟨S128x8192, .f32⟩
  | 66 => ⟨S128x8192, .f32⟩
  | 67 => ⟨S128x8192, .f32⟩
  | 68 => ⟨S_, .f32⟩
  | 69 => ⟨S128x8192, .f32⟩
  | 70 => ⟨S128x8192, .i1⟩
  | 71 => ⟨S4x1x1, .f32⟩
  | 72 => ⟨S1x128x8192, .f32⟩
  | 73 => ⟨S4x128x8192, .f32⟩
  | 74 => ⟨S4x128x8192, .f32⟩
  | 75 => ⟨S4x128x8192, .f32⟩
  | 76 => ⟨S4x128x8192, .f32⟩
  | 77 => ⟨S_, .f32⟩
  | 78 => ⟨S_, .f32⟩
  | 79 => ⟨S4x128x8192, .i1⟩
  | 80 => ⟨S4x128x8192, .f32⟩
  | 81 => ⟨S4x128x8192, .f32⟩
  | 82 => ⟨S4x128x8192x1, .f32⟩
  | 83 => ⟨S4x1x8192x128, .f32⟩
  | 84 => ⟨S4x128x8192x128, .f32⟩
  | 85 => ⟨S4x128x8192x128, .f32⟩
  | 86 => ⟨S4x128x8192x128, .f32⟩
  | 87 => ⟨S4x128x128x128, .f32⟩
  | 88 => ⟨S4x128x128x128, .bf16⟩
  | 89 => ⟨S8192x512, .f32⟩
  | 90 => ⟨S8192x512, .bf16⟩
  | 91 => ⟨S8192x3072, .f32⟩
  | 92 => ⟨S8192, .f32⟩
  | 93 => ⟨S64, .f32⟩
  | 94 => ⟨S64, .f32⟩
  | 95 => ⟨S_, .f32⟩
  | 96 => ⟨S64, .f32⟩
  | 97 => ⟨S64, .f32⟩
  | 98 => ⟨S_, .f32⟩
  | 99 => ⟨S64, .f32⟩
  | 100 => ⟨S64, .f32⟩
  | 101 => ⟨S8192x1, .f32⟩
  | 102 => ⟨S1x64, .f32⟩
  | 103 => ⟨S8192x64, .f32⟩
  | 104 => ⟨S8192x64, .f32⟩
  | 105 => ⟨S8192x64, .f32⟩
  | 106 => ⟨S8192x64, .f32⟩
  | 107 => ⟨S8192x64, .f32⟩
  | 108 => ⟨S8192x128, .f32⟩
  | 109 => ⟨S8192x64, .f32⟩
  | 110 => ⟨S8192x128, .f32⟩
  | 111 => ⟨S4, .f32⟩
  | 112 => ⟨S_, .f32⟩
  | 113 => ⟨S4, .f32⟩
  | 114 => ⟨S4, .f32⟩
  | 115 => ⟨S_, .f32⟩
  | 116 => ⟨S4, .f32⟩
  | 117 => ⟨S4, .f32⟩
  | 118 => ⟨S_, .f32⟩
  | 119 => ⟨S4, .f32⟩
  | 120 => ⟨S4, .f32⟩
  | 121 => ⟨S4, .f32⟩
  | 122 => ⟨S64, .f32⟩
  | 123 => ⟨S4x1x1, .f32⟩
  | 124 => ⟨S64x1, .f32⟩
  | 125 => ⟨S1x64, .f32⟩
  | 126 => ⟨S64x64, .f32⟩
  | 127 => ⟨S64x64, .f32⟩
  | _ => ⟨S1x8192x3072, .f32⟩

abbrev hbmTy0_1 (i : Nat) : BufTy := match i % 128 with
  | 0 => ⟨S64x64, .f32⟩
  | 1 => ⟨S64x64, .f32⟩
  | 2 => ⟨S1x64x64, .f32⟩
  | 3 => ⟨S4x64x64, .f32⟩
  | 4 => ⟨S4x64x64, .f32⟩
  | 5 => ⟨S4x64x64, .f32⟩
  | 6 => ⟨S4x64x64, .f32⟩
  | 7 => ⟨S4x1, .f32⟩
  | 8 => ⟨S_, .f32⟩
  | 9 => ⟨S64, .f32⟩
  | 10 => ⟨S64, .f32⟩
  | 11 => ⟨S1x64, .f32⟩
  | 12 => ⟨S4x64, .f32⟩
  | 13 => ⟨S4x64, .f32⟩
  | 14 => ⟨S4x64, .f32⟩
  | 15 => ⟨S4x64, .f32⟩
  | 16 => ⟨S4x64x1, .f32⟩
  | 17 => ⟨S4x64x128, .f32⟩
  | 18 => ⟨S4x1, .f32⟩
  | 19 => ⟨S_, .f32⟩
  | 20 => ⟨S64, .f32⟩
  | 21 => ⟨S64, .f32⟩
  | 22 => ⟨S1x64, .f32⟩
  | 23 => ⟨S4x64, .f32⟩
  | 24 => ⟨S4x64, .f32⟩
  | 25 => ⟨S4x64, .f32⟩
  | 26 => ⟨S4x64, .f32⟩
  | 27 => ⟨S4x64x1, .f32⟩
  | 28 => ⟨S4x64x128, .f32⟩
  | 29 => ⟨S_, .f32⟩
  | 30 => ⟨S4, .f32⟩
  | 31 => ⟨S4, .f32⟩
  | 32 => ⟨S4, .f32⟩
  | 33 => ⟨S4x1x1, .f32⟩
  | 34 => ⟨S4x128x128, .f32⟩
  | 35 => ⟨S8192x512, .bf16⟩
  | 36 => ⟨S8192x512, .bf16⟩
  | 37 => ⟨S8192x512, .bf16⟩
  | _ => ⟨S1x8192x3072, .f32⟩

abbrev hbmTy (i : Nat) : BufTy := match i / 128 with
  | 0 => hbmTy0_0 i
  | 1 => hbmTy0_1 i
  | _ => ⟨S1x8192x3072, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S4x64x64, .f32⟩
  | .local _ .vmem, ⟨11, _⟩ => ⟨S4x64x128, .f32⟩
  | .local _ .vmem, ⟨12, _⟩ => ⟨S4x64x128, .f32⟩
  | .local _ .vmem, ⟨13, _⟩ => ⟨S4x128x128, .f32⟩
  | .local _ .vmem, ⟨14, _⟩ => ⟨S512x512, .bf16⟩
  | .local _ .vmem, ⟨15, _⟩ => ⟨S512x512, .bf16⟩
  | .local _ .vmem, ⟨16, _⟩ => ⟨S4x8x128x128, .bf16⟩
  | .local _ .vmem, ⟨17, _⟩ => ⟨S4x8x128x128, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S4x128x128, .f32⟩
  | _, _ => ⟨S1x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_2 : Ref sig .tc := ⟨.hbm, 45, rfl⟩
abbrev main_v40 : Ref sig .tc := ⟨.hbm, 46, rfl⟩
abbrev main_v41 : Ref sig .tc := ⟨.hbm, 47, rfl⟩
abbrev main_cst_3 : Ref sig .tc := ⟨.hbm, 48, rfl⟩
abbrev main_v42 : Ref sig .tc := ⟨.hbm, 49, rfl⟩
abbrev main_v43 : Ref sig .tc := ⟨.hbm, 50, rfl⟩
abbrev main_cst_4 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_5 : Ref sig .tc := ⟨.hbm, 57, rfl⟩
abbrev main_v49 : Ref sig .tc := ⟨.hbm, 58, rfl⟩
abbrev main_v50 : Ref sig .tc := ⟨.hbm, 59, rfl⟩
abbrev main_cst_6 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_7 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_8 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_9 : Ref sig .tc := ⟨.hbm, 95, rfl⟩
abbrev main_v80 : Ref sig .tc := ⟨.hbm, 96, rfl⟩
abbrev main_v81 : Ref sig .tc := ⟨.hbm, 97, rfl⟩
abbrev main_cst_10 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_11 : Ref sig .tc := ⟨.hbm, 112, rfl⟩
abbrev main_v95 : Ref sig .tc := ⟨.hbm, 113, rfl⟩
abbrev main_v96 : Ref sig .tc := ⟨.hbm, 114, rfl⟩
abbrev main_cst_12 : Ref sig .tc := ⟨.hbm, 115, rfl⟩
abbrev main_v97 : Ref sig .tc := ⟨.hbm, 116, rfl⟩
abbrev main_v98 : Ref sig .tc := ⟨.hbm, 117, rfl⟩
abbrev main_cst_13 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_cst_14 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_cst_15 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_cst_16 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140_0 : Ref sig .tc := ⟨.hbm, 163, rfl⟩
abbrev main_v140_1 : Ref sig .tc := ⟨.hbm, 164, rfl⟩
abbrev main_v140_2 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x8x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RetReferenceIdeal.lean ====
abbrev S1x8192x3072 : Shape := ⟨3, ![1, 8192, 3072]⟩
abbrev S1x8192x512 : Shape := ⟨3, ![1, 8192, 512]⟩
abbrev S8192 : Shape := ⟨1, ![8192]⟩
abbrev S1x8192x4x128 : Shape := ⟨4, ![1, 8192, 4, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S1x128x64x4x128 : Shape := ⟨5, ![1, 128, 64, 4, 128]⟩
abbrev S1x4x128x64x128 : Shape := ⟨5, ![1, 4, 128, 64, 128]⟩
abbrev S4 : Shape := ⟨1, ![4]⟩
abbrev S4x1x1 : Shape := ⟨3, ![4, 1, 1]⟩
abbrev S64x1 : Shape := ⟨2, ![64, 1]⟩
abbrev S64x64 : Shape := ⟨2, ![64, 64]⟩
abbrev S1x64x64 : Shape := ⟨3, ![1, 64, 64]⟩
abbrev S4x64x64 : Shape := ⟨3, ![4, 64, 64]⟩
abbrev S1x4x128x64x64 : Shape := ⟨5, ![1, 4, 128, 64, 64]⟩
abbrev S1x4x1x64x64 : Shape := ⟨5, ![1, 4, 1, 64, 64]⟩
abbrev S4x1 : Shape := ⟨2, ![4, 1]⟩
abbrev S4x64 : Shape := ⟨2, ![4, 64]⟩
abbrev S1x4x1x64x1 : Shape := ⟨5, ![1, 4, 1, 64, 1]⟩
abbrev S1x4x1x1 : Shape := ⟨4, ![1, 4, 1, 1]⟩
abbrev S1x4x128x128x128 : Shape := ⟨5, ![1, 4, 128, 128, 128]⟩
abbrev S128x1x4x128x128 : Shape := ⟨5, ![128, 1, 4, 128, 128]⟩
abbrev S1x4x128x128 : Shape := ⟨4, ![1, 4, 128, 128]⟩
abbrev S1x1x4x128x128 : Shape := ⟨5, ![1, 1, 4, 128, 128]⟩
abbrev S128x1x4x128x64 : Shape := ⟨5, ![128, 1, 4, 128, 64]⟩
abbrev S1x4x128x128x64 : Shape := ⟨5, ![1, 4, 128, 128, 64]⟩
abbrev S8192x512 : Shape := ⟨2, ![8192, 512]⟩

abbrev nBuf : Space → Nat
  | .hbm => 230
  | .vmem => 0
  | .smem => 0
  | _ => 0

abbrev hbmTy0_0 (i : Nat) : BufTy := match i % 128 with
  | 0 => ⟨S1x8192x3072, .f32⟩
  | 1 => ⟨S1x8192x512, .f32⟩
  | 2 => ⟨S1x8192x512, .f32⟩
  | 3 => ⟨S1x8192x512, .f32⟩
  | 4 => ⟨S1x8192x512, .f32⟩
  | 5 => ⟨S8192, .f32⟩
  | 6 => ⟨S1x8192x4x128, .f32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S8192x1, .f32⟩
  | 16 => ⟨S1x64, .f32⟩
  | 17 => ⟨S8192x64, .f32⟩
  | 18 => ⟨S8192x64, .f32⟩
  | 19 => ⟨S8192x64, .f32⟩
  | 20 => ⟨S8192x64, .f32⟩
  | 21 => ⟨S1x8192x1x64, .f32⟩
  | 22 => ⟨S8192x64, .f32⟩
  | 23 => ⟨S1x8192x1x64, .f32⟩
  | 24 => ⟨S1x8192x4x64, .f32⟩
  | 25 => ⟨S1x8192x4x64, .f32⟩
  | 26 => ⟨S1x8192x4x64, .f32⟩
  | 27 => ⟨S1x8192x4x64, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x128, .f32⟩
  | 37 => ⟨S1x8192x4x128, .f32⟩
  | 38 => ⟨S64, .f32⟩
  | 39 => ⟨S64, .f32⟩
  | 40 => ⟨S_, .f32⟩
  | 41 => ⟨S64, .f32⟩
  | 42 => ⟨S64, .f32⟩
  | 43 => ⟨S_, .f32⟩
  | 44 => ⟨S64, .f32⟩
  | 45 => ⟨S64, .f32⟩
  | 46 => ⟨S8192x1, .f32⟩
  | 47 => ⟨S1x64, .f32⟩
  | 48 => ⟨S8192x64, .f32⟩
  | 49 => ⟨S8192x64, .f32⟩
  | 50 => ⟨S8192x64, .f32⟩
  | 51 => ⟨S8192x64, .f32⟩
  | 52 => ⟨S1x8192x1x64, .f32⟩
  | 53 => ⟨S8192x64, .f32⟩
  | 54 => ⟨S1x8192x1x64, .f32⟩
  | 55 => ⟨S1x8192x4x64, .f32⟩
  | 56 => ⟨S1x8192x4x64, .f32⟩
  | 57 => ⟨S1x8192x4x64, .f32⟩
  | 58 => ⟨S1x8192x4x64, .f32⟩
  | 59 => ⟨S1x8192x4x64, .f32⟩
  | 60 => ⟨S1x8192x4x64, .f32⟩
  | 61 => ⟨S1x8192x4x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S1x8192x4x128, .f32⟩
  | 68 => ⟨S_, .f32⟩
  | 69 => ⟨S1x8192x4x128, .f32⟩
  | 70 => ⟨S1x8192x4x128, .f32⟩
  | 71 => ⟨S1x8192x4x128, .f32⟩
  | 72 => ⟨S1x128x64x4x128, .f32⟩
  | 73 => ⟨S1x4x128x64x128, .f32⟩
  | 74 => ⟨S1x128x64x4x128, .f32⟩
  | 75 => ⟨S1x4x128x64x128, .f32⟩
  | 76 => ⟨S1x128x64x4x128, .f32⟩
  | 77 => ⟨S1x4x128x64x128, .f32⟩
  | 78 => ⟨S4, .f32⟩
  | 79 => ⟨S_, .f32⟩
  | 80 => ⟨S4, .f32⟩
  | 81 => ⟨S4, .f32⟩
  | 82 => ⟨S_, .f32⟩
  | 83 => ⟨S4, .f32⟩
  | 84 => ⟨S4, .f32⟩
  | 85 => ⟨S_, .f32⟩
  | 86 => ⟨S4, .f32⟩
  | 87 => ⟨S4, .f32⟩
  | 88 => ⟨S4, .f32⟩
  | 89 => ⟨S64, .f32⟩
  | 90 => ⟨S4x1x1, .f32⟩
  | 91 => ⟨S64x1, .f32⟩
  | 92 => ⟨S1x64, .f32⟩
  | 93 => ⟨S64x64, .f32⟩
  | 94 => ⟨S64x64, .f32⟩
  | 95 => ⟨S64x64, .f32⟩
  | 96 => ⟨S64x64, .f32⟩
  | 97 => ⟨S1x64x64, .f32⟩
  | 98 => ⟨S4x64x64, .f32⟩
  | 99 => ⟨S4x64x64, .f32⟩
  | 100 => ⟨S4x64x64, .f32⟩
  | 101 => ⟨S4x64x64, .f32⟩
  | 102 => ⟨S1x4x128x64x64, .f32⟩
  | 103 => ⟨S1x4x1x64x64, .f32⟩
  | 104 => ⟨S1x4x128x64x64, .f32⟩
  | 105 => ⟨S1x4x128x64x64, .f32⟩
  | 106 => ⟨S4, .f32⟩
  | 107 => ⟨S_, .f32⟩
  | 108 => ⟨S4, .f32⟩
  | 109 => ⟨S4, .f32⟩
  | 110 => ⟨S_, .f32⟩
  | 111 => ⟨S4, .f32⟩
  | 112 => ⟨S4, .f32⟩
  | 113 => ⟨S_, .f32⟩
  | 114 => ⟨S4, .f32⟩
  | 115 => ⟨S4, .f32⟩
  | 116 => ⟨S4, .f32⟩
  | 117 => ⟨S64, .f32⟩
  | 118 => ⟨S4x1, .f32⟩
  | 119 => ⟨S_, .f32⟩
  | 120 => ⟨S64, .f32⟩
  | 121 => ⟨S64, .f32⟩
  | 122 => ⟨S1x64, .f32⟩
  | 123 => ⟨S4x64, .f32⟩
  | 124 => ⟨S4x64, .f32⟩
  | 125 => ⟨S4x64, .f32⟩
  | 126 => ⟨S4x64, .f32⟩
  | 127 => ⟨S1x4x1x64x1, .f32⟩
  | _ => ⟨S1x8192x3072, .f32⟩

abbrev hbmTy0_1 (i : Nat) : BufTy := match i % 128 with
  | 0 => ⟨S1x4x128x64x128, .f32⟩
  | 1 => ⟨S1x4x128x64x128, .f32⟩
  | 2 => ⟨S_, .f32⟩
  | 3 => ⟨S4, .f32⟩
  | 4 => ⟨S4, .f32⟩
  | 5 => ⟨S4, .f32⟩
  | 6 => ⟨S1x4x1x1, .f32⟩
  | 7 => ⟨S4x1, .f32⟩
  | 8 => ⟨S_, .f32⟩
  | 9 => ⟨S64, .f32⟩
  | 10 => ⟨S64, .f32⟩
  | 11 => ⟨S1x64, .f32⟩
  | 12 => ⟨S4x64, .f32⟩
  | 13 => ⟨S4x64, .f32⟩
  | 14 => ⟨S4x64, .f32⟩
  | 15 => ⟨S4x64, .f32⟩
  | 16 => ⟨S1x4x1x64x1, .f32⟩
  | 17 => ⟨S1x4x128x64x128, .f32⟩
  | 18 => ⟨S1x4x128x64x128, .f32⟩
  | 19 => ⟨S1x8192x4x128, .f32⟩
  | 20 => ⟨S1x128x64x4x128, .f32⟩
  | 21 => ⟨S1x4x128x64x128, .f32⟩
  | 22 => ⟨S1x4x128x128x128, .f32⟩
  | 23 => ⟨S128x1x4x128x128, .f32⟩
  | 24 => ⟨S_, .f32⟩
  | 25 => ⟨S1x4x128x128, .f32⟩
  | 26 => ⟨S_, .f32⟩
  | 27 => ⟨S128x1x4x128x128, .f32⟩
  | 28 => ⟨S_, .i32⟩
  | 29 => ⟨S128x1x4x128x128, .f32⟩
  | 30 => ⟨S1x4x1x1, .f32⟩
  | 31 => ⟨S_, .i32⟩
  | 32 => ⟨S1x4x128x128, .f32⟩
  | 33 => ⟨S128x1x4x128x128, .f32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S1x1x4x128x128, .f32⟩
  | 45 => ⟨S1x4x128x128, .f32⟩
  | 46 => ⟨S1x4x128x128, .f32⟩
  | 47 => ⟨S1x4x128x128, .f32⟩
  | 48 => ⟨S1x4x128x128, .f32⟩
  | 49 => ⟨S1x1x4x128x128, .f32⟩
  | 50 => ⟨S_, .i32⟩
  | 51 => ⟨S_, .i32⟩
  | 52 => ⟨S_, .i32⟩
  | 53 => ⟨S_, .i32⟩
  | 54 => ⟨S128x1x4x128x128, .f32⟩
  | 55 => ⟨S_, .i32⟩
  | 56 => ⟨S_, .i32⟩
  | 57 => ⟨S128x1x4x128x64, .f32⟩
  | 58 => ⟨S1x4x128x64x128, .f32⟩
  | 59 => ⟨S128x1x4x128x64, .f32⟩
  | 60 => ⟨S1x4x128x64x128, .f32⟩
  | 61 => ⟨S1x4x128x64x128, .f32⟩
  | 62 => ⟨S1x4x128x64x128, .f32⟩
  | 63 => ⟨S1x4x128x128x64, .f32⟩
  | 64 => ⟨S1x4x128x64x128, .f32⟩
  | 65 => ⟨S1x4x128x64x128, .f32⟩
  | 66 => ⟨S1x4x128x64x64, .f32⟩
  | 67 => ⟨S1x4x128x64x64, .f32⟩
  | 68 => ⟨S1x4x128x64x64, .f32⟩
  | 69 => ⟨S1x4x128x64x128, .f32⟩
  | 70 => ⟨S1x4x128x64x128, .f32⟩
  | 71 => ⟨S1x128x64x4x128, .f32⟩
  | 72 => ⟨S1x8192x4x128, .f32⟩
  | 73 => ⟨S1x128x64x4x128, .f32⟩
  | 74 => ⟨S1x8192x4x128, .f32⟩
  | 75 => ⟨S1x8192x512, .f32⟩
  | 76 => ⟨S_, .f32⟩
  | 77 => ⟨S1x8192x4x128, .f32⟩
  | 78 => ⟨S1x8192x4x128, .f32⟩
  | 79 => ⟨S1x8192x4x64, .f32⟩
  | 80 => ⟨S1x8192x4x64, .f32⟩
  | 81 => ⟨S1x8192x4x64, .f32⟩
  | 82 => ⟨S1x8192x4x64, .f32⟩
  | 83 => ⟨S1x8192x4x64, .f32⟩
  | 84 => ⟨S1x8192x4x64, .f32⟩
  | 85 => ⟨S1x8192x4x64, .f32⟩
  | 86 => ⟨S1x8192x4x64, .f32⟩
  | 87 => ⟨S1x8192x4x64, .f32⟩
  | 88 => ⟨S1x8192x4x64, .f32⟩
  | 89 => ⟨S1x8192x4x64, .f32⟩
  | 90 => ⟨S1x8192x4x64, .f32⟩
  | 91 => ⟨S1x8192x4x64, .f32⟩
  | 92 => ⟨S_, .f32⟩
  | 93 => ⟨S1x8192x4x128, .f32⟩
  | 94 => ⟨S_, .f32⟩
  | 95 => ⟨S1x8192x4x128, .f32⟩
  | 96 => ⟨S1x8192x4x128, .f32⟩
  | 97 => ⟨S1x8192x512, .f32⟩
  | 98 => ⟨S8192x512, .f32⟩
  | 99 => ⟨S8192x512, .bf16⟩
  | 100 => ⟨S8192x512, .f32⟩
  | 101 => ⟨S8192x512, .bf16⟩
  | _ => ⟨S1x8192x3072, .f32⟩

abbrev hbmTy (i : Nat) : BufTy := match i / 128 with
  | 0 => hbmTy0_0 i
  | 1 => hbmTy0_1 i
  | _ => ⟨S1x8192x3072, .f32⟩

abbrev bufTy : (tb : Table) → Fin (tcTables nBuf tb) → BufTy
  | .hbm, ⟨i, _⟩ => hbmTy i
  | _, _ => ⟨S1x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst_1 : Ref sig .tc := ⟨.hbm, 40, rfl⟩
abbrev main_v36 : Ref sig .tc := ⟨.hbm, 41, rfl⟩
abbrev main_v37 : Ref sig .tc := ⟨.hbm, 42, rfl⟩
abbrev main_cst_2 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_cst_3 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_cst_4 : Ref sig .tc := ⟨.hbm, 79, rfl⟩
abbrev main_v72 : Ref sig .tc := ⟨.hbm, 80, rfl⟩
abbrev main_v73 : Ref sig .tc := ⟨.hbm, 81, rfl⟩
abbrev main_cst_5 : Ref sig .tc := ⟨.hbm, 82, rfl⟩
abbrev main_v74 : Ref sig .tc := ⟨.hbm, 83, rfl⟩
abbrev main_v75 : Ref sig .tc := ⟨.hbm, 84, rfl⟩
abbrev main_cst_6 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_cst_7 : Ref sig .tc := ⟨.hbm, 107, rfl⟩
abbrev main_v97 : Ref sig .tc := ⟨.hbm, 108, rfl⟩
abbrev main_v98 : Ref sig .tc := ⟨.hbm, 109, rfl⟩
abbrev main_cst_8 : Ref sig .tc := ⟨.hbm, 110, rfl⟩
abbrev main_v99 : Ref sig .tc := ⟨.hbm, 111, rfl⟩
abbrev main_v100 : Ref sig .tc := ⟨.hbm, 112, rfl⟩
abbrev main_cst_9 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_cst_10 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_cst_11 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_cst_12 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_cst_13 : Ref sig .tc := ⟨.hbm, 152, rfl⟩
abbrev main_v136 : Ref sig .tc := ⟨.hbm, 153, rfl⟩
abbrev main_cst_14 : Ref sig .tc := ⟨.hbm, 154, rfl⟩
abbrev main_v137 : Ref sig .tc := ⟨.hbm, 155, rfl⟩
abbrev main_c : Ref sig .tc := ⟨.hbm, 156, rfl⟩
abbrev main_v138_0 : Ref sig .tc := ⟨.hbm, 157, rfl⟩
abbrev main_v138_1 : Ref sig .tc := ⟨.hbm, 158, rfl⟩
abbrev main_v138_2 : Ref sig .tc := ⟨.hbm, 159, rfl⟩
abbrev main_v138_3 : Ref sig .tc := ⟨.hbm, 160, rfl⟩
abbrev main_v138_4 : Ref sig .tc := ⟨.hbm, 161, rfl⟩
abbrev main_while0c_c_22 : Ref sig .tc := ⟨.hbm, 162, rfl⟩
abbrev main_while0c_v181 : Ref sig .tc := ⟨.hbm, 163, rfl⟩
abbrev main_while0b_c_22 : Ref sig .tc := ⟨.hbm, 164, rfl⟩
abbrev main_while0b_v181 : Ref sig .tc := ⟨.hbm, 165, rfl⟩
abbrev main_while0b_c_23 : Ref sig .tc := ⟨.hbm, 166, rfl⟩
abbrev main_while0b_v182 : Ref sig .tc := ⟨.hbm, 167, rfl⟩
abbrev main_while0b_call0_c : Ref sig .tc := ⟨.hbm, 168, rfl⟩
abbrev main_while0b_call0_c_0 : Ref sig .tc := ⟨.hbm, 169, rfl⟩
abbrev main_while0b_call0_c_1 : Ref sig .tc := ⟨.hbm, 170, rfl⟩
abbrev main_while0b_call0_c_2 : Ref sig .tc := ⟨.hbm, 171, rfl⟩
abbrev main_while0b_call0_v0 : Ref sig .tc := ⟨.hbm, 172, rfl⟩
abbrev main_while0b_v183 : Ref sig .tc := ⟨.hbm, 173, rfl⟩
abbrev main_while0b_v184 : Ref sig .tc := ⟨.hbm, 174, rfl⟩
abbrev main_while0b_v185 : Ref sig .tc := ⟨.hbm, 175, rfl⟩
abbrev main_while0b_v186 : Ref sig .tc := ⟨.hbm, 176, rfl⟩
abbrev main_while0b_call1_v0 : Ref sig .tc := ⟨.hbm, 177, rfl⟩
abbrev main_while0b_call1_c : Ref sig .tc := ⟨.hbm, 178, rfl⟩
abbrev main_while0b_call1_c_0 : Ref sig .tc := ⟨.hbm, 179, rfl⟩
abbrev main_while0b_call1_c_1 : Ref sig .tc := ⟨.hbm, 180, rfl⟩
abbrev main_while0b_call1_c_2 : Ref sig .tc := ⟨.hbm, 181, rfl⟩
abbrev main_while0b_v187 : Ref sig .tc := ⟨.hbm, 182, rfl⟩
abbrev main_while0b_c_24 : Ref sig .tc := ⟨.hbm, 183, rfl⟩
abbrev main_while0b_v188 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_cst_15 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_cst_16 : Ref sig .tc := ⟨.hbm, 220, rfl⟩
abbrev main_v173 : Ref sig .tc := ⟨.hbm, 221, rfl⟩
abbrev main_cst_17 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩

abbrev nD : Nat := 1
abbrev τ : Topo := Topo.v7x

variable {F : FTy → Type} [FloatOps F]

abbrev main_while0_count : Scf.Loop 32 := ⟨0#32, 128#32, 1#32⟩
-- ==== RetQ.lean ====
abbrev S1x8192x3072 : Shape := ⟨3, ![1, 8192, 3072]⟩
abbrev S1x8192x512 : Shape := ⟨3, ![1, 8192, 512]⟩
abbrev S8192 : Shape := ⟨1, ![8192]⟩
abbrev S1x8192x4x128 : Shape := ⟨4, ![1, 8192, 4, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S8192x4x128 : Shape := ⟨3, ![8192, 4, 128]⟩
abbrev S4x8192x128 : Shape := ⟨3, ![4, 8192, 128]⟩
abbrev S4 : Shape := ⟨1, ![4]⟩
abbrev S128 : Shape := ⟨1, ![128]⟩
abbrev S128x1 : Shape := ⟨2, ![128, 1]⟩
abbrev S1x8192 : Shape := ⟨2, ![1, 8192]⟩
abbrev S128x8192 : Shape := ⟨2, ![128, 8192]⟩
abbrev S4x1x1 : Shape := ⟨3, ![4, 1, 1]⟩
abbrev S1x128x8192 : Shape := ⟨3, ![1, 128, 8192]⟩
abbrev S4x128x8192 : Shape := ⟨3, ![4, 128, 8192]⟩
abbrev S4x128x8192x1 : Shape := ⟨4, ![4, 128, 8192, 1]⟩
abbrev S4x1x8192x128 : Shape := ⟨4, ![4, 1, 8192, 128]⟩
abbrev S4x128x8192x128 : Shape := ⟨4, ![4, 128, 8192, 128]⟩
abbrev S4x128x128x128 : Shape := ⟨4, ![4, 128, 128, 128]⟩
abbrev S8192x512 : Shape := ⟨2, ![8192, 512]⟩
abbrev S8192x3072 : Shape := ⟨2, ![8192, 3072]⟩
abbrev S8192x128 : Shape := ⟨2, ![8192, 128]⟩
abbrev S64x1 : Shape := ⟨2, ![64, 1]⟩
abbrev S64x64 : Shape := ⟨2, ![64, 64]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S4x64x1 : Shape := ⟨3, ![4, 64, 1]⟩
abbrev S4x64x128 : Shape := ⟨3, ![4, 64, 128]⟩
abbrev S4x128x128 : Shape := ⟨3, ![4, 128, 128]⟩
abbrev S512x512 : Shape := ⟨2, ![512, 512]⟩
abbrev S512x128 : Shape := ⟨2, ![512, 128]⟩
abbrev S4x8x128x128 : Shape := ⟨4, ![4, 8, 128, 128]⟩
abbrev S64x128 : Shape := ⟨2, ![64, 128]⟩
abbrev S1x1x128x128 : Shape := ⟨4, ![1, 1, 128, 128]⟩
abbrev S128x128 : Shape := ⟨2, ![128, 128]⟩
abbrev S1x128x128 : Shape := ⟨3, ![1, 128, 128]⟩
abbrev S1x64x128 : Shape := ⟨3, ![1, 64, 128]⟩

abbrev nBuf : Space → Nat
  | .hbm => 166
  | .vmem => 25
  | .smem => 0
  | _ => 0

abbrev hbmTy0_0 (i : Nat) : BufTy := match i % 128 with
  | 0 => ⟨S1x8192x3072, .f32⟩
  | 1 => ⟨S1x8192x512, .f32⟩
  | 2 => ⟨S1x8192x512, .f32⟩
  | 3 => ⟨S1x8192x512, .f32⟩
  | 4 => ⟨S1x8192x512, .f32⟩
  | 5 => ⟨S8192, .f32⟩
  | 6 => ⟨S1x8192x4x128, .f32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S8192x1, .f32⟩
  | 16 => ⟨S1x64, .f32⟩
  | 17 => ⟨S8192x64, .f32⟩
  | 18 => ⟨S8192x64, .f32⟩
  | 19 => ⟨S8192x64, .f32⟩
  | 20 => ⟨S8192x64, .f32⟩
  | 21 => ⟨S1x8192x1x64, .f32⟩
  | 22 => ⟨S8192x64, .f32⟩
  | 23 => ⟨S1x8192x1x64, .f32⟩
  | 24 => ⟨S1x8192x4x64, .f32⟩
  | 25 => ⟨S1x8192x4x64, .f32⟩
  | 26 => ⟨S1x8192x4x64, .f32⟩
  | 27 => ⟨S1x8192x4x64, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x128, .f32⟩
  | 37 => ⟨S_, .f32⟩
  | 38 => ⟨S1x8192x4x128, .f32⟩
  | 39 => ⟨S1x8192x4x128, .f32⟩
  | 40 => ⟨S8192x4x128, .f32⟩
  | 41 => ⟨S4x8192x128, .f32⟩
  | 42 => ⟨S8192x4x128, .f32⟩
  | 43 => ⟨S4x8192x128, .f32⟩
  | 44 => ⟨S4, .f32⟩
  | 45 => ⟨S_, .f32⟩
  | 46 => ⟨S4, .f32⟩
  | 47 => ⟨S4, .f32⟩
  | 48 => ⟨S_, .f32⟩
  | 49 => ⟨S4, .f32⟩
  | 50 => ⟨S4, .f32⟩
  | 51 => ⟨S_, .f32⟩
  | 52 => ⟨S4, .f32⟩
  | 53 => ⟨S4, .f32⟩
  | 54 => ⟨S4, .f32⟩
  | 55 => ⟨S128, .f32⟩
  | 56 => ⟨S128x1, .f32⟩
  | 57 => ⟨S_, .f32⟩
  | 58 => ⟨S128x1, .f32⟩
  | 59 => ⟨S128x1, .f32⟩
  | 60 => ⟨S_, .f32⟩
  | 61 => ⟨S128x1, .f32⟩
  | 62 => ⟨S128x1, .f32⟩
  | 63 => ⟨S8192, .f32⟩
  | 64 => ⟨S1x8192, .f32⟩
  | 65 => ⟨S128x8192, .f32⟩
  | 66 => ⟨S128x8192, .f32⟩
  | 67 => ⟨S128x8192, .f32⟩
  | 68 => ⟨S_, .f32⟩
  | 69 => ⟨S128x8192, .f32⟩
  | 70 => ⟨S128x8192, .i1⟩
  | 71 => ⟨S4x1x1, .f32⟩
  | 72 => ⟨S1x128x8192, .f32⟩
  | 73 => ⟨S4x128x8192, .f32⟩
  | 74 => ⟨S4x128x8192, .f32⟩
  | 75 => ⟨S4x128x8192, .f32⟩
  | 76 => ⟨S4x128x8192, .f32⟩
  | 77 => ⟨S_, .f32⟩
  | 78 => ⟨S_, .f32⟩
  | 79 => ⟨S4x128x8192, .i1⟩
  | 80 => ⟨S4x128x8192, .f32⟩
  | 81 => ⟨S4x128x8192, .f32⟩
  | 82 => ⟨S4x128x8192x1, .f32⟩
  | 83 => ⟨S4x1x8192x128, .f32⟩
  | 84 => ⟨S4x128x8192x128, .f32⟩
  | 85 => ⟨S4x128x8192x128, .f32⟩
  | 86 => ⟨S4x128x8192x128, .f32⟩
  | 87 => ⟨S4x128x128x128, .f32⟩
  | 88 => ⟨S4x128x128x128, .bf16⟩
  | 89 => ⟨S8192x512, .f32⟩
  | 90 => ⟨S8192x512, .bf16⟩
  | 91 => ⟨S8192x3072, .f32⟩
  | 92 => ⟨S8192, .f32⟩
  | 93 => ⟨S64, .f32⟩
  | 94 => ⟨S64, .f32⟩
  | 95 => ⟨S_, .f32⟩
  | 96 => ⟨S64, .f32⟩
  | 97 => ⟨S64, .f32⟩
  | 98 => ⟨S_, .f32⟩
  | 99 => ⟨S64, .f32⟩
  | 100 => ⟨S64, .f32⟩
  | 101 => ⟨S8192x1, .f32⟩
  | 102 => ⟨S1x64, .f32⟩
  | 103 => ⟨S8192x64, .f32⟩
  | 104 => ⟨S8192x64, .f32⟩
  | 105 => ⟨S8192x64, .f32⟩
  | 106 => ⟨S8192x64, .f32⟩
  | 107 => ⟨S8192x64, .f32⟩
  | 108 => ⟨S8192x128, .f32⟩
  | 109 => ⟨S8192x64, .f32⟩
  | 110 => ⟨S8192x128, .f32⟩
  | 111 => ⟨S4, .f32⟩
  | 112 => ⟨S_, .f32⟩
  | 113 => ⟨S4, .f32⟩
  | 114 => ⟨S4, .f32⟩
  | 115 => ⟨S_, .f32⟩
  | 116 => ⟨S4, .f32⟩
  | 117 => ⟨S4, .f32⟩
  | 118 => ⟨S_, .f32⟩
  | 119 => ⟨S4, .f32⟩
  | 120 => ⟨S4, .f32⟩
  | 121 => ⟨S4, .f32⟩
  | 122 => ⟨S64, .f32⟩
  | 123 => ⟨S4x1x1, .f32⟩
  | 124 => ⟨S64x1, .f32⟩
  | 125 => ⟨S1x64, .f32⟩
  | 126 => ⟨S64x64, .f32⟩
  | 127 => ⟨S64x64, .f32⟩
  | _ => ⟨S1x8192x3072, .f32⟩

abbrev hbmTy0_1 (i : Nat) : BufTy := match i % 128 with
  | 0 => ⟨S64x64, .f32⟩
  | 1 => ⟨S64x64, .f32⟩
  | 2 => ⟨S1x64x64, .f32⟩
  | 3 => ⟨S4x64x64, .f32⟩
  | 4 => ⟨S4x64x64, .f32⟩
  | 5 => ⟨S4x64x64, .f32⟩
  | 6 => ⟨S4x64x64, .f32⟩
  | 7 => ⟨S4x1, .f32⟩
  | 8 => ⟨S_, .f32⟩
  | 9 => ⟨S64, .f32⟩
  | 10 => ⟨S64, .f32⟩
  | 11 => ⟨S1x64, .f32⟩
  | 12 => ⟨S4x64, .f32⟩
  | 13 => ⟨S4x64, .f32⟩
  | 14 => ⟨S4x64, .f32⟩
  | 15 => ⟨S4x64, .f32⟩
  | 16 => ⟨S4x64x1, .f32⟩
  | 17 => ⟨S4x64x128, .f32⟩
  | 18 => ⟨S4x1, .f32⟩
  | 19 => ⟨S_, .f32⟩
  | 20 => ⟨S64, .f32⟩
  | 21 => ⟨S64, .f32⟩
  | 22 => ⟨S1x64, .f32⟩
  | 23 => ⟨S4x64, .f32⟩
  | 24 => ⟨S4x64, .f32⟩
  | 25 => ⟨S4x64, .f32⟩
  | 26 => ⟨S4x64, .f32⟩
  | 27 => ⟨S4x64x1, .f32⟩
  | 28 => ⟨S4x64x128, .f32⟩
  | 29 => ⟨S_, .f32⟩
  | 30 => ⟨S4, .f32⟩
  | 31 => ⟨S4, .f32⟩
  | 32 => ⟨S4, .f32⟩
  | 33 => ⟨S4x1x1, .f32⟩
  | 34 => ⟨S4x128x128, .f32⟩
  | 35 => ⟨S8192x512, .bf16⟩
  | 36 => ⟨S8192x512, .bf16⟩
  | 37 => ⟨S8192x512, .bf16⟩
  | _ => ⟨S1x8192x3072, .f32⟩

abbrev hbmTy (i : Nat) : BufTy := match i / 128 with
  | 0 => hbmTy0_0 i
  | 1 => hbmTy0_1 i
  | _ => ⟨S1x8192x3072, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S4x64x64, .f32⟩
  | .local _ .vmem, ⟨11, _⟩ => ⟨S4x64x128, .f32⟩
  | .local _ .vmem, ⟨12, _⟩ => ⟨S4x64x128, .f32⟩
  | .local _ .vmem, ⟨13, _⟩ => ⟨S4x128x128, .f32⟩
  | .local _ .vmem, ⟨14, _⟩ => ⟨S512x512, .bf16⟩
  | .local _ .vmem, ⟨15, _⟩ => ⟨S512x512, .bf16⟩
  | .local _ .vmem, ⟨16, _⟩ => ⟨S4x8x128x128, .bf16⟩
  | .local _ .vmem, ⟨17, _⟩ => ⟨S4x8x128x128, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S4x128x128, .f32⟩
  | _, _ => ⟨S1x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_2 : Ref sig .tc := ⟨.hbm, 45, rfl⟩
abbrev main_v40 : Ref sig .tc := ⟨.hbm, 46, rfl⟩
abbrev main_v41 : Ref sig .tc := ⟨.hbm, 47, rfl⟩
abbrev main_cst_3 : Ref sig .tc := ⟨.hbm, 48, rfl⟩
abbrev main_v42 : Ref sig .tc := ⟨.hbm, 49, rfl⟩
abbrev main_v43 : Ref sig .tc := ⟨.hbm, 50, rfl⟩
abbrev main_cst_4 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_5 : Ref sig .tc := ⟨.hbm, 57, rfl⟩
abbrev main_v49 : Ref sig .tc := ⟨.hbm, 58, rfl⟩
abbrev main_v50 : Ref sig .tc := ⟨.hbm, 59, rfl⟩
abbrev main_cst_6 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_7 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_8 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_9 : Ref sig .tc := ⟨.hbm, 95, rfl⟩
abbrev main_v80 : Ref sig .tc := ⟨.hbm, 96, rfl⟩
abbrev main_v81 : Ref sig .tc := ⟨.hbm, 97, rfl⟩
abbrev main_cst_10 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_11 : Ref sig .tc := ⟨.hbm, 112, rfl⟩
abbrev main_v95 : Ref sig .tc := ⟨.hbm, 113, rfl⟩
abbrev main_v96 : Ref sig .tc := ⟨.hbm, 114, rfl⟩
abbrev main_cst_12 : Ref sig .tc := ⟨.hbm, 115, rfl⟩
abbrev main_v97 : Ref sig .tc := ⟨.hbm, 116, rfl⟩
abbrev main_v98 : Ref sig .tc := ⟨.hbm, 117, rfl⟩
abbrev main_cst_13 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_cst_14 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_cst_15 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_cst_16 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140_0 : Ref sig .tc := ⟨.hbm, 163, rfl⟩
abbrev main_v140_1 : Ref sig .tc := ⟨.hbm, 164, rfl⟩
abbrev main_v140_2 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x8x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RetQReferenceIdeal.lean ====
abbrev S1x8192x3072 : Shape := ⟨3, ![1, 8192, 3072]⟩
abbrev S1x8192x512 : Shape := ⟨3, ![1, 8192, 512]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x128 : Shape := ⟨4, ![1, 8192, 4, 128]⟩
abbrev S1x8192x4x64 : Shape := ⟨4, ![1, 8192, 4, 64]⟩
abbrev S1x128x64x4x128 : Shape := ⟨5, ![1, 128, 64, 4, 128]⟩
abbrev S1x4x128x64x128 : Shape := ⟨5, ![1, 4, 128, 64, 128]⟩
abbrev S4 : Shape := ⟨1, ![4]⟩
abbrev S4x1x1 : Shape := ⟨3, ![4, 1, 1]⟩
abbrev S64x1 : Shape := ⟨2, ![64, 1]⟩
abbrev S64x64 : Shape := ⟨2, ![64, 64]⟩
abbrev S1x64x64 : Shape := ⟨3, ![1, 64, 64]⟩
abbrev S4x64x64 : Shape := ⟨3, ![4, 64, 64]⟩
abbrev S1x4x1x64x64 : Shape := ⟨5, ![1, 4, 1, 64, 64]⟩
abbrev S4x1 : Shape := ⟨2, ![4, 1]⟩
abbrev S4x64 : Shape := ⟨2, ![4, 64]⟩
abbrev S1x4x1x64x1 : Shape := ⟨5, ![1, 4, 1, 64, 1]⟩
abbrev S128x1x4x128x128 : Shape := ⟨5, ![128, 1, 4, 128, 128]⟩
abbrev S1x4x1x1 : Shape := ⟨4, ![1, 4, 1, 1]⟩
abbrev S1x4x128x128 : Shape := ⟨4, ![1, 4, 128, 128]⟩
abbrev S1x1x4x128x128 : Shape := ⟨5, ![1, 1, 4, 128, 128]⟩
abbrev S1x4x128x64x64 : Shape := ⟨5, ![1, 4, 128, 64, 64]⟩
abbrev S8192x512 : Shape := ⟨2, ![8192, 512]⟩

abbrev nBuf : Space → Nat
  | .hbm => 189
  | .vmem => 0
  | .smem => 0
  | _ => 0

abbrev hbmTy0_0 (i : Nat) : BufTy := match i % 128 with
  | 0 => ⟨S1x8192x3072, .f32⟩
  | 1 => ⟨S1x8192x512, .f32⟩
  | 2 => ⟨S1x8192x512, .f32⟩
  | 3 => ⟨S1x8192x512, .f32⟩
  | 4 => ⟨S8192, .f32⟩
  | 5 => ⟨S64, .f32⟩
  | 6 => ⟨S64, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S8192x1, .f32⟩
  | 14 => ⟨S1x64, .f32⟩
  | 15 => ⟨S8192x64, .f32⟩
  | 16 => ⟨S8192x64, .f32⟩
  | 17 => ⟨S8192x64, .f32⟩
  | 18 => ⟨S8192x64, .f32⟩
  | 19 => ⟨S1x8192x1x64, .f32⟩
  | 20 => ⟨S8192x64, .f32⟩
  | 21 => ⟨S1x8192x1x64, .f32⟩
  | 22 => ⟨S1x8192x4x128, .f32⟩
  | 23 => ⟨S64, .f32⟩
  | 24 => ⟨S64, .f32⟩
  | 25 => ⟨S_, .f32⟩
  | 26 => ⟨S64, .f32⟩
  | 27 => ⟨S64, .f32⟩
  | 28 => ⟨S_, .f32⟩
  | 29 => ⟨S64, .f32⟩
  | 30 => ⟨S64, .f32⟩
  | 31 => ⟨S8192x1, .f32⟩
  | 32 => ⟨S1x64, .f32⟩
  | 33 => ⟨S8192x64, .f32⟩
  | 34 => ⟨S8192x64, .f32⟩
  | 35 => ⟨S8192x64, .f32⟩
  | 36 => ⟨S8192x64, .f32⟩
  | 37 => ⟨S1x8192x1x64, .f32⟩
  | 38 => ⟨S8192x64, .f32⟩
  | 39 => ⟨S1x8192x1x64, .f32⟩
  | 40 => ⟨S1x8192x4x64, .f32⟩
  | 41 => ⟨S1x8192x4x64, .f32⟩
  | 42 => ⟨S1x8192x4x64, .f32⟩
  | 43 => ⟨S1x8192x4x64, .f32⟩
  | 44 => ⟨S1x8192x4x64, .f32⟩
  | 45 => ⟨S1x8192x4x64, .f32⟩
  | 46 => ⟨S1x8192x4x64, .f32⟩
  | 47 => ⟨S1x8192x4x64, .f32⟩
  | 48 => ⟨S1x8192x4x64, .f32⟩
  | 49 => ⟨S1x8192x4x64, .f32⟩
  | 50 => ⟨S1x8192x4x64, .f32⟩
  | 51 => ⟨S1x8192x4x64, .f32⟩
  | 52 => ⟨S1x8192x4x128, .f32⟩
  | 53 => ⟨S_, .f32⟩
  | 54 => ⟨S1x8192x4x128, .f32⟩
  | 55 => ⟨S1x8192x4x128, .f32⟩
  | 56 => ⟨S1x8192x4x128, .f32⟩
  | 57 => ⟨S1x128x64x4x128, .f32⟩
  | 58 => ⟨S1x4x128x64x128, .f32⟩
  | 59 => ⟨S1x128x64x4x128, .f32⟩
  | 60 => ⟨S1x4x128x64x128, .f32⟩
  | 61 => ⟨S4, .f32⟩
  | 62 => ⟨S_, .f32⟩
  | 63 => ⟨S4, .f32⟩
  | 64 => ⟨S4, .f32⟩
  | 65 => ⟨S_, .f32⟩
  | 66 => ⟨S4, .f32⟩
  | 67 => ⟨S4, .f32⟩
  | 68 => ⟨S_, .f32⟩
  | 69 => ⟨S4, .f32⟩
  | 70 => ⟨S4, .f32⟩
  | 71 => ⟨S4, .f32⟩
  | 72 => ⟨S64, .f32⟩
  | 73 => ⟨S4x1x1, .f32⟩
  | 74 => ⟨S64x1, .f32⟩
  | 75 => ⟨S1x64, .f32⟩
  | 76 => ⟨S64x64, .f32⟩
  | 77 => ⟨S64x64, .f32⟩
  | 78 => ⟨S64x64, .f32⟩
  | 79 => ⟨S64x64, .f32⟩
  | 80 => ⟨S1x64x64, .f32⟩
  | 81 => ⟨S4x64x64, .f32⟩
  | 82 => ⟨S4x64x64, .f32⟩
  | 83 => ⟨S4x64x64, .f32⟩
  | 84 => ⟨S4x64x64, .f32⟩
  | 85 => ⟨S1x4x1x64x64, .f32⟩
  | 86 => ⟨S4, .f32⟩
  | 87 => ⟨S_, .f32⟩
  | 88 => ⟨S4, .f32⟩
  | 89 => ⟨S4, .f32⟩
  | 90 => ⟨S_, .f32⟩
  | 91 => ⟨S4, .f32⟩
  | 92 => ⟨S4, .f32⟩
  | 93 => ⟨S_, .f32⟩
  | 94 => ⟨S4, .f32⟩
  | 95 => ⟨S4, .f32⟩
  | 96 => ⟨S4, .f32⟩
  | 97 => ⟨S64, .f32⟩
  | 98 => ⟨S4x1, .f32⟩
  | 99 => ⟨S_, .f32⟩
  | 100 => ⟨S64, .f32⟩
  | 101 => ⟨S64, .f32⟩
  | 102 => ⟨S1x64, .f32⟩
  | 103 => ⟨S4x64, .f32⟩
  | 104 => ⟨S4x64, .f32⟩
  | 105 => ⟨S4x64, .f32⟩
  | 106 => ⟨S4x64, .f32⟩
  | 107 => ⟨S1x4x1x64x1, .f32⟩
  | 108 => ⟨S1x4x128x64x128, .f32⟩
  | 109 => ⟨S1x4x128x64x128, .f32⟩
  | 110 => ⟨S128x1x4x128x128, .f32⟩
  | 111 => ⟨S_, .f32⟩
  | 112 => ⟨S4, .f32⟩
  | 113 => ⟨S4, .f32⟩
  | 114 => ⟨S4, .f32⟩
  | 115 => ⟨S1x4x1x1, .f32⟩
  | 116 => ⟨S_, .f32⟩
  | 117 => ⟨S1x4x128x128, .f32⟩
  | 118 => ⟨S_, .f32⟩
  | 119 => ⟨S128x1x4x128x128, .f32⟩
  | 120 => ⟨S_, .i32⟩
  | 121 => ⟨S128x1x4x128x128, .f32⟩
  | 122 => ⟨S1x4x1x1, .f32⟩
  | 123 => ⟨S_, .i32⟩
  | 124 => ⟨S1x4x128x128, .f32⟩
  | 125 => ⟨S128x1x4x128x128, .f32⟩
  | 126 => ⟨S_, .i32⟩
  | 127 => ⟨S_, .i1⟩
  | _ => ⟨S1x8192x3072, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x1x4x128x128, .f32⟩
  | 5 => ⟨S1x4x128x128, .f32⟩
  | 6 => ⟨S1x4x128x128, .f32⟩
  | 7 => ⟨S1x4x128x128, .f32⟩
  | 8 => ⟨S1x4x128x128, .f32⟩
  | 9 => ⟨S1x1x4x128x128, .f32⟩
  | 10 => ⟨S_, .i32⟩
  | 11 => ⟨S_, .i32⟩
  | 12 => ⟨S_, .i32⟩
  | 13 => ⟨S_, .i32⟩
  | 14 => ⟨S128x1x4x128x128, .f32⟩
  | 15 => ⟨S_, .i32⟩
  | 16 => ⟨S_, .i32⟩
  | 17 => ⟨S4x1, .f32⟩
  | 18 => ⟨S_, .f32⟩
  | 19 => ⟨S64, .f32⟩
  | 20 => ⟨S64, .f32⟩
  | 21 => ⟨S1x64, .f32⟩
  | 22 => ⟨S4x64, .f32⟩
  | 23 => ⟨S4x64, .f32⟩
  | 24 => ⟨S4x64, .f32⟩
  | 25 => ⟨S4x64, .f32⟩
  | 26 => ⟨S1x4x1x64x1, .f32⟩
  | 27 => ⟨S1x8192x4x128, .f32⟩
  | 28 => ⟨S1x128x64x4x128, .f32⟩
  | 29 => ⟨S1x4x128x64x128, .f32⟩
  | 30 => ⟨S1x4x128x64x128, .f32⟩
  | 31 => ⟨S1x4x128x64x128, .f32⟩
  | 32 => ⟨S1x4x128x64x128, .f32⟩
  | 33 => ⟨S1x4x128x64x64, .f32⟩
  | 34 => ⟨S1x4x128x64x64, .f32⟩
  | 35 => ⟨S1x4x128x64x64, .f32⟩
  | 36 => ⟨S1x4x128x64x128, .f32⟩
  | 37 => ⟨S1x4x128x64x128, .f32⟩
  | 38 => ⟨S1x128x64x4x128, .f32⟩
  | 39 => ⟨S1x8192x4x128, .f32⟩
  | 40 => ⟨S1x8192x4x64, .f32⟩
  | 41 => ⟨S1x8192x4x64, .f32⟩
  | 42 => ⟨S1x8192x4x64, .f32⟩
  | 43 => ⟨S1x8192x4x64, .f32⟩
  | 44 => ⟨S1x8192x4x64, .f32⟩
  | 45 => ⟨S1x8192x4x64, .f32⟩
  | 46 => ⟨S1x8192x4x64, .f32⟩
  | 47 => ⟨S1x8192x4x64, .f32⟩
  | 48 => ⟨S1x8192x4x64, .f32⟩
  | 49 => ⟨S1x8192x4x64, .f32⟩
  | 50 => ⟨S1x8192x4x64, .f32⟩
  | 51 => ⟨S1x8192x4x64, .f32⟩
  | 52 => ⟨S1x8192x4x64, .f32⟩
  | 53 => ⟨S_, .f32⟩
  | 54 => ⟨S1x8192x4x128, .f32⟩
  | 55 => ⟨S_, .f32⟩
  | 56 => ⟨S1x8192x4x128, .f32⟩
  | 57 => ⟨S1x8192x4x128, .f32⟩
  | 58 => ⟨S1x8192x512, .f32⟩
  | 59 => ⟨S8192x512, .f32⟩
  | 60 => ⟨S8192x512, .bf16⟩
  | _ => ⟨S1x8192x3072, .f32⟩

abbrev hbmTy (i : Nat) : BufTy := match i / 128 with
  | 0 => hbmTy0_0 i
  | 1 => hbmTy0_1 i
  | _ => ⟨S1x8192x3072, .f32⟩

abbrev bufTy : (tb : Table) → Fin (tcTables nBuf tb) → BufTy
  | .hbm, ⟨i, _⟩ => hbmTy i
  | _, _ => ⟨S1x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_3 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_4 : Ref sig .tc := ⟨.hbm, 62, rfl⟩
abbrev main_v55 : Ref sig .tc := ⟨.hbm, 63, rfl⟩
abbrev main_v56 : Ref sig .tc := ⟨.hbm, 64, rfl⟩
abbrev main_cst_5 : Ref sig .tc := ⟨.hbm, 65, rfl⟩
abbrev main_v57 : Ref sig .tc := ⟨.hbm, 66, rfl⟩
abbrev main_v58 : Ref sig .tc := ⟨.hbm, 67, rfl⟩
abbrev main_cst_6 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_7 : Ref sig .tc := ⟨.hbm, 87, rfl⟩
abbrev main_v77 : Ref sig .tc := ⟨.hbm, 88, rfl⟩
abbrev main_v78 : Ref sig .tc := ⟨.hbm, 89, rfl⟩
abbrev main_cst_8 : Ref sig .tc := ⟨.hbm, 90, rfl⟩
abbrev main_v79 : Ref sig .tc := ⟨.hbm, 91, rfl⟩
abbrev main_v80 : Ref sig .tc := ⟨.hbm, 92, rfl⟩
abbrev main_cst_9 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_10 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_cst_11 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_cst_12 : Ref sig .tc := ⟨.hbm, 116, rfl⟩
abbrev main_v101 : Ref sig .tc := ⟨.hbm, 117, rfl⟩
abbrev main_cst_13 : Ref sig .tc := ⟨.hbm, 118, rfl⟩
abbrev main_v102 : Ref sig .tc := ⟨.hbm, 119, rfl⟩
abbrev main_c : Ref sig .tc := ⟨.hbm, 120, rfl⟩
abbrev main_v103_0 : Ref sig .tc := ⟨.hbm, 121, rfl⟩
abbrev main_v103_1 : Ref sig .tc := ⟨.hbm, 122, rfl⟩
abbrev main_v103_2 : Ref sig .tc := ⟨.hbm, 123, rfl⟩
abbrev main_v103_3 : Ref sig .tc := ⟨.hbm, 124, rfl⟩
abbrev main_v103_4 : Ref sig .tc := ⟨.hbm, 125, rfl⟩
abbrev main_while0c_c_21 : Ref sig .tc := ⟨.hbm, 126, rfl⟩
abbrev main_while0c_v145 : Ref sig .tc := ⟨.hbm, 127, rfl⟩
abbrev main_while0b_call0_c : Ref sig .tc := ⟨.hbm, 128, rfl⟩
abbrev main_while0b_call0_c_0 : Ref sig .tc := ⟨.hbm, 129, rfl⟩
abbrev main_while0b_call0_c_1 : Ref sig .tc := ⟨.hbm, 130, rfl⟩
abbrev main_while0b_call0_c_2 : Ref sig .tc := ⟨.hbm, 131, rfl⟩
abbrev main_while0b_call0_v0 : Ref sig .tc := ⟨.hbm, 132, rfl⟩
abbrev main_while0b_v145 : Ref sig .tc := ⟨.hbm, 133, rfl⟩
abbrev main_while0b_v146 : Ref sig .tc := ⟨.hbm, 134, rfl⟩
abbrev main_while0b_v147 : Ref sig .tc := ⟨.hbm, 135, rfl⟩
abbrev main_while0b_v148 : Ref sig .tc := ⟨.hbm, 136, rfl⟩
abbrev main_while0b_call1_v0 : Ref sig .tc := ⟨.hbm, 137, rfl⟩
abbrev main_while0b_call1_c : Ref sig .tc := ⟨.hbm, 138, rfl⟩
abbrev main_while0b_call1_c_0 : Ref sig .tc := ⟨.hbm, 139, rfl⟩
abbrev main_while0b_call1_c_1 : Ref sig .tc := ⟨.hbm, 140, rfl⟩
abbrev main_while0b_call1_c_2 : Ref sig .tc := ⟨.hbm, 141, rfl⟩
abbrev main_while0b_v149 : Ref sig .tc := ⟨.hbm, 142, rfl⟩
abbrev main_while0b_c_21 : Ref sig .tc := ⟨.hbm, 143, rfl⟩
abbrev main_while0b_v150 : Ref sig .tc := ⟨.hbm, 144, rfl⟩
abbrev main_v104 : Ref sig .tc := ⟨.hbm, 145, rfl⟩
abbrev main_cst_14 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_cst_15 : Ref sig .tc := ⟨.hbm, 181, rfl⟩
abbrev main_v139 : Ref sig .tc := ⟨.hbm, 182, rfl⟩
abbrev main_cst_16 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩

abbrev nD : Nat := 1
abbrev τ : Topo := Topo.v7x

variable {F : FTy → Type} [FloatOps F]

abbrev main_while0_count : Scf.Loop 32 := ⟨0#32, 128#32, 1#32⟩
-- ==== RetFwd.lean ====
abbrev S1x8192x3072 : Shape := ⟨3, ![1, 8192, 3072]⟩
abbrev S8192x3072 : Shape := ⟨2, ![8192, 3072]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S4 : Shape := ⟨1, ![4]⟩
abbrev S4x1x1 : Shape := ⟨3, ![4, 1, 1]⟩
abbrev S64x1 : Shape := ⟨2, ![64, 1]⟩
abbrev S64x64 : Shape := ⟨2, ![64, 64]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S4x64x1 : Shape := ⟨3, ![4, 64, 1]⟩
abbrev S4x64x128 : Shape := ⟨3, ![4, 64, 128]⟩
abbrev S4x128x128 : Shape := ⟨3, ![4, 128, 128]⟩
abbrev S8192x512 : Shape := ⟨2, ![8192, 512]⟩
abbrev S4x128x128x128 : Shape := ⟨4, ![4, 128, 128, 128]⟩
abbrev S512x512 : Shape := ⟨2, ![512, 512]⟩
abbrev S512x128 : Shape := ⟨2, ![512, 128]⟩
abbrev S4x8x128x128 : Shape := ⟨4, ![4, 8, 128, 128]⟩
abbrev S64x128 : Shape := ⟨2, ![64, 128]⟩
abbrev S1x128x128 : Shape := ⟨3, ![1, 128, 128]⟩
abbrev S128x128 : Shape := ⟨2, ![128, 128]⟩
abbrev S1x1x128x128 : Shape := ⟨4, ![1, 1, 128, 128]⟩
abbrev S1x64x128 : Shape := ⟨3, ![1, 64, 128]⟩

abbrev nBuf : Space → Nat
  | .hbm => 75
  | .vmem => 19
  | .smem => 0
  | _ => 0

abbrev bufTy : (tb : Table) → Fin (tcTables nBuf tb) → BufTy
  | .hbm, ⟨0, _⟩ => ⟨S1x8192x3072, .f32⟩
  | .hbm, ⟨1, _⟩ => ⟨S8192x3072, .f32⟩
  | .hbm, ⟨2, _⟩ => ⟨S8192, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S8192x1, .f32⟩
  | .hbm, ⟨12, _⟩ => ⟨S1x64, .f32⟩
  | .hbm, ⟨13, _⟩ => ⟨S8192x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x128, .f32⟩
  | .hbm, ⟨19, _⟩ => ⟨S8192x64, .f32⟩
  | .hbm, ⟨20, _⟩ => ⟨S8192x128, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S64, .f32⟩
  | .hbm, ⟨33, _⟩ => ⟨S4x1x1, .f32⟩
  | .hbm, ⟨34, _⟩ => ⟨S64x1, .f32⟩
  | .hbm, ⟨35, _⟩ => ⟨S1x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S1x64x64, .f32⟩
  | .hbm, ⟨41, _⟩ => ⟨S4x64x64, .f32⟩
  | .hbm, ⟨42, _⟩ => ⟨S4x64x64, .f32⟩
  | .hbm, ⟨43, _⟩ => ⟨S4x64x64, .f32⟩
  | .hbm, ⟨44, _⟩ => ⟨S4x64x64, .f32⟩
  | .hbm, ⟨45, _⟩ => ⟨S4x1, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S1x64, .f32⟩
  | .hbm, ⟨50, _⟩ => ⟨S4x64, .f32⟩
  | .hbm, ⟨51, _⟩ => ⟨S4x64, .f32⟩
  | .hbm, ⟨52, _⟩ => ⟨S4x64, .f32⟩
  | .hbm, ⟨53, _⟩ => ⟨S4x64, .f32⟩
  | .hbm, ⟨54, _⟩ => ⟨S4x64x1, .f32⟩
  | .hbm, ⟨55, _⟩ => ⟨S4x64x128, .f32⟩
  | .hbm, ⟨56, _⟩ => ⟨S4x1, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S1x64, .f32⟩
  | .hbm, ⟨61, _⟩ => ⟨S4x64, .f32⟩
  | .hbm, ⟨62, _⟩ => ⟨S4x64, .f32⟩
  | .hbm, ⟨63, _⟩ => ⟨S4x64, .f32⟩
  | .hbm, ⟨64, _⟩ => ⟨S4x64, .f32⟩
  | .hbm, ⟨65, _⟩ => ⟨S4x64x1, .f32⟩
  | .hbm, ⟨66, _⟩ => ⟨S4x64x128, .f32⟩
  | .hbm, ⟨67, _⟩ => ⟨S_, .f32⟩
  | .hbm, ⟨68, _⟩ => ⟨S4, .f32⟩
  | .hbm, ⟨69, _⟩ => ⟨S4, .f32⟩
  | .hbm, ⟨70, _⟩ => ⟨S4, .f32⟩
  | .hbm, ⟨71, _⟩ => ⟨S4x1x1, .f32⟩
  | .hbm, ⟨72, _⟩ => ⟨S4x128x128, .f32⟩
  | .hbm, ⟨73, _⟩ => ⟨S8192x512, .f32⟩
  | .hbm, ⟨74, _⟩ => ⟨S4x128x128x128, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S4x64x64, .f32⟩
  | .local _ .vmem, ⟨11, _⟩ => ⟨S4x64x128, .f32⟩
  | .local _ .vmem, ⟨12, _⟩ => ⟨S4x64x128, .f32⟩
  | .local _ .vmem, ⟨13, _⟩ => ⟨S4x128x128, .f32⟩
  | .local _ .vmem, ⟨14, _⟩ => ⟨S512x512, .f32⟩
  | .local _ .vmem, ⟨15, _⟩ => ⟨S512x512, .f32⟩
  | .local _ .vmem, ⟨16, _⟩ => ⟨S4x8x128x128, .bf16⟩
  | .local _ .vmem, ⟨17, _⟩ => ⟨S4x8x128x128, .bf16⟩
  | .local _ .vmem, ⟨18, _⟩ => ⟨S4x128x128, .f32⟩
  | _, _ => ⟨S1x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_1 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_v21 : Ref sig .tc := ⟨.hbm, 26, rfl⟩
abbrev main_v22 : Ref sig .tc := ⟨.hbm, 27, rfl⟩
abbrev main_cst_3 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_4 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_5 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_6 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64_0 : Ref sig .tc := ⟨.hbm, 73, rfl⟩
abbrev main_v64_1 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x8x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RetFwdReferenceIdeal.lean ====
abbrev S1x8192x3072 : Shape := ⟨3, ![1, 8192, 3072]⟩
abbrev S1x8192x512 : Shape := ⟨3, ![1, 8192, 512]⟩
abbrev S8192 : Shape := ⟨1, ![8192]⟩
abbrev S1x8192x4x128 : Shape := ⟨4, ![1, 8192, 4, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S1x128x64x4x128 : Shape := ⟨5, ![1, 128, 64, 4, 128]⟩
abbrev S1x4x128x64x128 : Shape := ⟨5, ![1, 4, 128, 64, 128]⟩
abbrev S4 : Shape := ⟨1, ![4]⟩
abbrev S4x1x1 : Shape := ⟨3, ![4, 1, 1]⟩
abbrev S64x1 : Shape := ⟨2, ![64, 1]⟩
abbrev S64x64 : Shape := ⟨2, ![64, 64]⟩
abbrev S1x64x64 : Shape := ⟨3, ![1, 64, 64]⟩
abbrev S4x64x64 : Shape := ⟨3, ![4, 64, 64]⟩
abbrev S1x4x128x64x64 : Shape := ⟨5, ![1, 4, 128, 64, 64]⟩
abbrev S1x4x1x64x64 : Shape := ⟨5, ![1, 4, 1, 64, 64]⟩
abbrev S4x1 : Shape := ⟨2, ![4, 1]⟩
abbrev S4x64 : Shape := ⟨2, ![4, 64]⟩
abbrev S1x4x1x64x1 : Shape := ⟨5, ![1, 4, 1, 64, 1]⟩
abbrev S128x1x4x128x128 : Shape := ⟨5, ![128, 1, 4, 128, 128]⟩
abbrev S1x4x1x1 : Shape := ⟨4, ![1, 4, 1, 1]⟩
abbrev S1x4x128x128 : Shape := ⟨4, ![1, 4, 128, 128]⟩
abbrev S1x1x4x128x128 : Shape := ⟨5, ![1, 1, 4, 128, 128]⟩
abbrev S8192x512 : Shape := ⟨2, ![8192, 512]⟩
abbrev S128x4x128x128 : Shape := ⟨4, ![128, 4, 128, 128]⟩
abbrev S4x128x128x128 : Shape := ⟨4, ![4, 128, 128, 128]⟩

abbrev nBuf : Space → Nat
  | .hbm => 185
  | .vmem => 0
  | .smem => 0
  | _ => 0

abbrev hbmTy0_0 (i : Nat) : BufTy := match i % 128 with
  | 0 => ⟨S1x8192x3072, .f32⟩
  | 1 => ⟨S1x8192x512, .f32⟩
  | 2 => ⟨S1x8192x512, .f32⟩
  | 3 => ⟨S1x8192x512, .f32⟩
  | 4 => ⟨S8192, .f32⟩
  | 5 => ⟨S1x8192x4x128, .f32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S8192x1, .f32⟩
  | 15 => ⟨S1x64, .f32⟩
  | 16 => ⟨S8192x64, .f32⟩
  | 17 => ⟨S8192x64, .f32⟩
  | 18 => ⟨S8192x64, .f32⟩
  | 19 => ⟨S8192x64, .f32⟩
  | 20 => ⟨S1x8192x1x64, .f32⟩
  | 21 => ⟨S8192x64, .f32⟩
  | 22 => ⟨S1x8192x1x64, .f32⟩
  | 23 => ⟨S1x8192x4x64, .f32⟩
  | 24 => ⟨S1x8192x4x64, .f32⟩
  | 25 => ⟨S1x8192x4x64, .f32⟩
  | 26 => ⟨S1x8192x4x64, .f32⟩
  | 27 => ⟨S1x8192x4x64, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x128, .f32⟩
  | 36 => ⟨S1x8192x4x128, .f32⟩
  | 37 => ⟨S64, .f32⟩
  | 38 => ⟨S64, .f32⟩
  | 39 => ⟨S_, .f32⟩
  | 40 => ⟨S64, .f32⟩
  | 41 => ⟨S64, .f32⟩
  | 42 => ⟨S_, .f32⟩
  | 43 => ⟨S64, .f32⟩
  | 44 => ⟨S64, .f32⟩
  | 45 => ⟨S8192x1, .f32⟩
  | 46 => ⟨S1x64, .f32⟩
  | 47 => ⟨S8192x64, .f32⟩
  | 48 => ⟨S8192x64, .f32⟩
  | 49 => ⟨S8192x64, .f32⟩
  | 50 => ⟨S8192x64, .f32⟩
  | 51 => ⟨S1x8192x1x64, .f32⟩
  | 52 => ⟨S8192x64, .f32⟩
  | 53 => ⟨S1x8192x1x64, .f32⟩
  | 54 => ⟨S1x8192x4x64, .f32⟩
  | 55 => ⟨S1x8192x4x64, .f32⟩
  | 56 => ⟨S1x8192x4x64, .f32⟩
  | 57 => ⟨S1x8192x4x64, .f32⟩
  | 58 => ⟨S1x8192x4x64, .f32⟩
  | 59 => ⟨S1x8192x4x64, .f32⟩
  | 60 => ⟨S1x8192x4x64, .f32⟩
  | 61 => ⟨S1x8192x4x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x128, .f32⟩
  | 67 => ⟨S_, .f32⟩
  | 68 => ⟨S1x8192x4x128, .f32⟩
  | 69 => ⟨S1x8192x4x128, .f32⟩
  | 70 => ⟨S1x8192x4x128, .f32⟩
  | 71 => ⟨S1x128x64x4x128, .f32⟩
  | 72 => ⟨S1x4x128x64x128, .f32⟩
  | 73 => ⟨S1x128x64x4x128, .f32⟩
  | 74 => ⟨S1x4x128x64x128, .f32⟩
  | 75 => ⟨S1x128x64x4x128, .f32⟩
  | 76 => ⟨S1x4x128x64x128, .f32⟩
  | 77 => ⟨S4, .f32⟩
  | 78 => ⟨S_, .f32⟩
  | 79 => ⟨S4, .f32⟩
  | 80 => ⟨S4, .f32⟩
  | 81 => ⟨S_, .f32⟩
  | 82 => ⟨S4, .f32⟩
  | 83 => ⟨S4, .f32⟩
  | 84 => ⟨S_, .f32⟩
  | 85 => ⟨S4, .f32⟩
  | 86 => ⟨S4, .f32⟩
  | 87 => ⟨S4, .f32⟩
  | 88 => ⟨S64, .f32⟩
  | 89 => ⟨S4x1x1, .f32⟩
  | 90 => ⟨S64x1, .f32⟩
  | 91 => ⟨S1x64, .f32⟩
  | 92 => ⟨S64x64, .f32⟩
  | 93 => ⟨S64x64, .f32⟩
  | 94 => ⟨S64x64, .f32⟩
  | 95 => ⟨S64x64, .f32⟩
  | 96 => ⟨S1x64x64, .f32⟩
  | 97 => ⟨S4x64x64, .f32⟩
  | 98 => ⟨S4x64x64, .f32⟩
  | 99 => ⟨S4x64x64, .f32⟩
  | 100 => ⟨S4x64x64, .f32⟩
  | 101 => ⟨S1x4x128x64x64, .f32⟩
  | 102 => ⟨S1x4x1x64x64, .f32⟩
  | 103 => ⟨S1x4x128x64x64, .f32⟩
  | 104 => ⟨S1x4x128x64x64, .f32⟩
  | 105 => ⟨S1x4x128x64x128, .f32⟩
  | 106 => ⟨S4, .f32⟩
  | 107 => ⟨S_, .f32⟩
  | 108 => ⟨S4, .f32⟩
  | 109 => ⟨S4, .f32⟩
  | 110 => ⟨S_, .f32⟩
  | 111 => ⟨S4, .f32⟩
  | 112 => ⟨S4, .f32⟩
  | 113 => ⟨S_, .f32⟩
  | 114 => ⟨S4, .f32⟩
  | 115 => ⟨S4, .f32⟩
  | 116 => ⟨S4, .f32⟩
  | 117 => ⟨S64, .f32⟩
  | 118 => ⟨S4x1, .f32⟩
  | 119 => ⟨S_, .f32⟩
  | 120 => ⟨S64, .f32⟩
  | 121 => ⟨S64, .f32⟩
  | 122 => ⟨S1x64, .f32⟩
  | 123 => ⟨S4x64, .f32⟩
  | 124 => ⟨S4x64, .f32⟩
  | 125 => ⟨S4x64, .f32⟩
  | 126 => ⟨S4x64, .f32⟩
  | 127 => ⟨S1x4x1x64x1, .f32⟩
  | _ => ⟨S1x8192x3072, .f32⟩

abbrev hbmTy0_1 (i : Nat) : BufTy := match i % 128 with
  | 0 => ⟨S1x4x128x64x128, .f32⟩
  | 1 => ⟨S1x4x128x64x128, .f32⟩
  | 2 => ⟨S128x1x4x128x128, .f32⟩
  | 3 => ⟨S_, .f32⟩
  | 4 => ⟨S4, .f32⟩
  | 5 => ⟨S4, .f32⟩
  | 6 => ⟨S4, .f32⟩
  | 7 => ⟨S1x4x1x1, .f32⟩
  | 8 => ⟨S_, .f32⟩
  | 9 => ⟨S1x4x128x128, .f32⟩
  | 10 => ⟨S_, .f32⟩
  | 11 => ⟨S128x1x4x128x128, .f32⟩
  | 12 => ⟨S_, .i32⟩
  | 13 => ⟨S128x1x4x128x128, .f32⟩
  | 14 => ⟨S1x4x1x1, .f32⟩
  | 15 => ⟨S_, .i32⟩
  | 16 => ⟨S1x4x128x128, .f32⟩
  | 17 => ⟨S128x1x4x128x128, .f32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S1x1x4x128x128, .f32⟩
  | 25 => ⟨S1x4x128x128, .f32⟩
  | 26 => ⟨S1x4x128x128, .f32⟩
  | 27 => ⟨S1x4x128x128, .f32⟩
  | 28 => ⟨S1x4x128x128, .f32⟩
  | 29 => ⟨S1x1x4x128x128, .f32⟩
  | 30 => ⟨S_, .i32⟩
  | 31 => ⟨S_, .i32⟩
  | 32 => ⟨S_, .i32⟩
  | 33 => ⟨S_, .i32⟩
  | 34 => ⟨S128x1x4x128x128, .f32⟩
  | 35 => ⟨S_, .i32⟩
  | 36 => ⟨S_, .i32⟩
  | 37 => ⟨S4x1, .f32⟩
  | 38 => ⟨S_, .f32⟩
  | 39 => ⟨S64, .f32⟩
  | 40 => ⟨S64, .f32⟩
  | 41 => ⟨S1x64, .f32⟩
  | 42 => ⟨S4x64, .f32⟩
  | 43 => ⟨S4x64, .f32⟩
  | 44 => ⟨S4x64, .f32⟩
  | 45 => ⟨S4x64, .f32⟩
  | 46 => ⟨S1x4x1x64x1, .f32⟩
  | 47 => ⟨S1x4x128x64x128, .f32⟩
  | 48 => ⟨S1x4x128x64x128, .f32⟩
  | 49 => ⟨S1x4x128x64x128, .f32⟩
  | 50 => ⟨S1x4x128x64x128, .f32⟩
  | 51 => ⟨S1x128x64x4x128, .f32⟩
  | 52 => ⟨S1x8192x4x128, .f32⟩
  | 53 => ⟨S8192x512, .f32⟩
  | 54 => ⟨S128x4x128x128, .f32⟩
  | 55 => ⟨S4x128x128x128, .f32⟩
  | 56 => ⟨S4x128x128x128, .bf16⟩
  | _ => ⟨S1x8192x3072, .f32⟩

abbrev hbmTy (i : Nat) : BufTy := match i / 128 with
  | 0 => hbmTy0_0 i
  | 1 => hbmTy0_1 i
  | _ => ⟨S1x8192x3072, .f32⟩

abbrev bufTy : (tb : Table) → Fin (tcTables nBuf tb) → BufTy
  | .hbm, ⟨i, _⟩ => hbmTy i
  | _, _ => ⟨S1x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_cst_1 : Ref sig .tc := ⟨.hbm, 39, rfl⟩
abbrev main_v36 : Ref sig .tc := ⟨.hbm, 40, rfl⟩
abbrev main_v37 : Ref sig .tc := ⟨.hbm, 41, rfl⟩
abbrev main_cst_2 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_cst_3 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_cst_4 : Ref sig .tc := ⟨.hbm, 78, rfl⟩
abbrev main_v72 : Ref sig .tc := ⟨.hbm, 79, rfl⟩
abbrev main_v73 : Ref sig .tc := ⟨.hbm, 80, rfl⟩
abbrev main_cst_5 : Ref sig .tc := ⟨.hbm, 81, rfl⟩
abbrev main_v74 : Ref sig .tc := ⟨.hbm, 82, rfl⟩
abbrev main_v75 : Ref sig .tc := ⟨.hbm, 83, rfl⟩
abbrev main_cst_6 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_cst_7 : Ref sig .tc := ⟨.hbm, 107, rfl⟩
abbrev main_v98 : Ref sig .tc := ⟨.hbm, 108, rfl⟩
abbrev main_v99 : Ref sig .tc := ⟨.hbm, 109, rfl⟩
abbrev main_cst_8 : Ref sig .tc := ⟨.hbm, 110, rfl⟩
abbrev main_v100 : Ref sig .tc := ⟨.hbm, 111, rfl⟩
abbrev main_v101 : Ref sig .tc := ⟨.hbm, 112, rfl⟩
abbrev main_cst_9 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_cst_10 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_cst_11 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_cst_12 : Ref sig .tc := ⟨.hbm, 136, rfl⟩
abbrev main_v122 : Ref sig .tc := ⟨.hbm, 137, rfl⟩
abbrev main_cst_13 : Ref sig .tc := ⟨.hbm, 138, rfl⟩
abbrev main_v123 : Ref sig .tc := ⟨.hbm, 139, rfl⟩
abbrev main_c : Ref sig .tc := ⟨.hbm, 140, rfl⟩
abbrev main_v124_0 : Ref sig .tc := ⟨.hbm, 141, rfl⟩
abbrev main_v124_1 : Ref sig .tc := ⟨.hbm, 142, rfl⟩
abbrev main_v124_2 : Ref sig .tc := ⟨.hbm, 143, rfl⟩
abbrev main_v124_3 : Ref sig .tc := ⟨.hbm, 144, rfl⟩
abbrev main_v124_4 : Ref sig .tc := ⟨.hbm, 145, rfl⟩
abbrev main_while0c_c_19 : Ref sig .tc := ⟨.hbm, 146, rfl⟩
abbrev main_while0c_v144 : Ref sig .tc := ⟨.hbm, 147, rfl⟩
abbrev main_while0b_call0_c : Ref sig .tc := ⟨.hbm, 148, rfl⟩
abbrev main_while0b_call0_c_0 : Ref sig .tc := ⟨.hbm, 149, rfl⟩
abbrev main_while0b_call0_c_1 : Ref sig .tc := ⟨.hbm, 150, rfl⟩
abbrev main_while0b_call0_c_2 : Ref sig .tc := ⟨.hbm, 151, rfl⟩
abbrev main_while0b_call0_v0 : Ref sig .tc := ⟨.hbm, 152, rfl⟩
abbrev main_while0b_v144 : Ref sig .tc := ⟨.hbm, 153, rfl⟩
abbrev main_while0b_v145 : Ref sig .tc := ⟨.hbm, 154, rfl⟩
abbrev main_while0b_v146 : Ref sig .tc := ⟨.hbm, 155, rfl⟩
abbrev main_while0b_v147 : Ref sig .tc := ⟨.hbm, 156, rfl⟩
abbrev main_while0b_call1_v0 : Ref sig .tc := ⟨.hbm, 157, rfl⟩
abbrev main_while0b_call1_c : Ref sig .tc := ⟨.hbm, 158, rfl⟩
abbrev main_while0b_call1_c_0 : Ref sig .tc := ⟨.hbm, 159, rfl⟩
abbrev main_while0b_call1_c_1 : Ref sig .tc := ⟨.hbm, 160, rfl⟩
abbrev main_while0b_call1_c_2 : Ref sig .tc := ⟨.hbm, 161, rfl⟩
abbrev main_while0b_v148 : Ref sig .tc := ⟨.hbm, 162, rfl⟩
abbrev main_while0b_c_19 : Ref sig .tc := ⟨.hbm, 163, rfl⟩
abbrev main_while0b_v149 : Ref sig .tc := ⟨.hbm, 164, rfl⟩
abbrev main_v125 : Ref sig .tc := ⟨.hbm, 165, rfl⟩
abbrev main_cst_14 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩

abbrev nD : Nat := 1
abbrev τ : Topo := Topo.v7x

variable {F : FTy → Type} [FloatOps F]

abbrev main_while0_count : Scf.Loop 32 := ⟨0#32, 128#32, 1#32⟩
-- ==== InFwd.lean ====
abbrev S1x8192x1024 : Shape := ⟨3, ![1, 8192, 1024]⟩
abbrev S1024 : Shape := ⟨1, ![1024]⟩
abbrev S1024x3072 : Shape := ⟨2, ![1024, 3072]⟩
abbrev S8192x1024 : Shape := ⟨2, ![8192, 1024]⟩
abbrev S1x1024 : Shape := ⟨2, ![1, 1024]⟩
abbrev S8192x3072 : Shape := ⟨2, ![8192, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S1x1024, .f32⟩
  | .hbm, ⟨5, _⟩ => ⟨S1024x3072, .bf16⟩
  | .hbm, ⟨6, _⟩ => ⟨S8192x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .f32⟩
  | .local _ .vmem, ⟨5, _⟩ => ⟨S512x3072, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InFwdReferenceIdeal.lean ====
abbrev S1x8192x1024 : Shape := ⟨3, ![1, 8192, 1024]⟩
abbrev S1024 : Shape := ⟨1, ![1024]⟩
abbrev S1024x3072 : Shape := ⟨2, ![1024, 3072]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩

abbrev nBuf : Space → Nat
  | .hbm => 21
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x3072, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OutFwd.lean ====
abbrev S1x8192x512 : Shape := ⟨3, ![1, 8192, 512]⟩
abbrev S1x8192x4x128 : Shape := ⟨4, ![1, 8192, 4, 128]⟩
abbrev S1x8192x3072 : Shape := ⟨3, ![1, 8192, 3072]⟩
abbrev S512 : Shape := ⟨1, ![512]⟩
abbrev S1024x1024 : Shape := ⟨2, ![1024, 1024]⟩
abbrev S1x8192x1024 : Shape := ⟨3, ![1, 8192, 1024]⟩
abbrev S8192x512 : Shape := ⟨2, ![8192, 512]⟩
abbrev S8192x3072 : Shape := ⟨2, ![8192, 3072]⟩
abbrev S1x512 : Shape := ⟨2, ![1, 512]⟩
abbrev S8192x1024 : Shape := ⟨2, ![8192, 1024]⟩
abbrev S512x512 : Shape := ⟨2, ![512, 512]⟩
abbrev S512x1024 : Shape := ⟨2, ![512, 1024]⟩
abbrev S512x128 : Shape := ⟨2, ![512, 128]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S1x8192x512, .f32⟩
  | .hbm, ⟨1, _⟩ => ⟨S1x8192x4x128, .f32⟩
  | .hbm, ⟨2, _⟩ => ⟨S1x8192x3072, .f32⟩
  | .hbm, ⟨3, _⟩ => ⟨S512, .f32⟩
  | .hbm, ⟨4, _⟩ => ⟨S1024x1024, .f32⟩
  | .hbm, ⟨5, _⟩ => ⟨S1x8192x1024, .f32⟩
  | .hbm, ⟨6, _⟩ => ⟨S8192x512, .f32⟩
  | .hbm, ⟨7, _⟩ => ⟨S8192x512, .bf16⟩
  | .hbm, ⟨8, _⟩ => ⟨S8192x512, .f32⟩
  | .hbm, ⟨9, _⟩ => ⟨S8192x3072, .f32⟩
  | .hbm, ⟨10, _⟩ => ⟨S1x512, .f32⟩
  | .hbm, ⟨11, _⟩ => ⟨S1024x1024, .bf16⟩
  | .hbm, ⟨12, _⟩ => ⟨S8192x1024, .f32⟩
  | .hbm, ⟨13, _⟩ => ⟨S8192x1024, .f32⟩
  | .hbm, ⟨14, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutFwdReferenceIdeal.lean ====
abbrev S1x8192x512 : Shape := ⟨3, ![1, 8192, 512]⟩
abbrev S1x8192x4x128 : Shape := ⟨4, ![1, 8192, 4, 128]⟩
abbrev S1x8192x3072 : Shape := ⟨3, ![1, 8192, 3072]⟩
abbrev S512 : Shape := ⟨1, ![512]⟩
abbrev S1024x1024 : Shape := ⟨2, ![1024, 1024]⟩
abbrev S1x8192x1024 : Shape := ⟨3, ![1, 8192, 1024]⟩
abbrev S8192x3072 : Shape := ⟨2, ![8192, 3072]⟩
abbrev S8192x512 : Shape := ⟨2, ![8192, 512]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x512 : Shape := ⟨2, ![1, 512]⟩
abbrev S8192x1024 : Shape := ⟨2, ![8192, 1024]⟩

abbrev nBuf : Space → Nat
  | .hbm => 52
  | .vmem => 0
  | .smem => 0
  | _ => 0

abbrev bufTy : (tb : Table) → Fin (tcTables nBuf tb) → BufTy
  | .hbm, ⟨0, _⟩ => ⟨S1x8192x512, .f32⟩
  | .hbm, ⟨1, _⟩ => ⟨S1x8192x4x128, .f32⟩
  | .hbm, ⟨2, _⟩ => ⟨S1x8192x3072, .f32⟩
  | .hbm, ⟨3, _⟩ => ⟨S512, .f32⟩
  | .hbm, ⟨4, _⟩ => ⟨S1024x1024, .f32⟩
  | .hbm, ⟨5, _⟩ => ⟨S1x8192x1024, .f32⟩
  | .hbm, ⟨6, _⟩ => ⟨S8192x3072, .f32⟩
  | .hbm, ⟨7, _⟩ => ⟨S8192x512, .f32⟩
  | .hbm, ⟨8, _⟩ => ⟨S8192x4x128, .f32⟩
  | .hbm, ⟨9, _⟩ => ⟨S_, .f32⟩
  | .hbm, ⟨10, _⟩ => ⟨S8192x4, .f32⟩
  | .hbm, ⟨11, _⟩ => ⟨S8192x4x1, .f32⟩
  | .hbm, ⟨12, _⟩ => ⟨S_, .f32⟩
  | .hbm, ⟨13, _⟩ => ⟨S8192x4x1, .f32⟩
  | .hbm, ⟨14, _⟩ => ⟨S8192x4x1, .f32⟩
  | .hbm, ⟨15, _⟩ => ⟨S8192x4x128, .f32⟩
  | .hbm, ⟨16, _⟩ => ⟨S8192x4x128, .f32⟩
  | .hbm, ⟨17, _⟩ => ⟨S8192x4x128, .f32⟩
  | .hbm, ⟨18, _⟩ => ⟨S_, .f32⟩
  | .hbm, ⟨19, _⟩ => ⟨S8192x4, .f32⟩
  | .hbm, ⟨20, _⟩ => ⟨S8192x4x1, .f32⟩
  | .hbm, ⟨21, _⟩ => ⟨S_, .f32⟩
  | .hbm, ⟨22, _⟩ => ⟨S8192x4x1, .f32⟩
  | .hbm, ⟨23, _⟩ => ⟨S8192x4x1, .f32⟩
  | .hbm, ⟨24, _⟩ => ⟨S8192x4x128, .f32⟩
  | .hbm, ⟨25, _⟩ => ⟨S8192x4x128, .f32⟩
  | .hbm, ⟨26, _⟩ => ⟨S_, .f32⟩
  | .hbm, ⟨27, _⟩ => ⟨S8192x4x1, .f32⟩
  | .hbm, ⟨28, _⟩ => ⟨S8192x4x1, .f32⟩
  | .hbm, ⟨29, _⟩ => ⟨S8192x4x1, .f32⟩
  | .hbm, ⟨30, _⟩ => ⟨S8192x4x128, .f32⟩
  | .hbm, ⟨31, _⟩ => ⟨S8192x4x128, .f32⟩
  | .hbm, ⟨32, _⟩ => ⟨S8192x512, .f32⟩
  | .hbm, ⟨33, _⟩ => ⟨S1x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== InProj.lean ====
abbrev S1x8192x1024 : Shape := ⟨3, ![1, 8192, 1024]⟩
abbrev S1024 : Shape := ⟨1, ![1024]⟩
abbrev S1024x3072 : Shape := ⟨2, ![1024, 3072]⟩
abbrev S1x8192x3072 : Shape := ⟨3, ![1, 8192, 3072]⟩
abbrev S8192x3072 : Shape := ⟨2, ![8192, 3072]⟩
abbrev S8192x1024 : Shape := ⟨2, ![8192, 1024]⟩
abbrev S8192x512 : Shape := ⟨2, ![8192, 512]⟩
abbrev S1x1024 : Shape := ⟨2, ![1, 1024]⟩
abbrev S512x1024 : Shape := ⟨2, ![512, 1024]⟩
abbrev S512x512 : Shape := ⟨2, ![512, 512]⟩
abbrev S1024x1024 : Shape := ⟨2, ![1024, 1024]⟩
abbrev S1024x512 : Shape := ⟨2, ![1024, 512]⟩
abbrev S512 : Shape := ⟨1, ![512]⟩
abbrev S512x1 : Shape := ⟨2, ![512, 1]⟩

abbrev nBuf : Space → Nat
  | .hbm => 19
  | .vmem => 21
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x3072, .f32⟩
  | .hbm, ⟨3, _⟩ => ⟨S1x8192x3072, .f32⟩
  | .hbm, ⟨4, _⟩ => ⟨S1x8192x1024, .f32⟩
  | .hbm, ⟨5, _⟩ => ⟨S8192x3072, .f32⟩
  | .hbm, ⟨6, _⟩ => ⟨S8192x3072, .bf16⟩
  | .hbm, ⟨7, _⟩ => ⟨S8192x1024, .bf16⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S1024x3072, .bf16⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1024x3072, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InProjReferenceIdeal.lean ====
abbrev S1x8192x1024 : Shape := ⟨3, ![1, 8192, 1024]⟩
abbrev S1024 : Shape := ⟨1, ![1024]⟩
abbrev S1024x3072 : Shape := ⟨2, ![1024, 3072]⟩
abbrev S1x8192x3072 : Shape := ⟨3, ![1, 8192, 3072]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩

abbrev nBuf : Space → Nat
  | .hbm => 61
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x3072, .f32⟩
  | .hbm, ⟨3, _⟩ => ⟨S1x8192x3072, .f32⟩
  | .hbm, ⟨4, _⟩ => ⟨S1x8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x3072, .f32⟩
  | .hbm, ⟨27, _⟩ => ⟨S8192x1024, .f32⟩
  | .hbm, ⟨28, _⟩ => ⟨S8192x3072, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Mlp.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S8192x1024 : Shape := ⟨2, ![8192, 1024]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩

abbrev nBuf : Space → Nat
  | .hbm => 23
  | .vmem => 35
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x8192x1024, .f32⟩
  | .hbm, ⟨6, _⟩ => ⟨S8192x1024, .f32⟩
  | .hbm, ⟨7, _⟩ => ⟨S1x1024, .f32⟩
  | .hbm, ⟨8, _⟩ => ⟨S2816x1024, .f32⟩
  | .hbm, ⟨9, _⟩ => ⟨S2816x1024, .bf16⟩
  | .hbm, ⟨10, _⟩ => ⟨S2816x1024, .f32⟩
  | .hbm, ⟨11, _⟩ => ⟨S2816x1024, .bf16⟩
  | .hbm, ⟨12, _⟩ => ⟨S2816x1024, .bf16⟩
  | .hbm, ⟨13, _⟩ => ⟨S8192x1024, .f32⟩
  | .hbm, ⟨14, _⟩ => ⟨S8192x2816, .bf16⟩
  | .hbm, ⟨15, _⟩ => ⟨S8192x2816, .bf16⟩
  | .hbm, ⟨16, _⟩ => ⟨S8192x2816, .bf16⟩
  | .hbm, ⟨17, _⟩ => ⟨S8192x1024, .f32⟩
  | .hbm, ⟨18, _⟩ => ⟨S8192x1024, .f32⟩
  | .hbm, ⟨19, _⟩ => ⟨S8192x2816, .bf16⟩
  | .hbm, ⟨20, _⟩ => ⟨S8192x2816, .bf16⟩
  | .hbm, ⟨21, _⟩ => ⟨S8192x1024, .bf16⟩
  | .hbm, ⟨22, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S2816x1024, .bf16⟩
  | .local _ .vmem, ⟨24, _⟩ => ⟨S2816x1024, .bf16⟩
  | .local _ .vmem, ⟨25, _⟩ => ⟨S2816x1024, .bf16⟩
  | .local _ .vmem, ⟨26, _⟩ => ⟨S256x1024, .f32⟩
  | .local _ .vmem, ⟨27, _⟩ => ⟨S256x1024, .f32⟩
  | .local _ .vmem, ⟨28, _⟩ => ⟨S256x2816, .bf16⟩
  | .local _ .vmem, ⟨29, _⟩ => ⟨S256x2816, .bf16⟩
  | .local _ .vmem, ⟨30, _⟩ => ⟨S256x2816, .bf16⟩
  | .local _ .vmem, ⟨31, _⟩ => ⟨S256x2816, .bf16⟩
  | .local _ .vmem, ⟨32, _⟩ => ⟨S256x1024, .bf16⟩
  | .local _ .vmem, ⟨33, _⟩ => ⟨S256x1024, .bf16⟩
  | .local _ .vmem, ⟨34, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33
abbrev cc1_sem12_0 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x2816 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x2816 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== MlpReferenceIdeal.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 93
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x2816, .bf16⟩
  | .hbm, ⟨89, _⟩ => ⟨S8192x2816, .bf16⟩
  | .hbm, ⟨90, _⟩ => ⟨S8192x2816, .bf16⟩
  | .hbm, ⟨91, _⟩ => ⟨S8192x1024, .bf16⟩
  | .hbm, ⟨92, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v20_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v20_1 : Ref sig .tc := ⟨.hbm, 41, rfl⟩
abbrev main_v20_0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩

abbrev nD : Nat := 1
abbrev τ : Topo := Topo.v7x

variable {F : FTy → Type} [FloatOps F]
-- ==== Proof.RealLift.lean ====
module

public import Idealize.ShloMosaic.PureOps.Ideal.Laws
public import Idealize.ShloMosaic.Lib.Pointwise
public import Idealize.ShloMosaic.Lib.ReduceAll

/-! # Extended-real expressions of finite numbers, computed over the reals -/

@[expose] public section

noncomputable section

namespace Cert.RealLift

open Idealize.ShloMosaic

/-- The float nearest to `10⁻⁶`, the `EPS` of both programs, as a real number. -/
def eps : ℝ := 8796093 / 8796093022208

theorem eps_pos : 0 < eps := by unfold eps; norm_num

theorem word_eps : Ideal.ofBits .f32 897988541#32 = ((eps : ℝ) : EReal) := by
  simp [Ideal.ofBits, Ideal.ieee, eps, -EReal.coe_mul]; norm_num

theorem word_1024 : Ideal.ofBits .f32 1149239296#32 = ((1024 : ℝ) : EReal) := by
  simp [Ideal.ofBits, Ideal.ieee, -EReal.coe_mul]; norm_num

theorem word_2048 : Ideal.ofBits .f32 1157627904#32 = ((2048 : ℝ) : EReal) := by
  simp [Ideal.ofBits, Ideal.ieee, -EReal.coe_mul]; norm_num

theorem word_inv1024 : Ideal.ofBits .f32 981467136#32 = ((1 / 1024 : ℝ) : EReal) := by
  simp [Ideal.ofBits, Ideal.ieee, -EReal.coe_mul]; norm_num

theorem word_half : Ideal.ofBits .f32 1056964608#32 = ((1 / 2 : ℝ) : EReal) := by
  simp [Ideal.ofBits, Ideal.ieee, -EReal.coe_mul]; norm_num

theorem word_neg_half : Ideal.ofBits .f32 3204448256#32 = ((-1 / 2 : ℝ) : EReal) := by
  simp [Ideal.ofBits, Ideal.ieee, -EReal.coe_mul]; norm_num

theorem word_one : Ideal.ofBits .f32 1065353216#32 = ((1 : ℝ) : EReal) := by
  simp [Ideal.ofBits, Ideal.ieee, -EReal.coe_mul]; norm_num

theorem word_two : Ideal.ofBits .f32 1073741824#32 = ((2 : ℝ) : EReal) := by
  simp [Ideal.ofBits, Ideal.ieee, -EReal.coe_mul]; norm_num

theorem word_zero : Ideal.ofBits .f32 0#32 = ((0 : ℝ) : EReal) := by
  simp [Ideal.ofBits, Ideal.ieee, -EReal.coe_mul]

/-- A finite sum of real numbers, taken in the extended reals, is the real sum. -/
theorem coe_sum {ι : Type} [Fintype ι] (f : ι → ℝ) : ((∑ i, f i : ℝ) : EReal) = ∑ i, ((f i : ℝ) : EReal) := by
  classical
  have h : ∀ s : Finset ι, ((∑ i ∈ s, f i : ℝ) : EReal) = ∑ i ∈ s, ((f i : ℝ) : EReal) := fun s => by
    induction s using Finset.induction_on with
    | empty => simp
    | insert a s ha ih => rw [Finset.sum_insert ha, Finset.sum_insert ha, EReal.coe_add, ih]
  exact h Finset.univ

/-- Division of finite numbers by a nonzero one is real division. -/
theorem div_coe (x : ℝ) {y : ℝ} (h : y ≠ 0) : Ideal.div (x : EReal) (y : EReal) = ((x / y : ℝ) : EReal) := by
  rw [Ideal.div_coe h, ← EReal.coe_mul, mul_one_div]

/-- The reciprocal square root of a positive number. -/
theorem rsqrt_pos {x : ℝ} (h : 0 < x) : Ideal.rsqrt (x : EReal) = (((√x)⁻¹ : ℝ) : EReal) := by
  rw [Ideal.rsqrt_coe, if_neg (not_lt.mpr h.le), if_neg h.ne']

theorem word_infinity : Ideal.ofBits .f32 0x7F800000#32 = ⊤ := by
  simp [Ideal.ofBits, Ideal.ieee]

/-- A number whose absolute value compares below `+∞` is a real number. -/
theorem exists_real {x : EReal} (h : Ideal.cmp .olt (max x (-x)) ⊤ = 1#1) : ∃ r : ℝ, x = r := by
  have h : max x (-x) < ⊤ := by
    by_contra hn
    simp [Ideal.cmp, hn] at h
  induction x with
  | bot => simp at h
  | coe r => exact ⟨r, rfl⟩
  | top => simp at h

/-- An array of which `all (abs x < +∞)` holds is an array of real numbers. -/
theorem exists_reals {s t u : Shape} [Subsingleton t.Idx] {axes : List (Fin s.rank)} (x : FVec Ideal s .f32) (top : FVec Ideal s .f32)
    (htop : ∀ i, top i = ⊤) (init : IVec u 1) (h : s.ReducesTo axes t) (hu : 0 < u.numel) (j : t.Idx)
    (e : Host.reduce IntOp.andi (cmpf .olt (Host.absf x) top) init h hu j = 1#1) : ∃ X : s.Idx → ℝ, ∀ i, x i = ((X i : ℝ) : EReal) := by
  have key : ∀ i, ∃ r : ℝ, x i = r := fun i => by
    have := Host.reduce_andi_all _ init h hu j e i
    refine exists_real ?_
    rw [← htop i]; exact this
  exact ⟨fun i => (key i).choose, fun i => (key i).choose_spec⟩

/-! ## The RMS norm of a row of 1024 numbers and its derivative -/

/-- The reciprocal root of a row's mean square plus `eps`. -/
def rinv (x : Fin 1024 → ℝ) : ℝ := (√((∑ k, x k * x k) / 1024 + eps))⁻¹

theorem rinv_arg_pos (x : Fin 1024 → ℝ) : 0 < (∑ k, x k * x k) / 1024 + eps :=
  add_pos_of_nonneg_of_pos (div_nonneg (Finset.sum_nonneg fun k _ => mul_self_nonneg _) (by norm_num)) eps_pos

theorem rsqrt_row (x : Fin 1024 → ℝ) :
    Ideal.rsqrt (((∑ k, x k * x k) / 1024 + eps : ℝ) : EReal) = ((rinv x : ℝ) : EReal) :=
  rsqrt_pos (rinv_arg_pos x)

/-- The derivative of the reciprocal square root is `-1/2` times this quotient. -/
theorem rsqrt_row_div (x : Fin 1024 → ℝ) :
    Ideal.div ((rinv x : ℝ) : EReal) (((∑ k, x k * x k) / 1024 + eps : ℝ) : EReal) = ((rinv x * rinv x * rinv x : ℝ) : EReal) := by
  rw [div_coe _ (rinv_arg_pos x).ne']
  congr 1
  have h : rinv x * rinv x = ((∑ k, x k * x k) / 1024 + eps)⁻¹ := by
    unfold rinv
    rw [← mul_inv, Real.mul_self_sqrt (rinv_arg_pos x).le]
  rw [h, div_eq_mul_inv, mul_comm]

/-- The gradient through the norm: `d` is the cotangent of the normalised row. -/
def rmsBack (x d : Fin 1024 → ℝ) (j : Fin 1024) : ℝ :=
  rinv x * (d j - x j * rinv x * ((∑ k, d k * (x k * rinv x)) / 1024))

/-- The gradient as differentiation writes it: through the factor `x`, and through the mean square of `x`. -/
theorem rmsBack_eq (x d : Fin 1024 → ℝ) (j : Fin 1024) :
    rmsBack x d j = d j * rinv x + x j * (((∑ k, x k * d k) * (-1 / 2 * (rinv x * rinv x * rinv x))) / 1024)
      + x j * (((∑ k, x k * d k) * (-1 / 2 * (rinv x * rinv x * rinv x))) / 1024) := by
  have h : (∑ k, d k * (x k * rinv x)) = (∑ k, x k * d k) * rinv x := by
    rw [Finset.sum_mul]; exact Finset.sum_congr rfl fun k _ => by ring
  unfold rmsBack
  rw [h]; ring

end Cert.RealLift

end
-- ==== Proof.LossReal.lean ====
module

public import proofs.«01_k».proof.Proof.RealLift

/-! # The loss head over the reals: what the three results are -/

@[expose] public section

noncomputable section

namespace Cert.LossReal

open Cert.RealLift

/-- The prediction error of a row: the normalised row times the gain, less the target. -/
def diff (x g t : Fin 1024 → ℝ) (k : Fin 1024) : ℝ := x k * rinv x * g k - t k

/-- The cotangent of the normalised row. -/
def cot (x g t : Fin 1024 → ℝ) (k : Fin 1024) : ℝ := diff x g t k * (1 / 1024) * g k

/-- One row's summand of the gradient in the gain. -/
def gain (x g t : Fin 1024 → ℝ) (k : Fin 1024) : ℝ := diff x g t k * (1 / 1024) * (x k * rinv x)

/-- One row's sum of squared errors. -/
def sq (x g t : Fin 1024 → ℝ) : ℝ := ∑ k, diff x g t k * diff x g t k

end Cert.LossReal

end
-- ==== Proof.LossKernel.lean ====
module

public import proofs.«01_k».proof.Proof.Gen.LossIdeal.Value
public import Idealize.ShloMosaic.Lib.Pipeline.ValueKit
public import Idealize.ShloMosaic.Lib.Pointwise
public import proofs.«01_k».proof.Proof.LossReal

/-! # What the loss head's kernel leaves in its three results -/

@[expose] public section

set_option maxRecDepth 16384

noncomputable section

namespace Cert.LossKernel

open Idealize.ShloMosaic Idealize.ShloMosaic.TcCoe Idealize.SL.Sem
open Idealize.ShloMosaic.Pipeline (Dat)
open Cert.LossIdeal Cert.LossIdeal.Gen Cert.RealLift Cert.LossReal

/-! ## One block of 512 rows -/

section block

variable (v3 : Vec Ideal S512x1024 .f32) (v15 : Vec Ideal S1x1024 .f32) (v19 : Vec Ideal S512x1024 .f32)
variable (X T : Fin 512 → Fin 1024 → ℝ) (G : Fin 1024 → ℝ)
variable (hx : ∀ r k, v3 (ix2 r k) = ((X r k : ℝ) : EReal)) (hg : ∀ k, v15 (ix2 0 k) = ((G k : ℝ) : EReal))
  (ht : ∀ r k, v19 (ix2 r k) = ((T r k : ℝ) : EReal))

include hx hg ht

/-- The gradient in row `r` of the block. -/
theorem dx_block (r : Fin 512) (j : Fin 1024) :
    k0_pay2 (k0_pay6 v3) (k0_pay7 v3) (k0_pay10 v3 v15 v19) v15 (ix2 r j) = ((rmsBack (X r) (cot (X r) G (T r)) j : ℝ) : EReal) := by
  pointwise [k0_pay2, k0_pay6, k0_pay7, k0_pay10, k0_pay8, k0_pay5]
  simp only [hx, hg, ht, word_eps, word_1024, word_inv1024, rsqrt_row, ← EReal.coe_mul, ← EReal.coe_sub, ← coe_sum,
    div_coe _ (by norm_num : (1024 : ℝ) ≠ 0), ← EReal.coe_add]
  rfl

/-- The block's sum of squared errors is added to every cell of the accumulator. -/
theorem loss_block (o : Vec Ideal S8x128 .f32) (y : S8x128.Idx) :
    k0_pay9 v3 v15 v19 o y = o y + ((∑ r, sq (X r) G (T r) : ℝ) : EReal) := by
  pointwise [k0_pay9, k0_pay2, k0_pay6, k0_pay7, k0_pay10, k0_pay8, k0_pay5]
  simp only [hx, hg, ht, word_eps, word_1024, rsqrt_row, ← EReal.coe_mul, ← EReal.coe_sub, ← coe_sum,
    div_coe _ (by norm_num : (1024 : ℝ) ≠ 0), ← EReal.coe_add]
  rfl

/-- The block's part of the gradient in the gain is added to the accumulator. -/
theorem dg_block (o : Vec Ideal S1x1024 .f32) (y : Fin 1) (j : Fin 1024) :
    k0_pay1 (k0_pay11 o) (k0_pay12 v3 v15 v19) (ix2 y j) = o (ix2 y j) + ((∑ r, gain (X r) G (T r) j : ℝ) : EReal) := by
  pointwise [k0_pay1, k0_pay11, k0_pay12, k0_pay6, k0_pay7, k0_pay10, k0_pay8, k0_pay5]
  simp only [hx, hg, ht, word_eps, word_1024, word_inv1024, rsqrt_row, ← EReal.coe_mul, ← EReal.coe_sub, ← coe_sum,
    div_coe _ (by norm_num : (1024 : ℝ) ≠ 0), ← EReal.coe_add]
  rfl

end block

/-! ## The blocks read -/

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, _)

/-- Row `r` of block `t` is row `512 t + r` of the sequence. -/
def row (t : Fin cfg0.N) (r : Fin 512) : Fin 8192 :=
  ⟨t.val * 512 + r.val, by have h : t.val < 16 := lt_of_lt_of_eq t.isLt N_0; have := r.isLt; omega⟩

/-- Row `r` of the input's block `t`. -/
theorem x_block (c : Dev nD) (t : Fin cfg0.N) (r : Fin 512) (k : Fin 1024) :
    (iblk m c 0 t : Vec Ideal S512x1024 .f32) (ix2 r k) = (m ((c : Thread nD τ).loc main_arg0) : FVec Ideal S1x8192x1024 .f32) (ix3 0 (row t r) k) := by
  blk_simp [iblk]
  entry_read
  pointwise
  blk_ext [idx t, row]

/-- The gain, read whole at every block. -/
theorem g_block (c : Dev nD) (t : Fin cfg0.N) (k : Fin 1024) :
    (iblk m c 1 t : Vec Ideal S1x1024 .f32) (ix2 0 k) = (m ((c : Thread nD τ).loc main_arg1) : FVec Ideal S1024 .f32) (ix1 k) := by
  blk_simp [iblk]
  entry_read
  pointwise
  blk_ext [idx t]

/-- Row `r` of the target's block `t`. -/
theorem t_block (c : Dev nD) (t : Fin cfg0.N) (r : Fin 512) (k : Fin 1024) :
    (iblk m c 2 t : Vec Ideal S512x1024 .f32) (ix2 r k) = (m ((c : Thread nD τ).loc main_arg2) : FVec Ideal S1x8192x1024 .f32) (ix3 0 (row t r) k) := by
  blk_simp [iblk]
  entry_read
  pointwise
  blk_ext [idx t, row]

/-! ## The three results -/

section results

variable (c : Dev nD) (X T : Fin 8192 → Fin 1024 → ℝ) (G : Fin 1024 → ℝ)
variable (hx : ∀ n k, (m ((c : Thread nD τ).loc main_arg0) : FVec Ideal S1x8192x1024 .f32) (ix3 0 n k) = ((X n k : ℝ) : EReal))
  (hg : ∀ k, (m ((c : Thread nD τ).loc main_arg1) : FVec Ideal S1024 .f32) (ix1 k) = ((G k : ℝ) : EReal))
  (ht : ∀ n k, (m ((c : Thread nD τ).loc main_arg2) : FVec Ideal S1x8192x1024 .f32) (ix3 0 n k) = ((T n k : ℝ) : EReal))

include hx hg ht

/-- One cell of the gradient in the input, at the block that writes it. -/
theorem dx_point (t : Fin cfg0.N) (y : S512x1024.Idx) :
    k0_pay2 (k0_pay6 (iblk m c 0 t)) (k0_pay7 (iblk m c 0 t)) (k0_pay10 (iblk m c 0 t) (iblk m c 1 t) (iblk m c 2 t)) (iblk m c 1 t) y
      = ((rmsBack (X (row t (y 0))) (cot (X (row t (y 0))) G (T (row t (y 0)))) (y 1) : ℝ) : EReal) := by
  have hy : y = ix2 (y 0) (y 1) := by idx_ext
  rw [hy]
  exact dx_block _ _ _ (fun r => X (row t r)) (fun r => T (row t r)) G (fun r k => (x_block m c t r k).trans (hx _ _))
    (fun k => (g_block m c t k).trans (hg _)) (fun r k => (t_block m c t r k).trans (ht _ _)) _ _

/-- The gradient in the input, row by row. -/
theorem final_dx (REF : FVec Ideal S8192x1024 .f32)
    (href : ∀ n j, REF (ix2 n j) = ((rmsBack (X n) (cot (X n) G (T n)) j : ℝ) : EReal)) :
    (dats m 0 c).arrAt 3 (cfgs 0).N = REF := by
  refine (dats m 0 c).arrAt_eq_of_covers 3 _ (by decide +kernel) fun t _ y => ?_
  blk_simp
  rw [after0_3]
  have e : (((View.whole main_v3_0).slice (win0_3.rect t)).emb y : S8192x1024.Idx) = ix2 (row t (y 0)) (y 1) := by
    blk_ext [idx t, row]
  have key := (dx_point m c X T G hx hg ht t y).trans ((href _ _).symm.trans (congrArg REF e.symm))
  by_cases h0 : t.val % 16 = 0
  · rw [outsAt0_A m c t h0]
    frame_out
    exact key
  · rw [outsAt0_B m c t h0]
    frame_out
    exact key

/-- A block's part of the loss, at the block's point. -/
theorem loss_point (t : Fin cfg0.N) (o : Vec Ideal S8x128 .f32) (y : S8x128.Idx) :
    k0_pay9 (iblk m c 0 t) (iblk m c 1 t) (iblk m c 2 t) o y = o y + ((∑ r, LossReal.sq (X (row t r)) G (T (row t r)) : ℝ) : EReal) :=
  loss_block _ _ _ (fun r => X (row t r)) (fun r => T (row t r)) G (fun r k => (x_block m c t r k).trans (hx _ _))
    (fun k => (g_block m c t k).trans (hg _)) (fun r k => (t_block m c t r k).trans (ht _ _)) o y

/-- A block's part of the gradient in the gain, at the block's point. -/
theorem dg_point (t : Fin cfg0.N) (o : Vec Ideal S1x1024 .f32) (y : S1x1024.Idx) :
    k0_pay1 (k0_pay11 o) (k0_pay12 (iblk m c 0 t) (iblk m c 1 t) (iblk m c 2 t)) y
      = o y + ((∑ r, gain (X (row t r)) G (T (row t r)) (y 1) : ℝ) : EReal) := by
  have hy : y = ix2 (y 0) (y 1) := by idx_ext
  rw [hy]
  exact dg_block _ _ _ (fun r => X (row t r)) (fun r => T (row t r)) G (fun r k => (x_block m c t r k).trans (hx _ _))
    (fun k => (g_block m c t k).trans (hg _)) (fun r k => (t_block m c t r k).trans (ht _ _)) o _ _

omit hx hg ht in
/-- A sum over the sixteen blocks and their rows is the sum over the sequence. -/
theorem sum_rows (f : Fin 8192 → ℝ) : ∑ p : Fin cfg0.N, ((∑ r, f (row p r) : ℝ) : EReal) = ((∑ n, f n : ℝ) : EReal) := by
  rw [← coe_sum]
  congr 1
  exact Fin.sum_mul_add_congr (S := cfg0.N) (n := 512) (F := fun p r => f (row p r)) (f := f) fun s k hl => rfl

/-- Every cell of the loss accumulator ends at the sum of the squared errors. -/
theorem final_loss (REF : FVec Ideal S8x128 .f32) (href : ∀ y, REF y = ((∑ n, LossReal.sq (X n) G (T n) : ℝ) : EReal)) :
    (dats m 0 c).arrAt 4 (cfgs 0).N = REF := by
  refine (dats m 0 c).arrAt_eq_of_after_last 4 t0_15 (by decide +kernel) _ fun j => ?_
  blk_simp
  have z : ∀ y, k0_pay3 (F := Ideal) y = 0 := fun y => by pointwise [k0_pay3]
  rw [after0_4, Pipeline.eq_sum_fin_of_reset_step_apply_last (fun n h => (outsAt0 m c n h).2.1) 16 (fun _ => 0)
    (fun p _ => ((∑ r, LossReal.sq (X (row p r)) G (T (row p r)) : ℝ) : EReal))
    (fun t h y => by rw [outsAt0_A m c t h]; dsimp only; frame_out; rw [loss_point m c X T G hx hg ht, z])
    (fun t h y => by rw [outsAt0_B m c t h]; dsimp only; frame_out; rw [loss_point m c X T G hx hg ht]) (le_of_eq N_0) t0_15 rfl _]
  exact (zero_add _).trans ((sum_rows fun n => LossReal.sq (X n) G (T n)).trans (href _).symm)

/-- The gain's accumulator ends at the gradient summed over the sequence. -/
theorem final_dg (REF : FVec Ideal S1x1024 .f32) (href : ∀ y j, REF (ix2 y j) = ((∑ n, gain (X n) G (T n) j : ℝ) : EReal)) :
    (dats m 0 c).arrAt 5 (cfgs 0).N = REF := by
  refine (dats m 0 c).arrAt_eq_of_after_last 5 t0_15 (by decide +kernel) _ fun j => ?_
  blk_simp
  have z : ∀ y, k0_pay4 (F := Ideal) y = 0 := fun y => by pointwise [k0_pay4]
  rw [after0_5, Pipeline.eq_sum_fin_of_reset_step_apply_last (fun n h => (outsAt0 m c n h).2.2) 16 (fun _ => 0)
    (fun p (y : S1x1024.Idx) => ((∑ r, gain (X (row p r)) G (T (row p r)) (y 1) : ℝ) : EReal))
    (fun t h y => by rw [outsAt0_A m c t h]; dsimp only; frame_out; rw [dg_point m c X T G hx hg ht, z])
    (fun t h y => by rw [outsAt0_B m c t h]; dsimp only; frame_out; rw [dg_point m c X T G hx hg ht]) (le_of_eq N_0) t0_15 rfl _]
  have hy : (j : S1x1024.Idx) = ix2 (j 0) (j 1) := by idx_ext
  exact (zero_add _).trans ((sum_rows fun n => gain (X n) G (T n) (j 1)).trans ((href _ _).symm.trans (congrArg REF hy.symm)))

end results

end Cert.LossKernel

end
-- ==== Proof.LossReference.lean ====
module

public import proofs.«01_k».proof.Proof.Gen.LossReferenceIdeal.Read
public import Idealize.ShloMosaic.Lib.Pointwise
public import proofs.«01_k».proof.Proof.LossReal

/-! # What the loss head's reference computes, of real arguments -/

@[expose] public section

set_option maxRecDepth 16384

noncomputable section

namespace Cert.LossReference

open Idealize.ShloMosaic Idealize.ShloMosaic.TcCoe Cert.LossReferenceIdeal Cert.LossReferenceIdeal.Read Cert.RealLift Cert.LossReal

variable (x : FVec Ideal S1x8192x1024 .f32) (g : FVec Ideal S1024 .f32) (t : FVec Ideal S1x8192x1024 .f32)
variable (X T : Fin 8192 → Fin 1024 → ℝ) (G : Fin 1024 → ℝ)
variable (hx : ∀ n k, x (ix3 0 n k) = ((X n k : ℝ) : EReal)) (hg : ∀ k, g (ix1 k) = ((G k : ℝ) : EReal))
  (ht : ∀ n k, t (ix3 0 n k) = ((T n k : ℝ) : EReal))

include hx hg ht

/-- The gradient in the input row `n`. -/
theorem dx (n : Fin 8192) (j : Fin 1024) :
    val_main_v52 (F := Ideal) x g t (ix2 n j) = ((rmsBack (X n) (cot (X n) G (T n)) j : ℝ) : EReal) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16]
  simp only [hx, hg, ht, word_eps, word_1024, word_half, word_neg_half, word_two, rsqrt_row, rsqrt_row_div, Finset.univ_unique,
    Finset.sum_singleton, ← EReal.coe_mul, ← EReal.coe_sub, ← coe_sum, div_coe _ (by norm_num : (1024 : ℝ) ≠ 0), ← EReal.coe_add]
  congr 1
  rw [rmsBack_eq]
  have h : ∀ k, cot (X n) G (T n) k = 1 / 2 / 1024 * (2 * (X n k * rinv (X n) * G k - T n k)) * G k := fun k => by unfold cot diff; ring
  simp only [h]
  ring

/-- Every cell of the loss: twice the width times the loss is the sum of the squared errors. -/
theorem loss (y : S8x128.Idx) :
    val_main_v54 (F := Ideal) x g t y = ((∑ n, sq (X n) G (T n) : ℝ) : EReal) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16]
  simp only [hx, hg, ht, word_eps, word_1024, word_2048, word_half, word_neg_half, word_two, rsqrt_row, rsqrt_row_div,
    ← EReal.coe_mul, ← EReal.coe_sub, ← coe_sum, div_coe _ (by norm_num : (1024 : ℝ) ≠ 0), ← EReal.coe_add]
  congr 1
  simp only [← Finset.sum_div, LossReal.sq, diff]
  ring

/-- The gradient in the gain. -/
theorem dg (y : Fin 1) (j : Fin 1024) :
    val_main_v55 (F := Ideal) x g t (ix2 y j) = ((∑ n, gain (X n) G (T n) j : ℝ) : EReal) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16]
  simp only [hx, hg, ht, word_eps, word_1024, word_half, word_neg_half, word_two, rsqrt_row, rsqrt_row_div, Finset.univ_unique,
    Finset.sum_singleton, ← EReal.coe_mul, ← EReal.coe_sub, ← coe_sum, div_coe _ (by norm_num : (1024 : ℝ) ≠ 0), ← EReal.coe_add]
  congr 1
  refine Finset.sum_congr rfl fun n _ => ?_
  unfold gain diff
  ring

end Cert.LossReference

end
-- ==== Proof.LossFinite.lean ====
module

public import proofs.«01_k».proof.Pre_loss_finite
public import proofs.«01_k».proof.Proof.Gen.Pre_loss_finite
public import proofs.«01_k».proof.Proof.RealLift

/-! # What the precondition of the loss head says -/

@[expose] public section

noncomputable section

namespace Cert.LossFinite

open Idealize.ShloMosaic Cert.Pre_loss_finite

/-- Under the precondition the three arguments are arrays of real numbers. -/
theorem reals [Cert.Pre_loss_finite.Facts] (x : FVec Ideal S1x8192x1024 .f32) (g : FVec Ideal S1024 .f32) (t : FVec Ideal S1x8192x1024 .f32)
    (h : Cert.Pre_loss_finite.fn (F := Ideal) x g t = fun _ => 1#1) :
    (∃ X : S1x8192x1024.Idx → ℝ, ∀ i, x i = ((X i : ℝ) : EReal)) ∧ (∃ G : S1024.Idx → ℝ, ∀ i, g i = ((G i : ℝ) : EReal))
      ∧ ∃ T : S1x8192x1024.Idx → ℝ, ∀ i, t i = ((T i : ℝ) : EReal) := by
  have e := congrFun h (fun a => a.elim0)
  haveI : Subsingleton S_.Idx := ⟨fun a b => funext fun i => i.elim0⟩
  obtain ⟨e, e3⟩ := IntOp.andi_eq_one.mp e
  obtain ⟨e1, e2⟩ := IntOp.andi_eq_one.mp e
  exact ⟨RealLift.exists_reals x _ (fun _ => RealLift.word_infinity) _ _ _ _ e1,
    RealLift.exists_reals g _ (fun _ => RealLift.word_infinity) _ _ _ _ e2,
    RealLift.exists_reals t _ (fun _ => RealLift.word_infinity) _ _ _ _ e3⟩

end Cert.LossFinite

end
-- ==== Proof.Loss.lean ====
module

public import proofs.«01_k».proof.Defs
public import proofs.«01_k».proof.Proof.Gen.Loss
public import proofs.«01_k».proof.Proof.Gen.Loss.Frame
public import proofs.«01_k».proof.Proof.Gen.LossIdeal.Frame
public import proofs.«01_k».proof.Proof.Gen.LossReferenceIdeal.Run
public import proofs.«01_k».proof.Proof.LossKernel
public import proofs.«01_k».proof.Proof.LossReference
public import proofs.«01_k».proof.Proof.LossFinite

/-! # The loss head: the claims about the final norm's and the loss's call -/

@[expose] public section

set_option maxRecDepth 16384

noncomputable section

namespace Cert.LossProof

open Idealize.ShloMosaic Idealize.ShloMosaic.TcCoe Idealize.SL.Sem

/-- The kernel runs and leaves its arguments alone. -/
theorem frame : Cert.quiescent_Loss := fun m ρ _ => Cert.Loss.Gen.frame m ρ

/-- So does its ideal reading. -/
theorem frame_ideal : Cert.quiescent_LossIdeal := fun m ρ _ => Cert.LossIdeal.Gen.frame m ρ

theorem frame_ideal_pre : Cert.quiescent_LossIdeal_pre_loss_finite := fun m ρ _ => Cert.LossIdeal.Gen.frame m ρ

/-- The reference runs and leaves its arguments alone; it has no counter. -/
theorem frame_reference : Cert.quiescent_LossReferenceIdeal := fun m g _ =>
  (θ_run Cert.LossReferenceIdeal.defs _ _).mono
    (fun r h => ⟨fun c => (h c).2.2.2, Idealize.ShloMosaic.sem_eq_zero_of_no_sems (by decide) r.2⟩)
    (Cert.LossReferenceIdeal.Value.run (F := Ideal) m g)

theorem frame_reference_pre : Cert.quiescent_LossReferenceIdeal_pre_loss_finite := fun m g _ =>
  frame_reference m g trivial

set_option maxHeartbeats 1600000 in
/-- On finite arguments the kernel's three results are the loss and its gradients. -/
theorem algebraic : Cert.algebraic_LossIdeal_LossReferenceIdeal_pre_loss_finite := by
  pair_intro
  · run_from Cert.LossIdeal.Gen.run_main m g
  · run_from Cert.LossReferenceIdeal.Value.run m' g'
    all_goals
      obtain ⟨⟨X, hX⟩, ⟨G, hG⟩, ⟨T, hT⟩⟩ := Cert.LossFinite.reals _ _ _ (hpre c)
    · rw [Cert.LossReferenceIdeal.Read.val_main_v52_eq, (hagree c).1, (hagree c).2.1, (hagree c).2.2]
      exact (Cert.LossKernel.final_dx m c (fun n k => X (ix3 0 n k)) (fun n k => T (ix3 0 n k)) (fun k => G (ix1 k))
          (fun _ _ => hX _) (fun _ => hG _) (fun _ _ => hT _) _
          (Cert.LossReference.dx _ _ _ _ _ _ (fun _ _ => hX _) (fun _ => hG _) (fun _ _ => hT _))).symm
    · exact (Cert.LossKernel.final_loss m c (fun n k => X (ix3 0 n k)) (fun n k => T (ix3 0 n k)) (fun k => G (ix1 k))
          (fun _ _ => hX _) (fun _ => hG _) (fun _ _ => hT _) _
          (Cert.LossReference.loss _ _ _ _ _ _ (fun _ _ => hX _) (fun _ => hG _) (fun _ _ => hT _))).symm
    · exact (Cert.LossKernel.final_dg m c (fun n k => X (ix3 0 n k)) (fun n k => T (ix3 0 n k)) (fun k => G (ix1 k))
          (fun _ _ => hX _) (fun _ => hG _) (fun _ _ => hT _) _
          (Cert.LossReference.dg _ _ _ _ _ _ (fun _ _ => hX _) (fun _ => hG _) (fun _ _ => hT _))).symm

end Cert.LossProof

end
-- ==== Proof.RetUnits.lean ====
/- The body of the retention's backward kernel as a recursion: one grid point works through 32 units, chunk by chunk from the
   point's last chunk to its first and the four heads of each chunk in turn; each unit writes its part of the three gradients
   and replaces its head's state. Here the units are stated once, and the pieces that the kernel's run leaves in its buffers
   are shown to be those of the recursion. -/
module

public import proofs.«01_k».proof.Proof.Gen.RetIdeal.Frame.RunA
public import proofs.«01_k».proof.Proof.Gen.RetIdeal.Frame.RunB

@[expose] public section

set_option maxRecDepth 16384

noncomputable section

namespace Cert.RetIdeal.Unit

open Cert.RetIdeal Cert.RetIdeal.Gen Idealize.ShloMosaic Idealize.ShloMosaic.TcCoe Idealize.SL.Sem

variable {F : FTy → Type} [FloatOps F]

/-- Unit `k`'s rows and head lie in the blocks of rows by heads. -/
theorem inb_rows (k : ℕ) : ∀ a, (![64 * (7 - k / 4), 128 * (k % 4)] : Fin 2 → ℕ) a + S64x128.size a ≤ S512x512.size a := by
  intro a
  have h := Nat.mod_lt k (by decide : 0 < 4)
  fin_cases a
  · show 64 * (7 - k / 4) + 64 ≤ 512; omega
  · show 128 * (k % 4) + 128 ≤ 512; omega

/-- Unit `k`'s rows lie in the tables by positions. -/
theorem inb_pos (k : ℕ) : ∀ a, (![64 * (7 - k / 4), 0] : Fin 2 → ℕ) a + S64x128.size a ≤ S512x128.size a := by
  intro a
  fin_cases a
  · show 64 * (7 - k / 4) + 64 ≤ 512; omega
  · show 0 + 128 ≤ 128; omega

/-- Unit `k`'s head lies in the tables by heads: decays between positions, -/
theorem inb_mat (k : ℕ) : ∀ a, (![k % 4, 0, 0] : Fin 3 → ℕ) a + S1x64x64.size a ≤ S4x64x64.size a := by
  intro a
  have h := Nat.mod_lt k (by decide : 0 < 4)
  fin_cases a
  · show k % 4 + 1 ≤ 4; omega
  · show 0 + 64 ≤ 64; omega
  · show 0 + 64 ≤ 64; omega

/-- decays of positions, -/
theorem inb_dec (k : ℕ) : ∀ a, (![k % 4, 0, 0] : Fin 3 → ℕ) a + S1x64x128.size a ≤ S4x64x128.size a := by
  intro a
  have h := Nat.mod_lt k (by decide : 0 < 4)
  fin_cases a
  · show k % 4 + 1 ≤ 4; omega
  · show 0 + 64 ≤ 64; omega
  · show 0 + 128 ≤ 128; omega

/-- and states. -/
theorem inb_st (k : ℕ) : ∀ a, (![k % 4, 0, 0] : Fin 3 → ℕ) a + S1x128x128.size a ≤ S4x128x128.size a := by
  intro a
  have h := Nat.mod_lt k (by decide : 0 < 4)
  fin_cases a
  · show k % 4 + 1 ≤ 4; omega
  · show 0 + 128 ≤ 128; omega
  · show 0 + 128 ≤ 128; omega

/-- Unit `k`'s chunk and head lie in the saved states. -/
theorem inb_saved (k : ℕ) : ∀ a, (![k % 4, 7 - k / 4, 0, 0] : Fin 4 → ℕ) a + S1x1x128x128.size a ≤ S4x8x128x128.size a := by
  intro a
  have h := Nat.mod_lt k (by decide : 0 < 4)
  fin_cases a
  · show k % 4 + 1 ≤ 4; omega
  · show 7 - k / 4 + 1 ≤ 8; omega
  · show 0 + 128 ≤ 128; omega
  · show 0 + 128 ≤ 128; omega

section loads

/-- Unit `k`'s rows and head of a block of rows by heads. -/
abbrev rows {e : EltTy} (a : Memref sig .tc .vmem S512x512 e) (h : a.IsWhole) (x : Vec F S512x512 e) (k : ℕ) : Vec F S64x128 e :=
  View.readAt (Elt F) a.view (Rect.unit (s := S512x512) ![64 * (7 - k / 4), 128 * (k % 4)] S64x128.size (inb_rows k)).toLoadRect (h.unread x)

/-- Unit `k`'s rows of a table by positions. -/
abbrev pos (a : Memref sig .tc .vmem S512x128 .f32) (h : a.IsWhole) (x : Vec F S512x128 .f32) (k : ℕ) : Vec F S64x128 .f32 :=
  View.readAt (Elt F) a.view (Rect.unit (s := S512x128) ![64 * (7 - k / 4), 0] S64x128.size (inb_pos k)).toLoadRect (h.unread x)

/-- Unit `k`'s head of the decays between positions. -/
abbrev mat (a : Memref sig .tc .vmem S4x64x64 .f32) (h : a.IsWhole) (x : Vec F S4x64x64 .f32) (k : ℕ) : Vec F S1x64x64 .f32 :=
  View.readAt (Elt F) a.view (Rect.unit (s := S4x64x64) ![k % 4, 0, 0] S1x64x64.size (inb_mat k)).toLoadRect (h.unread x)

/-- Unit `k`'s head of the decays of positions. -/
abbrev dec (a : Memref sig .tc .vmem S4x64x128 .f32) (h : a.IsWhole) (x : Vec F S4x64x128 .f32) (k : ℕ) : Vec F S1x64x128 .f32 :=
  View.readAt (Elt F) a.view (Rect.unit (s := S4x64x128) ![k % 4, 0, 0] S1x64x128.size (inb_dec k)).toLoadRect (h.unread x)

/-- Unit `k`'s head of an array of states. -/
abbrev st (a : Memref sig .tc .vmem S4x128x128 .f32) (h : a.IsWhole) (x : Vec F S4x128x128 .f32) (k : ℕ) : Vec F S1x128x128 .f32 :=
  View.readAt (Elt F) a.view (Rect.unit (s := S4x128x128) ![k % 4, 0, 0] S1x128x128.size (inb_st k)).toLoadRect (h.unread x)

/-- Unit `k`'s head and chunk of the saved states. -/
abbrev saved (a : Memref sig .tc .vmem S4x8x128x128 .bf16) (h : a.IsWhole) (x : Vec F S4x8x128x128 .bf16) (k : ℕ) : Vec F S1x1x128x128 .bf16 :=
  View.readAt (Elt F) a.view (Rect.unit (s := S4x8x128x128) ![k % 4, 7 - k / 4, 0, 0] S1x1x128x128.size (inb_saved k)).toLoadRect (h.unread x)

end loads

variable (a1 : Memref sig .tc .vmem S512x512 .f32) (h1 : a1.IsWhole) (a2 : Memref sig .tc .vmem S512x512 .f32) (h2 : a2.IsWhole)
  (a3 : Memref sig .tc .vmem S512x512 .f32) (h3 : a3.IsWhole) (a4 : Memref sig .tc .vmem S512x128 .f32) (h4 : a4.IsWhole)
  (a5 : Memref sig .tc .vmem S512x128 .f32) (h5 : a5.IsWhole) (a6 : Memref sig .tc .vmem S4x64x64 .f32) (h6 : a6.IsWhole)
  (a7 : Memref sig .tc .vmem S4x64x128 .f32) (h7 : a7.IsWhole) (a8 : Memref sig .tc .vmem S4x64x128 .f32) (h8 : a8.IsWhole)
  (a9 : Memref sig .tc .vmem S4x128x128 .f32) (h9 : a9.IsWhole) (a10 : Memref sig .tc .vmem S512x512 .bf16) (h10 : a10.IsWhole)
  (a11 : Memref sig .tc .vmem S4x8x128x128 .bf16) (h11 : a11.IsWhole)
  (a15 : Memref sig .tc .vmem S4x128x128 .f32) (h15 : a15.IsWhole)
  (x0 x1 x2 : Vec F S512x512 .f32) (x3 x4 : Vec F S512x128 .f32) (x5 : Vec F S4x64x64 .f32) (x6 x7 : Vec F S4x64x128 .f32)
  (x8 : Vec F S4x128x128 .f32) (x9 : Vec F S512x512 .bf16) (x10 : Vec F S4x8x128x128 .bf16) (xs : Vec F S4x128x128 .f32)

/-- Unit `k`'s cosines. -/
abbrev cs (k : ℕ) : FVec F S64x128 .f32 := k0_pay541 (pos a4 h4 x3 k)

/-- Unit `k`'s sines, those of the first half negated. -/
abbrev sn (k : ℕ) : FVec F S64x128 .f32 := k0_pay542 (pos a5 h5 x4 k)

/-- The state of unit `k`'s head after the unit, of the state `g` before. -/
def next (k : ℕ) (g : Vec F S1x128x128 .f32) : Vec F S1x128x128 .f32 :=
  k0_pay577 (k0_pay562 (cs a4 h4 x3 k) (sn a5 h5 x4 k) (rows a1 h1 x0 k)) (k0_pay567 (rows a10 h10 x9 k))
    (k0_pay576 (k0_pay569 g) (st a9 h9 x8 k)) (dec a7 h7 x6 k)

/-- Unit `k`'s part of the gradient of the queries. -/
def dq (k : ℕ) : Vec F S64x128 .bf16 :=
  k0_pay578 (cs a4 h4 x3 k) (sn a5 h5 x4 k)
    (k0_pay573 (k0_pay565 (cs a4 h4 x3 k) (sn a5 h5 x4 k) (rows a2 h2 x1 k)) (k0_pay566 (rows a3 h3 x2 k)) (k0_pay567 (rows a10 h10 x9 k))
      (k0_pay568 (saved a11 h11 x10 k)) (mat a6 h6 x5 k) (dec a7 h7 x6 k))

/-- Unit `k`'s part of the gradient of the keys, of the state `g` before the unit. -/
def dk (k : ℕ) (g : Vec F S1x128x128 .f32) : Vec F S64x128 .bf16 :=
  k0_pay579 (cs a4 h4 x3 k) (sn a5 h5 x4 k)
    (k0_pay574 (k0_pay564 (cs a4 h4 x3 k) (sn a5 h5 x4 k) (rows a1 h1 x0 k)) (k0_pay566 (rows a3 h3 x2 k)) (k0_pay567 (rows a10 h10 x9 k))
      (k0_pay570 g) (mat a6 h6 x5 k) (dec a8 h8 x7 k))

/-- Unit `k`'s part of the gradient of the values, of the state `g` before the unit. -/
def dv (k : ℕ) (g : Vec F S1x128x128 .f32) : Vec F S64x128 .bf16 :=
  k0_pay580 (k0_pay575 (k0_pay563 (cs a4 h4 x3 k) (sn a5 h5 x4 k) (rows a2 h2 x1 k)) (k0_pay567 (rows a10 h10 x9 k)) (k0_pay570 g)
    (k0_pay571 (cs a4 h4 x3 k) (sn a5 h5 x4 k) (rows a1 h1 x0 k) (rows a2 h2 x1 k)) (mat a6 h6 x5 k) (dec a8 h8 x7 k))

/-- A unit's part of a gradient as a piece of the block. -/
abbrev piece (k : ℕ) (w : Vec F S64x128 .bf16) : View.Piece (Elt F) S512x512 .bf16 :=
  ⟨Rect.unit ![64 * (7 - k / 4), 128 * (k % 4)] S64x128.size (inb_rows k), w⟩

/-- A head's state as a piece of the states. -/
abbrev stPiece (k : ℕ) (w : Vec F S1x128x128 .f32) : View.Piece (Elt F) S4x128x128 .f32 :=
  ⟨Rect.unit ![k % 4, 0, 0] S1x128x128.size (inb_st k), w⟩

/-- What unit `k` reads of the states after the pieces `L`. -/
abbrev cov (L : List (View.Piece (Elt F) S4x128x128 .f32)) (k : ℕ) : Vec F S1x128x128 .f32 :=
  a15.view.readCov L (Rect.unit (s := S4x128x128) ![k % 4, 0, 0] S1x128x128.size (inb_st k)).toLoadRect

/-- The pieces of the states after `k` units of the first grid point, which begins with states of zeros. -/
def stA : ℕ → List (View.Piece (Elt F) S4x128x128 .f32)
  | 0 => [⟨Rect.unit ![0, 0, 0] S4x128x128.size inb_S4x128x128_S4x128x128_0_0_0, k0_pay5⟩]
  | k + 1 => stPiece k (next a1 h1 a4 h4 a5 h5 a7 h7 a9 h9 a10 h10 x0 x3 x4 x6 x8 x9 k (cov a15 (stA k) k)) :: stA k

/-- What unit `k` of a later grid point reads: the states that the point before left, for the first unit of each head, else
    what the point's units have left. -/
def rdB (k : ℕ) (L : List (View.Piece (Elt F) S4x128x128 .f32)) : Vec F S1x128x128 .f32 :=
  match k with
  | 0 => st a15 h15 xs 0
  | 1 => st a15 h15 xs 1
  | 2 => st a15 h15 xs 2
  | 3 => st a15 h15 xs 3
  | k + 4 => cov a15 L (k + 4)

/-- The pieces of the states after `k` units of a later grid point, over the states that the point before left. -/
def stB : ℕ → List (View.Piece (Elt F) S4x128x128 .f32)
  | 0 => []
  | k + 1 => stPiece k (next a1 h1 a4 h4 a5 h5 a7 h7 a9 h9 a10 h10 x0 x3 x4 x6 x8 x9 k (rdB a15 h15 xs k (stB k))) :: stB k

/-- The pieces of a gradient after `k` units, of the units' parts. -/
def outs (w : ℕ → Vec F S64x128 .bf16) : ℕ → List (View.Piece (Elt F) S512x512 .bf16)
  | 0 => []
  | k + 1 => piece k (w k) :: outs w k

end Cert.RetIdeal.Unit
-- ==== Proof.RetRun.lean ====
/- The pieces that the retention's backward kernel leaves at a grid point are the recursion's. -/
module

public import proofs.«01_k».proof.Proof.RetUnits

@[expose] public section

set_option maxRecDepth 16384

noncomputable section

namespace Cert.RetIdeal.Unit

open Cert.RetIdeal Cert.RetIdeal.Gen Idealize.ShloMosaic Idealize.ShloMosaic.TcCoe Idealize.SL.Sem

variable {F : FTy → Type} [FloatOps F]

/-- The pieces of the gradient of the queries at a first grid point. -/
theorem run_A_dq (c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10) :
    (kernelRun0_A (F := F) c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10).1
      = outs (dq a2 h2 a3 h3 a4 h4 a5 h5 a6 h6 a7 h7 a10 h10 a11 h11 x1 x2 x3 x4 x5 x6 x9 x10) 32 := rfl

/-- The pieces of the gradient of the keys at a first grid point. -/
theorem run_A_dk (c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10) :
    (kernelRun0_A (F := F) c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10).2.1
      = outs (fun k => dk a1 h1 a3 h3 a4 h4 a5 h5 a6 h6 a8 h8 a10 h10 x0 x2 x3 x4 x5 x7 x9 k (cov a15 (stA a1 h1 a4 h4 a5 h5 a7 h7 a9 h9 a10 h10 a15 x0 x3 x4 x6 x8 x9 k) k)) 32 := rfl

/-- The pieces of the gradient of the values at a first grid point. -/
theorem run_A_dv (c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10) :
    (kernelRun0_A (F := F) c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10).2.2.1
      = outs (fun k => dv a1 h1 a2 h2 a4 h4 a5 h5 a6 h6 a8 h8 a10 h10 x0 x1 x3 x4 x5 x7 x9 k (cov a15 (stA a1 h1 a4 h4 a5 h5 a7 h7 a9 h9 a10 h10 a15 x0 x3 x4 x6 x8 x9 k) k)) 32 := rfl

/-- The pieces of the states at a first grid point. -/
theorem run_A_st (c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10) :
    (kernelRun0_A (F := F) c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10).2.2.2.1
      = stA a1 h1 a4 h4 a5 h5 a7 h7 a9 h9 a10 h10 a15 x0 x3 x4 x6 x8 x9 32 := rfl

/-- The pieces of the gradient of the queries at a later grid point. -/
theorem run_B_dq (c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 xs) :
    (kernelRun0_B (F := F) c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 xs).1
      = outs (dq a2 h2 a3 h3 a4 h4 a5 h5 a6 h6 a7 h7 a10 h10 a11 h11 x1 x2 x3 x4 x5 x6 x9 x10) 32 := rfl

/-- The pieces of the gradient of the keys at a later grid point. -/
theorem run_B_dk (c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 xs) :
    (kernelRun0_B (F := F) c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 xs).2.1
      = outs (fun k => dk a1 h1 a3 h3 a4 h4 a5 h5 a6 h6 a8 h8 a10 h10 x0 x2 x3 x4 x5 x7 x9 k (rdB a15 h15 xs k (stB a1 h1 a4 h4 a5 h5 a7 h7 a9 h9 a10 h10 a15 h15 x0 x3 x4 x6 x8 x9 xs k))) 32 := rfl

/-- The pieces of the gradient of the values at a later grid point. -/
theorem run_B_dv (c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 xs) :
    (kernelRun0_B (F := F) c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 xs).2.2.1
      = outs (fun k => dv a1 h1 a2 h2 a4 h4 a5 h5 a6 h6 a8 h8 a10 h10 x0 x1 x3 x4 x5 x7 x9 k (rdB a15 h15 xs k (stB a1 h1 a4 h4 a5 h5 a7 h7 a9 h9 a10 h10 a15 h15 x0 x3 x4 x6 x8 x9 xs k))) 32 := rfl

/-- The pieces of the states at a later grid point. -/
theorem run_B_st (c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 xs) :
    (kernelRun0_B (F := F) c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 xs).2.2.2.1
      = stB a1 h1 a4 h4 a5 h5 a7 h7 a9 h9 a10 h10 a15 h15 x0 x3 x4 x6 x8 x9 xs 32 := rfl

end Cert.RetIdeal.Unit
-- ==== Proof.RetRead.lean ====
/- The retention's backward kernel at one grid point, free of the buffers: what the point's units compute of the blocks' contents,
   what the states hold after each unit, and what the point leaves in each gradient's block and in the states. -/
module

public import proofs.«01_k».proof.Proof.RetRun
public import Idealize.ShloMosaic.Lib.WholeRead
public import Idealize.ShloMosaic.Lib.Pointwise

@[expose] public section

set_option maxRecDepth 16384

noncomputable section

namespace Cert.RetIdeal.Unit

open Cert.RetIdeal Cert.RetIdeal.Gen Idealize.ShloMosaic Idealize.ShloMosaic.TcCoe Idealize.SL.Sem

variable {F : FTy → Type} [FloatOps F]

/-- Where unit `k`'s entry `j` lies in a block of rows by heads, -/
abbrev rowsIx (k : ℕ) (j : S64x128.Idx) : S512x512.Idx :=
  (Rect.unit (s := S512x512) ![64 * (7 - k / 4), 128 * (k % 4)] S64x128.size (inb_rows k)).emb j
/-- in a table by positions, -/
abbrev posIx (k : ℕ) (j : S64x128.Idx) : S512x128.Idx :=
  (Rect.unit (s := S512x128) ![64 * (7 - k / 4), 0] S64x128.size (inb_pos k)).emb j
/-- in the decays between positions, -/
abbrev matIx (k : ℕ) (j : S1x64x64.Idx) : S4x64x64.Idx :=
  (Rect.unit (s := S4x64x64) ![k % 4, 0, 0] S1x64x64.size (inb_mat k)).emb j
/-- in the decays of positions, -/
abbrev decIx (k : ℕ) (j : S1x64x128.Idx) : S4x64x128.Idx :=
  (Rect.unit (s := S4x64x128) ![k % 4, 0, 0] S1x64x128.size (inb_dec k)).emb j
/-- in an array of states, -/
abbrev stIx (k : ℕ) (j : S1x128x128.Idx) : S4x128x128.Idx :=
  (Rect.unit (s := S4x128x128) ![k % 4, 0, 0] S1x128x128.size (inb_st k)).emb j
/-- and in the saved states. -/
abbrev savedIx (k : ℕ) (j : S1x1x128x128.Idx) : S4x8x128x128.Idx :=
  (Rect.unit (s := S4x8x128x128) ![k % 4, 7 - k / 4, 0, 0] S1x1x128x128.size (inb_saved k)).emb j

variable (x0 x1 x2 : Vec F S512x512 .f32) (x3 x4 : Vec F S512x128 .f32) (x5 : Vec F S4x64x64 .f32) (x6 x7 : Vec F S4x64x128 .f32)
  (x8 : Vec F S4x128x128 .f32) (x9 : Vec F S512x512 .bf16) (x10 : Vec F S4x8x128x128 .bf16) (xs : Vec F S4x128x128 .f32)

/-- The cosines of unit `k`. -/
abbrev csOf (k : ℕ) : FVec F S64x128 .f32 := k0_pay541 fun j => x3 (posIx k j)
/-- The sines of unit `k`. -/
abbrev snOf (k : ℕ) : FVec F S64x128 .f32 := k0_pay542 fun j => x4 (posIx k j)

/-- The state after unit `k`, of the state `g` before, from the blocks' contents. -/
def nextOf (k : ℕ) (g : Vec F S1x128x128 .f32) : Vec F S1x128x128 .f32 :=
  k0_pay577 (k0_pay562 (csOf x3 k) (snOf x4 k) fun j => x0 (rowsIx k j)) (k0_pay567 fun j => x9 (rowsIx k j))
    (k0_pay576 (k0_pay569 g) fun j => x8 (stIx k j)) fun j => x6 (decIx k j)

/-- Unit `k`'s part of the gradient of the queries, from the blocks' contents. -/
def dqOf (k : ℕ) : Vec F S64x128 .bf16 :=
  k0_pay578 (csOf x3 k) (snOf x4 k)
    (k0_pay573 (k0_pay565 (csOf x3 k) (snOf x4 k) fun j => x1 (rowsIx k j)) (k0_pay566 fun j => x2 (rowsIx k j)) (k0_pay567 fun j => x9 (rowsIx k j))
      (k0_pay568 fun j => x10 (savedIx k j)) (fun j => x5 (matIx k j)) fun j => x6 (decIx k j))

/-- Unit `k`'s part of the gradient of the keys, from the blocks' contents and the state `g` before the unit. -/
def dkOf (k : ℕ) (g : Vec F S1x128x128 .f32) : Vec F S64x128 .bf16 :=
  k0_pay579 (csOf x3 k) (snOf x4 k)
    (k0_pay574 (k0_pay564 (csOf x3 k) (snOf x4 k) fun j => x0 (rowsIx k j)) (k0_pay566 fun j => x2 (rowsIx k j)) (k0_pay567 fun j => x9 (rowsIx k j))
      (k0_pay570 g) (fun j => x5 (matIx k j)) fun j => x7 (decIx k j))

/-- Unit `k`'s part of the gradient of the values, from the blocks' contents and the state `g` before the unit. -/
def dvOf (k : ℕ) (g : Vec F S1x128x128 .f32) : Vec F S64x128 .bf16 :=
  k0_pay580 (k0_pay575 (k0_pay563 (csOf x3 k) (snOf x4 k) fun j => x1 (rowsIx k j)) (k0_pay567 fun j => x9 (rowsIx k j)) (k0_pay570 g)
    (k0_pay571 (csOf x3 k) (snOf x4 k) (fun j => x0 (rowsIx k j)) fun j => x1 (rowsIx k j)) (fun j => x5 (matIx k j)) fun j => x7 (decIx k j))

/-- What the states hold after `k` units over the states `xs`. -/
def states : ℕ → Vec F S4x128x128 .f32
  | 0 => xs
  | k + 1 => (Rect.unit (s := S4x128x128) ![k % 4, 0, 0] S1x128x128.size (inb_st k)).overlay (states k)
      (nextOf x0 x3 x4 x6 x8 x9 k fun j => states k (stIx k j))

section buffers

variable (a1 : Memref sig .tc .vmem S512x512 .f32) (h1 : a1.IsWhole) (a2 : Memref sig .tc .vmem S512x512 .f32) (h2 : a2.IsWhole)
  (a3 : Memref sig .tc .vmem S512x512 .f32) (h3 : a3.IsWhole) (a4 : Memref sig .tc .vmem S512x128 .f32) (h4 : a4.IsWhole)
  (a5 : Memref sig .tc .vmem S512x128 .f32) (h5 : a5.IsWhole) (a6 : Memref sig .tc .vmem S4x64x64 .f32) (h6 : a6.IsWhole)
  (a7 : Memref sig .tc .vmem S4x64x128 .f32) (h7 : a7.IsWhole) (a8 : Memref sig .tc .vmem S4x64x128 .f32) (h8 : a8.IsWhole)
  (a9 : Memref sig .tc .vmem S4x128x128 .f32) (h9 : a9.IsWhole) (a10 : Memref sig .tc .vmem S512x512 .bf16) (h10 : a10.IsWhole)
  (a11 : Memref sig .tc .vmem S4x8x128x128 .bf16) (h11 : a11.IsWhole)
  (a15 : Memref sig .tc .vmem S4x128x128 .f32) (h15 : a15.IsWhole)

/-- A load of a unit's rows is the block's contents there, -/
theorem rows_eq {e : EltTy} (a : Memref sig .tc .vmem S512x512 e) (h : a.IsWhole) (x : Vec F S512x512 e) (k : ℕ) :
    rows a h x k = fun j => x (rowsIx k j) :=
  funext fun j => h.readAt_unread x (Rect.unit (s := S512x512) ![64 * (7 - k / 4), 128 * (k % 4)] S64x128.size (inb_rows k)).toLoadRect j
/-- so of a table by positions, -/
theorem pos_eq (a : Memref sig .tc .vmem S512x128 .f32) (h : a.IsWhole) (x : Vec F S512x128 .f32) (k : ℕ) :
    pos a h x k = fun j => x (posIx k j) :=
  funext fun j => h.readAt_unread x (Rect.unit (s := S512x128) ![64 * (7 - k / 4), 0] S64x128.size (inb_pos k)).toLoadRect j
/-- of the decays between positions, -/
theorem mat_eq (a : Memref sig .tc .vmem S4x64x64 .f32) (h : a.IsWhole) (x : Vec F S4x64x64 .f32) (k : ℕ) :
    mat a h x k = fun j => x (matIx k j) :=
  funext fun j => h.readAt_unread x (Rect.unit (s := S4x64x64) ![k % 4, 0, 0] S1x64x64.size (inb_mat k)).toLoadRect j
/-- of the decays of positions, -/
theorem dec_eq (a : Memref sig .tc .vmem S4x64x128 .f32) (h : a.IsWhole) (x : Vec F S4x64x128 .f32) (k : ℕ) :
    dec a h x k = fun j => x (decIx k j) :=
  funext fun j => h.readAt_unread x (Rect.unit (s := S4x64x128) ![k % 4, 0, 0] S1x64x128.size (inb_dec k)).toLoadRect j
/-- of the states, -/
theorem st_eq (a : Memref sig .tc .vmem S4x128x128 .f32) (h : a.IsWhole) (x : Vec F S4x128x128 .f32) (k : ℕ) :
    st a h x k = fun j => x (stIx k j) :=
  funext fun j => h.readAt_unread x (Rect.unit (s := S4x128x128) ![k % 4, 0, 0] S1x128x128.size (inb_st k)).toLoadRect j
/-- and of the saved states. -/
theorem saved_eq (a : Memref sig .tc .vmem S4x8x128x128 .bf16) (h : a.IsWhole) (x : Vec F S4x8x128x128 .bf16) (k : ℕ) :
    saved a h x k = fun j => x (savedIx k j) :=
  funext fun j => h.readAt_unread x (Rect.unit (s := S4x8x128x128) ![k % 4, 7 - k / 4, 0, 0] S1x1x128x128.size (inb_saved k)).toLoadRect j

/-- A unit's state in the buffers is that of their contents, -/
theorem next_eq (k : ℕ) (g : Vec F S1x128x128 .f32) :
    next a1 h1 a4 h4 a5 h5 a7 h7 a9 h9 a10 h10 x0 x3 x4 x6 x8 x9 k g = nextOf x0 x3 x4 x6 x8 x9 k g := by
  simp only [next, nextOf, cs, sn, rows_eq, pos_eq, dec_eq, st_eq]
/-- and so its parts of the gradients. -/
theorem dq_eq (k : ℕ) : dq a2 h2 a3 h3 a4 h4 a5 h5 a6 h6 a7 h7 a10 h10 a11 h11 x1 x2 x3 x4 x5 x6 x9 x10 k = dqOf x1 x2 x3 x4 x5 x6 x9 x10 k := by
  simp only [dq, dqOf, cs, sn, rows_eq, pos_eq, dec_eq, mat_eq, saved_eq]
theorem dk_eq (k : ℕ) (g : Vec F S1x128x128 .f32) :
    dk a1 h1 a3 h3 a4 h4 a5 h5 a6 h6 a8 h8 a10 h10 x0 x2 x3 x4 x5 x7 x9 k g = dkOf x0 x2 x3 x4 x5 x7 x9 k g := by
  simp only [dk, dkOf, cs, sn, rows_eq, pos_eq, dec_eq, mat_eq]
theorem dv_eq (k : ℕ) (g : Vec F S1x128x128 .f32) :
    dv a1 h1 a2 h2 a4 h4 a5 h5 a6 h6 a8 h8 a10 h10 x0 x1 x3 x4 x5 x7 x9 k g = dvOf x0 x1 x3 x4 x5 x7 x9 k g := by
  simp only [dv, dvOf, cs, sn, rows_eq, pos_eq, dec_eq, mat_eq]

/-- A covered load of the states is what the pieces left there. -/
theorem cov_eq (L : List (View.Piece (Elt F) S4x128x128 .f32)) (k : ℕ) :
    cov a15 L k = fun j => View.canon L (stIx k j) := View.readCov_eq_canon' _ _ _

/-- The states after `k` units of the first grid point. -/
theorem canon_stA (k : ℕ) : View.canon (stA a1 h1 a4 h4 a5 h5 a7 h7 a9 h9 a10 h10 a15 x0 x3 x4 x6 x8 x9 k)
    = states x0 x3 x4 x6 x8 x9 (k0_pay5 (F := F)) k := by
  induction k with
  | zero =>
    funext y
    have e : (Rect.unit (s := S4x128x128) ![0, 0, 0] S4x128x128.size inb_S4x128x128_S4x128x128_0_0_0).emb y = y := by
      funext a; apply Fin.ext
      fin_cases a
      all_goals (show 0 + 1 * _ = _; omega)
    have h := View.canon_cons_emb (Val := Elt F) (e := .f32) (Rect.unit (s := S4x128x128) ![0, 0, 0] S4x128x128.size inb_S4x128x128_S4x128x128_0_0_0)
      (k0_pay5 (F := F)) [] y
    rw [e] at h
    exact h
  | succ k ih =>
    rw [stA, View.canon_cons, states, next_eq, cov_eq, ih]

/-- A head's part of an array of states, after it is replaced, -/
theorem over_on (f : Vec F S4x128x128 .f32) (w : Vec F S1x128x128 .f32) (k : ℕ) (j : S1x128x128.Idx) :
    (Rect.unit (s := S4x128x128) ![k % 4, 0, 0] S1x128x128.size (inb_st k)).overlay f w (stIx k j) = w j :=
  Rect.overlay_emb (Rect.unit (s := S4x128x128) ![k % 4, 0, 0] S1x128x128.size (inb_st k)) f w j

/-- and the rest of it. -/
theorem over_off (f : Vec F S4x128x128 .f32) (w : Vec F S1x128x128 .f32) (k : ℕ) (y : S4x128x128.Idx) (h : (y 0).val ≠ k % 4) :
    (Rect.unit (s := S4x128x128) ![k % 4, 0, 0] S1x128x128.size (inb_st k)).overlay f w y = f y :=
  Rect.overlay_of_not_mem (Rect.unit (s := S4x128x128) ![k % 4, 0, 0] S1x128x128.size (inb_st k)) f w fun hm => h (by
    have h1 : k % 4 ≤ (y 0).val ∧ (y 0).val < k % 4 + 1 := (Rect.mem_set_unit (inb := inb_st k)).mp hm 0
    omega)

/-- An entry of head `k % 4` is in that part. -/
theorem exists_stIx (k : ℕ) (y : S4x128x128.Idx) (h : (y 0).val = k % 4) : ∃ j, stIx k j = y := by
  refine ⟨ix3 0 ⟨(y 1).val, (y 1).isLt⟩ ⟨(y 2).val, (y 2).isLt⟩, ?_⟩
  funext a; apply Fin.ext
  fin_cases a
  · show k % 4 + 1 * 0 = (y 0).val; omega
  · show 0 + 1 * (y 1).val = (y 1).val; omega
  · show 0 + 1 * (y 2).val = (y 2).val; omega

theorem states_succ (k : ℕ) : states x0 x3 x4 x6 x8 x9 xs (k + 1)
    = (Rect.unit (s := S4x128x128) ![k % 4, 0, 0] S1x128x128.size (inb_st k)).overlay (states x0 x3 x4 x6 x8 x9 xs k)
      (nextOf x0 x3 x4 x6 x8 x9 k fun j => states x0 x3 x4 x6 x8 x9 xs k (stIx k j)) := by
  rw [states]

/-- Units of other heads leave a head's state. -/
theorem states_off (k : ℕ) (y : S4x128x128.Idx) (h : (y 0).val ≠ k % 4) :
    states x0 x3 x4 x6 x8 x9 xs (k + 1) y = states x0 x3 x4 x6 x8 x9 xs k y :=
  (congrFun (states_succ x0 x3 x4 x6 x8 x9 xs k) y).trans (over_off _ _ k y h)

/-- A unit replaces its head's state. -/
theorem states_on (k : ℕ) (j : S1x128x128.Idx) :
    states x0 x3 x4 x6 x8 x9 xs (k + 1) (stIx k j) = nextOf x0 x3 x4 x6 x8 x9 k (fun j => states x0 x3 x4 x6 x8 x9 xs k (stIx k j)) j :=
  (congrFun (states_succ x0 x3 x4 x6 x8 x9 xs k) (stIx k j)).trans (over_on _ _ k j)

/-- Heads that no unit has reached keep the states that the point before left. -/
theorem states_keep (k : ℕ) (y : S4x128x128.Idx) (h : k ≤ (y 0).val) : states x0 x3 x4 x6 x8 x9 xs k y = xs y := by
  induction k with
  | zero => rfl
  | succ k ih =>
    have hy : (y 0).val < 4 := (y 0).isLt
    rw [states_off _ _ _ _ _ _ _ _ _ (by omega), ih (by omega)]

/-- The head of a unit's state. -/
theorem stIx_head (k : ℕ) (j : S1x128x128.Idx) : (stIx k j 0).val = k % 4 := by
  have hj : (j 0).val < 1 := (j 0).isLt
  show k % 4 + 1 * (j 0).val = k % 4
  omega

/-- The states after `k` units of a later grid point, at the heads the units have reached; and what unit `k` reads. -/
theorem canon_stB (k : ℕ) :
    (∀ y : S4x128x128.Idx, (y 0).val < k → View.canon (stB a1 h1 a4 h4 a5 h5 a7 h7 a9 h9 a10 h10 a15 h15 x0 x3 x4 x6 x8 x9 xs k) y
      = states x0 x3 x4 x6 x8 x9 xs k y)
    ∧ rdB a15 h15 xs k (stB a1 h1 a4 h4 a5 h5 a7 h7 a9 h9 a10 h10 a15 h15 x0 x3 x4 x6 x8 x9 xs k)
      = fun j => states x0 x3 x4 x6 x8 x9 xs k (stIx k j) := by
  have read (k : ℕ) (h : ∀ y : S4x128x128.Idx, (y 0).val < k →
      View.canon (stB a1 h1 a4 h4 a5 h5 a7 h7 a9 h9 a10 h10 a15 h15 x0 x3 x4 x6 x8 x9 xs k) y = states x0 x3 x4 x6 x8 x9 xs k y) :
      rdB a15 h15 xs k (stB a1 h1 a4 h4 a5 h5 a7 h7 a9 h9 a10 h10 a15 h15 x0 x3 x4 x6 x8 x9 xs k)
        = fun j => states x0 x3 x4 x6 x8 x9 xs k (stIx k j) := by
    rcases k with _ | _ | _ | _ | k
    · exact (st_eq _ _ _ _).trans rfl
    · exact (st_eq _ _ _ _).trans (funext fun j => (states_keep _ _ _ _ _ _ _ _ _ (by rw [stIx_head])).symm)
    · exact (st_eq _ _ _ _).trans (funext fun j => (states_keep _ _ _ _ _ _ _ _ _ (by rw [stIx_head])).symm)
    · exact (st_eq _ _ _ _).trans (funext fun j => (states_keep _ _ _ _ _ _ _ _ _ (by rw [stIx_head])).symm)
    · exact (cov_eq _ _ _).trans (funext fun j => h _ (by rw [stIx_head]; omega))
  induction k with
  | zero => exact ⟨fun y h => absurd h (Nat.not_lt_zero _), read 0 fun y h => absurd h (Nat.not_lt_zero _)⟩
  | succ k ih =>
    have main (y : S4x128x128.Idx) (hy : (y 0).val < k + 1) :
        View.canon (stB a1 h1 a4 h4 a5 h5 a7 h7 a9 h9 a10 h10 a15 h15 x0 x3 x4 x6 x8 x9 xs (k + 1)) y = states x0 x3 x4 x6 x8 x9 xs (k + 1) y := by
      rw [stB, ih.2, next_eq, View.canon_cons]
      by_cases hm : (y 0).val = k % 4
      · obtain ⟨j, rfl⟩ := exists_stIx k y hm
        exact (over_on _ _ k j).trans (states_on x0 x3 x4 x6 x8 x9 xs k j).symm
      · have hy4 : (y 0).val < 4 := (y 0).isLt
        exact ((over_off _ _ k y hm).trans (ih.1 y (by omega))).trans (states_off x0 x3 x4 x6 x8 x9 xs k y hm).symm
    exact ⟨main, read (k + 1) main⟩

end buffers

/-- The unit that writes an entry of a gradient's block. -/
abbrev unitOf (y : S512x512.Idx) : ℕ := (7 - (y 0).val / 64) * 4 + (y 1).val / 128

/-- The entry of the unit's part. -/
abbrev inUnit (y : S512x512.Idx) : S64x128.Idx := ix2 ⟨(y 0).val % 64, Nat.mod_lt _ (by decide)⟩ ⟨(y 1).val % 128, Nat.mod_lt _ (by decide)⟩

/-- What `n` units leave in a gradient's block, at an entry that one of them writes. -/
theorem canon_outs (w : ℕ → Vec F S64x128 .bf16) (y : S512x512.Idx) (n : ℕ) (hn32 : n ≤ 32) (h : unitOf y < n) :
    View.canon (outs w n) y = w (unitOf y) (inUnit y) := by
  have hy0 : (y 0).val < 512 := (y 0).isLt
  have hy1 : (y 1).val < 512 := (y 1).isLt
  induction n with
  | zero => exact absurd h (Nat.not_lt_zero _)
  | succ n ih =>
    rw [outs]
    by_cases hn : unitOf y = n
    · have e : rowsIx n (inUnit y) = y := by
        subst hn
        funext a; apply Fin.ext
        fin_cases a
        · unfold rowsIx; rw [Rect.emb_apply]; show 64 * (7 - unitOf y / 4) + 1 * ((y 0).val % 64) = (y 0).val; unfold unitOf; omega
        · unfold rowsIx; rw [Rect.emb_apply]; show 128 * (unitOf y % 4) + 1 * ((y 1).val % 128) = (y 1).val; unfold unitOf; omega
      rw [hn]
      conv_lhs => rw [← e]
      exact View.canon_cons_emb _ _ _ _
    · rw [View.canon_cons_of_not_mem, ih (by omega) (by omega)]
      intro hm
      have h0 : 64 * (7 - n / 4) ≤ (y 0).val ∧ (y 0).val < 64 * (7 - n / 4) + 64 :=
        (Rect.mem_set_unit (inb := inb_rows n)).mp hm 0
      have h1 : 128 * (n % 4) ≤ (y 1).val ∧ (y 1).val < 128 * (n % 4) + 128 :=
        (Rect.mem_set_unit (inb := inb_rows n)).mp hm 1
      unfold unitOf at h hn
      omega

/-- Every entry of a block is written by one of the 32 units. -/
theorem unitOf_lt (y : S512x512.Idx) : unitOf y < 32 := by
  have hy0 : (y 0).val < 512 := (y 0).isLt
  have hy1 : (y 1).val < 512 := (y 1).isLt
  unfold unitOf
  omega

end Cert.RetIdeal.Unit
-- ==== Proof.RetSpec.lean ====
/- The gradients of the chunked retention as plain formulas, by position, head and entry: the common ground of the kernel and of
   the reference. `P p c` is the projection at position `p` and column `c`, `D p c` the cotangent of the retention. -/
module

public import Idealize.ShloMosaic.Lib.Pointwise

@[expose] public section

noncomputable section

namespace Cert.RetSpec

open Idealize.ShloMosaic

/-- An array with one leading entry, read at natural numbers (zero outside). -/
def at3 {b c : ℕ} (X : (⟨3, ![1, b, c]⟩ : Shape).Idx → EReal) (p q : ℕ) : EReal :=
  if h : p < b ∧ q < c then X (ix3 0 ⟨p, h.1⟩ ⟨q, h.2⟩) else 0

theorem at3_eq {b c : ℕ} (X : (⟨3, ![1, b, c]⟩ : Shape).Idx → EReal) (z : Fin 1) (p : Fin b) (q : Fin c) :
    X (ix3 z p q) = at3 X p.val q.val := by
  rw [at3, dif_pos ⟨p.isLt, q.isLt⟩, Subsingleton.elim z 0]

/-- A whole number as a float. -/
def num (p : ℕ) : EReal := FloatOps.sitofp (F := Ideal) .f32 (BitVec.ofNat 32 p)
/-- The angle of frequency `d` at position `p`, -/
def ang (p d : ℕ) : EReal :=
  num p * Ideal.pow (Ideal.ofBits .f32 1176256512#32) (Ideal.div (-num d) (Ideal.ofBits .f32 1115684864#32))
/-- its cosine -/
def cosA (p d : ℕ) : EReal := Ideal.cos (ang p d)
/-- and its sine. -/
def sinA (p d : ℕ) : EReal := Ideal.sin (ang p d)
/-- The logarithm of head `h`'s decay by one position, -/
def lg (h : ℕ) : EReal := Ideal.log (1 - Ideal.pow (Ideal.ofBits .f32 1073741824#32) (Ideal.ofBits .f32 3231711232#32 - num h))
/-- the decay from a chunk's position `i` to the chunk's end, -/
def kd (h i : ℕ) : EReal := Ideal.exp (lg h * (Ideal.ofBits .f32 1115422720#32 - num i))
/-- from the chunk's beginning to its position `i`, -/
def qd (h i : ℕ) : EReal := Ideal.exp (lg h * (num i + 1))
/-- between two positions, -/
def dm (h i j : ℕ) : EReal := Ideal.exp (lg h * FloatOps.absf (F := Ideal) (φ := .f32) (num i - num j))
/-- and over a chunk. -/
def cd (h : ℕ) : EReal := Ideal.exp (lg h * Ideal.ofBits .f32 1115684864#32)
/-- The scale of the keys. -/
def sc : EReal := Ideal.ofBits .f32 1035273459#32

variable (P D : ℕ → ℕ → EReal)

/-- The first half of the rotated entries of head `h` at position `p`, of the columns from `c` on, -/
def lo (c p h d : ℕ) : EReal := P p (c + (h * 128 + d)) * cosA p d - P p (c + (h * 128 + (64 + d))) * sinA p d
/-- the second half, -/
def hi (c p h d : ℕ) : EReal := P p (c + (h * 128 + d)) * sinA p d + P p (c + (h * 128 + (64 + d))) * cosA p d
/-- and both. -/
def rot (c p h d : ℕ) : EReal := if d < 64 then lo P c p h d else hi P c p h (d - 64)
/-- The queries, -/
def qh (p h d : ℕ) : EReal := rot P 1024 p h d
/-- the keys, -/
def kh (p h d : ℕ) : EReal := rot P 1536 p h d * sc
/-- the values -/
def vh (p h e : ℕ) : EReal := P p (2048 + (h * 128 + e))
/-- and the cotangent by heads. -/
def ct (p h e : ℕ) : EReal := D p (h * 128 + e)

/-- What chunk `n` gives to the cotangent of the state before it. -/
def back (n h d e : ℕ) : EReal := ∑ x : Fin 64, ct D (n * 64 + x.val) h e * (qh P (n * 64 + x.val) h d * qd h x.val)

/-- The cotangent of head `h`'s state, `j` chunks before the end: that of the state after chunk `127 - j`. -/
def G (h d e : ℕ) : ℕ → EReal
  | 0 => 0
  | j + 1 => back P D (127 - j) h d e + cd h * G h d e j

/-- The scores within chunk `n`. -/
def score (n h i j : ℕ) : EReal := (∑ x : Fin 128, qh P (n * 64 + i) h x.val * kh P (n * 64 + j) h x.val) * dm h i j

/-- The gradient of the values. -/
def gradV (n i h e : ℕ) : EReal :=
  (∑ x : Fin 128, G P D h x.val e (127 - n) * (kh P (n * 64 + i) h x.val * kd h i))
    + ∑ x : Fin 64, ct D (n * 64 + x.val) h e * score P n h x.val i

/-- The gradient of the rotated and scaled keys, -/
def gradKh (n i h d : ℕ) : EReal :=
  (∑ x : Fin 128, G P D h d x.val (127 - n) * vh P (n * 64 + i) h x.val) * kd h i
    + ∑ x : Fin 64, (∑ y : Fin 128, ct D (n * 64 + x.val) h y.val * vh P (n * 64 + i) h y.val) * dm h x.val i * qh P (n * 64 + x.val) h d

/-- and of the keys. -/
def gradK (n i h d : ℕ) : EReal :=
  if d < 64 then
    gradKh P D n i h (64 + d) * sc * sinA (n * 64 + i) d + gradKh P D n i h d * sc * cosA (n * 64 + i) d
  else
    gradKh P D n i h d * sc * cosA (n * 64 + i) (d - 64) + -(gradKh P D n i h (d - 64) * sc) * sinA (n * 64 + i) (d - 64)

/-- A sum over both halves. -/
theorem sum128 (f : ℕ → EReal) : ∑ x : Fin 128, f x.val = (∑ x : Fin 64, f x.val) + ∑ x : Fin 64, f (64 + x.val) :=
  Fin.sum_univ_add (fun x : Fin (64 + 64) => f x.val)

theorem rot_lo (c p h d : ℕ) (hd : d < 64) : rot P c p h d = lo P c p h d := if_pos hd

theorem rot_hi (c p h d : ℕ) : rot P c p h (64 + d) = hi P c p h d := by
  rw [rot, if_neg (by omega), Nat.add_sub_cancel_left]

end Cert.RetSpec
-- ==== Proof.RetRot.lean ====
/- The rotation of queries and keys by tables for both halves of a head's entries. -/
module

public import proofs.«01_k».proof.Proof.RetSpec

@[expose] public section

noncomputable section

namespace Cert.RetSpec

open Idealize.ShloMosaic

/-- The cosines and the signed sines for both halves of a head's entries. -/
def cosF (p d : ℕ) : EReal := cosA p (d % 64)
def sinF (p d : ℕ) : EReal := if d < 64 then -sinA p d else sinA p (d - 64)

/-- A rotation by the tables for both halves. -/
theorem rot_eq (P : ℕ → ℕ → EReal) (c p h d : ℕ) (hd : d < 128) :
    P p (c + (h * 128 + d)) * cosF p d + P p (c + (h * 128 + (d + 128 - 64) % 128)) * sinF p d = rot P c p h d := by
  unfold rot cosF sinF
  by_cases h64 : d < 64
  · have e1 : (d + 128 - 64) % 128 = 64 + d := by omega
    have e2 : d % 64 = d := by omega
    rw [if_pos h64, if_pos h64, e1, e2, lo, sub_eq_add_neg, mul_neg]
  · have e1 : (d + 128 - 64) % 128 = d - 64 := by omega
    have e2 : d % 64 = d - 64 := by omega
    have e3 : 64 + (d - 64) = d := by omega
    rw [if_neg h64, if_neg h64, e1, e2, hi, e3, add_comm]

end Cert.RetSpec
-- ==== Proof.RetPay.lean ====
/- The units' arithmetic at the ideal reals, entry by entry, of the blocks that a grid point has. -/
module

public import proofs.«01_k».proof.Proof.RetRead
public import proofs.«01_k».proof.Proof.RetRot
public import Idealize.ShloMosaic.Lib.Pointwise

@[expose] public section

set_option maxRecDepth 16384
set_option maxHeartbeats 400000

noncomputable section

namespace Cert.RetIdeal.Unit

open Cert.RetIdeal Cert.RetIdeal.Gen Idealize.ShloMosaic Idealize.ShloMosaic.TcCoe Idealize.SL.Sem Cert.RetSpec

/-- What the blocks of grid point `t` hold, of the projection `P` and the cotangent `D`. -/
structure Blocks (t : ℕ) (P D : ℕ → ℕ → EReal) (x0 x1 x2 : Vec Ideal S512x512 .f32) (x3 x4 : Vec Ideal S512x128 .f32) (x5 : Vec Ideal S4x64x64 .f32)
    (x6 x7 : Vec Ideal S4x64x128 .f32) (x8 : Vec Ideal S4x128x128 .f32) (x9 : Vec Ideal S512x512 .bf16) : Prop where
  lt : t < 16
  b0 (r q : Fin 512) : x0 (ix2 r q) = P (512 * (15 - t) + r.val) (1024 + q.val)
  b1 (r q : Fin 512) : x1 (ix2 r q) = P (512 * (15 - t) + r.val) (1536 + q.val)
  b2 (r q : Fin 512) : x2 (ix2 r q) = P (512 * (15 - t) + r.val) (2048 + q.val)
  b3 (r : Fin 512) (d : Fin 128) : x3 (ix2 r d) = cosF (512 * (15 - t) + r.val) d.val
  b4 (r : Fin 512) (d : Fin 128) : x4 (ix2 r d) = sinF (512 * (15 - t) + r.val) d.val
  b5 (h : Fin 4) (i j : Fin 64) : x5 (ix3 h i j) = dm h.val i.val j.val
  b6 (h : Fin 4) (i : Fin 64) (d : Fin 128) : x6 (ix3 h i d) = qd h.val i.val
  b7 (h : Fin 4) (i : Fin 64) (d : Fin 128) : x7 (ix3 h i d) = kd h.val i.val
  b8 (h : Fin 4) (d e : Fin 128) : x8 (ix3 h d e) = cd h.val
  b9 (r q : Fin 512) : x9 (ix2 r q) = D (512 * (15 - t) + r.val) q.val

theorem rowsIx_eq (k : ℕ) (i : Fin 64) (d : Fin 128) :
    rowsIx k (ix2 i d) = ix2 ⟨64 * (7 - k / 4) + i.val, by omega⟩ ⟨128 * (k % 4) + d.val, by omega⟩ := by
  funext a; apply Fin.ext
  fin_cases a
  · show 64 * (7 - k / 4) + 1 * i.val = 64 * (7 - k / 4) + i.val; omega
  · show 128 * (k % 4) + 1 * d.val = 128 * (k % 4) + d.val; omega

theorem posIx_eq (k : ℕ) (i : Fin 64) (d : Fin 128) : posIx k (ix2 i d) = ix2 ⟨64 * (7 - k / 4) + i.val, by omega⟩ d := by
  funext a; apply Fin.ext
  fin_cases a
  · show 64 * (7 - k / 4) + 1 * i.val = 64 * (7 - k / 4) + i.val; omega
  · show 0 + 1 * d.val = d.val; omega

theorem matIx_eq (k : ℕ) (i j : Fin 64) : matIx k (ix3 0 i j) = ix3 ⟨k % 4, by omega⟩ i j := by
  funext a; apply Fin.ext
  fin_cases a
  · show k % 4 + 1 * 0 = k % 4; omega
  · show 0 + 1 * i.val = i.val; omega
  · show 0 + 1 * j.val = j.val; omega

theorem decIx_eq (k : ℕ) (i : Fin 64) (d : Fin 128) : decIx k (ix3 0 i d) = ix3 ⟨k % 4, by omega⟩ i d := by
  funext a; apply Fin.ext
  fin_cases a
  · show k % 4 + 1 * 0 = k % 4; omega
  · show 0 + 1 * i.val = i.val; omega
  · show 0 + 1 * d.val = d.val; omega

theorem stIx_eq (k : ℕ) (d e : Fin 128) : stIx k (ix3 0 d e) = ix3 ⟨k % 4, by omega⟩ d e := by
  funext a; apply Fin.ext
  fin_cases a
  · show k % 4 + 1 * 0 = k % 4; omega
  · show 0 + 1 * d.val = d.val; omega
  · show 0 + 1 * e.val = e.val; omega

variable {t : ℕ} {P D : ℕ → ℕ → EReal} {x0 x1 x2 : Vec Ideal S512x512 .f32} {x3 x4 : Vec Ideal S512x128 .f32} {x5 : Vec Ideal S4x64x64 .f32}
    {x6 x7 : Vec Ideal S4x64x128 .f32} {x8 : Vec Ideal S4x128x128 .f32} {x9 : Vec Ideal S512x512 .bf16}
    (B : Blocks t P D x0 x1 x2 x3 x4 x5 x6 x7 x8 x9) (k : ℕ) (hk : k < 32)

/-- The chunk of a grid point's unit. -/
abbrev ch (t k : ℕ) : ℕ := 127 - (8 * t + k / 4)

include B hk

theorem row_eq (i : ℕ) : 512 * (15 - t) + (64 * (7 - k / 4) + i) = ch t k * 64 + i := by
  have := B.lt
  unfold ch
  omega

/-- The unit's queries' entries, -/
theorem q_at (i : Fin 64) (d : Fin 128) : x0 (rowsIx k (ix2 i d)) = P (ch t k * 64 + i.val) (1024 + (k % 4 * 128 + d.val)) := by
  rw [rowsIx_eq, B.b0]
  show P (512 * (15 - t) + (64 * (7 - k / 4) + i.val)) (1024 + (128 * (k % 4) + d.val)) = _
  rw [row_eq B k hk, Nat.mul_comm 128]
/-- keys' -/
theorem k_at (i : Fin 64) (d : Fin 128) : x1 (rowsIx k (ix2 i d)) = P (ch t k * 64 + i.val) (1536 + (k % 4 * 128 + d.val)) := by
  rw [rowsIx_eq, B.b1]
  show P (512 * (15 - t) + (64 * (7 - k / 4) + i.val)) (1536 + (128 * (k % 4) + d.val)) = _
  rw [row_eq B k hk, Nat.mul_comm 128]
/-- and values' entries, -/
theorem v_at (i : Fin 64) (d : Fin 128) : x2 (rowsIx k (ix2 i d)) = vh P (ch t k * 64 + i.val) (k % 4) d.val := by
  rw [rowsIx_eq, B.b2]
  show P (512 * (15 - t) + (64 * (7 - k / 4) + i.val)) (2048 + (128 * (k % 4) + d.val)) = _
  rw [row_eq B k hk, Nat.mul_comm 128, vh]
/-- the cotangent's, -/
theorem do_at (i : Fin 64) (d : Fin 128) : x9 (rowsIx k (ix2 i d)) = ct D (ch t k * 64 + i.val) (k % 4) d.val := by
  rw [rowsIx_eq, B.b9]
  show D (512 * (15 - t) + (64 * (7 - k / 4) + i.val)) (128 * (k % 4) + d.val) = _
  rw [row_eq B k hk, Nat.mul_comm 128, ct]
/-- the cosines -/
theorem cs_at (i : Fin 64) (d : Fin 128) : x3 (posIx k (ix2 i d)) = cosF (ch t k * 64 + i.val) d.val := by
  rw [posIx_eq, B.b3]
  show cosF (512 * (15 - t) + (64 * (7 - k / 4) + i.val)) d.val = _
  rw [row_eq B k hk]
/-- and sines, -/
theorem sn_at (i : Fin 64) (d : Fin 128) : x4 (posIx k (ix2 i d)) = sinF (ch t k * 64 + i.val) d.val := by
  rw [posIx_eq, B.b4]
  show sinF (512 * (15 - t) + (64 * (7 - k / 4) + i.val)) d.val = _
  rw [row_eq B k hk]

/-- The rotated queries of the unit, -/
theorem rq_at (i : Fin 64) (d : Fin 128) :
    k0_pay562 (csOf x3 k) (snOf x4 k) (fun j => x0 (rowsIx k j)) (ix2 i d) = qh P (ch t k * 64 + i.val) (k % 4) d.val := by
  pointwise [k0_pay562, k0_pay541, k0_pay542]
  refine Eq.trans ?_ (rot_eq P 1024 (ch t k * 64 + i.val) (k % 4) d.val d.isLt)
  exact congrArg₂ (fun x y : EReal => x + y) (congrArg₂ (fun x y : EReal => x * y) (q_at B k hk _ _) (cs_at B k hk _ _))
    (congrArg₂ (fun x y : EReal => x * y) (q_at B k hk _ ⟨(d.val + 128 - 64) % 128, by omega⟩) (sn_at B k hk _ _))

/-- and its rotated and scaled keys. -/
theorem rk_at (i : Fin 64) (d : Fin 128) :
    k0_pay563 (csOf x3 k) (snOf x4 k) (fun j => x1 (rowsIx k j)) (ix2 i d) = kh P (ch t k * 64 + i.val) (k % 4) d.val := by
  pointwise [k0_pay563, k0_pay541, k0_pay542]
  refine Eq.trans ?_ (congrArg (fun x : EReal => x * sc) (rot_eq P 1536 (ch t k * 64 + i.val) (k % 4) d.val d.isLt))
  refine congrArg (fun x : EReal => x * sc) ?_
  exact congrArg₂ (fun x y : EReal => x + y) (congrArg₂ (fun x y : EReal => x * y) (k_at B k hk _ _) (cs_at B k hk _ _))
    (congrArg₂ (fun x y : EReal => x * y) (k_at B k hk _ ⟨(d.val + 128 - 64) % 128, by omega⟩) (sn_at B k hk _ _))

/-- The same, rounded on the chip (over the reals: as they are). -/
theorem rq'_at (i : Fin 64) (d : Fin 128) :
    k0_pay564 (csOf x3 k) (snOf x4 k) (fun j => x0 (rowsIx k j)) (ix2 i d) = qh P (ch t k * 64 + i.val) (k % 4) d.val :=
  rq_at B k hk i d
theorem rk'_at (i : Fin 64) (d : Fin 128) :
    k0_pay565 (csOf x3 k) (snOf x4 k) (fun j => x1 (rowsIx k j)) (ix2 i d) = kh P (ch t k * 64 + i.val) (k % 4) d.val :=
  rk_at B k hk i d

/-- The state's cotangent after the unit, of that before it. -/
theorem next_at (g : Vec Ideal S1x128x128 .f32) (d e : Fin 128) :
    nextOf x0 x3 x4 x6 x8 x9 k g (ix3 0 d e) = back P D (ch t k) (k % 4) d.val e.val + cd (k % 4) * g (ix3 0 d e) := by
  unfold nextOf
  generalize hQ : k0_pay562 (csOf x3 k) (snOf x4 k) (fun j => x0 (rowsIx k j)) = Q
  pointwise [k0_pay577, k0_pay567, k0_pay576, k0_pay569]
  refine (add_comm _ _).trans ?_
  unfold back
  refine congrArg₂ (fun x y : EReal => x + y) (Finset.sum_congr rfl fun x _ => (mul_comm _ _).trans ?_) ?_
  · refine congrArg₂ (fun x y : EReal => x * y) (do_at B k hk _ _) (congrArg₂ (fun x y : EReal => x * y) ?_ ?_)
    · rw [← hQ]; exact rq_at B k hk x d
    · exact (congrArg x6 (decIx_eq k x d)).trans (B.b6 _ _ _)
  · exact congrArg (fun x : EReal => x * g (ix3 0 d e)) ((congrArg x8 (stIx_eq k d e)).trans (B.b8 _ _ _))

variable {g : Vec Ideal S1x128x128 .f32} (hg : ∀ d e : Fin 128, g (ix3 0 d e) = G P D (k % 4) d.val e.val (127 - ch t k))

include hg

/-- The unit's gradient of the rotated and scaled keys, -/
theorem dkr_at (i : Fin 64) (d : Fin 128) :
    k0_pay574 (k0_pay564 (csOf x3 k) (snOf x4 k) fun j => x0 (rowsIx k j)) (k0_pay566 fun j => x2 (rowsIx k j)) (k0_pay567 fun j => x9 (rowsIx k j))
      (k0_pay570 g) (fun j => x5 (matIx k j)) (fun j => x7 (decIx k j)) (ix2 i d) = gradKh P D (ch t k) i.val (k % 4) d.val := by
  generalize hQ : k0_pay564 (csOf x3 k) (snOf x4 k) (fun j => x0 (rowsIx k j)) = Q
  pointwise [k0_pay574, k0_pay566, k0_pay567, k0_pay570, k0_pay569, k0_pay572]
  refine (add_comm _ _).trans ?_
  unfold gradKh
  refine congrArg₂ (fun x y : EReal => x + y) (congrArg₂ (fun x y : EReal => x * y) (Finset.sum_congr rfl fun x _ => (mul_comm _ _).trans ?_) ?_)
    (Finset.sum_congr rfl fun x _ => congrArg₂ (fun x y : EReal => x * y) (congrArg₂ (fun x y : EReal => x * y) (Finset.sum_congr rfl fun y _ => ?_) ?_) ?_)
  · exact congrArg₂ (fun x y : EReal => x * y) (hg _ _) (v_at B k hk _ _)
  · exact (congrArg x7 (decIx_eq k i d)).trans (B.b7 _ _ _)
  · exact congrArg₂ (fun x y : EReal => x * y) (do_at B k hk _ _) (v_at B k hk _ _)
  · exact (congrArg x5 (matIx_eq k x i)).trans (B.b5 _ _ _)
  · rw [← hQ]; exact rq'_at B k hk x d

/-- of the keys -/
theorem dk_at (i : Fin 64) (d : Fin 128) :
    dkOf x0 x2 x3 x4 x5 x7 x9 k g (ix2 i d) = gradK P D (ch t k) i.val (k % 4) d.val := by
  have hX := dkr_at B k hk hg i
  unfold dkOf
  generalize k0_pay574 (k0_pay564 (csOf x3 k) (snOf x4 k) fun j => x0 (rowsIx k j)) (k0_pay566 fun j => x2 (rowsIx k j)) (k0_pay567 fun j => x9 (rowsIx k j))
    (k0_pay570 g) (fun j => x5 (matIx k j)) (fun j => x7 (decIx k j)) = X at hX ⊢
  have c := cs_at B k hk i
  have s := sn_at B k hk i
  pointwise [k0_pay579, k0_pay541, k0_pay542]
  refine (congrArg₂ (fun x y : EReal => x + y) (congrArg₂ (fun x y : EReal => x * y) (congrArg (fun x : EReal => x * sc) (hX d)) (c d))
    (congrArg₂ (fun x y : EReal => x * y) (congrArg (fun x : EReal => x * sc) (hX ⟨(d.val + 128 - 64) % 128, by omega⟩)) (s ⟨(d.val + 128 - 64) % 128, by omega⟩))).trans ?_
  unfold gradK cosF sinF
  have hd := d.isLt
  by_cases h64 : d.val < 64
  · have e1 : (d.val + 128 - 64) % 128 = 64 + d.val := by omega
    have e2 : d.val % 64 = d.val := by omega
    have e3 : 64 + d.val - 64 = d.val := by omega
    rw [if_pos h64]
    simp only [e1, e2, e3]
    rw [if_neg (by omega)]
    exact add_comm _ _
  · have e1 : (d.val + 128 - 64) % 128 = d.val - 64 := by omega
    have e2 : d.val % 64 = d.val - 64 := by omega
    rw [if_neg h64]
    simp only [e1, e2]
    rw [if_pos (by omega), mul_neg, neg_mul]

/-- and of the values. -/
theorem dv_at (i : Fin 64) (d : Fin 128) :
    dvOf x0 x1 x3 x4 x5 x7 x9 k g (ix2 i d) = gradV P D (ch t k) i.val (k % 4) d.val := by
  have hk' := rk_at B k hk i
  have hq := rq'_at B k hk
  have hk'' := rk'_at B k hk
  unfold dvOf
  pointwise [k0_pay580, k0_pay575, k0_pay571, k0_pay567, k0_pay570, k0_pay569]
  refine (add_comm _ _).trans ?_
  unfold gradV score
  refine congrArg₂ (fun x y : EReal => x + y) (Finset.sum_congr rfl fun x _ => (mul_comm _ _).trans ?_) (Finset.sum_congr rfl fun x _ => (mul_comm _ _).trans ?_)
  · exact congrArg₂ (fun x y : EReal => x * y) (hg _ _) (congrArg₂ (fun x y : EReal => x * y) (hk' x) ((congrArg x7 (decIx_eq k i x)).trans (B.b7 _ _ _)))
  · refine congrArg₂ (fun x y : EReal => x * y) (do_at B k hk _ _) (congrArg₂ (fun x y : EReal => x * y) (Finset.sum_congr rfl fun y _ => ?_)
      ((congrArg x5 (matIx_eq k x i)).trans (B.b5 _ _ _)))
    exact congrArg₂ (fun x y : EReal => x * y) (hq x y) (hk'' i y)

end Cert.RetIdeal.Unit
-- ==== Proof.RetPoint.lean ====
/- What one grid point of the kernel leaves: the states carried to the next, and its blocks of the two gradients. -/
module

public import proofs.«01_k».proof.Proof.RetPay

@[expose] public section

set_option maxRecDepth 16384
set_option maxHeartbeats 400000

noncomputable section

namespace Cert.RetIdeal.Unit

open Cert.RetIdeal Cert.RetIdeal.Gen Idealize.ShloMosaic Idealize.ShloMosaic.TcCoe Idealize.SL.Sem Cert.RetSpec

section states

variable {t : ℕ} {P D : ℕ → ℕ → EReal} {x0 x1 x2 : Vec Ideal S512x512 .f32} {x3 x4 : Vec Ideal S512x128 .f32} {x5 : Vec Ideal S4x64x64 .f32}
    {x6 x7 : Vec Ideal S4x64x128 .f32} {x8 : Vec Ideal S4x128x128 .f32} {x9 : Vec Ideal S512x512 .bf16} {xs : Vec Ideal S4x128x128 .f32}
    (B : Blocks t P D x0 x1 x2 x3 x4 x5 x6 x7 x8 x9)
    (hxs : ∀ (h : Fin 4) (d e : Fin 128), xs (ix3 h d e) = G P D h.val d.val e.val (8 * t))

include B hxs

/-- After `k` units of the point, each head's state has met the chunks its units have worked through. -/
theorem states_at (k : ℕ) (hk : k ≤ 32) (h : Fin 4) (d e : Fin 128) :
    states x0 x3 x4 x6 x8 x9 xs k (ix3 h d e) = G P D h.val d.val e.val (8 * t + (k + 3 - h.val) / 4) := by
  induction k generalizing h d e with
  | zero =>
    have hh := h.isLt
    have e0 : (0 + 3 - h.val) / 4 = 0 := by omega
    rw [e0]
    exact hxs h d e
  | succ k ih =>
    have hh := h.isLt
    have ht := B.lt
    by_cases hx : h.val = k % 4
    · obtain ⟨h, hh'⟩ := h
      have hx' : h = k % 4 := hx
      subst hx'
      have e2 : (k + 1 + 3 - k % 4) / 4 = k / 4 + 1 := by omega
      have e3 : (k + 3 - k % 4) / 4 = k / 4 := by omega
      have s1 := states_on x0 x3 x4 x6 x8 x9 xs k (ix3 0 d e)
      rw [stIx_eq] at s1
      refine s1.trans ((next_at B k (by omega) _ d e).trans ?_)
      rw [stIx_eq, ih (by omega)]
      show _ + _ * G P D (k % 4) d.val e.val (8 * t + (k + 3 - k % 4) / 4) = G P D (k % 4) d.val e.val (8 * t + (k + 1 + 3 - k % 4) / 4)
      rw [e2, e3]
      rfl
    · have e1 : (k + 1 + 3 - h.val) / 4 = (k + 3 - h.val) / 4 := by omega
      rw [e1]
      exact (states_off x0 x3 x4 x6 x8 x9 xs k (ix3 h d e) hx).trans (ih (by omega) h d e)

/-- What unit `k` finds: its head's state after the chunks behind it. -/
theorem found_at (k : ℕ) (hk : k < 32) (d e : Fin 128) :
    states x0 x3 x4 x6 x8 x9 xs k (stIx k (ix3 0 d e)) = G P D (k % 4) d.val e.val (127 - ch t k) := by
  have ht := B.lt
  rw [stIx_eq, states_at B hxs k (by omega)]
  have e1 : 8 * t + (k + 3 - k % 4) / 4 = 127 - ch t k := by unfold ch; omega
  show G P D (k % 4) d.val e.val (8 * t + (k + 3 - k % 4) / 4) = _
  rw [e1]

/-- What the point leaves for the next. -/
theorem left_at (h : Fin 4) (d e : Fin 128) :
    states x0 x3 x4 x6 x8 x9 xs 32 (ix3 h d e) = G P D h.val d.val e.val (8 * (t + 1)) := by
  have hh := h.isLt
  rw [states_at B hxs 32 le_rfl]
  have e1 : 8 * t + (32 + 3 - h.val) / 4 = 8 * (t + 1) := by omega
  rw [e1]

/-- The gradient of the keys at a row and column of the point's block, -/
theorem unit_dk (y : S512x512.Idx) :
    dkOf x0 x2 x3 x4 x5 x7 x9 (unitOf y) (fun j => states x0 x3 x4 x6 x8 x9 xs (unitOf y) (stIx (unitOf y) j)) (inUnit y)
      = gradK P D ((512 * (15 - t) + (y 0).val) / 64) ((512 * (15 - t) + (y 0).val) % 64) ((y 1).val / 128) ((y 1).val % 128) := by
  have ht := B.lt
  have hy0 : (y 0).val < 512 := (y 0).isLt
  have hy1 : (y 1).val < 512 := (y 1).isLt
  refine (dk_at B (unitOf y) (unitOf_lt y) (found_at B hxs (unitOf y) (unitOf_lt y)) ⟨(y 0).val % 64, by omega⟩ ⟨(y 1).val % 128, by omega⟩).trans ?_
  have e1 : ch t (unitOf y) = (512 * (15 - t) + (y 0).val) / 64 := by unfold ch unitOf; omega
  have e2 : (512 * (15 - t) + (y 0).val) % 64 = (y 0).val % 64 := by omega
  have e3 : unitOf y % 4 = (y 1).val / 128 := by unfold unitOf; omega
  rw [e1, e2, e3]

/-- and that of the values. -/
theorem unit_dv (y : S512x512.Idx) :
    dvOf x0 x1 x3 x4 x5 x7 x9 (unitOf y) (fun j => states x0 x3 x4 x6 x8 x9 xs (unitOf y) (stIx (unitOf y) j)) (inUnit y)
      = gradV P D ((512 * (15 - t) + (y 0).val) / 64) ((512 * (15 - t) + (y 0).val) % 64) ((y 1).val / 128) ((y 1).val % 128) := by
  have ht := B.lt
  have hy0 : (y 0).val < 512 := (y 0).isLt
  have hy1 : (y 1).val < 512 := (y 1).isLt
  refine (dv_at B (unitOf y) (unitOf_lt y) (found_at B hxs (unitOf y) (unitOf_lt y)) ⟨(y 0).val % 64, by omega⟩ ⟨(y 1).val % 128, by omega⟩).trans ?_
  have e1 : ch t (unitOf y) = (512 * (15 - t) + (y 0).val) / 64 := by unfold ch unitOf; omega
  have e2 : (512 * (15 - t) + (y 0).val) % 64 = (y 0).val % 64 := by omega
  have e3 : unitOf y % 4 = (y 1).val / 128 := by unfold unitOf; omega
  rw [e1, e2, e3]

end states

/-- The states begin at zero. -/
theorem zero_at (P D : ℕ → ℕ → EReal) (h : Fin 4) (d e : Fin 128) :
    (k0_pay5 (F := Ideal)) (ix3 h d e) = G P D h.val d.val e.val (8 * 0) := by
  pointwise [k0_pay5]
  rfl

section pieces

variable (a1 : Memref sig .tc .vmem S512x512 .f32) (h1 : a1.IsWhole) (a2 : Memref sig .tc .vmem S512x512 .f32) (h2 : a2.IsWhole)
  (a3 : Memref sig .tc .vmem S512x512 .f32) (h3 : a3.IsWhole) (a4 : Memref sig .tc .vmem S512x128 .f32) (h4 : a4.IsWhole)
  (a5 : Memref sig .tc .vmem S512x128 .f32) (h5 : a5.IsWhole) (a6 : Memref sig .tc .vmem S4x64x64 .f32) (h6 : a6.IsWhole)
  (a7 : Memref sig .tc .vmem S4x64x128 .f32) (h7 : a7.IsWhole) (a8 : Memref sig .tc .vmem S4x64x128 .f32) (h8 : a8.IsWhole)
  (a9 : Memref sig .tc .vmem S4x128x128 .f32) (h9 : a9.IsWhole) (a10 : Memref sig .tc .vmem S512x512 .bf16) (h10 : a10.IsWhole)
  (a15 : Memref sig .tc .vmem S4x128x128 .f32) (h15 : a15.IsWhole)
variable (x0 x1 x2 : Vec Ideal S512x512 .f32) (x3 x4 : Vec Ideal S512x128 .f32) (x5 : Vec Ideal S4x64x64 .f32)
    (x6 x7 : Vec Ideal S4x64x128 .f32) (x8 : Vec Ideal S4x128x128 .f32) (x9 : Vec Ideal S512x512 .bf16) (xs : Vec Ideal S4x128x128 .f32)

/-- The pieces of the first point's gradient of the keys, read back, -/
theorem pieces_A_dk (y : S512x512.Idx) :
    View.canon (outs (fun k => dk a1 h1 a3 h3 a4 h4 a5 h5 a6 h6 a8 h8 a10 h10 x0 x2 x3 x4 x5 x7 x9 k
        (cov a15 (stA a1 h1 a4 h4 a5 h5 a7 h7 a9 h9 a10 h10 a15 x0 x3 x4 x6 x8 x9 k) k)) 32) y
      = dkOf x0 x2 x3 x4 x5 x7 x9 (unitOf y) (fun j => states x0 x3 x4 x6 x8 x9 (k0_pay5 (F := Ideal)) (unitOf y) (stIx (unitOf y) j)) (inUnit y) := by
  refine (canon_outs _ y 32 le_rfl (unitOf_lt y)).trans ?_
  show dk a1 h1 a3 h3 a4 h4 a5 h5 a6 h6 a8 h8 a10 h10 x0 x2 x3 x4 x5 x7 x9 (unitOf y)
    (cov a15 (stA a1 h1 a4 h4 a5 h5 a7 h7 a9 h9 a10 h10 a15 x0 x3 x4 x6 x8 x9 (unitOf y)) (unitOf y)) (inUnit y) = _
  rw [dk_eq, cov_eq, canon_stA]

/-- and of the values. -/
theorem pieces_A_dv (y : S512x512.Idx) :
    View.canon (outs (fun k => dv a1 h1 a2 h2 a4 h4 a5 h5 a6 h6 a8 h8 a10 h10 x0 x1 x3 x4 x5 x7 x9 k
        (cov a15 (stA a1 h1 a4 h4 a5 h5 a7 h7 a9 h9 a10 h10 a15 x0 x3 x4 x6 x8 x9 k) k)) 32) y
      = dvOf x0 x1 x3 x4 x5 x7 x9 (unitOf y) (fun j => states x0 x3 x4 x6 x8 x9 (k0_pay5 (F := Ideal)) (unitOf y) (stIx (unitOf y) j)) (inUnit y) := by
  refine (canon_outs _ y 32 le_rfl (unitOf_lt y)).trans ?_
  show dv a1 h1 a2 h2 a4 h4 a5 h5 a6 h6 a8 h8 a10 h10 x0 x1 x3 x4 x5 x7 x9 (unitOf y)
    (cov a15 (stA a1 h1 a4 h4 a5 h5 a7 h7 a9 h9 a10 h10 a15 x0 x3 x4 x6 x8 x9 (unitOf y)) (unitOf y)) (inUnit y) = _
  rw [dv_eq, cov_eq, canon_stA]

/-- Those of a later point's gradient of the keys, -/
theorem pieces_B_dk (y : S512x512.Idx) :
    View.canon (outs (fun k => dk a1 h1 a3 h3 a4 h4 a5 h5 a6 h6 a8 h8 a10 h10 x0 x2 x3 x4 x5 x7 x9 k
        (rdB a15 h15 xs k (stB a1 h1 a4 h4 a5 h5 a7 h7 a9 h9 a10 h10 a15 h15 x0 x3 x4 x6 x8 x9 xs k))) 32) y
      = dkOf x0 x2 x3 x4 x5 x7 x9 (unitOf y) (fun j => states x0 x3 x4 x6 x8 x9 xs (unitOf y) (stIx (unitOf y) j)) (inUnit y) := by
  refine (canon_outs _ y 32 le_rfl (unitOf_lt y)).trans ?_
  show dk a1 h1 a3 h3 a4 h4 a5 h5 a6 h6 a8 h8 a10 h10 x0 x2 x3 x4 x5 x7 x9 (unitOf y)
    (rdB a15 h15 xs (unitOf y) (stB a1 h1 a4 h4 a5 h5 a7 h7 a9 h9 a10 h10 a15 h15 x0 x3 x4 x6 x8 x9 xs (unitOf y))) (inUnit y) = _
  rw [dk_eq, (canon_stB _ _ _ _ _ _ _ _ _ _ _ _ _ _ _ _ _ _ _ _ _ (unitOf y)).2]

/-- and of the values. -/
theorem pieces_B_dv (y : S512x512.Idx) :
    View.canon (outs (fun k => dv a1 h1 a2 h2 a4 h4 a5 h5 a6 h6 a8 h8 a10 h10 x0 x1 x3 x4 x5 x7 x9 k
        (rdB a15 h15 xs k (stB a1 h1 a4 h4 a5 h5 a7 h7 a9 h9 a10 h10 a15 h15 x0 x3 x4 x6 x8 x9 xs k))) 32) y
      = dvOf x0 x1 x3 x4 x5 x7 x9 (unitOf y) (fun j => states x0 x3 x4 x6 x8 x9 xs (unitOf y) (stIx (unitOf y) j)) (inUnit y) := by
  refine (canon_outs _ y 32 le_rfl (unitOf_lt y)).trans ?_
  show dv a1 h1 a2 h2 a4 h4 a5 h5 a6 h6 a8 h8 a10 h10 x0 x1 x3 x4 x5 x7 x9 (unitOf y)
    (rdB a15 h15 xs (unitOf y) (stB a1 h1 a4 h4 a5 h5 a7 h7 a9 h9 a10 h10 a15 h15 x0 x3 x4 x6 x8 x9 xs (unitOf y))) (inUnit y) = _
  rw [dv_eq, (canon_stB _ _ _ _ _ _ _ _ _ _ _ _ _ _ _ _ _ _ _ _ _ (unitOf y)).2]

/-- The states that a later point leaves. -/
theorem pieces_B_st (y : S4x128x128.Idx) :
    View.canon (stB a1 h1 a4 h4 a5 h5 a7 h7 a9 h9 a10 h10 a15 h15 x0 x3 x4 x6 x8 x9 xs 32) y = states x0 x3 x4 x6 x8 x9 xs 32 y := by
  have hy : (y 0).val < 4 := (y 0).isLt
  exact (canon_stB _ _ _ _ _ _ _ _ _ _ _ _ _ _ _ _ _ _ _ _ _ 32).1 y (by omega)

end pieces

end Cert.RetIdeal.Unit
-- ==== Proof.RetTables.lean ====
/- The arrays that the host prepares for the kernel, read at an index as the plain formulas. -/
module

public import proofs.«01_k».proof.Proof.RetPay
public import Idealize.ShloMosaic.Lib.StableHlo.ReadAt

@[expose] public section

set_option maxRecDepth 16384
set_option maxHeartbeats 400000

noncomputable section

namespace Cert.RetIdeal.Tables

open Cert.RetIdeal Cert.RetIdeal.Gen Idealize.ShloMosaic Idealize.ShloMosaic.TcCoe Idealize.SL.Sem Cert.RetSpec

variable (V : Valuation τ sig (Elt Ideal))

/-- The projection by rows. -/
theorem v76_at (p : Fin 8192) (q : Fin 3072) : StableHlo.after hostOps0_2 V (Proc.devRef .tc main_v76) (ix2 p q)
    = at3 (b := 8192) (c := 3072) (V (Proc.devRef .tc main_arg0)) p.val q.val := by
  after_reads_at
  exact at3_eq _ _ _ _

/-- The cotangent by rows. -/
theorem v75_at (p : Fin 8192) (q : Fin 512) : StableHlo.after hostOps0_2 V (Proc.devRef .tc main_v75) (ix2 p q)
    = at3 (b := 8192) (c := 512) (V (Proc.devRef .tc main_arg1)) p.val q.val := by
  after_reads_at
  exact at3_eq _ _ _ _

/-- The cosines, -/
theorem v91_at (p : Fin 8192) (d : Fin 128) : StableHlo.after hostOps0_2 V (Proc.devRef .tc main_v91) (ix2 p d) = cosF p.val d.val := by
  after_reads_at
  unfold cosF
  split
  · rename_i h
    rw [Nat.mod_eq_of_lt h]
    rfl
  · rename_i h
    have e : d.val % 64 = d.val - 64 := by have := d.isLt; omega
    rw [e]
    rfl

/-- and signed sines. -/
theorem v93_at (p : Fin 8192) (d : Fin 128) : StableHlo.after hostOps0_2 V (Proc.devRef .tc main_v93) (ix2 p d) = sinF p.val d.val := by
  after_reads_at
  unfold sinF
  split <;> rfl

/-- The decays between a chunk's positions, -/
theorem v114_at (h : Fin 4) (i j : Fin 64) : StableHlo.after hostOps0_2 V (Proc.devRef .tc main_v114) (ix3 h i j) = dm h.val i.val j.val := by
  after_reads_at
  simp only [num, kd, qd, dm, lg]

/-- from the state before it to a position, -/
theorem v124_at (h : Fin 4) (i : Fin 64) (d : Fin 128) : StableHlo.after hostOps0_2 V (Proc.devRef .tc main_v124) (ix3 h i d) = qd h.val i.val := by
  after_reads_at
  simp only [num, kd, qd, dm, lg]

/-- from a position to the state after it, -/
theorem v134_at (h : Fin 4) (i : Fin 64) (d : Fin 128) : StableHlo.after hostOps0_2 V (Proc.devRef .tc main_v134) (ix3 h i d) = kd h.val i.val := by
  after_reads_at
  simp only [num, kd, qd, dm, lg]

/-- and over a whole chunk. -/
theorem v139_at (h : Fin 4) (d e : Fin 128) : StableHlo.after hostOps0_2 V (Proc.devRef .tc main_v139) (ix3 h d e) = cd h.val := by
  after_reads_at
  simp only [num, cd, lg]

end Cert.RetIdeal.Tables
-- ==== Proof.RetBlocks.lean ====
/- What the kernel's windows read of the arrays that the host prepares. -/
module

public import proofs.«01_k».proof.Proof.RetTables
public import proofs.«01_k».proof.Proof.Gen.RetIdeal.Value
public import Idealize.ShloMosaic.Lib.Pipeline.ValueKit

@[expose] public section

set_option maxRecDepth 16384

noncomputable section

namespace Cert.RetIdeal.Unit

open Cert.RetIdeal Cert.RetIdeal.Gen Idealize.ShloMosaic Idealize.ShloMosaic.TcCoe Idealize.SL.Sem Cert.RetSpec
open Idealize.ShloMosaic.Pipeline (Dat)

variable (m : (ℓ : Loc nD τ sig) → Buf (Elt Ideal) ℓ) (c : Dev nD)

theorem idx : ∀ t : Fin cfg0.N, win0_0.index t = ![15 - t.val, 2] ∧ win0_1.index t = ![15 - t.val, 3] ∧ win0_2.index t = ![15 - t.val, 4]
    ∧ win0_3.index t = ![15 - t.val, 0] ∧ win0_4.index t = ![15 - t.val, 0] ∧ win0_5.index t = ![0, 0, 0] ∧ win0_6.index t = ![0, 0, 0]
    ∧ win0_7.index t = ![0, 0, 0] ∧ win0_8.index t = ![0, 0, 0] ∧ win0_9.index t = ![15 - t.val, 0]
    ∧ win0_12.index t = ![15 - t.val, 0] ∧ win0_13.index t = ![15 - t.val, 0] :=
  (by decide +kernel : ∀ t : Fin grid0.N, _)

/-- Row `r` of the block of grid point `t`: the points go through the sequence backwards. -/
def row (t : Fin cfg0.N) (r : Fin 512) : Fin 8192 :=
  ⟨512 * (15 - t.val) + r.val, by have := r.isLt; omega⟩

/-- The projection and the cotangent that the call is given. -/
abbrev proj : ℕ → ℕ → EReal := at3 (m ((c : Thread nD τ).loc main_arg0) : FVec Ideal S1x8192x3072 .f32)
abbrev cotan : ℕ → ℕ → EReal := at3 (m ((c : Thread nD τ).loc main_arg1) : FVec Ideal S1x8192x512 .f32)

/-- The buffers before the last stretch of the host's lines. -/
def W : Valuation τ sig (Elt Ideal) := StableHlo.after hostOps0_1 (StableHlo.after hostOps0 fun b => m (c, b))

theorem after_append (a b : List (HloOp τ sig (Elt Ideal))) (z : Valuation τ sig (Elt Ideal)) :
    StableHlo.after (a ++ b) z = StableHlo.after b (StableHlo.after a z) := by
  induction a generalizing z with
  | nil => rfl
  | cons o a ih => exact ih _

theorem after_three (a b d : List (HloOp τ sig (Elt Ideal))) (z : Valuation τ sig (Elt Ideal)) :
    StableHlo.after (List.flatten [a, b, d]) z = StableHlo.after d (StableHlo.after b (StableHlo.after a z)) := by
  rw [List.flatten_cons, List.flatten_cons, List.flatten_cons, List.flatten_nil, List.append_nil, after_append, after_append]

/-- What the kernel finds: the buffers after that stretch. -/
theorem V_eq (b : Ref sig .tc) : V m c b = StableHlo.after hostOps0_2 (W m c) (Proc.devRef .tc b) :=
  congrFun (after_three hostOps0 hostOps0_1 hostOps0_2 fun b => m (c, b)) (Proc.devRef .tc b)

theorem W_arg0 : W m c (Proc.devRef .tc main_arg0) = m ((c : Thread nD τ).loc main_arg0) := by
  refine Eq.trans (Eq.symm ?_) ((V_eq m c main_arg0).symm.trans (V_main_arg0 m c))
  refine StableHlo.after_of_forall_not_mem (b := Proc.devRef .tc main_arg0) _ _ (List.forall_iff_forall_mem.mp ?_)
  simp only [hostOps0_2, List.Forall, StableHlo.nullary_writes, StableHlo.unary_writes, StableHlo.binary_writes, StableHlo.reshape_writes,
    Finset.mem_singleton]
  repeat' apply And.intro
  all_goals exact StableHlo.devRef_ne_of_ne (by decide)

theorem W_arg1 : W m c (Proc.devRef .tc main_arg1) = m ((c : Thread nD τ).loc main_arg1) := by
  refine Eq.trans (Eq.symm ?_) ((V_eq m c main_arg1).symm.trans (V_main_arg1 m c))
  refine StableHlo.after_of_forall_not_mem (b := Proc.devRef .tc main_arg1) _ _ (List.forall_iff_forall_mem.mp ?_)
  simp only [hostOps0_2, List.Forall, StableHlo.nullary_writes, StableHlo.unary_writes, StableHlo.binary_writes, StableHlo.reshape_writes,
    Finset.mem_singleton]
  repeat' apply And.intro
  all_goals exact StableHlo.devRef_ne_of_ne (by decide)

theorem proj_at (p : Fin 8192) (q : Fin 3072) : V m c main_v76 (ix2 p q) = proj m c p.val q.val :=
  (congrFun (V_eq m c main_v76) (ix2 p q)).trans ((Tables.v76_at (W m c) p q).trans
    (congrArg (fun X : FVec Ideal S1x8192x3072 .f32 => at3 X p.val q.val) (W_arg0 m c)))

theorem cotan_at (p : Fin 8192) (q : Fin 512) : V m c main_v75 (ix2 p q) = cotan m c p.val q.val :=
  (congrFun (V_eq m c main_v75) (ix2 p q)).trans ((Tables.v75_at (W m c) p q).trans
    (congrArg (fun X : FVec Ideal S1x8192x512 .f32 => at3 X p.val q.val) (W_arg1 m c)))

/-- The queries' columns of a grid point's rows, -/
theorem block0 (t : Fin cfg0.N) (r q : Fin 512) :
    (iblk m c 0 t : Vec Ideal S512x512 .f32) (ix2 r q) = proj m c (row t r).val (1024 + q.val) := by
  blk_simp [iblk]
  have e : (((View.whole main_v76).slice (win0_0.rect t)).emb (ix2 r q) : S8192x3072.Idx) = ix2 (row t r) ⟨1024 + q.val, by omega⟩ := by
    blk_ext [idx t, row]
  exact (congrArg (V m c main_v76) e).trans (proj_at m c _ _)

/-- the keys', -/
theorem block1 (t : Fin cfg0.N) (r q : Fin 512) :
    (iblk m c 1 t : Vec Ideal S512x512 .f32) (ix2 r q) = proj m c (row t r).val (1536 + q.val) := by
  blk_simp [iblk]
  have e : (((View.whole main_v76).slice (win0_1.rect t)).emb (ix2 r q) : S8192x3072.Idx) = ix2 (row t r) ⟨1536 + q.val, by omega⟩ := by
    blk_ext [idx t, row]
  exact (congrArg (V m c main_v76) e).trans (proj_at m c _ _)

/-- the values', -/
theorem block2 (t : Fin cfg0.N) (r q : Fin 512) :
    (iblk m c 2 t : Vec Ideal S512x512 .f32) (ix2 r q) = proj m c (row t r).val (2048 + q.val) := by
  blk_simp [iblk]
  have e : (((View.whole main_v76).slice (win0_2.rect t)).emb (ix2 r q) : S8192x3072.Idx) = ix2 (row t r) ⟨2048 + q.val, by omega⟩ := by
    blk_ext [idx t, row]
  exact (congrArg (V m c main_v76) e).trans (proj_at m c _ _)

/-- the cosines, -/
theorem block3 (t : Fin cfg0.N) (r : Fin 512) (d : Fin 128) :
    (iblk m c 3 t : Vec Ideal S512x128 .f32) (ix2 r d) = cosF (row t r).val d.val := by
  blk_simp [iblk]
  have e : (((View.whole main_v91).slice (win0_3.rect t)).emb (ix2 r d) : S8192x128.Idx) = ix2 (row t r) d := by
    blk_ext [idx t, row]
  exact (congrArg (V m c main_v91) e).trans ((congrFun (V_eq m c main_v91) _).trans (Tables.v91_at _ _ _))

/-- the signed sines, -/
theorem block4 (t : Fin cfg0.N) (r : Fin 512) (d : Fin 128) :
    (iblk m c 4 t : Vec Ideal S512x128 .f32) (ix2 r d) = sinF (row t r).val d.val := by
  blk_simp [iblk]
  have e : (((View.whole main_v93).slice (win0_4.rect t)).emb (ix2 r d) : S8192x128.Idx) = ix2 (row t r) d := by
    blk_ext [idx t, row]
  exact (congrArg (V m c main_v93) e).trans ((congrFun (V_eq m c main_v93) _).trans (Tables.v93_at _ _ _))

/-- the decays between a chunk's positions, -/
theorem block5 (t : Fin cfg0.N) (h : Fin 4) (i j : Fin 64) :
    (iblk m c 5 t : Vec Ideal S4x64x64 .f32) (ix3 h i j) = dm h.val i.val j.val := by
  blk_simp [iblk]
  have e : (((View.whole main_v114).slice (win0_5.rect t)).emb (ix3 h i j) : S4x64x64.Idx) = ix3 h i j := by
    blk_ext [idx t, row]
  exact (congrArg (V m c main_v114) e).trans ((congrFun (V_eq m c main_v114) _).trans (Tables.v114_at _ _ _ _))

/-- from the state before it, -/
theorem block6 (t : Fin cfg0.N) (h : Fin 4) (i : Fin 64) (d : Fin 128) :
    (iblk m c 6 t : Vec Ideal S4x64x128 .f32) (ix3 h i d) = qd h.val i.val := by
  blk_simp [iblk]
  have e : (((View.whole main_v124).slice (win0_6.rect t)).emb (ix3 h i d) : S4x64x128.Idx) = ix3 h i d := by
    blk_ext [idx t, row]
  exact (congrArg (V m c main_v124) e).trans ((congrFun (V_eq m c main_v124) _).trans (Tables.v124_at _ _ _ _))

/-- to the state after it -/
theorem block7 (t : Fin cfg0.N) (h : Fin 4) (i : Fin 64) (d : Fin 128) :
    (iblk m c 7 t : Vec Ideal S4x64x128 .f32) (ix3 h i d) = kd h.val i.val := by
  blk_simp [iblk]
  have e : (((View.whole main_v134).slice (win0_7.rect t)).emb (ix3 h i d) : S4x64x128.Idx) = ix3 h i d := by
    blk_ext [idx t, row]
  exact (congrArg (V m c main_v134) e).trans ((congrFun (V_eq m c main_v134) _).trans (Tables.v134_at _ _ _ _))

/-- and over it, -/
theorem block8 (t : Fin cfg0.N) (h : Fin 4) (d e' : Fin 128) :
    (iblk m c 8 t : Vec Ideal S4x128x128 .f32) (ix3 h d e') = cd h.val := by
  blk_simp [iblk]
  have e : (((View.whole main_v139).slice (win0_8.rect t)).emb (ix3 h d e') : S4x128x128.Idx) = ix3 h d e' := by
    blk_ext [idx t, row]
  exact (congrArg (V m c main_v139) e).trans ((congrFun (V_eq m c main_v139) _).trans (Tables.v139_at _ _ _ _))

/-- and the cotangent. -/
theorem block9 (t : Fin cfg0.N) (r q : Fin 512) :
    (iblk m c 9 t : Vec Ideal S512x512 .bf16) (ix2 r q) = cotan m c (row t r).val q.val := by
  blk_simp [iblk]
  have e : (((View.whole main_v75).slice (win0_9.rect t)).emb (ix2 r q) : S8192x512.Idx) = ix2 (row t r) q := by
    blk_ext [idx t, row]
  exact (congrArg (V m c main_v75) e).trans (cotan_at m c _ _)

/-- The blocks of a grid point. -/
theorem blocks (t : Fin cfg0.N) : Blocks t.val (proj m c) (cotan m c) (iblk m c 0 t) (iblk m c 1 t) (iblk m c 2 t) (iblk m c 3 t) (iblk m c 4 t)
    (iblk m c 5 t) (iblk m c 6 t) (iblk m c 7 t) (iblk m c 8 t) (iblk m c 9 t) where
  lt := lt_of_lt_of_eq t.isLt N_0
  b0 := block0 m c t
  b1 := block1 m c t
  b2 := block2 m c t
  b3 := block3 m c t
  b4 := block4 m c t
  b5 := block5 m c t
  b6 := block6 m c t
  b7 := block7 m c t
  b8 := block8 m c t
  b9 := block9 m c t

end Cert.RetIdeal.Unit
-- ==== Proof.RetFinal.lean ====
/- The two gradients that the kernel leaves, over the whole sequence. -/
module

public import proofs.«01_k».proof.Proof.RetPoint
public import proofs.«01_k».proof.Proof.RetBlocks

@[expose] public section

set_option maxRecDepth 16384
set_option maxHeartbeats 400000

noncomputable section

namespace Cert.RetIdeal.Unit

open Cert.RetIdeal Cert.RetIdeal.Gen Idealize.ShloMosaic Idealize.ShloMosaic.TcCoe Idealize.SL.Sem Cert.RetSpec
open Idealize.ShloMosaic.Pipeline (Dat)

variable (m : (ℓ : Loc nD τ sig) → Buf (Elt Ideal) ℓ) (c : Dev nD)

/-- What a first point leaves in the states, -/
theorem carried_A (t : Fin cfg0.N) (h0 : t.val % 16 = 0) : (outsAt0 m c t.val t.isLt).2.2.2
    = states (iblk m c 0 t) (iblk m c 3 t) (iblk m c 4 t) (iblk m c 6 t) (iblk m c 8 t) (iblk m c 9 t) (k0_pay5 (F := Ideal)) 32 := by
  rw [outsAt0_A m c t h0]
  refine (View.read_writes_junk_eq_canon (Val := Elt Ideal) VS0_0 _).trans ?_
  rw [run_A_st, canon_stA]

/-- and a later one, over what the point before left. -/
theorem carried_B (t : Fin cfg0.N) (h0 : ¬t.val % 16 = 0) : (outsAt0 m c t.val t.isLt).2.2.2
    = states (iblk m c 0 t) (iblk m c 3 t) (iblk m c 4 t) (iblk m c 6 t) (iblk m c 8 t) (iblk m c 9 t)
      (outsAt0 m c (t.val - 1) (Nat.lt_of_le_of_lt (Nat.sub_le _ _) t.isLt)).2.2.2 32 := by
  rw [outsAt0_B m c t h0]
  refine (View.read_writes_junk_eq_canon (Val := Elt Ideal) VS0_0 _).trans ?_
  rw [run_B_st]
  funext y
  exact pieces_B_st _ _ _ _ _ _ _ _ _ _ _ _ _ _ _ _ _ _ _ _ _ y

/-- The states between the grid points: the cotangents of the forward states, chunk by chunk from the end. -/
theorem carried_at (n : ℕ) (hn : n < cfg0.N) (h : Fin 4) (d e : Fin 128) :
    (outsAt0 m c n hn).2.2.2 (ix3 h d e) = G (proj m c) (cotan m c) h.val d.val e.val (8 * (n + 1)) := by
  induction n generalizing h d e with
  | zero =>
    exact (congrFun (carried_A m c ⟨0, hn⟩ rfl) (ix3 h d e)).trans (left_at (blocks m c ⟨0, hn⟩) (zero_at _ _) h d e)
  | succ n ih =>
    have hN : n + 1 < 16 := lt_of_lt_of_eq hn N_0
    have h0 : ¬(⟨n + 1, hn⟩ : Fin cfg0.N).val % 16 = 0 := by show ¬(n + 1) % 16 = 0; omega
    exact (congrFun (carried_B m c ⟨n + 1, hn⟩ h0) (ix3 h d e)).trans
      (left_at (blocks m c ⟨n + 1, hn⟩) (fun h d e => ih (Nat.lt_of_succ_lt hn) h d e) h d e)

/-- The gradient of the keys in a grid point's block, -/
theorem dk_point (t : Fin cfg0.N) (y : S512x512.Idx) : (outsAt0 m c t.val t.isLt).2.1 y
    = gradK (proj m c) (cotan m c) ((512 * (15 - t.val) + (y 0).val) / 64) ((512 * (15 - t.val) + (y 0).val) % 64) ((y 1).val / 128) ((y 1).val % 128) := by
  by_cases h0 : t.val % 16 = 0
  · rw [outsAt0_A m c t h0]
    refine (congrFun (View.read_writes_junk_eq_canon (Val := Elt Ideal) VO0_12 _) y).trans ?_
    rw [run_A_dk]
    refine (pieces_A_dk _ _ _ _ _ _ _ _ _ _ _ _ _ _ _ _ _ _ _ _ _ _ _ _ _ _ _ _ y).trans ?_
    have ht : t.val = 0 := by have := lt_of_lt_of_eq t.isLt N_0; omega
    exact unit_dk (blocks m c t) (fun h d e => by rw [ht]; exact zero_at _ _ h d e) y
  · rw [outsAt0_B m c t h0]
    refine (congrFun (View.read_writes_junk_eq_canon (Val := Elt Ideal) VO0_12 _) y).trans ?_
    rw [run_B_dk]
    refine (pieces_B_dk _ _ _ _ _ _ _ _ _ _ _ _ _ _ _ _ _ _ _ _ _ _ _ _ _ _ _ _ _ _ y).trans ?_
    have ht : 8 * t.val = 8 * (t.val - 1 + 1) := by omega
    exact unit_dk (blocks m c t) (fun h d e => by rw [ht]; exact carried_at m c _ _ h d e) y

/-- and of the values. -/
theorem dv_point (t : Fin cfg0.N) (y : S512x512.Idx) : (outsAt0 m c t.val t.isLt).2.2.1 y
    = gradV (proj m c) (cotan m c) ((512 * (15 - t.val) + (y 0).val) / 64) ((512 * (15 - t.val) + (y 0).val) % 64) ((y 1).val / 128) ((y 1).val % 128) := by
  by_cases h0 : t.val % 16 = 0
  · rw [outsAt0_A m c t h0]
    refine (congrFun (View.read_writes_junk_eq_canon (Val := Elt Ideal) VO0_13 _) y).trans ?_
    rw [run_A_dv]
    refine (pieces_A_dv _ _ _ _ _ _ _ _ _ _ _ _ _ _ _ _ _ _ _ _ _ _ _ _ _ _ _ _ y).trans ?_
    have ht : t.val = 0 := by have := lt_of_lt_of_eq t.isLt N_0; omega
    exact unit_dv (blocks m c t) (fun h d e => by rw [ht]; exact zero_at _ _ h d e) y
  · rw [outsAt0_B m c t h0]
    refine (congrFun (View.read_writes_junk_eq_canon (Val := Elt Ideal) VO0_13 _) y).trans ?_
    rw [run_B_dv]
    refine (pieces_B_dv _ _ _ _ _ _ _ _ _ _ _ _ _ _ _ _ _ _ _ _ _ _ _ _ _ _ _ _ _ _ y).trans ?_
    have ht : 8 * t.val = 8 * (t.val - 1 + 1) := by omega
    exact unit_dv (blocks m c t) (fun h d e => by rw [ht]; exact carried_at m c _ _ h d e) y

/-- The gradient of the keys over the sequence, -/
theorem final_dk (REF : FVec Ideal S8192x512 .bf16)
    (href : ∀ p q, REF (ix2 p q) = gradK (proj m c) (cotan m c) (p.val / 64) (p.val % 64) (q.val / 128) (q.val % 128)) :
    (dats m 0 c).arrAt 12 (cfgs 0).N = REF := by
  refine (dats m 0 c).arrAt_eq_of_covers 12 _ (by decide +kernel) fun t _ y => ?_
  blk_simp
  rw [after0_12]
  have e : (((View.whole main_v140_1).slice (win0_12.rect t)).emb y : S8192x512.Idx) = ix2 (row t (y 0)) (y 1) := by
    blk_ext [idx t, row]
  exact (dk_point m c t y).trans ((href (row t (y 0)) (y 1)).symm.trans (congrArg REF e.symm))

/-- and of the values. -/
theorem final_dv (REF : FVec Ideal S8192x512 .bf16)
    (href : ∀ p q, REF (ix2 p q) = gradV (proj m c) (cotan m c) (p.val / 64) (p.val % 64) (q.val / 128) (q.val % 128)) :
    (dats m 0 c).arrAt 13 (cfgs 0).N = REF := by
  refine (dats m 0 c).arrAt_eq_of_covers 13 _ (by decide +kernel) fun t _ y => ?_
  blk_simp
  rw [after0_13]
  have e : (((View.whole main_v140_2).slice (win0_13.rect t)).emb y : S8192x512.Idx) = ix2 (row t (y 0)) (y 1) := by
    blk_ext [idx t, row]
  exact (dv_point m c t y).trans ((href (row t (y 0)) (y 1)).symm.trans (congrArg REF e.symm))

end Cert.RetIdeal.Unit
-- ==== Proof.RetRefPre.lean ====
/- The host lines of the retention's reference before its loop, read at an index as the plain formulas. -/
module

public import proofs.«01_k».proof.Proof.Gen.RetReferenceIdeal.Run
public import proofs.«01_k».proof.Proof.RetSpec
public import Idealize.ShloMosaic.Lib.StableHlo.ReadAt

@[expose] public section

set_option maxRecDepth 16384
set_option maxHeartbeats 400000

noncomputable section

namespace Cert.RetReferenceIdeal.Reads

open Cert.RetReferenceIdeal Cert.RetReferenceIdeal.Gen Idealize.ShloMosaic Idealize.ShloMosaic.TcCoe Idealize.SL.Sem Cert.RetSpec

variable (V : Valuation τ sig (Elt Ideal))

/-- The projection, -/
abbrev pr : ℕ → ℕ → EReal := at3 (b := 8192) (c := 3072) (V (Proc.devRef .tc main_arg0))
/-- and the cotangent. -/
abbrev co : ℕ → ℕ → EReal := at3 (b := 8192) (c := 512) (V (Proc.devRef .tc main_arg1))

theorem pr_at (p : Fin 8192) (q : Fin 3072) : V (Proc.devRef .tc main_arg0) (ix3 0 p q) = pr V p.val q.val := at3_eq _ _ _ _
theorem co_at (p : Fin 8192) (q : Fin 512) : V (Proc.devRef .tc main_arg1) (ix3 0 p q) = co V p.val q.val := at3_eq _ _ _ _

/-- The cotangent by chunks. -/
theorem v133_at (h : Fin 4) (n : Fin 128) (i : Fin 64) (d : Fin 128) :
    StableHlo.after hostOps0 V (Proc.devRef .tc main_v133) (ix5 0 h n i d) = ct (co V) (n.val * 64 + i.val) h.val d.val := by
  after_reads_at
  unfold ct
  exact co_at V ⟨n.val * 64 + i.val, by omega⟩ ⟨h.val * 128 + d.val, by omega⟩

/-- The values by chunks. -/
theorem v70_at (h : Fin 4) (n : Fin 128) (i : Fin 64) (d : Fin 128) :
    StableHlo.after hostOps0 V (Proc.devRef .tc main_v70) (ix5 0 h n i d) = vh (pr V) (n.val * 64 + i.val) h.val d.val := by
  after_reads_at
  unfold vh
  exact pr_at V ⟨n.val * 64 + i.val, by omega⟩ ⟨2048 + (h.val * 128 + d.val), by omega⟩

/-- The rotary cosines -/
theorem v46_at (p : Fin 8192) (d : Fin 64) :
    StableHlo.after hostOps0 V (Proc.devRef .tc main_v46) (ix4 0 p 0 d) = cosA p.val d.val := by
  after_reads_at
  simp only [cosA, sinA, ang, num, kd, dm, lg]

/-- and sines. -/
theorem v48_at (p : Fin 8192) (d : Fin 64) :
    StableHlo.after hostOps0 V (Proc.devRef .tc main_v48) (ix4 0 p 0 d) = sinA p.val d.val := by
  after_reads_at
  simp only [cosA, sinA, ang, num, kd, dm, lg]

/-- The decays from the chunk's positions to its end, -/
theorem v113_at (h : Fin 4) (i : Fin 64) :
    StableHlo.after hostOps0 V (Proc.devRef .tc main_v113) (ix5 0 h 0 i 0) = kd h.val i.val := by
  after_reads_at
  simp only [cosA, sinA, ang, num, kd, dm, lg]

/-- and between its positions. -/
theorem v93_at (h : Fin 4) (i j : Fin 64) :
    StableHlo.after hostOps0 V (Proc.devRef .tc main_v93) (ix5 0 h 0 i j) = dm h.val i.val j.val := by
  after_reads_at
  simp only [cosA, sinA, ang, num, kd, dm, lg]

/-- The rotated queries by chunks. -/
theorem v66_at (h : Fin 4) (n : Fin 128) (i : Fin 64) (d : Fin 128) :
    StableHlo.after hostOps0 V (Proc.devRef .tc main_v66) (ix5 0 h n i d) = qh (pr V) (n.val * 64 + i.val) h.val d.val := by
  after_reads_at
  unfold qh rot
  split
  · after_reads_simp
    pointwise
    simp only [pr_at, lo, hi, cosA, sinA, ang, num, kd, lg, sc]
  · after_reads_simp
    pointwise
    simp only [pr_at, lo, hi, cosA, sinA, ang, num, kd, lg, sc]

/-- The rotated and scaled keys by chunks, decayed to the chunk's end. -/
theorem v115_at (h : Fin 4) (n : Fin 128) (i : Fin 64) (d : Fin 128) :
    StableHlo.after hostOps0 V (Proc.devRef .tc main_v115) (ix5 0 h n i d)
      = kh (pr V) (n.val * 64 + i.val) h.val d.val * kd h.val i.val := by
  after_reads_at
  unfold kh rot
  split
  · after_reads_simp
    pointwise
    simp only [pr_at, lo, hi, cosA, sinA, ang, num, kd, lg, sc]
  · after_reads_simp
    pointwise
    simp only [pr_at, lo, hi, cosA, sinA, ang, num, kd, lg, sc]

/-- The scores within the chunks. -/
theorem v95_at (h : Fin 4) (n : Fin 128) (i j : Fin 64) :
    StableHlo.after hostOps0 V (Proc.devRef .tc main_v95) (ix5 0 h n i j) = score (pr V) n.val h.val i.val j.val := by
  after_reads_at
  after_reads_simp
  pointwise
  simp only [pr_at]
  rw [score, sum128 fun x => qh (pr V) (n.val * 64 + i.val) h.val x * kh (pr V) (n.val * 64 + j.val) h.val x]
  simp only [qh, kh, rot_hi]
  have e (x : Fin 64) : rot (pr V) 1024 (n.val * 64 + i.val) h.val x.val = lo (pr V) 1024 (n.val * 64 + i.val) h.val x.val :=
    rot_lo _ _ _ _ _ x.isLt
  have e' (x : Fin 64) : rot (pr V) 1536 (n.val * 64 + j.val) h.val x.val = lo (pr V) 1536 (n.val * 64 + j.val) h.val x.val :=
    rot_lo _ _ _ _ _ x.isLt
  simp only [e, e', lo, hi, cosA, sinA, ang, num, dm, lg, sc]

/-- What each chunk gives to the cotangent of the state before it, -/
theorem kv_at (n : Fin 128) (h : Fin 4) (d e : Fin 128) :
    StableHlo.after hostOps0 V (Proc.devRef .tc main_v138_0) (ix5 n 0 h d e) = back (pr V) (co V) n.val h.val d.val e.val := by
  after_reads_simp
  show (show S128x1x4x128x128.Idx → EReal from transpose _ _ _ _) _ = _
  pointwise
  unfold back qh rot
  refine Finset.sum_congr rfl fun x _ => ?_
  congr 1
  · simp only [co_at, ct]
  · simp only [qd, lg, num]
    split
    · after_reads_simp
      pointwise
      simp only [pr_at, lo, hi, cosA, sinA, ang, num, kd, lg, sc]
    · after_reads_simp
      pointwise
      simp only [pr_at, lo, hi, cosA, sinA, ang, num, kd, lg, sc]

/-- the decay over a chunk, -/
theorem decay_at (h : Fin 4) : StableHlo.after hostOps0 V (Proc.devRef .tc main_v138_1) (ix4 0 h 0 0) = cd h.val := by
  after_reads_simp
  show (show S1x4x1x1.Idx → EReal from broadcastInDim _ _ _ _) _ = _
  pointwise
  simp only [cd, lg, num]

/-- and the last state's cotangent, zero. -/
theorem zero_at (h : Fin 4) (d e : Fin 128) :
    StableHlo.after hostOps0 V (Proc.devRef .tc main_v138_3) (ix4 0 h d e) = (0 : EReal) := by
  after_reads_simp
  show (show S1x4x128x128.Idx → EReal from broadcastInDim _ _ _ _) _ = _
  pointwise

end Cert.RetReferenceIdeal.Reads
-- ==== Proof.RetRefLoop.lean ====
/- The loop of the retention's reference: after `k` trips the carried state is the cotangent of the state `k` chunks before the end,
   and each such cotangent stays in the array of the states' cotangents. -/
module

public import proofs.«01_k».proof.Proof.RetRefPre
public import Idealize.ShloMosaic.Lib.WordCmp

@[expose] public section

set_option maxRecDepth 16384
set_option maxHeartbeats 400000

noncomputable section

namespace Cert.RetReferenceIdeal.Reads

open Cert.RetReferenceIdeal Cert.RetReferenceIdeal.Gen Cert.RetReferenceIdeal.Value Idealize.ShloMosaic Idealize.ShloMosaic.TcCoe Idealize.ShloMosaic.StableHlo Idealize.SL.Sem Cert.RetSpec

/-- The chunks' parts, the decays, the carried state and the array of the states' cotangents. -/
abbrev c0 (V : Valuation τ sig (Elt Ideal)) : S128x1x4x128x128.Idx → EReal := V (Proc.devRef .tc main_v138_0)
abbrev c1 (V : Valuation τ sig (Elt Ideal)) : S1x4x1x1.Idx → EReal := V (Proc.devRef .tc main_v138_1)
abbrev c3 (V : Valuation τ sig (Elt Ideal)) : S1x4x128x128.Idx → EReal := V (Proc.devRef .tc main_v138_3)
abbrev c4 (V : Valuation τ sig (Elt Ideal)) : S128x1x4x128x128.Idx → EReal := V (Proc.devRef .tc main_v138_4)

theorem fits (j : ℕ) (hj : j < 128) : S128x1x4x128x128.Slices ![j, 0, 0, 0, 0] S1x1x4x128x128 :=
  ⟨rfl, fun a => by
    fin_cases a
    · show j + 1 ≤ 128; omega
    · show 0 + 1 ≤ 1; omega
    · show 0 + 4 ≤ 4; omega
    · show 0 + 128 ≤ 128; omega
    · show 0 + 128 ≤ 128; omega⟩

/-- The trip's chunk, taken out of the chunks' parts. -/
theorem take_at (x : S128x1x4x128x128.Idx → EReal) (st : Fin S128x1x4x128x128.rank → Int) (j : ℕ) (hj : j < 128)
    (hst : ∀ a, st a = ((![j, 0, 0, 0, 0] : Fin 5 → ℕ) a : Int)) (hs : S128x1x4x128x128.Slices (fun _ => 0) S1x1x4x128x128)
    (hc : S1x1x4x128x128.ShapeCasts S1x4x128x128) (h : Fin 4) (d e : Fin 128) :
    shapeCast S1x4x128x128 (Host.dynamicSlice S1x1x4x128x128 x st hs) hc (ix4 0 h d e) = x (ix5 ⟨j, hj⟩ 0 h d e) := by
  rw [WordCmp.dynamicSlice_eq_extract _ x st hs ![j, 0, 0, 0, 0] (fits j hj) hst]
  pointwise

/-- A state put into the array, read at its chunk, -/
theorem put_on (x : S128x1x4x128x128.Idx → EReal) (u : S1x4x128x128.Idx → EReal) (st : Fin S128x1x4x128x128.rank → Int) (j : ℕ) (hj : j < 128)
    (hst : ∀ a, st a = ((![j, 0, 0, 0, 0] : Fin 5 → ℕ) a : Int)) (hs : S128x1x4x128x128.Slices (fun _ => 0) S1x1x4x128x128)
    (h : Fin 4) (d e : Fin 128) :
    Host.dynamicUpdateSlice x (broadcastInDim S1x1x4x128x128 ![1, 2, 3, 4] bcast_S1x4x128x128_S1x1x4x128x128_1_2_3_4 u) st hs
      (ix5 ⟨j, hj⟩ 0 h d e) = u (ix4 0 h d e) := by
  refine (congrFun (WordCmp.dynamicUpdateSlice_eq_update x _ st hs ![j, 0, 0, 0, 0] (fits j hj) hst) _).trans ?_
  unfold updateSlice
  rw [dif_pos (fun a => by
    fin_cases a
    · show j ≤ j ∧ j < j + 1; omega
    · show 0 ≤ 0 ∧ 0 < 0 + 1; omega
    · show 0 ≤ h.val ∧ h.val < 0 + 4; omega
    · show 0 ≤ d.val ∧ d.val < 0 + 128; omega
    · show 0 ≤ e.val ∧ e.val < 0 + 128; omega)]
  refine (congrArg u ?_)
  funext a
  apply Fin.ext
  fin_cases a
  · rfl
  · rfl
  · rfl
  · rfl

/-- and at another. -/
theorem put_off (x : S128x1x4x128x128.Idx → EReal) (u : S1x4x128x128.Idx → EReal) (st : Fin S128x1x4x128x128.rank → Int) (j : ℕ) (hj : j < 128)
    (hst : ∀ a, st a = ((![j, 0, 0, 0, 0] : Fin 5 → ℕ) a : Int)) (hs : S128x1x4x128x128.Slices (fun _ => 0) S1x1x4x128x128)
    (n : Fin 128) (hn : n.val ≠ j) (h : Fin 4) (d e : Fin 128) :
    Host.dynamicUpdateSlice x (broadcastInDim S1x1x4x128x128 ![1, 2, 3, 4] bcast_S1x4x128x128_S1x1x4x128x128_1_2_3_4 u) st hs
      (ix5 n 0 h d e) = x (ix5 n 0 h d e) := by
  refine (congrFun (WordCmp.dynamicUpdateSlice_eq_update x _ st hs ![j, 0, 0, 0, 0] (fits j hj) hst) _).trans ?_
  unfold updateSlice
  rw [dif_neg (fun hin => by
    have h0 : j ≤ n.val ∧ n.val < j + 1 := hin 0
    omega)]

/-- The trip's index counts down. -/
theorem index_at (V : Valuation τ sig (Elt Ideal)) (k : ℕ) (hk : k < 128) (hc : V (Proc.devRef .tc main_v138_2) = fun _ => Scf.iv 0#32 1#32 k)
    (a : Fin 5) :
    ((((![res_main_while0b_v182 V, constantI S_ 32 0#32, constantI S_ 32 0#32, constantI S_ 32 0#32, constantI S_ 32 0#32] : Fin 5 → (⟨S_, .i32⟩ : BufTy).Contents (Elt Ideal))) a (Shape.Idx.first h_S_)).toInt)
      = ((![127 - k, 0, 0, 0, 0] : Fin 5 → ℕ) a : Int) := by
  have e : (res_main_while0b_v182 V (Shape.Idx.first h_S_)).toInt = ((127 - k : ℕ) : Int) := by
    unfold res_main_while0b_v182
    rw [hc]
    show ((128#32 - Scf.iv 0#32 1#32 k) - 1#32).toInt = _
    have : ∀ j : Fin 128, ((128#32 - Scf.iv 0#32 1#32 j.val) - 1#32).toInt = ((127 - j.val : ℕ) : Int) := by decide +kernel
    exact this ⟨k, hk⟩
  fin_cases a
  · exact e
  · rfl
  · rfl
  · rfl
  · rfl

/-- The carried state after a trip. -/
theorem step3_at (V : Valuation τ sig (Elt Ideal)) (k : ℕ) (hk : k < 128) (hc : V (Proc.devRef .tc main_v138_2) = fun _ => Scf.iv 0#32 1#32 k)
    (h : Fin 4) (d e : Fin 128) :
    c3 (STEP V) (ix4 0 h d e) = c0 V (ix5 ⟨127 - k, by omega⟩ 0 h d e) + c1 V (ix4 0 h 0 0) * c3 V (ix4 0 h d e) := by
  have s := STEP_main_v138_3 V
  refine (congrFun s (ix4 0 h d e)).trans ?_
  unfold step_main_v138_3
  refine congrArg₂ (fun x y : EReal => x + y) (take_at (c0 V) _ (127 - k) (by omega) (index_at V k hk hc) _ _ h d e) ?_
  refine congrArg (fun x : EReal => x * c3 V (ix4 0 h d e)) ?_
  show (show S1x4x128x128.Idx → EReal from broadcastInDim _ _ _ (c1 V)) _ = _
  pointwise

/-- The array of the states' cotangents after a trip, at the trip's chunk -/
theorem step4_on (V : Valuation τ sig (Elt Ideal)) (k : ℕ) (hk : k < 128) (hc : V (Proc.devRef .tc main_v138_2) = fun _ => Scf.iv 0#32 1#32 k)
    (h : Fin 4) (d e : Fin 128) :
    c4 (STEP V) (ix5 ⟨127 - k, by omega⟩ 0 h d e) = c3 V (ix4 0 h d e) := by
  refine (congrFun (STEP_main_v138_4 V) _).trans ?_
  unfold step_main_v138_4
  exact put_on (c4 V) (c3 V) _ (127 - k) (by omega) (index_at V k hk hc) _ h d e

/-- and at the others. -/
theorem step4_off (V : Valuation τ sig (Elt Ideal)) (k : ℕ) (hk : k < 128) (hc : V (Proc.devRef .tc main_v138_2) = fun _ => Scf.iv 0#32 1#32 k)
    (n : Fin 128) (hn : n.val ≠ 127 - k) (h : Fin 4) (d e : Fin 128) :
    c4 (STEP V) (ix5 n 0 h d e) = c4 V (ix5 n 0 h d e) := by
  refine (congrFun (STEP_main_v138_4 V) _).trans ?_
  unfold step_main_v138_4
  exact put_off (c4 V) (c3 V) _ (127 - k) (by omega) (index_at V k hk hc) _ n hn h d e

variable (m : (ℓ : Loc nD τ sig) → Buf (Elt Ideal) ℓ) (c : Dev nD)

/-- The contents before the loop, on the buffers it carries, after `k` trips. -/
abbrev tripped (k : ℕ) : Valuation τ sig (Elt Ideal) := STEP^[k] (entryContents preI m c)

theorem tripped_ctr (k : ℕ) : tripped m c k (Proc.devRef .tc main_v138_2) = fun _ => Scf.iv 0#32 1#32 k :=
  (atK_agree m c k main_v138_2 (by decide)).symm.trans (atK_ctr m c k)

theorem tripped_c0 (k : ℕ) : c0 (tripped m c k) = c0 (entryContents preI m c) := by
  induction k with
  | zero => rfl
  | succ k ih =>
    unfold tripped
    rw [Function.iterate_succ_apply']
    exact (STEP_main_v138_0 _).trans ih

theorem tripped_c1 (k : ℕ) : c1 (tripped m c k) = c1 (entryContents preI m c) := by
  induction k with
  | zero => rfl
  | succ k ih =>
    unfold tripped
    rw [Function.iterate_succ_apply']
    exact (STEP_main_v138_1 _).trans ih

/-- The projection and the cotangent before the loop. -/
abbrev P : ℕ → ℕ → EReal := pr (launchContents m c)
abbrev D : ℕ → ℕ → EReal := co (launchContents m c)

/-- After `k` trips the carried state is the cotangent `k` chunks before the end, and the last `k` are in the array. -/
theorem tripped_at (k : ℕ) (hk : k ≤ 128) :
    (∀ (h : Fin 4) (d e : Fin 128), c3 (tripped m c k) (ix4 0 h d e) = G (P m c) (D m c) h.val d.val e.val k)
    ∧ ∀ (n : Fin 128) (h : Fin 4) (d e : Fin 128), 128 - k ≤ n.val →
      c4 (tripped m c k) (ix5 n 0 h d e) = G (P m c) (D m c) h.val d.val e.val (127 - n.val) := by
  induction k with
  | zero =>
    refine ⟨fun h d e => (zero_at (launchContents m c) h d e).trans ?_, fun n h d e hn => absurd hn (by have := n.isLt; omega)⟩
    rw [G]
  | succ k ih =>
    obtain ⟨i3, i4⟩ := ih (by omega)
    have hs : tripped m c (k + 1) = STEP (tripped m c k) := Function.iterate_succ_apply' _ _ _
    rw [hs]
    refine ⟨fun h d e => ?_, fun n h d e hn => ?_⟩
    · rw [step3_at _ k (by omega) (tripped_ctr m c k), tripped_c0, tripped_c1, i3, G]
      exact congrArg₂ (fun x y : EReal => x + y * G (P m c) (D m c) h.val d.val e.val k)
        (kv_at (launchContents m c) ⟨127 - k, by omega⟩ h d e) (decay_at (launchContents m c) h)
    · by_cases he : n.val = 127 - k
      · have e1 : n = ⟨127 - k, by omega⟩ := Fin.ext he
        have e2 : 127 - n.val = k := by omega
        rw [e2, ← i3, e1]
        exact step4_on _ k (by omega) (tripped_ctr m c k) h d e
      · rw [step4_off _ k (by omega) (tripped_ctr m c k) n he]
        exact i4 n h d e (by have := n.isLt; omega)

/-- After the loop the array holds all the states' cotangents. -/
theorem states_at (n : Fin 128) (h : Fin 4) (d e : Fin 128) :
    c4 (atK m 128 c) (ix5 n 0 h d e) = G (P m c) (D m c) h.val d.val e.val (127 - n.val) := by
  have e1 : c4 (atK m 128 c) = c4 (tripped m c 128) := atK_agree m c 128 main_v138_4 (by decide)
  rw [e1]
  exact (tripped_at m c 128 le_rfl).2 n h d e (by omega)

/-- A buffer that neither the loop's test nor its body writes is, after `k` trips, as before the loop. -/
theorem kept (r : Ref sig .tc) (h : r ∉ condOps_W ++ (while0Ops0_W ++ (while0Ops0_1_W ++ (while0Ops0_2_W ++ (while0Ops0_3_W ++ while0Ops0_4_W)))))
    (k : ℕ) : atK m k c (Proc.devRef .tc r) = entryContents preI m c (Proc.devRef .tc r) := by
  simp only [List.mem_append, not_or] at h
  induction k with
  | zero => rfl
  | succ k ih =>
    refine Eq.trans ?_ ih
    show after while0Ops0_4 (after while0Ops0_3 (after while0Ops0_2 (after while0Ops0_1 (after while0Ops0 (after condOps (atK m k c)))))) _ = _
    rw [after_of_writes_sub while0Ops0_4 _ while0Ops0_4_writes h.2.2.2.2.2, after_of_writes_sub while0Ops0_3 _ while0Ops0_3_writes h.2.2.2.2.1,
      after_of_writes_sub while0Ops0_2 _ while0Ops0_2_writes h.2.2.2.1, after_of_writes_sub while0Ops0_1 _ while0Ops0_1_writes h.2.2.1,
      after_of_writes_sub while0Ops0 _ while0Ops0_writes h.2.1, after_of_writes_sub condOps _ condOps_writes h.1]

end Cert.RetReferenceIdeal.Reads
-- ==== Proof.RetRefPost.lean ====
/- The results of the retention's reference, read at an index: the gradients of the plain formulas. -/
module

public import proofs.«01_k».proof.Proof.RetRefLoop

@[expose] public section

set_option maxRecDepth 16384
set_option maxHeartbeats 400000

noncomputable section

namespace Cert.RetReferenceIdeal.Reads

open Cert.RetReferenceIdeal Cert.RetReferenceIdeal.Gen Cert.RetReferenceIdeal.Value Idealize.ShloMosaic Idealize.ShloMosaic.TcCoe Idealize.ShloMosaic.StableHlo Idealize.SL.Sem Cert.RetSpec

/-- What the lines after the loop read, as plain formulas: of the contents `z` after the loop, with the projection `P` and the cotangent `D`. -/
structure Known (z : Valuation τ sig (Elt Ideal)) (P D : ℕ → ℕ → EReal) : Prop where
  st (n : Fin 128) (h : Fin 4) (d e : Fin 128) : (z (Proc.devRef .tc main_v138_4) (ix5 n 0 h d e) : EReal) = G P D h.val d.val e.val (127 - n.val)
  v115 (h : Fin 4) (n : Fin 128) (i : Fin 64) (d : Fin 128) :
    (z (Proc.devRef .tc main_v115) (ix5 0 h n i d) : EReal) = kh P (n.val * 64 + i.val) h.val d.val * kd h.val i.val
  v133 (h : Fin 4) (n : Fin 128) (i : Fin 64) (d : Fin 128) : (z (Proc.devRef .tc main_v133) (ix5 0 h n i d) : EReal) = ct D (n.val * 64 + i.val) h.val d.val
  v70 (h : Fin 4) (n : Fin 128) (i : Fin 64) (d : Fin 128) : (z (Proc.devRef .tc main_v70) (ix5 0 h n i d) : EReal) = vh P (n.val * 64 + i.val) h.val d.val
  v95 (h : Fin 4) (n : Fin 128) (i j : Fin 64) : (z (Proc.devRef .tc main_v95) (ix5 0 h n i j) : EReal) = score P n.val h.val i.val j.val
  v66 (h : Fin 4) (n : Fin 128) (i : Fin 64) (d : Fin 128) : (z (Proc.devRef .tc main_v66) (ix5 0 h n i d) : EReal) = qh P (n.val * 64 + i.val) h.val d.val
  v93 (h : Fin 4) (i j : Fin 64) : (z (Proc.devRef .tc main_v93) (ix5 0 h 0 i j) : EReal) = dm h.val i.val j.val
  v113 (h : Fin 4) (i : Fin 64) : (z (Proc.devRef .tc main_v113) (ix5 0 h 0 i 0) : EReal) = kd h.val i.val
  v46 (p : Fin 8192) (d : Fin 64) : (z (Proc.devRef .tc main_v46) (ix4 0 p 0 d) : EReal) = cosA p.val d.val
  v48 (p : Fin 8192) (d : Fin 64) : (z (Proc.devRef .tc main_v48) (ix4 0 p 0 d) : EReal) = sinA p.val d.val

section post

variable {z : Valuation τ sig (Elt Ideal)} {P D : ℕ → ℕ → EReal} (K : Known z P D) (p : Fin 8192) (q : Fin 512)

include K

/-- The gradient of the values. -/
theorem post_dv : (after hostOps0_1 z (Proc.devRef .tc main_v180) (ix2 p q) : EReal)
    = gradV P D (p.val / 64) (p.val % 64) (q.val / 128) (q.val % 128) := by
  after_reads_at
  unfold gradV
  refine congrArg₂ (fun x y : EReal => x + y) (Finset.sum_congr rfl fun x _ => ?_) (Finset.sum_congr rfl fun x _ => ?_)
  · exact congrArg₂ (fun x y : EReal => x * y) (K.st _ _ _ _) (K.v115 _ _ _ _)
  · exact congrArg₂ (fun x y : EReal => x * y) (K.v133 _ _ _ _) (K.v95 _ _ _ _)

/-- The arrays that the gradient of the keys reads. -/
abbrev c70 (V : Valuation τ sig (Elt Ideal)) : S1x4x128x64x128.Idx → EReal := V (Proc.devRef .tc main_v70)
abbrev c113 (V : Valuation τ sig (Elt Ideal)) : S1x4x1x64x1.Idx → EReal := V (Proc.devRef .tc main_v113)
abbrev c133 (V : Valuation τ sig (Elt Ideal)) : S1x4x128x64x128.Idx → EReal := V (Proc.devRef .tc main_v133)
abbrev c93 (V : Valuation τ sig (Elt Ideal)) : S1x4x1x64x64.Idx → EReal := V (Proc.devRef .tc main_v93)
abbrev c66 (V : Valuation τ sig (Elt Ideal)) : S1x4x128x64x128.Idx → EReal := V (Proc.devRef .tc main_v66)

/-- The gradient of the rotated and scaled keys, as the lines have it. -/
theorem post_kh (n : Fin 128) (h : Fin 4) (i : Fin 64) (d : Fin 128) :
    (∑ x : Fin 128, c4 z (ix5 n 0 h d x) * c70 z (ix5 0 h n i x)) * c113 z (ix5 0 h 0 i 0)
      + ∑ x : Fin 64, (∑ y : Fin 128, c133 z (ix5 0 h n x y) * c70 z (ix5 0 h n i y)) * c93 z (ix5 0 h 0 x i) * c66 z (ix5 0 h n x d)
    = gradKh P D n.val i.val h.val d.val := by
  unfold gradKh
  refine congrArg₂ (fun x y : EReal => x + y) (congrArg₂ (fun x y : EReal => x * y) (Finset.sum_congr rfl fun x _ => ?_) (K.v113 _ _))
    (Finset.sum_congr rfl fun x _ => congrArg₂ (fun x y : EReal => x * y) (congrArg₂ (fun x y : EReal => x * y) (Finset.sum_congr rfl fun y _ => ?_) (K.v93 _ _ _)) (K.v66 _ _ _ _))
  · exact congrArg₂ (fun x y : EReal => x * y) (K.st _ _ _ _) (K.v70 _ _ _ _)
  · exact congrArg₂ (fun x y : EReal => x * y) (K.v133 _ _ _ _) (K.v70 _ _ _ _)

/-- The gradient of the keys. -/
theorem post_dk : (after hostOps0_1 z (Proc.devRef .tc main_v178) (ix2 p q) : EReal)
    = gradK P D (p.val / 64) (p.val % 64) (q.val / 128) (q.val % 128) := by
  after_reads_at
  have hp : p.val / 64 * 64 + p.val % 64 = p.val := by omega
  have hq : q.val / 128 < 4 := by have := q.isLt; omega
  have hn : p.val / 64 < 128 := by have := p.isLt; omega
  have hi : p.val % 64 < 64 := by omega
  unfold gradK
  by_cases hd : q.val % 128 < 64
  · refine (congrArg₂ (fun x y : EReal => x + y) (dif_neg fun h => absurd h.2.1 (by omega)) (dif_pos ⟨hq, hd⟩)).trans ((zero_add _).trans (Eq.trans ?_ (if_pos hd).symm))
    exact congrArg₂ (fun x y : EReal => x + y)
      (congrArg₂ (fun x y : EReal => x * y) (congrArg (fun x : EReal => x * sc) (post_kh K ⟨p.val / 64, hn⟩ ⟨q.val / 128, hq⟩ ⟨p.val % 64, hi⟩ ⟨64 + q.val % 128, by omega⟩)) ((K.v48 _ _).trans (congrArg (fun x => sinA x _) hp.symm)))
      (congrArg₂ (fun x y : EReal => x * y) (congrArg (fun x : EReal => x * sc) (post_kh K ⟨p.val / 64, hn⟩ ⟨q.val / 128, hq⟩ ⟨p.val % 64, hi⟩ ⟨q.val % 128, by omega⟩)) ((K.v46 _ _).trans (congrArg (fun x => cosA x _) hp.symm)))
  · have h64 : 64 + (q.val % 128 - 64) = q.val % 128 := by omega
    refine (congrArg₂ (fun x y : EReal => x + y) (dif_pos ⟨hq, by omega, by omega⟩) (dif_neg fun h => hd h.2)).trans ((add_zero _).trans (Eq.trans ?_ (if_neg hd).symm))
    refine congrArg₂ (fun x y : EReal => x + y)
      (congrArg₂ (fun x y : EReal => x * y) (congrArg (fun x : EReal => x * sc) ((post_kh K ⟨p.val / 64, hn⟩ ⟨q.val / 128, hq⟩ ⟨p.val % 64, hi⟩ ⟨64 + (q.val % 128 - 64), by omega⟩).trans ?_)) ((K.v46 _ _).trans (congrArg (fun x => cosA x _) hp.symm)))
      (congrArg₂ (fun x y : EReal => x * y) (congrArg (fun x : EReal => -(x * sc)) (post_kh K ⟨p.val / 64, hn⟩ ⟨q.val / 128, hq⟩ ⟨p.val % 64, hi⟩ ⟨q.val % 128 - 64, by omega⟩)) ((K.v48 _ _).trans (congrArg (fun x => sinA x _) hp.symm)))
    exact congrArg (gradKh P D (p.val / 64) (p.val % 64) (q.val / 128)) h64

end post

variable (m : (ℓ : Loc nD τ sig) → Buf (Elt Ideal) ℓ) (c : Dev nD)

/-- The contents after the loop. -/
def Z : Valuation τ sig (Elt Ideal) := after condOps (atK m 128 c)

theorem Z_eq : Z m c = after condOps (atK m 128 c) := rfl

theorem Z_kept (r : Ref sig .tc) (h : r ∉ condOps_W ++ (while0Ops0_W ++ (while0Ops0_1_W ++ (while0Ops0_2_W ++ (while0Ops0_3_W ++ while0Ops0_4_W))))) :
    Z m c (Proc.devRef .tc r) = after hostOps0 (launchContents m c) (Proc.devRef .tc r) := by
  rw [Z_eq]
  exact (after_of_writes_sub condOps _ condOps_writes fun hm => h (List.mem_append_left _ hm)).trans (kept m c r h 128)

theorem Z_states (n : Fin 128) (h : Fin 4) (d e : Fin 128) :
    Z m c (Proc.devRef .tc main_v138_4) (ix5 n 0 h d e) = G (P m c) (D m c) h.val d.val e.val (127 - n.val) := by
  have e1 : c4 (Z m c) = c4 (atK m 128 c) := by rw [Z_eq]; exact cond_keeps (atK m 128 c) main_v138_4 (by decide)
  exact (congrFun e1 _).trans (states_at m c n h d e)

theorem Z_v115 (h : Fin 4) (n : Fin 128) (i : Fin 64) (d : Fin 128) :
    Z m c (Proc.devRef .tc main_v115) (ix5 0 h n i d) = kh (P m c) (n.val * 64 + i.val) h.val d.val * kd h.val i.val :=
  (congrFun (Z_kept m c main_v115 (by decide +kernel)) _).trans (v115_at (launchContents m c) h n i d)
theorem Z_v133 (h : Fin 4) (n : Fin 128) (i : Fin 64) (d : Fin 128) :
    Z m c (Proc.devRef .tc main_v133) (ix5 0 h n i d) = ct (D m c) (n.val * 64 + i.val) h.val d.val :=
  (congrFun (Z_kept m c main_v133 (by decide +kernel)) _).trans (v133_at (launchContents m c) h n i d)
theorem Z_v70 (h : Fin 4) (n : Fin 128) (i : Fin 64) (d : Fin 128) :
    Z m c (Proc.devRef .tc main_v70) (ix5 0 h n i d) = vh (P m c) (n.val * 64 + i.val) h.val d.val :=
  (congrFun (Z_kept m c main_v70 (by decide +kernel)) _).trans (v70_at (launchContents m c) h n i d)
theorem Z_v95 (h : Fin 4) (n : Fin 128) (i j : Fin 64) :
    Z m c (Proc.devRef .tc main_v95) (ix5 0 h n i j) = score (P m c) n.val h.val i.val j.val :=
  (congrFun (Z_kept m c main_v95 (by decide +kernel)) _).trans (v95_at (launchContents m c) h n i j)
theorem Z_v66 (h : Fin 4) (n : Fin 128) (i : Fin 64) (d : Fin 128) :
    Z m c (Proc.devRef .tc main_v66) (ix5 0 h n i d) = qh (P m c) (n.val * 64 + i.val) h.val d.val :=
  (congrFun (Z_kept m c main_v66 (by decide +kernel)) _).trans (v66_at (launchContents m c) h n i d)
theorem Z_v93 (h : Fin 4) (i j : Fin 64) :
    Z m c (Proc.devRef .tc main_v93) (ix5 0 h 0 i j) = dm h.val i.val j.val :=
  (congrFun (Z_kept m c main_v93 (by decide +kernel)) _).trans (v93_at (launchContents m c) h i j)
theorem Z_v113 (h : Fin 4) (i : Fin 64) :
    Z m c (Proc.devRef .tc main_v113) (ix5 0 h 0 i 0) = kd h.val i.val :=
  (congrFun (Z_kept m c main_v113 (by decide +kernel)) _).trans (v113_at (launchContents m c) h i)
theorem Z_v46 (p : Fin 8192) (d : Fin 64) :
    Z m c (Proc.devRef .tc main_v46) (ix4 0 p 0 d) = cosA p.val d.val :=
  (congrFun (Z_kept m c main_v46 (by decide +kernel)) _).trans (v46_at (launchContents m c) p d)
theorem Z_v48 (p : Fin 8192) (d : Fin 64) :
    Z m c (Proc.devRef .tc main_v48) (ix4 0 p 0 d) = sinA p.val d.val :=
  (congrFun (Z_kept m c main_v48 (by decide +kernel)) _).trans (v48_at (launchContents m c) p d)

/-- What is known after the loop. -/
theorem known : Known (Z m c) (P m c) (D m c) :=
  ⟨Z_states m c, Z_v115 m c, Z_v133 m c, Z_v70 m c, Z_v95 m c, Z_v66 m c, Z_v93 m c, Z_v113 m c, Z_v46 m c, Z_v48 m c⟩

/-- The gradient of the values, -/
theorem dv_at (p : Fin 8192) (q : Fin 512) :
    (finalContents condOps preI bodyI postI 128 m c (Proc.devRef .tc main_v180) (ix2 p q) : EReal)
      = gradV (P m c) (D m c) (p.val / 64) (p.val % 64) (q.val / 128) (q.val % 128) :=
  post_dv (known m c) p q

/-- and of the keys. -/
theorem dk_at (p : Fin 8192) (q : Fin 512) :
    (finalContents condOps preI bodyI postI 128 m c (Proc.devRef .tc main_v178) (ix2 p q) : EReal)
      = gradK (P m c) (D m c) (p.val / 64) (p.val % 64) (q.val / 128) (q.val % 128) :=
  post_dk (known m c) p q

end Cert.RetReferenceIdeal.Reads
-- ==== Proof.RetRefRun.lean ====
/- The run of the retention's reference: its two results and its arguments. -/
module

public import proofs.«01_k».proof.Proof.RetRefPost

@[expose] public section

set_option maxRecDepth 16384
set_option maxHeartbeats 400000

noncomputable section

namespace Cert.RetReferenceIdeal.Reads

open Cert.RetReferenceIdeal Cert.RetReferenceIdeal.Gen Cert.RetReferenceIdeal.Value Idealize.ShloMosaic Idealize.ShloMosaic.TcCoe
open Idealize.ShloMosaic.StableHlo Idealize.SL.Sem Cert.RetSpec

variable (m : (ℓ : Loc nD τ sig) → Buf (Elt Ideal) ℓ) (c : Dev nD)

/-- The arguments are kept. -/
theorem kept_arg0 : finalContents condOps preI bodyI postI 128 m c (Proc.devRef .tc main_arg0) = m ((c.tc : Thread nD τ).loc main_arg0) := by
  show after hostOps0_1 (Z m c) (Proc.devRef .tc main_arg0) = _
  refine Eq.trans ?_ ((Z_kept m c main_arg0 (by decide +kernel)).trans (after_of_writes_sub hostOps0 _ hostOps0_writes (by decide +kernel)))
  refine after_of_forall_not_mem (b := Proc.devRef .tc main_arg0) _ _ (List.forall_iff_forall_mem.mp ?_)
  simp only [hostOps0_1, List.Forall, nullary_writes, unary_writes, binary_writes, reshape_writes, Finset.mem_singleton]
  repeat' apply And.intro
  all_goals exact devRef_ne_of_ne (by decide)

theorem kept_arg1 : finalContents condOps preI bodyI postI 128 m c (Proc.devRef .tc main_arg1) = m ((c.tc : Thread nD τ).loc main_arg1) := by
  show after hostOps0_1 (Z m c) (Proc.devRef .tc main_arg1) = _
  refine Eq.trans ?_ ((Z_kept m c main_arg1 (by decide +kernel)).trans (after_of_writes_sub hostOps0 _ hostOps0_writes (by decide +kernel)))
  refine after_of_forall_not_mem (b := Proc.devRef .tc main_arg1) _ _ (List.forall_iff_forall_mem.mp ?_)
  simp only [hostOps0_1, List.Forall, nullary_writes, unary_writes, binary_writes, reshape_writes, Finset.mem_singleton]
  repeat' apply And.intro
  all_goals exact devRef_ne_of_ne (by decide)

/-- What the reference leaves of the gradients. -/
abbrev resK : FVec Ideal S8192x512 .bf16 := finalContents condOps preI bodyI postI 128 m c (Proc.devRef .tc main_v178)
abbrev resV : FVec Ideal S8192x512 .bf16 := finalContents condOps preI bodyI postI 128 m c (Proc.devRef .tc main_v180)

/-- The reference's run: its results and its arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v178) = resK m c ∧ r.2.mem ((c.tc : Thread nD τ).loc main_v180) = resV m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run (defs (F := Ideal)) _ _).mono
    (fun r h c => ⟨h c main_v178 rfl, h c main_v180 rfl, (h c main_arg0 rfl).trans (kept_arg0 m c), (h c main_arg1 rfl).trans (kept_arg1 m c)⟩)
    (run_fold m g)

end Cert.RetReferenceIdeal.Reads
-- ==== Proof.Ret.lean ====
module

public import proofs.«01_k».proof.Defs
public import proofs.«01_k».proof.Proof.Gen.Ret
public import proofs.«01_k».proof.Proof.Gen.Ret.Frame
public import proofs.«01_k».proof.Proof.Gen.RetIdeal.Frame
public import proofs.«01_k».proof.Proof.Gen.RetReferenceIdeal.Run
public import proofs.«01_k».proof.Proof.RetFinal
public import proofs.«01_k».proof.Proof.RetRefRun

/-! # The chunked retention: the claims about its backward call's gradients of the keys and the values -/

@[expose] public section

set_option maxRecDepth 16384

noncomputable section

namespace Cert.RetProof

open Idealize.ShloMosaic Idealize.ShloMosaic.TcCoe Idealize.SL.Sem

/-- The kernel runs and leaves its arguments alone. -/
theorem frame : Cert.quiescent_Ret := fun m ρ _ => Cert.Ret.Gen.frame m ρ

/-- So does its ideal reading. -/
theorem frame_ideal : Cert.quiescent_RetIdeal := fun m ρ _ => Cert.RetIdeal.Gen.frame m ρ

/-- The reference runs and leaves its arguments alone; it has no counter. -/
theorem frame_reference : Cert.quiescent_RetReferenceIdeal := fun m g _ =>
  (θ_run Cert.RetReferenceIdeal.defs _ _).mono
    (fun r h => ⟨fun c => (h c).2.2, Idealize.ShloMosaic.sem_eq_zero_of_no_sems (by decide) r.2⟩)
    (Cert.RetReferenceIdeal.Reads.run m g)

/-- The kernel leaves the gradients of the keys and of the values, whatever the arguments. -/
theorem algebraic : Cert.algebraic_RetIdeal_RetReferenceIdeal := by
  intro m g m' g' _ hagree
  have hP (c : Dev Cert.RetReferenceIdeal.nD) : Cert.RetReferenceIdeal.Reads.P m' c = Cert.RetIdeal.Unit.proj m c :=
    congrArg (fun X => Cert.RetSpec.at3 (b := 8192) (c := 3072) X) (hagree c).1
  have hD (c : Dev Cert.RetReferenceIdeal.nD) : Cert.RetReferenceIdeal.Reads.D m' c = Cert.RetIdeal.Unit.cotan m c :=
    congrArg (fun X => Cert.RetSpec.at3 (b := 8192) (c := 512) X) (hagree c).2
  refine ⟨Cert.RetReferenceIdeal.Reads.resK m', Cert.RetReferenceIdeal.Reads.resV m', ?_, Cert.RetReferenceIdeal.Reads.run m' g'⟩
  refine (θ_run Cert.RetIdeal.defs _ _).mono (fun r h c => ⟨(h c).2.1.trans ?_, (h c).2.2.1.trans ?_, (h c).2.2.2⟩)
    (Cert.RetIdeal.Value.run_blocks m g)
  · refine Cert.RetIdeal.Unit.final_dk m c (Cert.RetReferenceIdeal.Reads.resK m' c) fun p q => ?_
    rw [← hP c, ← hD c]
    exact Cert.RetReferenceIdeal.Reads.dk_at m' c p q
  · refine Cert.RetIdeal.Unit.final_dv m c (Cert.RetReferenceIdeal.Reads.resV m' c) fun p q => ?_
    rw [← hP c, ← hD c]
    exact Cert.RetReferenceIdeal.Reads.dv_at m' c p q

end Cert.RetProof

end
-- ==== Proof.RetqSpec.lean ====
/- The gradient of the queries of the chunked retention as plain formulas: the common ground of the kernel and of the reference. -/
module

public import proofs.«01_k».proof.Proof.RetSpec

@[expose] public section

noncomputable section

namespace Cert.RetSpec

open Idealize.ShloMosaic

variable (P D : ℕ → ℕ → EReal)

/-- What chunk `n` adds to the state. -/
def fwd (n h d e : ℕ) : EReal := ∑ x : Fin 64, kh P (n * 64 + x.val) h d * kd h x.val * vh P (n * 64 + x.val) h e

/-- Head `h`'s state before chunk `n`. -/
def St (h d e : ℕ) : ℕ → EReal
  | 0 => 0
  | n + 1 => cd h * St h d e n + fwd P n h d e

/-- The gradient of the rotated queries, -/
def gradQh (n i h d : ℕ) : EReal :=
  (∑ x : Fin 128, ct D (n * 64 + i) h x.val * St P h d x.val n) * qd h i
    + ∑ x : Fin 64, (∑ y : Fin 128, ct D (n * 64 + i) h y.val * vh P (n * 64 + x.val) h y.val) * dm h i x.val * kh P (n * 64 + x.val) h d

/-- and of the queries. -/
def gradQ (n i h d : ℕ) : EReal :=
  if d < 64 then
    gradQh P D n i h (64 + d) * sinA (n * 64 + i) d + gradQh P D n i h d * cosA (n * 64 + i) d
  else
    gradQh P D n i h d * cosA (n * 64 + i) (d - 64) + -gradQh P D n i h (d - 64) * sinA (n * 64 + i) (d - 64)

end Cert.RetSpec
-- ==== Proof.RetqStates.lean ====
/- The states of the retention in closed form: a state is the sum over all earlier positions of the products of keys and values,
   each decayed by its distance. The sum, cut into chunks, is the state that goes from chunk to chunk. -/
module

public import proofs.«01_k».proof.Proof.RetqSpec
public import proofs.«01_k».proof.Proof.RealLift

@[expose] public section

noncomputable section

namespace Cert.RetSpec

open Idealize.ShloMosaic

/-- A whole number below `2³¹` as a float is that number. -/
theorem num_eq (p : ℕ) (hp : p < 2 ^ 31) : num p = ((p : ℝ) : EReal) := by
  have e : (BitVec.ofNat 32 p).toInt = (p : Int) := by
    have h1 : (BitVec.ofNat 32 p).toNat = p := by rw [BitVec.toNat_ofNat, Nat.mod_eq_of_lt (by omega)]
    rw [BitVec.toInt_eq_toNat_of_lt (by omega), h1]
  show (((BitVec.ofNat 32 p).toInt : ℝ) : EReal) = _
  rw [e]
  norm_cast

theorem word_64 : Ideal.ofBits .f32 1115684864#32 = ((64 : ℝ) : EReal) := by
  simp [Ideal.ofBits, Ideal.ieee, -EReal.coe_mul]; norm_num

theorem word_63 : Ideal.ofBits .f32 1115422720#32 = ((63 : ℝ) : EReal) := by
  simp [Ideal.ofBits, Ideal.ieee, -EReal.coe_mul]; norm_num

theorem word_neg5 : Ideal.ofBits .f32 3231711232#32 = ((-5 : ℝ) : EReal) := by
  simp [Ideal.ofBits, Ideal.ieee, -EReal.coe_mul]; norm_num

/-- The logarithms of the decays are real numbers. -/
theorem lg_real (h : ℕ) (hh : h < 4) : ∃ r : ℝ, lg h = (r : EReal) := by
  unfold lg
  rw [num_eq h (by omega), Cert.RealLift.word_two, word_neg5, ← EReal.coe_sub, Ideal.pow_coe_coe, ← EReal.coe_one, ← EReal.coe_sub, Ideal.log_coe]
  have h1 : Real.rpow 2 (-5 - (h : ℝ)) < 1 :=
    Real.rpow_lt_one_of_one_lt_of_neg (by norm_num) (by have : (0 : ℝ) ≤ h := Nat.cast_nonneg h; linarith)
  rw [if_neg (by linarith)]
  exact ⟨_, rfl⟩

/-- The weight of position `s` in head `h`'s state before chunk `n`: its decay to the chunk's beginning, and zero from there on. -/
def wt (h n s : ℕ) : EReal :=
  if 0 ≤ num n * Ideal.ofBits .f32 1115684864#32 - 1 - num s then
    Ideal.exp (lg h * (num n * Ideal.ofBits .f32 1115684864#32 - 1 - num s))
  else 0

theorem since_eq (n s : ℕ) (hn : n < 128) (hs : s < 8192) :
    num n * Ideal.ofBits .f32 1115684864#32 - 1 - num s = (((n : ℝ) * 64 - 1 - s : ℝ) : EReal) := by
  rw [num_eq n (by omega), num_eq s (by omega), word_64, ← EReal.coe_mul, ← EReal.coe_one, ← EReal.coe_sub, ← EReal.coe_sub]

theorem wt_before (h n s : ℕ) (r : ℝ) (hr : lg h = (r : EReal)) (hn : n < 128) (hs : s < n * 64) :
    wt h n s = ((Real.exp (r * ((n : ℝ) * 64 - 1 - s)) : ℝ) : EReal) := by
  have h1 : (s : ℝ) + 1 ≤ n * 64 := by exact_mod_cast hs
  unfold wt
  rw [since_eq n s hn (by omega), if_pos (by rw [← EReal.coe_zero]; exact EReal.coe_le_coe_iff.mpr (by linarith)), hr, ← EReal.coe_mul, Ideal.exp_coe]

theorem wt_after (h n s : ℕ) (hn : n < 128) (hs : s < 8192) (hns : n * 64 ≤ s) : wt h n s = 0 := by
  have h1 : (n : ℝ) * 64 ≤ s := by exact_mod_cast hns
  unfold wt
  rw [since_eq n s hn hs, if_neg (by rw [← EReal.coe_zero, EReal.coe_le_coe_iff]; intro h2; linarith)]

/-- A positive real number goes into a sum. -/
theorem coe_mul_sum (c : ℝ) (hc : 0 ≤ c) (n : ℕ) (f : ℕ → EReal) :
    (c : EReal) * ∑ s ∈ Finset.range n, f s = ∑ s ∈ Finset.range n, (c : EReal) * f s := by
  induction n with
  | zero => simp
  | succ n ih =>
    rw [Finset.sum_range_succ, Finset.sum_range_succ, EReal.left_distrib_of_nonneg_of_ne_top (by exact_mod_cast hc) (EReal.coe_ne_top c), ih]

variable (P : ℕ → ℕ → EReal)

/-- The decayed sum over the positions before a chunk is the chunk's state. -/
theorem sum_before (h d e n : ℕ) (r : ℝ) (hr : lg h = (r : EReal)) (hn : n < 128) :
    ∑ s ∈ Finset.range (n * 64), ((Real.exp (r * ((n : ℝ) * 64 - 1 - s)) : ℝ) : EReal) * kh P s h d * vh P s h e = St P h d e n := by
  induction n with
  | zero => simp [St]
  | succ n ih =>
    rw [Nat.succ_mul, Finset.sum_range_add, St, ← ih (by omega), fwd]
    refine congrArg₂ (fun x y : EReal => x + y) ?_ ?_
    · unfold cd
      rw [hr, word_64, ← EReal.coe_mul, Ideal.exp_coe, coe_mul_sum _ (Real.exp_pos _).le]
      refine Finset.sum_congr rfl fun s _ => ?_
      rw [← mul_assoc, ← mul_assoc, ← EReal.coe_mul, ← Real.exp_add]
      congr 3
      push_cast
      ring_nf
    · rw [Finset.sum_range]
      refine Finset.sum_congr rfl fun x _ => ?_
      have hx := x.isLt
      refine congrArg (fun y : EReal => y * vh P (n * 64 + x.val) h e) ((mul_comm _ _).trans (congrArg (fun y : EReal => kh P (n * 64 + x.val) h d * y) ?_))
      unfold kd
      rw [hr, word_63, num_eq x.val (by omega), ← EReal.coe_sub, ← EReal.coe_mul, Ideal.exp_coe]
      congr 2
      push_cast
      ring

/-- The weighted sum over all positions is the state. -/
theorem state_eq (h d e n : ℕ) (hh : h < 4) (hn : n < 128) :
    ∑ s : Fin 8192, wt h n s.val * kh P s.val h d * vh P s.val h e = St P h d e n := by
  obtain ⟨r, hr⟩ := lg_real h hh
  rw [← sum_before P h d e n r hr hn, Finset.sum_fin_eq_sum_range]
  have hsub : Finset.range (n * 64) ⊆ Finset.range 8192 := Finset.range_subset_range.mpr (by omega)
  rw [← Finset.sum_subset hsub fun s hs hs' => by
    have h1 : s < 8192 := Finset.mem_range.mp hs
    have h2 : n * 64 ≤ s := by simpa using hs'
    rw [dif_pos h1, wt_after h n s hn h1 h2, zero_mul, zero_mul]]
  refine Finset.sum_congr rfl fun s hs => ?_
  have h1 : s < n * 64 := Finset.mem_range.mp hs
  rw [dif_pos (by omega), wt_before h n s r hr hn h1]

end Cert.RetSpec
-- ==== Proof.RetqTables.lean ====
/- The saved states that the host prepares for the kernel, read at an index: the retention's states. -/
module

public import proofs.«01_k».proof.Proof.RetTables
public import proofs.«01_k».proof.Proof.RetqStates

@[expose] public section

set_option maxRecDepth 16384
set_option maxHeartbeats 400000

noncomputable section

namespace Cert.RetIdeal.Tables

open Cert.RetIdeal Cert.RetIdeal.Gen Idealize.ShloMosaic Idealize.ShloMosaic.TcCoe Idealize.SL.Sem Cert.RetSpec

variable (V : Valuation τ sig (Elt Ideal))

/-- A saved state: the sum over all positions of the weighted products of keys and values. -/
theorem v73_at (h : Fin 4) (n d e : Fin 128) : (show S4x128x128x128.Idx → EReal from StableHlo.after hostOps0_2 V (Proc.devRef .tc main_v73)) (ix4 h n d e)
    = ∑ s : Fin 8192, (show S4x128x8192.Idx → EReal from V (Proc.devRef .tc main_v66)) (ix3 h n s)
        * (show S4x8192x128.Idx → EReal from V (Proc.devRef .tc main_v36)) (ix3 h s d)
        * (show S4x8192x128.Idx → EReal from V (Proc.devRef .tc main_v38)) (ix3 h s e) := by
  after_reads_at

/-- The weights are chosen by the test. -/
theorem v66_at (h : Fin 4) (n : Fin 128) (s : Fin 8192) : StableHlo.after hostOps0_1 V (Proc.devRef .tc main_v66) (ix3 h n s)
    = Scalar.select (V (Proc.devRef .tc main_v59) (ix2 n s)) (V (Proc.devRef .tc main_v65) (ix3 h n s)) (V (Proc.devRef .tc main_cst_8) ix0) := by
  after_reads_at
  rfl

/-- The test: whether the position lies before the chunk, -/
theorem v59_at (n : Fin 128) (s : Fin 8192) : StableHlo.after hostOps0 V (Proc.devRef .tc main_v59) (ix2 n s)
    = BitVec.ofBool (decide (0 ≤ num n.val * Ideal.ofBits .f32 1115684864#32 - 1 - num s.val)) := by
  after_reads_at
  simp only [num]
  exact congrArg BitVec.ofBool (decide_eq_decide.mpr Iff.rfl)

/-- the decay from the position to the chunk, -/
theorem v65_at (h : Fin 4) (n : Fin 128) (s : Fin 8192) : StableHlo.after hostOps0 V (Proc.devRef .tc main_v65) (ix3 h n s)
    = Ideal.exp (lg h.val * (num n.val * Ideal.ofBits .f32 1115684864#32 - 1 - num s.val)) := by
  after_reads_at
  simp only [num, lg]

/-- and the weight of the others. -/
theorem cst8_at : StableHlo.after hostOps0 V (Proc.devRef .tc main_cst_8) ix0 = (0 : EReal) := by
  after_reads_at

/-- The values by heads, -/
theorem v38_at (h : Fin 4) (s : Fin 8192) (e : Fin 128) : StableHlo.after hostOps0 V (Proc.devRef .tc main_v38) (ix3 h s e)
    = vh (at3 (b := 8192) (c := 3072) (V (Proc.devRef .tc main_arg0))) s.val h.val e.val := by
  after_reads_at
  exact at3_eq _ _ _ _

theorem pr_at (p : Fin 8192) (q : Fin 3072) : V (Proc.devRef .tc main_arg0) (ix3 0 p q)
    = at3 (b := 8192) (c := 3072) (V (Proc.devRef .tc main_arg0)) p.val q.val := at3_eq _ _ _ _

/-- and the rotated and scaled keys. -/
theorem v36_at (h : Fin 4) (s : Fin 8192) (d : Fin 128) : StableHlo.after hostOps0 V (Proc.devRef .tc main_v36) (ix3 h s d)
    = kh (at3 (b := 8192) (c := 3072) (V (Proc.devRef .tc main_arg0))) s.val h.val d.val := by
  after_reads_at
  unfold kh rot
  split
  · after_reads_simp
    pointwise
    simp only [pr_at, lo, hi, cosA, sinA, ang, num, sc]
  · after_reads_simp
    pointwise
    simp only [pr_at, lo, hi, cosA, sinA, ang, num, sc]

/-- The buffers that the middle lines do not write. -/
theorem mid_v36 : StableHlo.after hostOps0_1 V (Proc.devRef .tc main_v36) = V (Proc.devRef .tc main_v36) := by
  after_reads_simp
theorem mid_v38 : StableHlo.after hostOps0_1 V (Proc.devRef .tc main_v38) = V (Proc.devRef .tc main_v38) := by
  after_reads_simp

/-- The weights. -/
theorem weight_at (h : Fin 4) (n : Fin 128) (s : Fin 8192) :
    StableHlo.after hostOps0_1 (StableHlo.after hostOps0 V) (Proc.devRef .tc main_v66) (ix3 h n s) = wt h.val n.val s.val := by
  rw [v66_at, v59_at, v65_at, cst8_at]
  unfold Scalar.select wt
  by_cases hc : 0 ≤ num n.val * Ideal.ofBits .f32 1115684864#32 - 1 - num s.val
  · rw [if_pos hc, decide_eq_true hc]; rfl
  · rw [if_neg hc, decide_eq_false hc]; rfl

/-- The saved states are the retention's. -/
theorem saved_at (h : Fin 4) (n d e : Fin 128) :
    (show S4x128x128x128.Idx → EReal from StableHlo.after hostOps0_2 (StableHlo.after hostOps0_1 (StableHlo.after hostOps0 V)) (Proc.devRef .tc main_v73)) (ix4 h n d e)
      = St (at3 (b := 8192) (c := 3072) (V (Proc.devRef .tc main_arg0))) h.val d.val e.val n.val := by
  refine (v73_at _ h n d e).trans (Eq.trans ?_ (state_eq _ _ _ _ _ h.isLt n.isLt))
  refine Finset.sum_congr rfl fun s _ => ?_
  refine congrArg₂ (fun x y : EReal => x * y) (congrArg₂ (fun x y : EReal => x * y) (weight_at V h n s) ?_) ?_
  · exact (congrFun (mid_v36 (StableHlo.after hostOps0 V)) _).trans (v36_at V h s d)
  · exact (congrFun (mid_v38 (StableHlo.after hostOps0 V)) _).trans (v38_at V h s e)

end Cert.RetIdeal.Tables
-- ==== Proof.RetqKernel.lean ====
/- The gradient of the queries that the kernel leaves, over the whole sequence. -/
module

public import proofs.«01_k».proof.Proof.RetqTables
public import proofs.«01_k».proof.Proof.RetRun
public import proofs.«01_k».proof.Proof.RetFinal

@[expose] public section

set_option maxRecDepth 16384
set_option maxHeartbeats 400000

noncomputable section

namespace Cert.RetIdeal.Unit

open Cert.RetIdeal Cert.RetIdeal.Gen Idealize.ShloMosaic Idealize.ShloMosaic.TcCoe Idealize.SL.Sem Cert.RetSpec
open Idealize.ShloMosaic.Pipeline (Dat)

theorem savedIx_eq (k : ℕ) (d e : Fin 128) : savedIx k (ix4 0 0 d e) = ix4 ⟨k % 4, by omega⟩ ⟨7 - k / 4, by omega⟩ d e := by
  funext a; apply Fin.ext
  fin_cases a
  · show k % 4 + 1 * 0 = k % 4; omega
  · show 7 - k / 4 + 1 * 0 = 7 - k / 4; omega
  · show 0 + 1 * d.val = d.val; omega
  · show 0 + 1 * e.val = e.val; omega

section unit

variable {t : ℕ} {P D : ℕ → ℕ → EReal} {x0 x1 x2 : Vec Ideal S512x512 .f32} {x3 x4 : Vec Ideal S512x128 .f32} {x5 : Vec Ideal S4x64x64 .f32}
    {x6 x7 : Vec Ideal S4x64x128 .f32} {x8 : Vec Ideal S4x128x128 .f32} {x9 : Vec Ideal S512x512 .bf16} {x10 : Vec Ideal S4x8x128x128 .bf16}
    (B : Blocks t P D x0 x1 x2 x3 x4 x5 x6 x7 x8 x9)
    (b10 : ∀ (h : Fin 4) (j : Fin 8) (d e : Fin 128), x10 (ix4 h j d e) = St P h.val d.val e.val (8 * (15 - t) + j.val))

include B b10

/-- The unit's saved state. -/
theorem st_at (k : ℕ) (hk : k < 32) (d e : Fin 128) : x10 (savedIx k (ix4 0 0 d e)) = St P (k % 4) d.val e.val (ch t k) := by
  have ht := B.lt
  rw [savedIx_eq, b10]
  show St P (k % 4) d.val e.val (8 * (15 - t) + (7 - k / 4)) = _
  have e1 : 8 * (15 - t) + (7 - k / 4) = ch t k := by unfold ch; omega
  rw [e1]

/-- The unit's gradient of the rotated queries, -/
theorem dqr_at (k : ℕ) (hk : k < 32) (i : Fin 64) (d : Fin 128) :
    k0_pay573 (k0_pay565 (csOf x3 k) (snOf x4 k) fun j => x1 (rowsIx k j)) (k0_pay566 fun j => x2 (rowsIx k j)) (k0_pay567 fun j => x9 (rowsIx k j))
      (k0_pay568 fun j => x10 (savedIx k j)) (fun j => x5 (matIx k j)) (fun j => x6 (decIx k j)) (ix2 i d) = gradQh P D (ch t k) i.val (k % 4) d.val := by
  generalize hQ : k0_pay565 (csOf x3 k) (snOf x4 k) (fun j => x1 (rowsIx k j)) = Q
  pointwise [k0_pay573, k0_pay566, k0_pay567, k0_pay568, k0_pay572]
  refine (add_comm _ _).trans ?_
  unfold gradQh
  refine congrArg₂ (fun x y : EReal => x + y) (congrArg₂ (fun x y : EReal => x * y) (Finset.sum_congr rfl fun x _ => ?_) ?_)
    (Finset.sum_congr rfl fun x _ => congrArg₂ (fun x y : EReal => x * y) (congrArg₂ (fun x y : EReal => x * y) (Finset.sum_congr rfl fun y _ => ?_) ?_) ?_)
  · exact congrArg₂ (fun x y : EReal => x * y) (do_at B k hk _ _) (st_at B b10 k hk _ _)
  · exact (congrArg x6 (decIx_eq k i d)).trans (B.b6 _ _ _)
  · exact congrArg₂ (fun x y : EReal => x * y) (do_at B k hk _ _) (v_at B k hk _ _)
  · exact (congrArg x5 (matIx_eq k i x)).trans (B.b5 _ _ _)
  · rw [← hQ]; exact rk'_at B k hk x d

/-- and of the queries. -/
theorem dq_at (k : ℕ) (hk : k < 32) (i : Fin 64) (d : Fin 128) :
    dqOf x1 x2 x3 x4 x5 x6 x9 x10 k (ix2 i d) = gradQ P D (ch t k) i.val (k % 4) d.val := by
  have hX := dqr_at B b10 k hk i
  unfold dqOf
  generalize k0_pay573 (k0_pay565 (csOf x3 k) (snOf x4 k) fun j => x1 (rowsIx k j)) (k0_pay566 fun j => x2 (rowsIx k j)) (k0_pay567 fun j => x9 (rowsIx k j))
    (k0_pay568 fun j => x10 (savedIx k j)) (fun j => x5 (matIx k j)) (fun j => x6 (decIx k j)) = X at hX ⊢
  have c := cs_at B k hk i
  have s := sn_at B k hk i
  pointwise [k0_pay578, k0_pay541, k0_pay542]
  refine (congrArg₂ (fun x y : EReal => x + y) (congrArg₂ (fun x y : EReal => x * y) (hX d) (c d))
    (congrArg₂ (fun x y : EReal => x * y) (hX ⟨(d.val + 128 - 64) % 128, by omega⟩) (s ⟨(d.val + 128 - 64) % 128, by omega⟩))).trans ?_
  unfold gradQ cosF sinF
  have hd := d.isLt
  by_cases h64 : d.val < 64
  · have e1 : (d.val + 128 - 64) % 128 = 64 + d.val := by omega
    have e2 : d.val % 64 = d.val := by omega
    have e3 : 64 + d.val - 64 = d.val := by omega
    rw [if_pos h64]
    simp only [e1, e2, e3]
    rw [if_neg (by omega)]
    exact add_comm _ _
  · have e1 : (d.val + 128 - 64) % 128 = d.val - 64 := by omega
    have e2 : d.val % 64 = d.val - 64 := by omega
    rw [if_neg h64]
    simp only [e1, e2]
    rw [if_pos (by omega), mul_neg, neg_mul]

/-- The gradient of the queries at a row and column of the point's block. -/
theorem unit_dq (y : S512x512.Idx) :
    dqOf x1 x2 x3 x4 x5 x6 x9 x10 (unitOf y) (inUnit y)
      = gradQ P D ((512 * (15 - t) + (y 0).val) / 64) ((512 * (15 - t) + (y 0).val) % 64) ((y 1).val / 128) ((y 1).val % 128) := by
  have ht := B.lt
  have hy0 : (y 0).val < 512 := (y 0).isLt
  have hy1 : (y 1).val < 512 := (y 1).isLt
  refine (dq_at B b10 (unitOf y) (unitOf_lt y) ⟨(y 0).val % 64, by omega⟩ ⟨(y 1).val % 128, by omega⟩).trans ?_
  have e1 : ch t (unitOf y) = (512 * (15 - t) + (y 0).val) / 64 := by unfold ch unitOf; omega
  have e2 : (512 * (15 - t) + (y 0).val) % 64 = (y 0).val % 64 := by omega
  have e3 : unitOf y % 4 = (y 1).val / 128 := by unfold unitOf; omega
  rw [e1, e2, e3]

end unit

variable (m : (ℓ : Loc nD τ sig) → Buf (Elt Ideal) ℓ) (c : Dev nD)

theorem idx_saved : ∀ t : Fin cfg0.N, win0_10.index t = ![0, 15 - t.val, 0, 0] ∧ win0_11.index t = ![15 - t.val, 0] :=
  (by decide +kernel : ∀ t : Fin grid0.N, _)

/-- The saved states of a grid point's chunks. -/
theorem block10 (t : Fin cfg0.N) (h : Fin 4) (j : Fin 8) (d e : Fin 128) :
    (iblk m c 10 t : Vec Ideal S4x8x128x128 .bf16) (ix4 h j d e) = St (proj m c) h.val d.val e.val (8 * (15 - t.val) + j.val) := by
  blk_simp [iblk]
  have e1 : (((View.whole main_v73).slice (win0_10.rect t)).emb (ix4 h j d e) : S4x128x128x128.Idx)
      = ix4 h ⟨8 * (15 - t.val) + j.val, by have := j.isLt; omega⟩ d e := by
    blk_ext [idx_saved t]
  refine (congrArg (V m c main_v73) e1).trans ((congrFun (V_eq m c main_v73) _).trans ?_)
  exact Tables.saved_at (fun b => m (c, b)) h _ d e

/-- The pieces of a point's gradient of the queries, read back. -/
theorem pieces_dq (a2 : Memref sig .tc .vmem S512x512 .f32) (h2 : a2.IsWhole)
    (a3 : Memref sig .tc .vmem S512x512 .f32) (h3 : a3.IsWhole) (a4 : Memref sig .tc .vmem S512x128 .f32) (h4 : a4.IsWhole)
    (a5 : Memref sig .tc .vmem S512x128 .f32) (h5 : a5.IsWhole) (a6 : Memref sig .tc .vmem S4x64x64 .f32) (h6 : a6.IsWhole)
    (a7 : Memref sig .tc .vmem S4x64x128 .f32) (h7 : a7.IsWhole) (a10 : Memref sig .tc .vmem S512x512 .bf16) (h10 : a10.IsWhole)
    (a11 : Memref sig .tc .vmem S4x8x128x128 .bf16) (h11 : a11.IsWhole)
    (x1 x2 : Vec Ideal S512x512 .f32) (x3 x4 : Vec Ideal S512x128 .f32) (x5 : Vec Ideal S4x64x64 .f32)
    (x6 : Vec Ideal S4x64x128 .f32) (x9 : Vec Ideal S512x512 .bf16) (x10 : Vec Ideal S4x8x128x128 .bf16) (y : S512x512.Idx) :
    View.canon (outs (dq a2 h2 a3 h3 a4 h4 a5 h5 a6 h6 a7 h7 a10 h10 a11 h11 x1 x2 x3 x4 x5 x6 x9 x10) 32) y
      = dqOf x1 x2 x3 x4 x5 x6 x9 x10 (unitOf y) (inUnit y) := by
  refine (canon_outs _ y 32 le_rfl (unitOf_lt y)).trans ?_
  rw [dq_eq]

/-- The gradient of the queries in a grid point's block, -/
theorem dq_point (t : Fin cfg0.N) (y : S512x512.Idx) : (outsAt0 m c t.val t.isLt).1 y
    = gradQ (proj m c) (cotan m c) ((512 * (15 - t.val) + (y 0).val) / 64) ((512 * (15 - t.val) + (y 0).val) % 64) ((y 1).val / 128) ((y 1).val % 128) := by
  by_cases h0 : t.val % 16 = 0
  · rw [outsAt0_A m c t h0]
    refine (congrFun (View.read_writes_junk_eq_canon (Val := Elt Ideal) VO0_11 _) y).trans ?_
    rw [run_A_dq]
    exact (pieces_dq _ _ _ _ _ _ _ _ _ _ _ _ _ _ _ _ _ _ _ _ _ _ _ _ y).trans (unit_dq (blocks m c t) (block10 m c t) y)
  · rw [outsAt0_B m c t h0]
    refine (congrFun (View.read_writes_junk_eq_canon (Val := Elt Ideal) VO0_11 _) y).trans ?_
    rw [run_B_dq]
    exact (pieces_dq _ _ _ _ _ _ _ _ _ _ _ _ _ _ _ _ _ _ _ _ _ _ _ _ y).trans (unit_dq (blocks m c t) (block10 m c t) y)

/-- and over the sequence. -/
theorem final_dq (REF : FVec Ideal S8192x512 .bf16)
    (href : ∀ p q, REF (ix2 p q) = gradQ (proj m c) (cotan m c) (p.val / 64) (p.val % 64) (q.val / 128) (q.val % 128)) :
    (dats m 0 c).arrAt 11 (cfgs 0).N = REF := by
  refine (dats m 0 c).arrAt_eq_of_covers 11 _ (by decide +kernel) fun t _ y => ?_
  blk_simp
  rw [after0_11]
  have e : (((View.whole main_v140_0).slice (win0_11.rect t)).emb y : S8192x512.Idx) = ix2 (row t (y 0)) (y 1) := by
    blk_ext [idx_saved t, row]
  exact (dq_point m c t y).trans ((href (row t (y 0)) (y 1)).symm.trans (congrArg REF e.symm))

end Cert.RetIdeal.Unit
-- ==== Proof.RetqRefPre.lean ====
/- The host lines before the loop of the reference for the gradient of the queries, read at an index as the plain formulas. -/
module

public import proofs.«01_k».proof.Proof.Gen.RetQReferenceIdeal.Run
public import proofs.«01_k».proof.Proof.RetqSpec
public import Idealize.ShloMosaic.Lib.StableHlo.ReadAt

@[expose] public section

set_option maxRecDepth 16384
set_option maxHeartbeats 400000

noncomputable section

namespace Cert.RetQReferenceIdeal.Reads

open Cert.RetQReferenceIdeal Cert.RetQReferenceIdeal.Gen Idealize.ShloMosaic Idealize.ShloMosaic.TcCoe Idealize.SL.Sem Cert.RetSpec

variable (V : Valuation τ sig (Elt Ideal))

/-- The projection, -/
abbrev pr : ℕ → ℕ → EReal := at3 (b := 8192) (c := 3072) (V (Proc.devRef .tc main_arg0))
/-- and the cotangent. -/
abbrev co : ℕ → ℕ → EReal := at3 (b := 8192) (c := 512) (V (Proc.devRef .tc main_arg1))

theorem pr_at (p : Fin 8192) (q : Fin 3072) : V (Proc.devRef .tc main_arg0) (ix3 0 p q) = pr V p.val q.val := at3_eq _ _ _ _
theorem co_at (p : Fin 8192) (q : Fin 512) : V (Proc.devRef .tc main_arg1) (ix3 0 p q) = co V p.val q.val := at3_eq _ _ _ _

/-- The values by chunks, -/
theorem v53_at (h : Fin 4) (n : Fin 128) (i : Fin 64) (d : Fin 128) :
    StableHlo.after hostOps0 V (Proc.devRef .tc main_v53) (ix5 0 h n i d) = vh (pr V) (n.val * 64 + i.val) h.val d.val := by
  after_reads_at
  unfold vh
  exact pr_at V ⟨n.val * 64 + i.val, by omega⟩ ⟨2048 + (h.val * 128 + d.val), by omega⟩

/-- the rotary cosines -/
theorem v15_at (p : Fin 8192) (d : Fin 64) :
    StableHlo.after hostOps0 V (Proc.devRef .tc main_v15) (ix4 0 p 0 d) = cosA p.val d.val := by
  after_reads_at
  simp only [cosA, sinA, ang, num]

/-- and sines, -/
theorem v17_at (p : Fin 8192) (d : Fin 64) :
    StableHlo.after hostOps0 V (Proc.devRef .tc main_v17) (ix4 0 p 0 d) = sinA p.val d.val := by
  after_reads_at
  simp only [cosA, sinA, ang, num]

/-- the decays between a chunk's positions, -/
theorem v75_at (h : Fin 4) (i j : Fin 64) :
    StableHlo.after hostOps0 V (Proc.devRef .tc main_v75) (ix5 0 h 0 i j) = dm h.val i.val j.val := by
  after_reads_at
  simp only [num, dm, lg]

/-- the logarithms of the decays -/
theorem v61_at (h : Fin 4) : StableHlo.after hostOps0 V (Proc.devRef .tc main_v61) (ix1 h) = lg h.val := by
  after_reads_at
  simp only [num, lg]

/-- and the chunk's positions, -/
theorem v62_at (i : Fin 64) : StableHlo.after hostOps0 V (Proc.devRef .tc main_v62) (ix1 i) = num i.val := by
  after_reads_at
  simp only [num]

/-- the rotated and scaled keys by chunks. -/
theorem v51_at (h : Fin 4) (n : Fin 128) (i : Fin 64) (d : Fin 128) :
    StableHlo.after hostOps0 V (Proc.devRef .tc main_v51) (ix5 0 h n i d) = kh (pr V) (n.val * 64 + i.val) h.val d.val := by
  after_reads_at
  unfold kh rot
  split
  · after_reads_simp
    pointwise
    simp only [pr_at, lo, hi, cosA, sinA, ang, num, sc]
  · after_reads_simp
    pointwise
    simp only [pr_at, lo, hi, cosA, sinA, ang, num, sc]

/-- What each chunk adds to the state, -/
theorem kv_at (n : Fin 128) (h : Fin 4) (d e : Fin 128) :
    StableHlo.after hostOps0 V (Proc.devRef .tc main_v103_0) (ix5 n 0 h d e) = fwd (pr V) n.val h.val d.val e.val := by
  after_reads_simp
  show (show FVec Ideal S128x1x4x128x128 .f32 from Host.dotGeneral (φ₁ := .f32) (φ₂ := .f32) _ none _ _) _ = _
  pointwise
  unfold fwd kh rot
  refine Finset.sum_congr rfl fun x _ => congrArg₂ (fun x y : EReal => x * y) (congrArg₂ (fun x y : EReal => x * y) ?_ ?_) ?_
  · split
    · after_reads_simp
      pointwise
      simp only [pr_at, lo, hi, cosA, sinA, ang, num, sc]
    · after_reads_simp
      pointwise
      simp only [pr_at, lo, hi, cosA, sinA, ang, num, sc]
  · simp only [kd, lg, num]
  · simp only [pr_at, vh]

/-- the decay over a chunk, -/
theorem decay_at (h : Fin 4) : StableHlo.after hostOps0 V (Proc.devRef .tc main_v103_1) (ix4 0 h 0 0) = cd h.val := by
  after_reads_simp
  show (show S1x4x1x1.Idx → EReal from broadcastInDim _ _ _ _) _ = _
  pointwise
  simp only [cd, lg, num]

/-- and the first state, zero. -/
theorem zero_at (h : Fin 4) (d e : Fin 128) :
    StableHlo.after hostOps0 V (Proc.devRef .tc main_v103_3) (ix4 0 h d e) = (0 : EReal) := by
  after_reads_simp
  show (show S1x4x128x128.Idx → EReal from broadcastInDim _ _ _ _) _ = _
  pointwise

end Cert.RetQReferenceIdeal.Reads
-- ==== Proof.RetqRefLoop.lean ====
/- The loop of the reference for the gradient of the queries: after `k` trips the carried state is the retention's state before
   chunk `k`, and the states before the earlier chunks stay in the array of the states. -/
module

public import proofs.«01_k».proof.Proof.RetqRefPre
public import proofs.«01_k».proof.Proof.RetRefLoop

@[expose] public section

set_option maxRecDepth 16384
set_option maxHeartbeats 400000

noncomputable section

namespace Cert.RetQReferenceIdeal.Reads

open Cert.RetQReferenceIdeal Cert.RetQReferenceIdeal.Gen Cert.RetQReferenceIdeal.Value Idealize.ShloMosaic Idealize.ShloMosaic.TcCoe Idealize.ShloMosaic.StableHlo Idealize.SL.Sem Cert.RetSpec

/-- The chunks' parts, the decays, the carried state and the array of the states. -/
abbrev c0 (V : Valuation τ sig (Elt Ideal)) : S128x1x4x128x128.Idx → EReal := V (Proc.devRef .tc main_v103_0)
abbrev c1 (V : Valuation τ sig (Elt Ideal)) : S1x4x1x1.Idx → EReal := V (Proc.devRef .tc main_v103_1)
abbrev c3 (V : Valuation τ sig (Elt Ideal)) : S1x4x128x128.Idx → EReal := V (Proc.devRef .tc main_v103_3)
abbrev c4 (V : Valuation τ sig (Elt Ideal)) : S128x1x4x128x128.Idx → EReal := V (Proc.devRef .tc main_v103_4)

/-- The trip's index is its number. -/
theorem index_at (V : Valuation τ sig (Elt Ideal)) (k : ℕ) (hk : k < 128) (hc : V (Proc.devRef .tc main_v103_2) = fun _ => Scf.iv 0#32 1#32 k)
    (a : Fin 5) :
    ((((![V (Proc.devRef .tc main_v103_2), constantI S_ 32 0#32, constantI S_ 32 0#32, constantI S_ 32 0#32, constantI S_ 32 0#32] : Fin 5 → (⟨S_, .i32⟩ : BufTy).Contents (Elt Ideal))) a (Shape.Idx.first h_S_)).toInt)
      = ((![k, 0, 0, 0, 0] : Fin 5 → ℕ) a : Int) := by
  have e : ((show (⟨S_, .i32⟩ : BufTy).Contents (Elt Ideal) from V (Proc.devRef .tc main_v103_2)) (Shape.Idx.first h_S_)).toInt = (k : Int) := by
    rw [hc]
    show (Scf.iv 0#32 1#32 k).toInt = _
    have : ∀ j : Fin 128, (Scf.iv 0#32 1#32 j.val).toInt = (j.val : Int) := by decide +kernel
    exact this ⟨k, hk⟩
  fin_cases a
  · exact e
  · rfl
  · rfl
  · rfl
  · rfl

/-- The carried state after a trip. -/
theorem step3_at (V : Valuation τ sig (Elt Ideal)) (k : ℕ) (hk : k < 128) (hc : V (Proc.devRef .tc main_v103_2) = fun _ => Scf.iv 0#32 1#32 k)
    (h : Fin 4) (d e : Fin 128) :
    c3 (STEP V) (ix4 0 h d e) = c1 V (ix4 0 h 0 0) * c3 V (ix4 0 h d e) + c0 V (ix5 ⟨k, hk⟩ 0 h d e) := by
  refine (congrFun (STEP_main_v103_3 V) (ix4 0 h d e)).trans ?_
  unfold step_main_v103_3
  refine congrArg₂ (fun x y : EReal => x + y) ?_ (Cert.RetReferenceIdeal.Reads.take_at (c0 V) _ k hk (index_at V k hk hc) _ _ h d e)
  refine congrArg (fun x : EReal => x * c3 V (ix4 0 h d e)) ?_
  show (show S1x4x128x128.Idx → EReal from broadcastInDim _ _ _ (c1 V)) _ = _
  pointwise

/-- The array of the states after a trip, at the trip's chunk -/
theorem step4_on (V : Valuation τ sig (Elt Ideal)) (k : ℕ) (hk : k < 128) (hc : V (Proc.devRef .tc main_v103_2) = fun _ => Scf.iv 0#32 1#32 k)
    (h : Fin 4) (d e : Fin 128) :
    c4 (STEP V) (ix5 ⟨k, hk⟩ 0 h d e) = c3 V (ix4 0 h d e) := by
  refine (congrFun (STEP_main_v103_4 V) _).trans ?_
  unfold step_main_v103_4
  exact Cert.RetReferenceIdeal.Reads.put_on (c4 V) (c3 V) _ k hk (index_at V k hk hc) _ h d e

/-- and at the others. -/
theorem step4_off (V : Valuation τ sig (Elt Ideal)) (k : ℕ) (hk : k < 128) (hc : V (Proc.devRef .tc main_v103_2) = fun _ => Scf.iv 0#32 1#32 k)
    (n : Fin 128) (hn : n.val ≠ k) (h : Fin 4) (d e : Fin 128) :
    c4 (STEP V) (ix5 n 0 h d e) = c4 V (ix5 n 0 h d e) := by
  refine (congrFun (STEP_main_v103_4 V) _).trans ?_
  unfold step_main_v103_4
  exact Cert.RetReferenceIdeal.Reads.put_off (c4 V) (c3 V) _ k hk (index_at V k hk hc) _ n hn h d e

variable (m : (ℓ : Loc nD τ sig) → Buf (Elt Ideal) ℓ) (c : Dev nD)

/-- The contents before the loop, on the buffers it carries, after `k` trips. -/
abbrev tripped (k : ℕ) : Valuation τ sig (Elt Ideal) := STEP^[k] (entryContents preI m c)

theorem tripped_ctr (k : ℕ) : tripped m c k (Proc.devRef .tc main_v103_2) = fun _ => Scf.iv 0#32 1#32 k :=
  (atK_agree m c k main_v103_2 (by decide)).symm.trans (atK_ctr m c k)

theorem tripped_c0 (k : ℕ) : c0 (tripped m c k) = c0 (entryContents preI m c) := by
  induction k with
  | zero => rfl
  | succ k ih =>
    unfold tripped
    rw [Function.iterate_succ_apply']
    exact (STEP_main_v103_0 _).trans ih

theorem tripped_c1 (k : ℕ) : c1 (tripped m c k) = c1 (entryContents preI m c) := by
  induction k with
  | zero => rfl
  | succ k ih =>
    unfold tripped
    rw [Function.iterate_succ_apply']
    exact (STEP_main_v103_1 _).trans ih

/-- The projection and the cotangent before the loop. -/
abbrev P : ℕ → ℕ → EReal := pr (launchContents m c)
abbrev D : ℕ → ℕ → EReal := co (launchContents m c)

/-- After `k` trips the carried state is that before chunk `k`, and those before the first `k` chunks are in the array. -/
theorem tripped_at (k : ℕ) (hk : k ≤ 128) :
    (∀ (h : Fin 4) (d e : Fin 128), c3 (tripped m c k) (ix4 0 h d e) = St (P m c) h.val d.val e.val k)
    ∧ ∀ (n : Fin 128) (h : Fin 4) (d e : Fin 128), n.val < k →
      c4 (tripped m c k) (ix5 n 0 h d e) = St (P m c) h.val d.val e.val n.val := by
  induction k with
  | zero => exact ⟨fun h d e => zero_at (launchContents m c) h d e, fun n h d e hn => absurd hn (Nat.not_lt_zero _)⟩
  | succ k ih =>
    obtain ⟨i3, i4⟩ := ih (by omega)
    have hs : tripped m c (k + 1) = STEP (tripped m c k) := Function.iterate_succ_apply' _ _ _
    rw [hs]
    refine ⟨fun h d e => ?_, fun n h d e hn => ?_⟩
    · rw [step3_at _ k (by omega) (tripped_ctr m c k), tripped_c0, tripped_c1, i3, St]
      exact congrArg₂ (fun x y : EReal => x * St (P m c) h.val d.val e.val k + y) (decay_at (launchContents m c) h)
        (kv_at (launchContents m c) ⟨k, by omega⟩ h d e)
    · by_cases he : n.val = k
      · have e1 : n = ⟨k, by omega⟩ := Fin.ext he
        rw [he, ← i3, e1]
        exact step4_on _ k (by omega) (tripped_ctr m c k) h d e
      · rw [step4_off _ k (by omega) (tripped_ctr m c k) n he]
        exact i4 n h d e (by omega)

/-- After the loop the array holds all the states. -/
theorem states_at (n : Fin 128) (h : Fin 4) (d e : Fin 128) :
    c4 (atK m 128 c) (ix5 n 0 h d e) = St (P m c) h.val d.val e.val n.val := by
  have e1 : c4 (atK m 128 c) = c4 (tripped m c 128) := atK_agree m c 128 main_v103_4 (by decide)
  rw [e1]
  exact (tripped_at m c 128 le_rfl).2 n h d e n.isLt

/-- A buffer that neither the loop's test nor its body writes is, after `k` trips, as before the loop. -/
theorem kept (r : Ref sig .tc) (h : r ∉ condOps_W ++ (while0Ops0_W ++ (while0Ops0_1_W ++ (while0Ops0_2_W ++ while0Ops0_3_W))))
    (k : ℕ) : atK m k c (Proc.devRef .tc r) = entryContents preI m c (Proc.devRef .tc r) := by
  simp only [List.mem_append, not_or] at h
  induction k with
  | zero => rfl
  | succ k ih =>
    refine Eq.trans ?_ ih
    show after while0Ops0_3 (after while0Ops0_2 (after while0Ops0_1 (after while0Ops0 (after condOps (atK m k c))))) _ = _
    rw [after_of_writes_sub while0Ops0_3 _ while0Ops0_3_writes h.2.2.2.2,
      after_of_writes_sub while0Ops0_2 _ while0Ops0_2_writes h.2.2.2.1, after_of_writes_sub while0Ops0_1 _ while0Ops0_1_writes h.2.2.1,
      after_of_writes_sub while0Ops0 _ while0Ops0_writes h.2.1, after_of_writes_sub condOps _ condOps_writes h.1]

end Cert.RetQReferenceIdeal.Reads
-- ==== Proof.RetqRefPost.lean ====
/- The result of the reference for the gradient of the queries, read at an index as the plain formula, and its run. -/
module

public import proofs.«01_k».proof.Proof.RetqRefLoop

@[expose] public section

set_option maxRecDepth 16384
set_option maxHeartbeats 400000

noncomputable section

namespace Cert.RetQReferenceIdeal.Reads

open Cert.RetQReferenceIdeal Cert.RetQReferenceIdeal.Gen Cert.RetQReferenceIdeal.Value Idealize.ShloMosaic Idealize.ShloMosaic.TcCoe Idealize.ShloMosaic.StableHlo Idealize.SL.Sem Cert.RetSpec

/-- The arrays that the lines after the loop read. -/
abbrev cCot (V : Valuation τ sig (Elt Ideal)) : S1x8192x512.Idx → EReal := V (Proc.devRef .tc main_arg1)
abbrev cVal (V : Valuation τ sig (Elt Ideal)) : S1x4x128x64x128.Idx → EReal := V (Proc.devRef .tc main_v53)
abbrev cKey (V : Valuation τ sig (Elt Ideal)) : S1x4x128x64x128.Idx → EReal := V (Proc.devRef .tc main_v51)
abbrev cMat (V : Valuation τ sig (Elt Ideal)) : S1x4x1x64x64.Idx → EReal := V (Proc.devRef .tc main_v75)
abbrev cLog (V : Valuation τ sig (Elt Ideal)) : S4.Idx → EReal := V (Proc.devRef .tc main_v61)
abbrev cPos (V : Valuation τ sig (Elt Ideal)) : S64.Idx → EReal := V (Proc.devRef .tc main_v62)
abbrev cCos (V : Valuation τ sig (Elt Ideal)) : S1x8192x1x64.Idx → EReal := V (Proc.devRef .tc main_v15)
abbrev cSin (V : Valuation τ sig (Elt Ideal)) : S1x8192x1x64.Idx → EReal := V (Proc.devRef .tc main_v17)

/-- What they hold, of the contents `z` after the loop, with the projection `P` and the cotangent `D`. -/
structure Known (z : Valuation τ sig (Elt Ideal)) (P D : ℕ → ℕ → EReal) : Prop where
  st (n : Fin 128) (h : Fin 4) (d e : Fin 128) : c4 z (ix5 n 0 h d e) = St P h.val d.val e.val n.val
  cot (p : Fin 8192) (q : Fin 512) : cCot z (ix3 0 p q) = D p.val q.val
  val (h : Fin 4) (n : Fin 128) (i : Fin 64) (d : Fin 128) : cVal z (ix5 0 h n i d) = vh P (n.val * 64 + i.val) h.val d.val
  key (h : Fin 4) (n : Fin 128) (i : Fin 64) (d : Fin 128) : cKey z (ix5 0 h n i d) = kh P (n.val * 64 + i.val) h.val d.val
  mat (h : Fin 4) (i j : Fin 64) : cMat z (ix5 0 h 0 i j) = dm h.val i.val j.val
  log (h : Fin 4) : cLog z (ix1 h) = lg h.val
  pos (i : Fin 64) : cPos z (ix1 i) = num i.val
  cos (p : Fin 8192) (d : Fin 64) : cCos z (ix4 0 p 0 d) = cosA p.val d.val
  sin (p : Fin 8192) (d : Fin 64) : cSin z (ix4 0 p 0 d) = sinA p.val d.val

section post

variable {z : Valuation τ sig (Elt Ideal)} {P D : ℕ → ℕ → EReal} (K : Known z P D) (p : Fin 8192) (q : Fin 512)

include K

/-- The gradient of the rotated queries, as the lines have it. -/
theorem post_qh (n : Fin 128) (h : Fin 4) (i : Fin 64) (d : Fin 128) (hp : n.val * 64 + i.val < 8192) (hq : ∀ x : Fin 128, h.val * 128 + x.val < 512) :
    (∑ x : Fin 128, cCot z (ix3 0 ⟨n.val * 64 + i.val, hp⟩ ⟨h.val * 128 + x.val, hq x⟩) * c4 z (ix5 n 0 h d x))
        * Ideal.exp (cLog z (ix1 h) * (cPos z (ix1 i) + 1))
      + ∑ x : Fin 64, (∑ y : Fin 128, cCot z (ix3 0 ⟨n.val * 64 + i.val, hp⟩ ⟨h.val * 128 + y.val, hq y⟩) * cVal z (ix5 0 h n x y))
          * cMat z (ix5 0 h 0 i x) * cKey z (ix5 0 h n x d)
    = gradQh P D n.val i.val h.val d.val := by
  unfold gradQh
  refine congrArg₂ (fun x y : EReal => x + y) (congrArg₂ (fun x y : EReal => x * y) (Finset.sum_congr rfl fun x _ => ?_) ?_)
    (Finset.sum_congr rfl fun x _ => congrArg₂ (fun x y : EReal => x * y) (congrArg₂ (fun x y : EReal => x * y) (Finset.sum_congr rfl fun y _ => ?_) (K.mat _ _ _)) (K.key _ _ _ _))
  · exact congrArg₂ (fun x y : EReal => x * y) (K.cot _ _) (K.st _ _ _ _)
  · rw [K.log, K.pos]; rfl
  · exact congrArg₂ (fun x y : EReal => x * y) (K.cot _ _) (K.val _ _ _ _)

/-- The gradient of the queries. -/
theorem post_dq : (after hostOps0_1 z (Proc.devRef .tc main_v144) (ix2 p q) : EReal)
    = gradQ P D (p.val / 64) (p.val % 64) (q.val / 128) (q.val % 128) := by
  after_reads_at
  have hp : p.val / 64 * 64 + p.val % 64 = p.val := by omega
  have hq : q.val / 128 < 4 := by have := q.isLt; omega
  have hn : p.val / 64 < 128 := by have := p.isLt; omega
  have hi : p.val % 64 < 64 := by omega
  have hb : p.val / 64 * 64 + p.val % 64 < 8192 := by have := p.isLt; omega
  have hc : ∀ x : Fin 128, q.val / 128 * 128 + x.val < 512 := fun x => by have := x.isLt; omega
  have R (d : Fin 128) := post_qh K ⟨p.val / 64, hn⟩ ⟨q.val / 128, hq⟩ ⟨p.val % 64, hi⟩ d hb hc
  unfold gradQ
  by_cases hd : q.val % 128 < 64
  · refine (congrArg₂ (fun x y : EReal => x + y) (dif_neg fun h => absurd h.2.1 (by omega)) (dif_pos ⟨hq, hd⟩)).trans ((zero_add _).trans (Eq.trans ?_ (if_pos hd).symm))
    exact congrArg₂ (fun x y : EReal => x + y)
      (congrArg₂ (fun x y : EReal => x * y) (R ⟨64 + q.val % 128, by omega⟩) ((K.sin _ _).trans (congrArg (fun x => sinA x _) hp.symm)))
      (congrArg₂ (fun x y : EReal => x * y) (R ⟨q.val % 128, by omega⟩) ((K.cos _ _).trans (congrArg (fun x => cosA x _) hp.symm)))
  · have h64 : 64 + (q.val % 128 - 64) = q.val % 128 := by omega
    refine (congrArg₂ (fun x y : EReal => x + y) (dif_pos ⟨hq, by omega, by omega⟩) (dif_neg fun h => hd h.2)).trans ((add_zero _).trans (Eq.trans ?_ (if_neg hd).symm))
    refine congrArg₂ (fun x y : EReal => x + y)
      (congrArg₂ (fun x y : EReal => x * y) ((R ⟨64 + (q.val % 128 - 64), by omega⟩).trans ?_) ((K.cos _ _).trans (congrArg (fun x => cosA x _) hp.symm)))
      (congrArg₂ (fun x y : EReal => x * y) (congrArg (fun x : EReal => -x) (R ⟨q.val % 128 - 64, by omega⟩)) ((K.sin _ _).trans (congrArg (fun x => sinA x _) hp.symm)))
    exact congrArg (gradQh P D (p.val / 64) (p.val % 64) (q.val / 128)) h64

end post

variable (m : (ℓ : Loc nD τ sig) → Buf (Elt Ideal) ℓ) (c : Dev nD)

/-- The contents after the loop. -/
def Z : Valuation τ sig (Elt Ideal) := after condOps (atK m 128 c)

theorem Z_eq : Z m c = after condOps (atK m 128 c) := rfl

theorem Z_kept (r : Ref sig .tc) (h : r ∉ condOps_W ++ (while0Ops0_W ++ (while0Ops0_1_W ++ (while0Ops0_2_W ++ while0Ops0_3_W)))) :
    Z m c (Proc.devRef .tc r) = after hostOps0 (launchContents m c) (Proc.devRef .tc r) := by
  rw [Z_eq]
  exact (after_of_writes_sub condOps _ condOps_writes fun hm => h (List.mem_append_left _ hm)).trans (kept m c r h 128)

theorem Z_arg0 : Z m c (Proc.devRef .tc main_arg0) = m ((c.tc : Thread nD τ).loc main_arg0) :=
  (Z_kept m c main_arg0 (by decide +kernel)).trans (after_of_writes_sub hostOps0 _ hostOps0_writes (by decide +kernel))

theorem Z_arg1 : Z m c (Proc.devRef .tc main_arg1) = m ((c.tc : Thread nD τ).loc main_arg1) :=
  (Z_kept m c main_arg1 (by decide +kernel)).trans (after_of_writes_sub hostOps0 _ hostOps0_writes (by decide +kernel))

/-- What is known after the loop. -/
theorem known : Known (Z m c) (P m c) (D m c) where
  st n h d e := by
    have e1 : c4 (Z m c) = c4 (atK m 128 c) := by rw [Z_eq]; exact cond_keeps (atK m 128 c) main_v103_4 (by decide)
    exact (congrFun e1 _).trans (states_at m c n h d e)
  cot p q := (congrFun (Z_arg1 m c) _).trans (co_at (launchContents m c) p q)
  val h n i d := (congrFun (Z_kept m c main_v53 (by decide +kernel)) _).trans (v53_at (launchContents m c) h n i d)
  key h n i d := (congrFun (Z_kept m c main_v51 (by decide +kernel)) _).trans (v51_at (launchContents m c) h n i d)
  mat h i j := (congrFun (Z_kept m c main_v75 (by decide +kernel)) _).trans (v75_at (launchContents m c) h i j)
  log h := (congrFun (Z_kept m c main_v61 (by decide +kernel)) _).trans (v61_at (launchContents m c) h)
  pos i := (congrFun (Z_kept m c main_v62 (by decide +kernel)) _).trans (v62_at (launchContents m c) i)
  cos p d := (congrFun (Z_kept m c main_v15 (by decide +kernel)) _).trans (v15_at (launchContents m c) p d)
  sin p d := (congrFun (Z_kept m c main_v17 (by decide +kernel)) _).trans (v17_at (launchContents m c) p d)

/-- The gradient of the queries that the reference leaves. -/
theorem dq_at (p : Fin 8192) (q : Fin 512) :
    (finalContents condOps preI bodyI postI 128 m c (Proc.devRef .tc main_v144) (ix2 p q) : EReal)
      = gradQ (P m c) (D m c) (p.val / 64) (p.val % 64) (q.val / 128) (q.val % 128) :=
  post_dq (known m c) p q

/-- The arguments are kept. -/
theorem kept_arg0 : finalContents condOps preI bodyI postI 128 m c (Proc.devRef .tc main_arg0) = m ((c.tc : Thread nD τ).loc main_arg0) := by
  show after hostOps0_1 (Z m c) (Proc.devRef .tc main_arg0) = _
  refine Eq.trans ?_ (Z_arg0 m c)
  refine after_of_forall_not_mem (b := Proc.devRef .tc main_arg0) _ _ (List.forall_iff_forall_mem.mp ?_)
  simp only [hostOps0_1, List.Forall, nullary_writes, unary_writes, binary_writes, reshape_writes, Finset.mem_singleton]
  repeat' apply And.intro
  all_goals exact devRef_ne_of_ne (by decide)

theorem kept_arg1 : finalContents condOps preI bodyI postI 128 m c (Proc.devRef .tc main_arg1) = m ((c.tc : Thread nD τ).loc main_arg1) := by
  show after hostOps0_1 (Z m c) (Proc.devRef .tc main_arg1) = _
  refine Eq.trans ?_ (Z_arg1 m c)
  refine after_of_forall_not_mem (b := Proc.devRef .tc main_arg1) _ _ (List.forall_iff_forall_mem.mp ?_)
  simp only [hostOps0_1, List.Forall, nullary_writes, unary_writes, binary_writes, reshape_writes, Finset.mem_singleton]
  repeat' apply And.intro
  all_goals exact devRef_ne_of_ne (by decide)

/-- What the reference leaves of the gradient. -/
abbrev resQ : FVec Ideal S8192x512 .bf16 := finalContents condOps preI bodyI postI 128 m c (Proc.devRef .tc main_v144)

/-- The reference's run: its result and its arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v144) = resQ m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run (defs (F := Ideal)) _ _).mono
    (fun r h c => ⟨h c main_v144 rfl, (h c main_arg0 rfl).trans (kept_arg0 m c), (h c main_arg1 rfl).trans (kept_arg1 m c)⟩)
    (run_fold m g)

end Cert.RetQReferenceIdeal.Reads
-- ==== Proof.RetQ.lean ====
module

public import proofs.«01_k».proof.Defs
public import proofs.«01_k».proof.Proof.Gen.RetQ
public import proofs.«01_k».proof.Proof.Gen.RetQIdeal
public import proofs.«01_k».proof.Proof.Ret
public import proofs.«01_k».proof.Proof.RetqKernel
public import proofs.«01_k».proof.Proof.RetqRefPost

/-! # The chunked retention: the claims about its backward call's gradient of the queries

The program is the one whose gradients of the keys and the values `Ret` claims, with another of its results; its runs are
those of that program. -/

@[expose] public section

set_option maxRecDepth 100000
set_option maxHeartbeats 4000000

noncomputable section

namespace Cert.RetQProof

open Idealize.ShloMosaic Idealize.ShloMosaic.TcCoe Idealize.SL.Sem Cert.RetSpec

/-- The kernel runs and leaves its arguments alone: -/
theorem frame_eq : Cert.quiescent_RetQ = Cert.quiescent_Ret := by sl_kernel_rfl
theorem frame : Cert.quiescent_RetQ := frame_eq.mpr Cert.RetProof.frame

/-- so does its ideal reading. -/
theorem frame_ideal_eq : Cert.quiescent_RetQIdeal = Cert.quiescent_RetIdeal := by sl_kernel_rfl
theorem frame_ideal : Cert.quiescent_RetQIdeal := frame_ideal_eq.mpr Cert.RetProof.frame_ideal

/-- The reference runs and leaves its arguments alone; it has no counter. -/
theorem frame_reference : Cert.quiescent_RetQReferenceIdeal := fun m g _ =>
  (θ_run Cert.RetQReferenceIdeal.defs _ _).mono
    (fun r h => ⟨fun c => (h c).2, Idealize.ShloMosaic.sem_eq_zero_of_no_sems (by decide) r.2⟩)
    (Cert.RetQReferenceIdeal.Reads.run m g)

/-- An array that has the gradient of the queries, entry by entry, of a projection and a cotangent. -/
def IsGradQ (x : FVec Ideal ⟨3, ![1, 8192, 3072]⟩ .f32) (y : FVec Ideal ⟨3, ![1, 8192, 512]⟩ .f32) (z : FVec Ideal ⟨2, ![8192, 512]⟩ .bf16) : Prop :=
  ∀ (p : Fin 8192) (q : Fin 512), z (ix2 p q) = gradQ (at3 x) (at3 y) (p.val / 64) (p.val % 64) (q.val / 128) (q.val % 128)

/-- The backward call leaves the gradient of the queries and its arguments, said of the program of `Ret` -/
def Runs : Prop := ∀ (m : (ℓ : Loc Cert.RetIdeal.nD Cert.RetIdeal.τ Cert.RetIdeal.sig) → Buf (Elt Ideal) ℓ) (g : Dev Cert.RetIdeal.nD → PrngReg)
  (v : (c : Dev Cert.RetIdeal.nD) → Buf (Elt Ideal) ((c.tc : Thread Cert.RetIdeal.nD Cert.RetIdeal.τ).loc Cert.RetIdeal.main_v140_0)),
  (∀ c : Dev Cert.RetIdeal.nD, IsGradQ (m ((c.tc : Thread Cert.RetIdeal.nD Cert.RetIdeal.τ).loc Cert.RetIdeal.main_arg0))
    (m ((c.tc : Thread Cert.RetIdeal.nD Cert.RetIdeal.τ).loc Cert.RetIdeal.main_arg1)) (v c)) →
  θ_run (Cert.RetIdeal.defs (F := Ideal)) (onTc (τ := Cert.RetIdeal.τ) (Cert.RetIdeal.main (F := Ideal))) ⟨m, fun _ => 0, g⟩ (fun r => ∀ c : Dev Cert.RetIdeal.nD,
    r.2.mem ((c.tc : Thread Cert.RetIdeal.nD Cert.RetIdeal.τ).loc Cert.RetIdeal.main_v140_0) = v c
    ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
    ∧ r.2.mem ((c.tc : Thread Cert.RetIdeal.nD Cert.RetIdeal.τ).loc Cert.RetIdeal.main_arg1) = m ((c.tc : Thread Cert.RetIdeal.nD Cert.RetIdeal.τ).loc Cert.RetIdeal.main_arg1))

/-- and of the program of `RetQ`. -/
def RunsQ : Prop := ∀ (m : (ℓ : Loc Cert.RetQIdeal.nD Cert.RetQIdeal.τ Cert.RetQIdeal.sig) → Buf (Elt Ideal) ℓ) (g : Dev Cert.RetQIdeal.nD → PrngReg)
  (v : (c : Dev Cert.RetQIdeal.nD) → Buf (Elt Ideal) ((c.tc : Thread Cert.RetQIdeal.nD Cert.RetQIdeal.τ).loc Cert.RetQIdeal.main_v140_0)),
  (∀ c : Dev Cert.RetQIdeal.nD, IsGradQ (m ((c.tc : Thread Cert.RetQIdeal.nD Cert.RetQIdeal.τ).loc Cert.RetQIdeal.main_arg0))
    (m ((c.tc : Thread Cert.RetQIdeal.nD Cert.RetQIdeal.τ).loc Cert.RetQIdeal.main_arg1)) (v c)) →
  θ_run (Cert.RetQIdeal.defs (F := Ideal)) (onTc (τ := Cert.RetQIdeal.τ) (Cert.RetQIdeal.main (F := Ideal))) ⟨m, fun _ => 0, g⟩ (fun r => ∀ c : Dev Cert.RetQIdeal.nD,
    r.2.mem ((c.tc : Thread Cert.RetQIdeal.nD Cert.RetQIdeal.τ).loc Cert.RetQIdeal.main_v140_0) = v c
    ∧ r.2.mem ((c.tc : Thread Cert.RetQIdeal.nD Cert.RetQIdeal.τ).loc Cert.RetQIdeal.main_arg0) = m ((c.tc : Thread Cert.RetQIdeal.nD Cert.RetQIdeal.τ).loc Cert.RetQIdeal.main_arg0)
    ∧ r.2.mem ((c.tc : Thread Cert.RetQIdeal.nD Cert.RetQIdeal.τ).loc Cert.RetQIdeal.main_arg1) = m ((c.tc : Thread Cert.RetQIdeal.nD Cert.RetQIdeal.τ).loc Cert.RetQIdeal.main_arg1))

/-- The two are one, -/
theorem runs_eq : RunsQ = Runs := by sl_kernel_rfl

/-- and it holds. -/
theorem runs : Runs := fun m g v hv =>
  (θ_run Cert.RetIdeal.defs _ _).mono (fun r h c => ⟨(h c).1.trans (Cert.RetIdeal.Unit.final_dq m c (v c) (hv c)), (h c).2.2.2⟩)
    (Cert.RetIdeal.Value.run_blocks m g)

/-- The kernel leaves the gradient of the queries, whatever the arguments. -/
theorem algebraic : Cert.algebraic_RetQIdeal_RetQReferenceIdeal := by
  intro m g m' g' _ hagree
  refine ⟨Cert.RetQReferenceIdeal.Reads.resQ m', runs_eq.mpr runs m g _ fun c p q => ?_, Cert.RetQReferenceIdeal.Reads.run m' g'⟩
  have hP : Cert.RetQReferenceIdeal.Reads.P m' c = at3 (b := 8192) (c := 3072) (m ((c.tc : Thread Cert.RetQIdeal.nD Cert.RetQIdeal.τ).loc Cert.RetQIdeal.main_arg0)) :=
    congrArg (fun X => at3 (b := 8192) (c := 3072) X) (hagree c).1
  have hD : Cert.RetQReferenceIdeal.Reads.D m' c = at3 (b := 8192) (c := 512) (m ((c.tc : Thread Cert.RetQIdeal.nD Cert.RetQIdeal.τ).loc Cert.RetQIdeal.main_arg1)) :=
    congrArg (fun X => at3 (b := 8192) (c := 512) X) (hagree c).2
  rw [← hP, ← hD]
  exact Cert.RetQReferenceIdeal.Reads.dq_at m' c p q

end Cert.RetQProof

end
-- ==== Proof.RetfUnits.lean ====
/- The body of the retention's forward kernel as a recursion: one grid point works through 32 units, chunk by chunk and the four
   heads of each chunk in turn; each unit saves its head's state, writes its part of the retention and replaces the state. Here
   the units are stated once, and the pieces that the kernel's run leaves in its buffers are shown to be those of the recursion. -/
module

public import proofs.«01_k».proof.Proof.Gen.RetFwdIdeal.Frame.RunA
public import proofs.«01_k».proof.Proof.Gen.RetFwdIdeal.Frame.RunB

@[expose] public section

set_option maxRecDepth 16384

noncomputable section

namespace Cert.RetFwdIdeal.Unit

open Cert.RetFwdIdeal Cert.RetFwdIdeal.Gen Idealize.ShloMosaic Idealize.ShloMosaic.TcCoe Idealize.SL.Sem

variable {F : FTy → Type} [FloatOps F]

/-- Unit `k`'s rows and head lie in the blocks of rows by heads. -/
theorem inb_rows (k : ℕ) : ∀ a, (![64 * (k / 4 % 8), 128 * (k % 4)] : Fin 2 → ℕ) a + S64x128.size a ≤ S512x512.size a := by
  intro a
  have h := Nat.mod_lt k (by decide : 0 < 4)
  fin_cases a
  · show 64 * (k / 4 % 8) + 64 ≤ 512; omega
  · show 128 * (k % 4) + 128 ≤ 512; omega

/-- Unit `k`'s rows lie in the tables by positions. -/
theorem inb_pos (k : ℕ) : ∀ a, (![64 * (k / 4 % 8), 0] : Fin 2 → ℕ) a + S64x128.size a ≤ S512x128.size a := by
  intro a
  fin_cases a
  · show 64 * (k / 4 % 8) + 64 ≤ 512; omega
  · show 0 + 128 ≤ 128; omega

/-- Unit `k`'s head lies in the tables by heads: decays between positions, -/
theorem inb_mat (k : ℕ) : ∀ a, (![k % 4, 0, 0] : Fin 3 → ℕ) a + S1x64x64.size a ≤ S4x64x64.size a := by
  intro a
  have h := Nat.mod_lt k (by decide : 0 < 4)
  fin_cases a
  · show k % 4 + 1 ≤ 4; omega
  · show 0 + 64 ≤ 64; omega
  · show 0 + 64 ≤ 64; omega

/-- decays of positions, -/
theorem inb_dec (k : ℕ) : ∀ a, (![k % 4, 0, 0] : Fin 3 → ℕ) a + S1x64x128.size a ≤ S4x64x128.size a := by
  intro a
  have h := Nat.mod_lt k (by decide : 0 < 4)
  fin_cases a
  · show k % 4 + 1 ≤ 4; omega
  · show 0 + 64 ≤ 64; omega
  · show 0 + 128 ≤ 128; omega

/-- and states. -/
theorem inb_st (k : ℕ) : ∀ a, (![k % 4, 0, 0] : Fin 3 → ℕ) a + S1x128x128.size a ≤ S4x128x128.size a := by
  intro a
  have h := Nat.mod_lt k (by decide : 0 < 4)
  fin_cases a
  · show k % 4 + 1 ≤ 4; omega
  · show 0 + 128 ≤ 128; omega
  · show 0 + 128 ≤ 128; omega

/-- Unit `k`'s chunk and head lie in the saved states. -/
theorem inb_saved (k : ℕ) : ∀ a, (![k % 4, k / 4 % 8, 0, 0] : Fin 4 → ℕ) a + S1x1x128x128.size a ≤ S4x8x128x128.size a := by
  intro a
  have h := Nat.mod_lt k (by decide : 0 < 4)
  fin_cases a
  · show k % 4 + 1 ≤ 4; omega
  · show k / 4 % 8 + 1 ≤ 8; omega
  · show 0 + 128 ≤ 128; omega
  · show 0 + 128 ≤ 128; omega

section loads

/-- Unit `k`'s rows and head of a block of rows by heads. -/
abbrev rows {e : EltTy} (a : Memref sig .tc .vmem S512x512 e) (h : a.IsWhole) (x : Vec F S512x512 e) (k : ℕ) : Vec F S64x128 e :=
  View.readAt (Elt F) a.view (Rect.unit (s := S512x512) ![64 * (k / 4 % 8), 128 * (k % 4)] S64x128.size (inb_rows k)).toLoadRect (h.unread x)

/-- Unit `k`'s rows of a table by positions. -/
abbrev pos (a : Memref sig .tc .vmem S512x128 .f32) (h : a.IsWhole) (x : Vec F S512x128 .f32) (k : ℕ) : Vec F S64x128 .f32 :=
  View.readAt (Elt F) a.view (Rect.unit (s := S512x128) ![64 * (k / 4 % 8), 0] S64x128.size (inb_pos k)).toLoadRect (h.unread x)

/-- Unit `k`'s head of the decays between positions. -/
abbrev mat (a : Memref sig .tc .vmem S4x64x64 .f32) (h : a.IsWhole) (x : Vec F S4x64x64 .f32) (k : ℕ) : Vec F S1x64x64 .f32 :=
  View.readAt (Elt F) a.view (Rect.unit (s := S4x64x64) ![k % 4, 0, 0] S1x64x64.size (inb_mat k)).toLoadRect (h.unread x)

/-- Unit `k`'s head of the decays of positions. -/
abbrev dec (a : Memref sig .tc .vmem S4x64x128 .f32) (h : a.IsWhole) (x : Vec F S4x64x128 .f32) (k : ℕ) : Vec F S1x64x128 .f32 :=
  View.readAt (Elt F) a.view (Rect.unit (s := S4x64x128) ![k % 4, 0, 0] S1x64x128.size (inb_dec k)).toLoadRect (h.unread x)

/-- Unit `k`'s head of an array of states. -/
abbrev st (a : Memref sig .tc .vmem S4x128x128 .f32) (h : a.IsWhole) (x : Vec F S4x128x128 .f32) (k : ℕ) : Vec F S1x128x128 .f32 :=
  View.readAt (Elt F) a.view (Rect.unit (s := S4x128x128) ![k % 4, 0, 0] S1x128x128.size (inb_st k)).toLoadRect (h.unread x)

end loads

variable (a1 : Memref sig .tc .vmem S512x512 .f32) (h1 : a1.IsWhole) (a2 : Memref sig .tc .vmem S512x512 .f32) (h2 : a2.IsWhole)
  (a3 : Memref sig .tc .vmem S512x512 .f32) (h3 : a3.IsWhole) (a4 : Memref sig .tc .vmem S512x128 .f32) (h4 : a4.IsWhole)
  (a5 : Memref sig .tc .vmem S512x128 .f32) (h5 : a5.IsWhole) (a6 : Memref sig .tc .vmem S4x64x64 .f32) (h6 : a6.IsWhole)
  (a7 : Memref sig .tc .vmem S4x64x128 .f32) (h7 : a7.IsWhole) (a8 : Memref sig .tc .vmem S4x64x128 .f32) (h8 : a8.IsWhole)
  (a9 : Memref sig .tc .vmem S4x128x128 .f32) (h9 : a9.IsWhole) (a12 : Memref sig .tc .vmem S4x128x128 .f32) (h12 : a12.IsWhole)
  (x0 x1 x2 : Vec F S512x512 .f32) (x3 x4 : Vec F S512x128 .f32) (x5 : Vec F S4x64x64 .f32) (x6 x7 : Vec F S4x64x128 .f32)
  (x8 : Vec F S4x128x128 .f32) (xs : Vec F S4x128x128 .f32)

/-- Unit `k`'s rotated queries, -/
abbrev qrot (k : ℕ) : FVec F S64x128 .f32 := k0_pay4 (pos a4 h4 x3 k) (pos a5 h5 x4 k) (rows a1 h1 x0 k)

/-- and its rotated and scaled keys. -/
abbrev krot (k : ℕ) : FVec F S64x128 .f32 := k0_pay5 (pos a4 h4 x3 k) (pos a5 h5 x4 k) (rows a2 h2 x1 k)

/-- The state of unit `k`'s head after the unit, of the state `g` before. -/
def next (k : ℕ) (g : Vec F S1x128x128 .f32) : Vec F S1x128x128 .f32 :=
  k0_pay12 (krot a2 h2 a4 h4 a5 h5 x1 x3 x4 k) (k0_pay6 (rows a3 h3 x2 k)) (k0_pay7 g) (st a9 h9 x8 k) (dec a8 h8 x7 k)

/-- Unit `k`'s part of the retention, of the state `g` before the unit. -/
def ret (k : ℕ) (g : Vec F S1x128x128 .f32) : Vec F S64x128 .f32 :=
  k0_pay11 (qrot a1 h1 a4 h4 a5 h5 x0 x3 x4 k) (k0_pay6 (rows a3 h3 x2 k)) (k0_pay8 g)
    (k0_pay10 (pos a4 h4 x3 k) (pos a5 h5 x4 k) (rows a1 h1 x0 k) (rows a2 h2 x1 k)) (mat a6 h6 x5 k) (dec a7 h7 x6 k)

/-- A unit's part of the retention as a piece of the block. -/
abbrev piece (k : ℕ) (w : Vec F S64x128 .f32) : View.Piece (Elt F) S512x512 .f32 :=
  ⟨Rect.unit ![64 * (k / 4 % 8), 128 * (k % 4)] S64x128.size (inb_rows k), w⟩

/-- A unit's saved state as a piece of the block. -/
abbrev savedPiece (k : ℕ) (w : Vec F S1x1x128x128 .bf16) : View.Piece (Elt F) S4x8x128x128 .bf16 :=
  ⟨Rect.unit ![k % 4, k / 4 % 8, 0, 0] S1x1x128x128.size (inb_saved k), w⟩

/-- A head's state as a piece of the states. -/
abbrev stPiece (k : ℕ) (w : Vec F S1x128x128 .f32) : View.Piece (Elt F) S4x128x128 .f32 :=
  ⟨Rect.unit ![k % 4, 0, 0] S1x128x128.size (inb_st k), w⟩

/-- What unit `k` reads of the states after the pieces `L`. -/
abbrev cov (L : List (View.Piece (Elt F) S4x128x128 .f32)) (k : ℕ) : Vec F S1x128x128 .f32 :=
  a12.view.readCov L (Rect.unit (s := S4x128x128) ![k % 4, 0, 0] S1x128x128.size (inb_st k)).toLoadRect

/-- The pieces of the states after `k` units of the first grid point, which begins with states of zeros. -/
def stA : ℕ → List (View.Piece (Elt F) S4x128x128 .f32)
  | 0 => [⟨Rect.unit ![0, 0, 0] S4x128x128.size inb_S4x128x128_S4x128x128_0_0_0, k0_pay1⟩]
  | k + 1 => stPiece k (next a2 h2 a3 h3 a4 h4 a5 h5 a8 h8 a9 h9 x1 x2 x3 x4 x7 x8 k (cov a12 (stA k) k)) :: stA k

/-- What unit `k` of a later grid point reads: the states that the point before left, for the first unit of each head, else
    what the point's units have left. -/
def rdB (k : ℕ) (L : List (View.Piece (Elt F) S4x128x128 .f32)) : Vec F S1x128x128 .f32 :=
  match k with
  | 0 => st a12 h12 xs 0
  | 1 => st a12 h12 xs 1
  | 2 => st a12 h12 xs 2
  | 3 => st a12 h12 xs 3
  | k + 4 => cov a12 L (k + 4)

/-- The pieces of the states after `k` units of a later grid point, over the states that the point before left. -/
def stB : ℕ → List (View.Piece (Elt F) S4x128x128 .f32)
  | 0 => []
  | k + 1 => stPiece k (next a2 h2 a3 h3 a4 h4 a5 h5 a8 h8 a9 h9 x1 x2 x3 x4 x7 x8 k (rdB a12 h12 xs k (stB k))) :: stB k

/-- The pieces of the retention after `k` units, of the units' parts, -/
def outs (w : ℕ → Vec F S64x128 .f32) : ℕ → List (View.Piece (Elt F) S512x512 .f32)
  | 0 => []
  | k + 1 => piece k (w k) :: outs w k

/-- and of the saved states, of the states that the units found. -/
def saves (w : ℕ → Vec F S1x128x128 .f32) : ℕ → List (View.Piece (Elt F) S4x8x128x128 .bf16)
  | 0 => []
  | k + 1 => savedPiece k (k0_pay9 (w k)) :: saves w k

end Cert.RetFwdIdeal.Unit
-- ==== Proof.RetfRun.lean ====
/- The pieces that the retention's forward kernel leaves at a grid point are the recursion's. -/
module

public import proofs.«01_k».proof.Proof.RetfUnits

@[expose] public section

set_option maxRecDepth 16384

noncomputable section

namespace Cert.RetFwdIdeal.Unit

open Cert.RetFwdIdeal Cert.RetFwdIdeal.Gen Idealize.ShloMosaic Idealize.ShloMosaic.TcCoe Idealize.SL.Sem

variable {F : FTy → Type} [FloatOps F]

/-- The pieces of the retention at a first grid point. -/
theorem run_A_ret (c i a1 h1 a2 h2 a3 h3 a4 h4 a5 h5 a6 h6 a7 h7 a8 h8 a9 h9 a10 h10 a11 h11 a12 h12 hc x0 x1 x2 x3 x4 x5 x6 x7 x8) :
    (kernelRun0_A (F := F) c i a1 h1 a2 h2 a3 h3 a4 h4 a5 h5 a6 h6 a7 h7 a8 h8 a9 h9 a10 h10 a11 h11 a12 h12 hc x0 x1 x2 x3 x4 x5 x6 x7 x8).1
      = outs (fun k => ret a1 h1 a2 h2 a3 h3 a4 h4 a5 h5 a6 h6 a7 h7 x0 x1 x2 x3 x4 x5 x6 k (cov a12 (stA a2 h2 a3 h3 a4 h4 a5 h5 a8 h8 a9 h9 a12 x1 x2 x3 x4 x7 x8 k) k)) 32 := rfl

/-- The pieces of the saved states at a first grid point. -/
theorem run_A_saved (c i a1 h1 a2 h2 a3 h3 a4 h4 a5 h5 a6 h6 a7 h7 a8 h8 a9 h9 a10 h10 a11 h11 a12 h12 hc x0 x1 x2 x3 x4 x5 x6 x7 x8) :
    (kernelRun0_A (F := F) c i a1 h1 a2 h2 a3 h3 a4 h4 a5 h5 a6 h6 a7 h7 a8 h8 a9 h9 a10 h10 a11 h11 a12 h12 hc x0 x1 x2 x3 x4 x5 x6 x7 x8).2.1
      = saves (fun k => cov a12 (stA a2 h2 a3 h3 a4 h4 a5 h5 a8 h8 a9 h9 a12 x1 x2 x3 x4 x7 x8 k) k) 32 := rfl

/-- The pieces of the states at a first grid point. -/
theorem run_A_st (c i a1 h1 a2 h2 a3 h3 a4 h4 a5 h5 a6 h6 a7 h7 a8 h8 a9 h9 a10 h10 a11 h11 a12 h12 hc x0 x1 x2 x3 x4 x5 x6 x7 x8) :
    (kernelRun0_A (F := F) c i a1 h1 a2 h2 a3 h3 a4 h4 a5 h5 a6 h6 a7 h7 a8 h8 a9 h9 a10 h10 a11 h11 a12 h12 hc x0 x1 x2 x3 x4 x5 x6 x7 x8).2.2.1
      = stA a2 h2 a3 h3 a4 h4 a5 h5 a8 h8 a9 h9 a12 x1 x2 x3 x4 x7 x8 32 := rfl

/-- The pieces of the retention at a later grid point. -/
theorem run_B_ret (c i a1 h1 a2 h2 a3 h3 a4 h4 a5 h5 a6 h6 a7 h7 a8 h8 a9 h9 a10 h10 a11 h11 a12 h12 hc x0 x1 x2 x3 x4 x5 x6 x7 x8 xs) :
    (kernelRun0_B (F := F) c i a1 h1 a2 h2 a3 h3 a4 h4 a5 h5 a6 h6 a7 h7 a8 h8 a9 h9 a10 h10 a11 h11 a12 h12 hc x0 x1 x2 x3 x4 x5 x6 x7 x8 xs).1
      = outs (fun k => ret a1 h1 a2 h2 a3 h3 a4 h4 a5 h5 a6 h6 a7 h7 x0 x1 x2 x3 x4 x5 x6 k (rdB a12 h12 xs k (stB a2 h2 a3 h3 a4 h4 a5 h5 a8 h8 a9 h9 a12 h12 x1 x2 x3 x4 x7 x8 xs k))) 32 := rfl

/-- The pieces of the saved states at a later grid point. -/
theorem run_B_saved (c i a1 h1 a2 h2 a3 h3 a4 h4 a5 h5 a6 h6 a7 h7 a8 h8 a9 h9 a10 h10 a11 h11 a12 h12 hc x0 x1 x2 x3 x4 x5 x6 x7 x8 xs) :
    (kernelRun0_B (F := F) c i a1 h1 a2 h2 a3 h3 a4 h4 a5 h5 a6 h6 a7 h7 a8 h8 a9 h9 a10 h10 a11 h11 a12 h12 hc x0 x1 x2 x3 x4 x5 x6 x7 x8 xs).2.1
      = saves (fun k => rdB a12 h12 xs k (stB a2 h2 a3 h3 a4 h4 a5 h5 a8 h8 a9 h9 a12 h12 x1 x2 x3 x4 x7 x8 xs k)) 32 := rfl

/-- The pieces of the states at a later grid point. -/
theorem run_B_st (c i a1 h1 a2 h2 a3 h3 a4 h4 a5 h5 a6 h6 a7 h7 a8 h8 a9 h9 a10 h10 a11 h11 a12 h12 hc x0 x1 x2 x3 x4 x5 x6 x7 x8 xs) :
    (kernelRun0_B (F := F) c i a1 h1 a2 h2 a3 h3 a4 h4 a5 h5 a6 h6 a7 h7 a8 h8 a9 h9 a10 h10 a11 h11 a12 h12 hc x0 x1 x2 x3 x4 x5 x6 x7 x8 xs).2.2.1
      = stB a2 h2 a3 h3 a4 h4 a5 h5 a8 h8 a9 h9 a12 h12 x1 x2 x3 x4 x7 x8 xs 32 := rfl

end Cert.RetFwdIdeal.Unit
-- ==== Proof.RetfRead.lean ====
/- The retention's forward kernel at one grid point, free of the buffers: what the point's units compute of the blocks' contents,
   what the states hold after each unit, and what the point leaves in the retention's and the saved states' blocks and in the states. -/
module

public import proofs.«01_k».proof.Proof.RetfRun
public import Idealize.ShloMosaic.Lib.WholeRead
public import Idealize.ShloMosaic.Lib.Pointwise

@[expose] public section

set_option maxRecDepth 16384

noncomputable section

namespace Cert.RetFwdIdeal.Unit

open Cert.RetFwdIdeal Cert.RetFwdIdeal.Gen Idealize.ShloMosaic Idealize.ShloMosaic.TcCoe Idealize.SL.Sem

variable {F : FTy → Type} [FloatOps F]

/-- Where unit `k`'s entry `j` lies in a block of rows by heads, -/
abbrev rowsIx (k : ℕ) (j : S64x128.Idx) : S512x512.Idx :=
  (Rect.unit (s := S512x512) ![64 * (k / 4 % 8), 128 * (k % 4)] S64x128.size (inb_rows k)).emb j
/-- in a table by positions, -/
abbrev posIx (k : ℕ) (j : S64x128.Idx) : S512x128.Idx :=
  (Rect.unit (s := S512x128) ![64 * (k / 4 % 8), 0] S64x128.size (inb_pos k)).emb j
/-- in the decays between positions, -/
abbrev matIx (k : ℕ) (j : S1x64x64.Idx) : S4x64x64.Idx :=
  (Rect.unit (s := S4x64x64) ![k % 4, 0, 0] S1x64x64.size (inb_mat k)).emb j
/-- in the decays of positions, -/
abbrev decIx (k : ℕ) (j : S1x64x128.Idx) : S4x64x128.Idx :=
  (Rect.unit (s := S4x64x128) ![k % 4, 0, 0] S1x64x128.size (inb_dec k)).emb j
/-- in an array of states, -/
abbrev stIx (k : ℕ) (j : S1x128x128.Idx) : S4x128x128.Idx :=
  (Rect.unit (s := S4x128x128) ![k % 4, 0, 0] S1x128x128.size (inb_st k)).emb j
/-- and in the saved states. -/
abbrev savedIx (k : ℕ) (j : S1x1x128x128.Idx) : S4x8x128x128.Idx :=
  (Rect.unit (s := S4x8x128x128) ![k % 4, k / 4 % 8, 0, 0] S1x1x128x128.size (inb_saved k)).emb j

variable (x0 x1 x2 : Vec F S512x512 .f32) (x3 x4 : Vec F S512x128 .f32) (x5 : Vec F S4x64x64 .f32) (x6 x7 : Vec F S4x64x128 .f32)
  (x8 : Vec F S4x128x128 .f32) (xs : Vec F S4x128x128 .f32)

/-- The state after unit `k`, of the state `g` before, from the blocks' contents. -/
def nextOf (k : ℕ) (g : Vec F S1x128x128 .f32) : Vec F S1x128x128 .f32 :=
  k0_pay12 (k0_pay5 (fun j => x3 (posIx k j)) (fun j => x4 (posIx k j)) fun j => x1 (rowsIx k j)) (k0_pay6 fun j => x2 (rowsIx k j))
    (k0_pay7 g) (fun j => x8 (stIx k j)) fun j => x7 (decIx k j)

/-- Unit `k`'s part of the retention, from the blocks' contents and the state `g` before the unit. -/
def retOf (k : ℕ) (g : Vec F S1x128x128 .f32) : Vec F S64x128 .f32 :=
  k0_pay11 (k0_pay4 (fun j => x3 (posIx k j)) (fun j => x4 (posIx k j)) fun j => x0 (rowsIx k j)) (k0_pay6 fun j => x2 (rowsIx k j)) (k0_pay8 g)
    (k0_pay10 (fun j => x3 (posIx k j)) (fun j => x4 (posIx k j)) (fun j => x0 (rowsIx k j)) fun j => x1 (rowsIx k j))
    (fun j => x5 (matIx k j)) fun j => x6 (decIx k j)

/-- What the states hold after `k` units over the states `xs`. -/
def states : ℕ → Vec F S4x128x128 .f32
  | 0 => xs
  | k + 1 => (Rect.unit (s := S4x128x128) ![k % 4, 0, 0] S1x128x128.size (inb_st k)).overlay (states k)
      (nextOf x1 x2 x3 x4 x7 x8 k fun j => states k (stIx k j))

section buffers

variable (a1 : Memref sig .tc .vmem S512x512 .f32) (h1 : a1.IsWhole) (a2 : Memref sig .tc .vmem S512x512 .f32) (h2 : a2.IsWhole)
  (a3 : Memref sig .tc .vmem S512x512 .f32) (h3 : a3.IsWhole) (a4 : Memref sig .tc .vmem S512x128 .f32) (h4 : a4.IsWhole)
  (a5 : Memref sig .tc .vmem S512x128 .f32) (h5 : a5.IsWhole) (a6 : Memref sig .tc .vmem S4x64x64 .f32) (h6 : a6.IsWhole)
  (a7 : Memref sig .tc .vmem S4x64x128 .f32) (h7 : a7.IsWhole) (a8 : Memref sig .tc .vmem S4x64x128 .f32) (h8 : a8.IsWhole)
  (a9 : Memref sig .tc .vmem S4x128x128 .f32) (h9 : a9.IsWhole) (a12 : Memref sig .tc .vmem S4x128x128 .f32) (h12 : a12.IsWhole)

/-- A load of a unit's rows is the block's contents there, -/
theorem rows_eq {e : EltTy} (a : Memref sig .tc .vmem S512x512 e) (h : a.IsWhole) (x : Vec F S512x512 e) (k : ℕ) :
    rows a h x k = fun j => x (rowsIx k j) :=
  funext fun j => h.readAt_unread x (Rect.unit (s := S512x512) ![64 * (k / 4 % 8), 128 * (k % 4)] S64x128.size (inb_rows k)).toLoadRect j
/-- so of a table by positions, -/
theorem pos_eq (a : Memref sig .tc .vmem S512x128 .f32) (h : a.IsWhole) (x : Vec F S512x128 .f32) (k : ℕ) :
    pos a h x k = fun j => x (posIx k j) :=
  funext fun j => h.readAt_unread x (Rect.unit (s := S512x128) ![64 * (k / 4 % 8), 0] S64x128.size (inb_pos k)).toLoadRect j
/-- of the decays between positions, -/
theorem mat_eq (a : Memref sig .tc .vmem S4x64x64 .f32) (h : a.IsWhole) (x : Vec F S4x64x64 .f32) (k : ℕ) :
    mat a h x k = fun j => x (matIx k j) :=
  funext fun j => h.readAt_unread x (Rect.unit (s := S4x64x64) ![k % 4, 0, 0] S1x64x64.size (inb_mat k)).toLoadRect j
/-- of the decays of positions, -/
theorem dec_eq (a : Memref sig .tc .vmem S4x64x128 .f32) (h : a.IsWhole) (x : Vec F S4x64x128 .f32) (k : ℕ) :
    dec a h x k = fun j => x (decIx k j) :=
  funext fun j => h.readAt_unread x (Rect.unit (s := S4x64x128) ![k % 4, 0, 0] S1x64x128.size (inb_dec k)).toLoadRect j
/-- of the states, -/
theorem st_eq (a : Memref sig .tc .vmem S4x128x128 .f32) (h : a.IsWhole) (x : Vec F S4x128x128 .f32) (k : ℕ) :
    st a h x k = fun j => x (stIx k j) :=
  funext fun j => h.readAt_unread x (Rect.unit (s := S4x128x128) ![k % 4, 0, 0] S1x128x128.size (inb_st k)).toLoadRect j
/-- A unit's state in the buffers is that of their contents, -/
theorem next_eq (k : ℕ) (g : Vec F S1x128x128 .f32) :
    next a2 h2 a3 h3 a4 h4 a5 h5 a8 h8 a9 h9 x1 x2 x3 x4 x7 x8 k g = nextOf x1 x2 x3 x4 x7 x8 k g := by
  simp only [next, nextOf, krot, rows_eq, pos_eq, dec_eq, st_eq]
/-- and so its part of the retention. -/
theorem ret_eq (k : ℕ) (g : Vec F S1x128x128 .f32) :
    ret a1 h1 a2 h2 a3 h3 a4 h4 a5 h5 a6 h6 a7 h7 x0 x1 x2 x3 x4 x5 x6 k g = retOf x0 x1 x2 x3 x4 x5 x6 k g := by
  simp only [ret, retOf, qrot, rows_eq, pos_eq, dec_eq, mat_eq]

/-- A covered load of the states is what the pieces left there. -/
theorem cov_eq (L : List (View.Piece (Elt F) S4x128x128 .f32)) (k : ℕ) :
    cov a12 L k = fun j => View.canon L (stIx k j) := View.readCov_eq_canon' _ _ _

/-- The states after `k` units of the first grid point. -/
theorem canon_stA (k : ℕ) : View.canon (stA a2 h2 a3 h3 a4 h4 a5 h5 a8 h8 a9 h9 a12 x1 x2 x3 x4 x7 x8 k)
    = states x1 x2 x3 x4 x7 x8 (k0_pay1 (F := F)) k := by
  induction k with
  | zero =>
    funext y
    have e : (Rect.unit (s := S4x128x128) ![0, 0, 0] S4x128x128.size inb_S4x128x128_S4x128x128_0_0_0).emb y = y := by
      funext a; apply Fin.ext
      fin_cases a
      all_goals (show 0 + 1 * _ = _; omega)
    have h := View.canon_cons_emb (Val := Elt F) (e := .f32) (Rect.unit (s := S4x128x128) ![0, 0, 0] S4x128x128.size inb_S4x128x128_S4x128x128_0_0_0)
      (k0_pay1 (F := F)) [] y
    rw [e] at h
    exact h
  | succ k ih =>
    rw [stA, View.canon_cons, states, next_eq, cov_eq, ih]

/-- A head's part of an array of states, after it is replaced, -/
theorem over_on (f : Vec F S4x128x128 .f32) (w : Vec F S1x128x128 .f32) (k : ℕ) (j : S1x128x128.Idx) :
    (Rect.unit (s := S4x128x128) ![k % 4, 0, 0] S1x128x128.size (inb_st k)).overlay f w (stIx k j) = w j :=
  Rect.overlay_emb (Rect.unit (s := S4x128x128) ![k % 4, 0, 0] S1x128x128.size (inb_st k)) f w j

/-- and the rest of it. -/
theorem over_off (f : Vec F S4x128x128 .f32) (w : Vec F S1x128x128 .f32) (k : ℕ) (y : S4x128x128.Idx) (h : (y 0).val ≠ k % 4) :
    (Rect.unit (s := S4x128x128) ![k % 4, 0, 0] S1x128x128.size (inb_st k)).overlay f w y = f y :=
  Rect.overlay_of_not_mem (Rect.unit (s := S4x128x128) ![k % 4, 0, 0] S1x128x128.size (inb_st k)) f w fun hm => h (by
    have h1 : k % 4 ≤ (y 0).val ∧ (y 0).val < k % 4 + 1 := (Rect.mem_set_unit (inb := inb_st k)).mp hm 0
    omega)

/-- An entry of head `k % 4` is in that part. -/
theorem exists_stIx (k : ℕ) (y : S4x128x128.Idx) (h : (y 0).val = k % 4) : ∃ j, stIx k j = y := by
  refine ⟨ix3 0 ⟨(y 1).val, (y 1).isLt⟩ ⟨(y 2).val, (y 2).isLt⟩, ?_⟩
  funext a; apply Fin.ext
  fin_cases a
  · show k % 4 + 1 * 0 = (y 0).val; omega
  · show 0 + 1 * (y 1).val = (y 1).val; omega
  · show 0 + 1 * (y 2).val = (y 2).val; omega

theorem states_succ (k : ℕ) : states x1 x2 x3 x4 x7 x8 xs (k + 1)
    = (Rect.unit (s := S4x128x128) ![k % 4, 0, 0] S1x128x128.size (inb_st k)).overlay (states x1 x2 x3 x4 x7 x8 xs k)
      (nextOf x1 x2 x3 x4 x7 x8 k fun j => states x1 x2 x3 x4 x7 x8 xs k (stIx k j)) := by
  rw [states]

/-- Units of other heads leave a head's state. -/
theorem states_off (k : ℕ) (y : S4x128x128.Idx) (h : (y 0).val ≠ k % 4) :
    states x1 x2 x3 x4 x7 x8 xs (k + 1) y = states x1 x2 x3 x4 x7 x8 xs k y :=
  (congrFun (states_succ x1 x2 x3 x4 x7 x8 xs k) y).trans (over_off _ _ k y h)

/-- A unit replaces its head's state. -/
theorem states_on (k : ℕ) (j : S1x128x128.Idx) :
    states x1 x2 x3 x4 x7 x8 xs (k + 1) (stIx k j) = nextOf x1 x2 x3 x4 x7 x8 k (fun j => states x1 x2 x3 x4 x7 x8 xs k (stIx k j)) j :=
  (congrFun (states_succ x1 x2 x3 x4 x7 x8 xs k) (stIx k j)).trans (over_on _ _ k j)

/-- Heads that no unit has reached keep the states that the point before left. -/
theorem states_keep (k : ℕ) (y : S4x128x128.Idx) (h : k ≤ (y 0).val) : states x1 x2 x3 x4 x7 x8 xs k y = xs y := by
  induction k with
  | zero => rfl
  | succ k ih =>
    have hy : (y 0).val < 4 := (y 0).isLt
    rw [states_off _ _ _ _ _ _ _ _ _ (by omega), ih (by omega)]

/-- The head of a unit's state. -/
theorem stIx_head (k : ℕ) (j : S1x128x128.Idx) : (stIx k j 0).val = k % 4 := by
  have hj : (j 0).val < 1 := (j 0).isLt
  show k % 4 + 1 * (j 0).val = k % 4
  omega

/-- The states after `k` units of a later grid point, at the heads the units have reached; and what unit `k` reads. -/
theorem canon_stB (k : ℕ) :
    (∀ y : S4x128x128.Idx, (y 0).val < k → View.canon (stB a2 h2 a3 h3 a4 h4 a5 h5 a8 h8 a9 h9 a12 h12 x1 x2 x3 x4 x7 x8 xs k) y
      = states x1 x2 x3 x4 x7 x8 xs k y)
    ∧ rdB a12 h12 xs k (stB a2 h2 a3 h3 a4 h4 a5 h5 a8 h8 a9 h9 a12 h12 x1 x2 x3 x4 x7 x8 xs k)
      = fun j => states x1 x2 x3 x4 x7 x8 xs k (stIx k j) := by
  have read (k : ℕ) (h : ∀ y : S4x128x128.Idx, (y 0).val < k →
      View.canon (stB a2 h2 a3 h3 a4 h4 a5 h5 a8 h8 a9 h9 a12 h12 x1 x2 x3 x4 x7 x8 xs k) y = states x1 x2 x3 x4 x7 x8 xs k y) :
      rdB a12 h12 xs k (stB a2 h2 a3 h3 a4 h4 a5 h5 a8 h8 a9 h9 a12 h12 x1 x2 x3 x4 x7 x8 xs k)
        = fun j => states x1 x2 x3 x4 x7 x8 xs k (stIx k j) := by
    rcases k with _ | _ | _ | _ | k
    · exact (st_eq _ _ _ _).trans rfl
    · exact (st_eq _ _ _ _).trans (funext fun j => (states_keep _ _ _ _ _ _ _ _ _ (by rw [stIx_head])).symm)
    · exact (st_eq _ _ _ _).trans (funext fun j => (states_keep _ _ _ _ _ _ _ _ _ (by rw [stIx_head])).symm)
    · exact (st_eq _ _ _ _).trans (funext fun j => (states_keep _ _ _ _ _ _ _ _ _ (by rw [stIx_head])).symm)
    · exact (cov_eq _ _ _).trans (funext fun j => h _ (by rw [stIx_head]; omega))
  induction k with
  | zero => exact ⟨fun y h => absurd h (Nat.not_lt_zero _), read 0 fun y h => absurd h (Nat.not_lt_zero _)⟩
  | succ k ih =>
    have main (y : S4x128x128.Idx) (hy : (y 0).val < k + 1) :
        View.canon (stB a2 h2 a3 h3 a4 h4 a5 h5 a8 h8 a9 h9 a12 h12 x1 x2 x3 x4 x7 x8 xs (k + 1)) y = states x1 x2 x3 x4 x7 x8 xs (k + 1) y := by
      rw [stB, ih.2, next_eq, View.canon_cons]
      by_cases hm : (y 0).val = k % 4
      · obtain ⟨j, rfl⟩ := exists_stIx k y hm
        exact (over_on _ _ k j).trans (states_on x1 x2 x3 x4 x7 x8 xs k j).symm
      · have hy4 : (y 0).val < 4 := (y 0).isLt
        exact ((over_off _ _ k y hm).trans (ih.1 y (by omega))).trans (states_off x1 x2 x3 x4 x7 x8 xs k y hm).symm
    exact ⟨main, read (k + 1) main⟩

end buffers

/-- The unit that writes an entry of a block. -/
abbrev unitOf (y : S512x512.Idx) : ℕ := ((y 0).val / 64) * 4 + (y 1).val / 128

/-- The entry of the unit's part. -/
abbrev inUnit (y : S512x512.Idx) : S64x128.Idx := ix2 ⟨(y 0).val % 64, Nat.mod_lt _ (by decide)⟩ ⟨(y 1).val % 128, Nat.mod_lt _ (by decide)⟩

/-- What `n` units leave in a block, at an entry that one of them writes. -/
theorem canon_outs (w : ℕ → Vec F S64x128 .f32) (y : S512x512.Idx) (n : ℕ) (hn32 : n ≤ 32) (h : unitOf y < n) :
    View.canon (outs w n) y = w (unitOf y) (inUnit y) := by
  have hy0 : (y 0).val < 512 := (y 0).isLt
  have hy1 : (y 1).val < 512 := (y 1).isLt
  induction n with
  | zero => exact absurd h (Nat.not_lt_zero _)
  | succ n ih =>
    rw [outs]
    by_cases hn : unitOf y = n
    · have e : rowsIx n (inUnit y) = y := by
        subst hn
        funext a; apply Fin.ext
        fin_cases a
        · unfold rowsIx; rw [Rect.emb_apply]; show 64 * (unitOf y / 4 % 8) + 1 * ((y 0).val % 64) = (y 0).val; unfold unitOf; omega
        · unfold rowsIx; rw [Rect.emb_apply]; show 128 * (unitOf y % 4) + 1 * ((y 1).val % 128) = (y 1).val; unfold unitOf; omega
      rw [hn]
      conv_lhs => rw [← e]
      exact View.canon_cons_emb _ _ _ _
    · rw [View.canon_cons_of_not_mem, ih (by omega) (by omega)]
      intro hm
      have h0 : 64 * (n / 4 % 8) ≤ (y 0).val ∧ (y 0).val < 64 * (n / 4 % 8) + 64 :=
        (Rect.mem_set_unit (inb := inb_rows n)).mp hm 0
      have h1 : 128 * (n % 4) ≤ (y 1).val ∧ (y 1).val < 128 * (n % 4) + 128 :=
        (Rect.mem_set_unit (inb := inb_rows n)).mp hm 1
      unfold unitOf at h hn
      omega

/-- Every entry of a block is written by one of the 32 units. -/
theorem unitOf_lt (y : S512x512.Idx) : unitOf y < 32 := by
  have hy0 : (y 0).val < 512 := (y 0).isLt
  have hy1 : (y 1).val < 512 := (y 1).isLt
  unfold unitOf
  omega

/-- The unit that writes an entry of the saved states' block. -/
abbrev saverOf (y : S4x8x128x128.Idx) : ℕ := (y 1).val * 4 + (y 0).val

/-- The entry of the unit's state. -/
abbrev inState (y : S4x8x128x128.Idx) : S1x1x128x128.Idx := ix4 0 0 ⟨(y 2).val, (y 2).isLt⟩ ⟨(y 3).val, (y 3).isLt⟩

/-- What `n` units leave in the saved states' block, at an entry that one of them writes. -/
theorem canon_saves (w : ℕ → Vec F S1x128x128 .f32) (y : S4x8x128x128.Idx) (n : ℕ) (hn32 : n ≤ 32) (h : saverOf y < n) :
    View.canon (saves w n) y = k0_pay9 (w (saverOf y)) (inState y) := by
  have hy0 : (y 0).val < 4 := (y 0).isLt
  have hy1 : (y 1).val < 8 := (y 1).isLt
  induction n with
  | zero => exact absurd h (Nat.not_lt_zero _)
  | succ n ih =>
    rw [saves]
    by_cases hn : saverOf y = n
    · have e : savedIx n (inState y) = y := by
        subst hn
        funext a; apply Fin.ext
        fin_cases a
        · unfold savedIx; rw [Rect.emb_apply]; show saverOf y % 4 + 1 * 0 = (y 0).val; unfold saverOf; omega
        · unfold savedIx; rw [Rect.emb_apply]; show saverOf y / 4 % 8 + 1 * 0 = (y 1).val; unfold saverOf; omega
        · unfold savedIx; rw [Rect.emb_apply]; show 0 + 1 * (y 2).val = (y 2).val; omega
        · unfold savedIx; rw [Rect.emb_apply]; show 0 + 1 * (y 3).val = (y 3).val; omega
      rw [hn]
      conv_lhs => rw [← e]
      exact View.canon_cons_emb _ _ _ _
    · rw [View.canon_cons_of_not_mem, ih (by omega) (by omega)]
      intro hm
      have h0 : n % 4 ≤ (y 0).val ∧ (y 0).val < n % 4 + 1 := (Rect.mem_set_unit (inb := inb_saved n)).mp hm 0
      have h1 : n / 4 % 8 ≤ (y 1).val ∧ (y 1).val < n / 4 % 8 + 1 := (Rect.mem_set_unit (inb := inb_saved n)).mp hm 1
      unfold saverOf at h hn
      omega

/-- Every entry of the block is written by one of the 32 units. -/
theorem saverOf_lt (y : S4x8x128x128.Idx) : saverOf y < 32 := by
  have hy0 : (y 0).val < 4 := (y 0).isLt
  have hy1 : (y 1).val < 8 := (y 1).isLt
  unfold saverOf
  omega

end Cert.RetFwdIdeal.Unit
-- ==== Proof.RetfSpec.lean ====
/- The chunked retention itself as a plain formula: the common ground of the forward kernel and of its reference. -/
module

public import proofs.«01_k».proof.Proof.RetqSpec

@[expose] public section

noncomputable section

namespace Cert.RetSpec

open Idealize.ShloMosaic

/-- The retention of head `h` at position `i` of chunk `n`: what the chunk's positions give, and what the state before the chunk gives. -/
def retn (P : ℕ → ℕ → EReal) (n i h e : ℕ) : EReal :=
  (∑ x : Fin 64, score P n h i x.val * vh P (n * 64 + x.val) h e)
    + ∑ x : Fin 128, qh P (n * 64 + i) h x.val * qd h i * St P h x.val e n

end Cert.RetSpec
-- ==== Proof.RetfPay.lean ====
/- The forward units' arithmetic at the ideal reals, entry by entry, of the blocks that a grid point has. -/
module

public import proofs.«01_k».proof.Proof.RetfRead
public import proofs.«01_k».proof.Proof.RetRot
public import proofs.«01_k».proof.Proof.RetfSpec
public import Idealize.ShloMosaic.Lib.Pointwise

@[expose] public section

set_option maxRecDepth 16384
set_option maxHeartbeats 400000

noncomputable section

namespace Cert.RetFwdIdeal.Unit

open Cert.RetFwdIdeal Cert.RetFwdIdeal.Gen Idealize.ShloMosaic Idealize.ShloMosaic.TcCoe Idealize.SL.Sem Cert.RetSpec

/-- What the blocks of grid point `t` hold, of the projection `P`. -/
structure Blocks (t : ℕ) (P : ℕ → ℕ → EReal) (x0 x1 x2 : Vec Ideal S512x512 .f32) (x3 x4 : Vec Ideal S512x128 .f32) (x5 : Vec Ideal S4x64x64 .f32)
    (x6 x7 : Vec Ideal S4x64x128 .f32) (x8 : Vec Ideal S4x128x128 .f32) : Prop where
  lt : t < 16
  b0 (r q : Fin 512) : x0 (ix2 r q) = P (512 * (t) + r.val) (1024 + q.val)
  b1 (r q : Fin 512) : x1 (ix2 r q) = P (512 * (t) + r.val) (1536 + q.val)
  b2 (r q : Fin 512) : x2 (ix2 r q) = P (512 * (t) + r.val) (2048 + q.val)
  b3 (r : Fin 512) (d : Fin 128) : x3 (ix2 r d) = cosF (512 * (t) + r.val) d.val
  b4 (r : Fin 512) (d : Fin 128) : x4 (ix2 r d) = sinF (512 * (t) + r.val) d.val
  b5 (h : Fin 4) (i j : Fin 64) : x5 (ix3 h i j) = dm h.val i.val j.val
  b6 (h : Fin 4) (i : Fin 64) (d : Fin 128) : x6 (ix3 h i d) = qd h.val i.val
  b7 (h : Fin 4) (i : Fin 64) (d : Fin 128) : x7 (ix3 h i d) = kd h.val i.val
  b8 (h : Fin 4) (d e : Fin 128) : x8 (ix3 h d e) = cd h.val

theorem rowsIx_eq (k : ℕ) (i : Fin 64) (d : Fin 128) :
    rowsIx k (ix2 i d) = ix2 ⟨64 * (k / 4 % 8) + i.val, by omega⟩ ⟨128 * (k % 4) + d.val, by omega⟩ := by
  funext a; apply Fin.ext
  fin_cases a
  · show 64 * (k / 4 % 8) + 1 * i.val = 64 * (k / 4 % 8) + i.val; omega
  · show 128 * (k % 4) + 1 * d.val = 128 * (k % 4) + d.val; omega

theorem posIx_eq (k : ℕ) (i : Fin 64) (d : Fin 128) : posIx k (ix2 i d) = ix2 ⟨64 * (k / 4 % 8) + i.val, by omega⟩ d := by
  funext a; apply Fin.ext
  fin_cases a
  · show 64 * (k / 4 % 8) + 1 * i.val = 64 * (k / 4 % 8) + i.val; omega
  · show 0 + 1 * d.val = d.val; omega

theorem matIx_eq (k : ℕ) (i j : Fin 64) : matIx k (ix3 0 i j) = ix3 ⟨k % 4, by omega⟩ i j := by
  funext a; apply Fin.ext
  fin_cases a
  · show k % 4 + 1 * 0 = k % 4; omega
  · show 0 + 1 * i.val = i.val; omega
  · show 0 + 1 * j.val = j.val; omega

theorem decIx_eq (k : ℕ) (i : Fin 64) (d : Fin 128) : decIx k (ix3 0 i d) = ix3 ⟨k % 4, by omega⟩ i d := by
  funext a; apply Fin.ext
  fin_cases a
  · show k % 4 + 1 * 0 = k % 4; omega
  · show 0 + 1 * i.val = i.val; omega
  · show 0 + 1 * d.val = d.val; omega

theorem stIx_eq (k : ℕ) (d e : Fin 128) : stIx k (ix3 0 d e) = ix3 ⟨k % 4, by omega⟩ d e := by
  funext a; apply Fin.ext
  fin_cases a
  · show k % 4 + 1 * 0 = k % 4; omega
  · show 0 + 1 * d.val = d.val; omega
  · show 0 + 1 * e.val = e.val; omega

variable {t : ℕ} {P : ℕ → ℕ → EReal} {x0 x1 x2 : Vec Ideal S512x512 .f32} {x3 x4 : Vec Ideal S512x128 .f32} {x5 : Vec Ideal S4x64x64 .f32}
    {x6 x7 : Vec Ideal S4x64x128 .f32} {x8 : Vec Ideal S4x128x128 .f32}
    (B : Blocks t P x0 x1 x2 x3 x4 x5 x6 x7 x8) (k : ℕ) (hk : k < 32)

/-- The chunk of a grid point's unit. -/
abbrev ch (t k : ℕ) : ℕ := 8 * t + k / 4

include B hk

theorem row_eq (i : ℕ) : 512 * (t) + (64 * (k / 4 % 8) + i) = ch t k * 64 + i := by
  have := B.lt
  unfold ch
  omega

/-- The unit's queries' entries, -/
theorem q_at (i : Fin 64) (d : Fin 128) : x0 (rowsIx k (ix2 i d)) = P (ch t k * 64 + i.val) (1024 + (k % 4 * 128 + d.val)) := by
  rw [rowsIx_eq, B.b0]
  show P (512 * (t) + (64 * (k / 4 % 8) + i.val)) (1024 + (128 * (k % 4) + d.val)) = _
  rw [row_eq B k hk, Nat.mul_comm 128]
/-- keys' -/
theorem k_at (i : Fin 64) (d : Fin 128) : x1 (rowsIx k (ix2 i d)) = P (ch t k * 64 + i.val) (1536 + (k % 4 * 128 + d.val)) := by
  rw [rowsIx_eq, B.b1]
  show P (512 * (t) + (64 * (k / 4 % 8) + i.val)) (1536 + (128 * (k % 4) + d.val)) = _
  rw [row_eq B k hk, Nat.mul_comm 128]
/-- and values' entries, -/
theorem v_at (i : Fin 64) (d : Fin 128) : x2 (rowsIx k (ix2 i d)) = vh P (ch t k * 64 + i.val) (k % 4) d.val := by
  rw [rowsIx_eq, B.b2]
  show P (512 * (t) + (64 * (k / 4 % 8) + i.val)) (2048 + (128 * (k % 4) + d.val)) = _
  rw [row_eq B k hk, Nat.mul_comm 128, vh]
/-- the cosines -/
theorem cs_at (i : Fin 64) (d : Fin 128) : x3 (posIx k (ix2 i d)) = cosF (ch t k * 64 + i.val) d.val := by
  rw [posIx_eq, B.b3]
  show cosF (512 * (t) + (64 * (k / 4 % 8) + i.val)) d.val = _
  rw [row_eq B k hk]
/-- and sines, -/
theorem sn_at (i : Fin 64) (d : Fin 128) : x4 (posIx k (ix2 i d)) = sinF (ch t k * 64 + i.val) d.val := by
  rw [posIx_eq, B.b4]
  show sinF (512 * (t) + (64 * (k / 4 % 8) + i.val)) d.val = _
  rw [row_eq B k hk]

/-- The rotated queries of the unit, -/
theorem rq_at (i : Fin 64) (d : Fin 128) :
    k0_pay4 (fun j => x3 (posIx k j)) (fun j => x4 (posIx k j)) (fun j => x0 (rowsIx k j)) (ix2 i d) = qh P (ch t k * 64 + i.val) (k % 4) d.val := by
  pointwise [k0_pay4, k0_pay2, k0_pay3]
  refine Eq.trans ?_ (rot_eq P 1024 (ch t k * 64 + i.val) (k % 4) d.val d.isLt)
  exact congrArg₂ (fun x y : EReal => x + y) (congrArg₂ (fun x y : EReal => x * y) (q_at B k hk _ _) (cs_at B k hk _ _))
    (congrArg₂ (fun x y : EReal => x * y) (q_at B k hk _ ⟨(d.val + 128 - 64) % 128, by omega⟩) (sn_at B k hk _ _))

/-- and its rotated and scaled keys. -/
theorem rk_at (i : Fin 64) (d : Fin 128) :
    k0_pay5 (fun j => x3 (posIx k j)) (fun j => x4 (posIx k j)) (fun j => x1 (rowsIx k j)) (ix2 i d) = kh P (ch t k * 64 + i.val) (k % 4) d.val := by
  pointwise [k0_pay5, k0_pay2, k0_pay3]
  refine Eq.trans ?_ (congrArg (fun x : EReal => x * sc) (rot_eq P 1536 (ch t k * 64 + i.val) (k % 4) d.val d.isLt))
  refine congrArg (fun x : EReal => x * sc) ?_
  exact congrArg₂ (fun x y : EReal => x + y) (congrArg₂ (fun x y : EReal => x * y) (k_at B k hk _ _) (cs_at B k hk _ _))
    (congrArg₂ (fun x y : EReal => x * y) (k_at B k hk _ ⟨(d.val + 128 - 64) % 128, by omega⟩) (sn_at B k hk _ _))

/-- The state after the unit, of that before it. -/
theorem next_at (g : Vec Ideal S1x128x128 .f32) (d e : Fin 128) :
    nextOf x1 x2 x3 x4 x7 x8 k g (ix3 0 d e) = cd (k % 4) * g (ix3 0 d e) + fwd P (ch t k) (k % 4) d.val e.val := by
  unfold nextOf
  generalize hQ : k0_pay5 (fun j => x3 (posIx k j)) (fun j => x4 (posIx k j)) (fun j => x1 (rowsIx k j)) = Q
  pointwise [k0_pay12, k0_pay6, k0_pay7]
  unfold fwd
  refine congrArg₂ (fun x y : EReal => x + y) ?_ (Finset.sum_congr rfl fun x _ => ?_)
  · exact congrArg (fun x : EReal => x * g (ix3 0 d e)) ((congrArg x8 (stIx_eq k d e)).trans (B.b8 _ _ _))
  · refine congrArg₂ (fun x y : EReal => x * y) (congrArg₂ (fun x y : EReal => x * y) ?_ ?_) (v_at B k hk _ _)
    · rw [← hQ]; exact rk_at B k hk x d
    · exact (congrArg x7 (decIx_eq k x d)).trans (B.b7 _ _ _)

omit B hk in
/-- The saved state is the one that the unit found. -/
theorem saved_at (g : Vec Ideal S1x128x128 .f32) (d e : Fin 128) : k0_pay9 g (ix4 0 0 d e) = g (ix3 0 d e) := by
  pointwise [k0_pay9, k0_pay8, k0_pay7]

/-- The unit's scores, before their decays. -/
theorem dots_at (i j : Fin 64) :
    k0_pay10 (fun j => x3 (posIx k j)) (fun j => x4 (posIx k j)) (fun j => x0 (rowsIx k j)) (fun j => x1 (rowsIx k j)) (ix2 i j)
      = ∑ x : Fin 128, qh P (ch t k * 64 + i.val) (k % 4) x.val * kh P (ch t k * 64 + j.val) (k % 4) x.val := by
  have hq := rq_at B k hk i
  have hk' := rk_at B k hk j
  pointwise [k0_pay10]
  exact Finset.sum_congr rfl fun x _ => congrArg₂ (fun x y : EReal => x * y) (hq x) (hk' x)

/-- The unit's part of the retention, of the state before the unit. -/
theorem ret_at {g : Vec Ideal S1x128x128 .f32} (hg : ∀ d e : Fin 128, g (ix3 0 d e) = St P (k % 4) d.val e.val (ch t k)) (i : Fin 64) (e : Fin 128) :
    retOf x0 x1 x2 x3 x4 x5 x6 k g (ix2 i e) = retn P (ch t k) i.val (k % 4) e.val := by
  have hq := rq_at B k hk i
  have hs := dots_at B k hk i
  unfold retOf
  generalize k0_pay4 (fun j => x3 (posIx k j)) (fun j => x4 (posIx k j)) (fun j => x0 (rowsIx k j)) = Q at hq ⊢
  generalize k0_pay10 (fun j => x3 (posIx k j)) (fun j => x4 (posIx k j)) (fun j => x0 (rowsIx k j)) (fun j => x1 (rowsIx k j)) = C at hs ⊢
  pointwise [k0_pay11, k0_pay6, k0_pay8, k0_pay7]
  unfold retn score
  refine congrArg₂ (fun x y : EReal => x + y) (Finset.sum_congr rfl fun x _ => congrArg₂ (fun x y : EReal => x * y) (congrArg₂ (fun x y : EReal => x * y) (hs x) ?_) (v_at B k hk _ _))
    (Finset.sum_congr rfl fun x _ => congrArg₂ (fun x y : EReal => x * y) (congrArg₂ (fun x y : EReal => x * y) (hq x) ?_) (hg _ _))
  · exact (congrArg x5 (matIx_eq k i x)).trans (B.b5 _ _ _)
  · exact (congrArg x6 (decIx_eq k i x)).trans (B.b6 _ _ _)

end Cert.RetFwdIdeal.Unit
-- ==== Proof.RetfPoint.lean ====
/- What one grid point of the forward kernel leaves: the states carried to the next, and its blocks of the retention and of the saved
   states. -/
module

public import proofs.«01_k».proof.Proof.RetfPay

@[expose] public section

set_option maxRecDepth 16384
set_option maxHeartbeats 400000

noncomputable section

namespace Cert.RetFwdIdeal.Unit

open Cert.RetFwdIdeal Cert.RetFwdIdeal.Gen Idealize.ShloMosaic Idealize.ShloMosaic.TcCoe Idealize.SL.Sem Cert.RetSpec

section states

variable {t : ℕ} {P : ℕ → ℕ → EReal} {x0 x1 x2 : Vec Ideal S512x512 .f32} {x3 x4 : Vec Ideal S512x128 .f32} {x5 : Vec Ideal S4x64x64 .f32}
    {x6 x7 : Vec Ideal S4x64x128 .f32} {x8 : Vec Ideal S4x128x128 .f32} {xs : Vec Ideal S4x128x128 .f32}
    (B : Blocks t P x0 x1 x2 x3 x4 x5 x6 x7 x8)
    (hxs : ∀ (h : Fin 4) (d e : Fin 128), xs (ix3 h d e) = St P h.val d.val e.val (8 * t))

include B hxs

/-- After `k` units of the point, each head's state has met the chunks its units have worked through. -/
theorem states_at (k : ℕ) (hk : k ≤ 32) (h : Fin 4) (d e : Fin 128) :
    states x1 x2 x3 x4 x7 x8 xs k (ix3 h d e) = St P h.val d.val e.val (8 * t + (k + 3 - h.val) / 4) := by
  induction k generalizing h d e with
  | zero =>
    have hh := h.isLt
    have e0 : (0 + 3 - h.val) / 4 = 0 := by omega
    rw [e0]
    exact hxs h d e
  | succ k ih =>
    have hh := h.isLt
    have ht := B.lt
    by_cases hx : h.val = k % 4
    · obtain ⟨h, hh'⟩ := h
      have hx' : h = k % 4 := hx
      subst hx'
      have e2 : (k + 1 + 3 - k % 4) / 4 = k / 4 + 1 := by omega
      have e3 : (k + 3 - k % 4) / 4 = k / 4 := by omega
      have s1 := states_on x1 x2 x3 x4 x7 x8 xs k (ix3 0 d e)
      rw [stIx_eq] at s1
      refine s1.trans ((next_at B k (by omega) _ d e).trans ?_)
      rw [stIx_eq, ih (by omega)]
      show _ * St P (k % 4) d.val e.val (8 * t + (k + 3 - k % 4) / 4) + _ = St P (k % 4) d.val e.val (8 * t + (k + 1 + 3 - k % 4) / 4)
      rw [e2, e3]
      rfl
    · have e1 : (k + 1 + 3 - h.val) / 4 = (k + 3 - h.val) / 4 := by omega
      rw [e1]
      exact (states_off x1 x2 x3 x4 x7 x8 xs k (ix3 h d e) hx).trans (ih (by omega) h d e)

/-- What unit `k` finds: its head's state before its chunk. -/
theorem found_at (k : ℕ) (hk : k < 32) (d e : Fin 128) :
    states x1 x2 x3 x4 x7 x8 xs k (stIx k (ix3 0 d e)) = St P (k % 4) d.val e.val (ch t k) := by
  have ht := B.lt
  rw [stIx_eq, states_at B hxs k (by omega)]
  have e1 : 8 * t + (k + 3 - k % 4) / 4 = ch t k := by unfold ch; omega
  show St P (k % 4) d.val e.val (8 * t + (k + 3 - k % 4) / 4) = _
  rw [e1]

/-- What the point leaves for the next. -/
theorem left_at (h : Fin 4) (d e : Fin 128) :
    states x1 x2 x3 x4 x7 x8 xs 32 (ix3 h d e) = St P h.val d.val e.val (8 * (t + 1)) := by
  have hh := h.isLt
  rw [states_at B hxs 32 le_rfl]
  have e1 : 8 * t + (32 + 3 - h.val) / 4 = 8 * (t + 1) := by omega
  rw [e1]

/-- The retention at a row and column of the point's block, -/
theorem unit_ret (y : S512x512.Idx) :
    retOf x0 x1 x2 x3 x4 x5 x6 (unitOf y) (fun j => states x1 x2 x3 x4 x7 x8 xs (unitOf y) (stIx (unitOf y) j)) (inUnit y)
      = retn P ((512 * t + (y 0).val) / 64) ((512 * t + (y 0).val) % 64) ((y 1).val / 128) ((y 1).val % 128) := by
  have ht := B.lt
  have hy0 : (y 0).val < 512 := (y 0).isLt
  have hy1 : (y 1).val < 512 := (y 1).isLt
  refine (ret_at B (unitOf y) (unitOf_lt y) (found_at B hxs (unitOf y) (unitOf_lt y)) ⟨(y 0).val % 64, by omega⟩ ⟨(y 1).val % 128, by omega⟩).trans ?_
  have e1 : ch t (unitOf y) = (512 * t + (y 0).val) / 64 := by unfold ch unitOf; omega
  have e2 : (512 * t + (y 0).val) % 64 = (y 0).val % 64 := by omega
  have e3 : unitOf y % 4 = (y 1).val / 128 := by unfold unitOf; omega
  rw [e1, e2, e3]

/-- and the saved states. -/
theorem unit_saved (y : S4x8x128x128.Idx) :
    k0_pay9 (fun j => states x1 x2 x3 x4 x7 x8 xs (saverOf y) (stIx (saverOf y) j)) (inState y)
      = St P (y 0).val (y 2).val (y 3).val (8 * t + (y 1).val) := by
  have ht := B.lt
  have hy0 : (y 0).val < 4 := (y 0).isLt
  have hy1 : (y 1).val < 8 := (y 1).isLt
  refine (saved_at _ ⟨(y 2).val, (y 2).isLt⟩ ⟨(y 3).val, (y 3).isLt⟩).trans ((found_at B hxs (saverOf y) (saverOf_lt y) _ _).trans ?_)
  have e1 : ch t (saverOf y) = 8 * t + (y 1).val := by unfold ch saverOf; omega
  have e3 : saverOf y % 4 = (y 0).val := by unfold saverOf; omega
  rw [e1, e3]

end states

/-- The states begin at zero. -/
theorem zero_at (P : ℕ → ℕ → EReal) (h : Fin 4) (d e : Fin 128) :
    (k0_pay1 (F := Ideal)) (ix3 h d e) = St P h.val d.val e.val (8 * 0) := by
  pointwise [k0_pay1]
  rfl

section pieces

variable (a1 : Memref sig .tc .vmem S512x512 .f32) (h1 : a1.IsWhole) (a2 : Memref sig .tc .vmem S512x512 .f32) (h2 : a2.IsWhole)
  (a3 : Memref sig .tc .vmem S512x512 .f32) (h3 : a3.IsWhole) (a4 : Memref sig .tc .vmem S512x128 .f32) (h4 : a4.IsWhole)
  (a5 : Memref sig .tc .vmem S512x128 .f32) (h5 : a5.IsWhole) (a6 : Memref sig .tc .vmem S4x64x64 .f32) (h6 : a6.IsWhole)
  (a7 : Memref sig .tc .vmem S4x64x128 .f32) (h7 : a7.IsWhole) (a8 : Memref sig .tc .vmem S4x64x128 .f32) (h8 : a8.IsWhole)
  (a9 : Memref sig .tc .vmem S4x128x128 .f32) (h9 : a9.IsWhole) (a12 : Memref sig .tc .vmem S4x128x128 .f32) (h12 : a12.IsWhole)
variable (x0 x1 x2 : Vec Ideal S512x512 .f32) (x3 x4 : Vec Ideal S512x128 .f32) (x5 : Vec Ideal S4x64x64 .f32) (x6 x7 : Vec Ideal S4x64x128 .f32)
  (x8 : Vec Ideal S4x128x128 .f32) (xs : Vec Ideal S4x128x128 .f32)

/-- The pieces of the first point's retention, read back, -/
theorem pieces_A_ret (y : S512x512.Idx) :
    View.canon (outs (fun k => ret a1 h1 a2 h2 a3 h3 a4 h4 a5 h5 a6 h6 a7 h7 x0 x1 x2 x3 x4 x5 x6 k
        (cov a12 (stA a2 h2 a3 h3 a4 h4 a5 h5 a8 h8 a9 h9 a12 x1 x2 x3 x4 x7 x8 k) k)) 32) y
      = retOf x0 x1 x2 x3 x4 x5 x6 (unitOf y) (fun j => states x1 x2 x3 x4 x7 x8 (k0_pay1 (F := Ideal)) (unitOf y) (stIx (unitOf y) j)) (inUnit y) := by
  refine (canon_outs _ y 32 le_rfl (unitOf_lt y)).trans ?_
  show ret a1 h1 a2 h2 a3 h3 a4 h4 a5 h5 a6 h6 a7 h7 x0 x1 x2 x3 x4 x5 x6 (unitOf y)
    (cov a12 (stA a2 h2 a3 h3 a4 h4 a5 h5 a8 h8 a9 h9 a12 x1 x2 x3 x4 x7 x8 (unitOf y)) (unitOf y)) (inUnit y) = _
  rw [ret_eq, cov_eq, canon_stA]

/-- and of its saved states. -/
theorem pieces_A_saved (y : S4x8x128x128.Idx) :
    View.canon (saves (fun k => cov a12 (stA a2 h2 a3 h3 a4 h4 a5 h5 a8 h8 a9 h9 a12 x1 x2 x3 x4 x7 x8 k) k) 32) y
      = k0_pay9 (fun j => states x1 x2 x3 x4 x7 x8 (k0_pay1 (F := Ideal)) (saverOf y) (stIx (saverOf y) j)) (inState y) := by
  refine (canon_saves _ y 32 le_rfl (saverOf_lt y)).trans ?_
  show k0_pay9 (cov a12 (stA a2 h2 a3 h3 a4 h4 a5 h5 a8 h8 a9 h9 a12 x1 x2 x3 x4 x7 x8 (saverOf y)) (saverOf y)) (inState y) = _
  rw [cov_eq, canon_stA]

/-- Those of a later point's retention, -/
theorem pieces_B_ret (y : S512x512.Idx) :
    View.canon (outs (fun k => ret a1 h1 a2 h2 a3 h3 a4 h4 a5 h5 a6 h6 a7 h7 x0 x1 x2 x3 x4 x5 x6 k
        (rdB a12 h12 xs k (stB a2 h2 a3 h3 a4 h4 a5 h5 a8 h8 a9 h9 a12 h12 x1 x2 x3 x4 x7 x8 xs k))) 32) y
      = retOf x0 x1 x2 x3 x4 x5 x6 (unitOf y) (fun j => states x1 x2 x3 x4 x7 x8 xs (unitOf y) (stIx (unitOf y) j)) (inUnit y) := by
  refine (canon_outs _ y 32 le_rfl (unitOf_lt y)).trans ?_
  show ret a1 h1 a2 h2 a3 h3 a4 h4 a5 h5 a6 h6 a7 h7 x0 x1 x2 x3 x4 x5 x6 (unitOf y)
    (rdB a12 h12 xs (unitOf y) (stB a2 h2 a3 h3 a4 h4 a5 h5 a8 h8 a9 h9 a12 h12 x1 x2 x3 x4 x7 x8 xs (unitOf y))) (inUnit y) = _
  rw [ret_eq, (canon_stB _ _ _ _ _ _ _ _ _ _ _ _ _ _ _ _ _ _ _ _ _ (unitOf y)).2]

/-- and of its saved states. -/
theorem pieces_B_saved (y : S4x8x128x128.Idx) :
    View.canon (saves (fun k => rdB a12 h12 xs k (stB a2 h2 a3 h3 a4 h4 a5 h5 a8 h8 a9 h9 a12 h12 x1 x2 x3 x4 x7 x8 xs k)) 32) y
      = k0_pay9 (fun j => states x1 x2 x3 x4 x7 x8 xs (saverOf y) (stIx (saverOf y) j)) (inState y) := by
  refine (canon_saves _ y 32 le_rfl (saverOf_lt y)).trans ?_
  show k0_pay9 (rdB a12 h12 xs (saverOf y) (stB a2 h2 a3 h3 a4 h4 a5 h5 a8 h8 a9 h9 a12 h12 x1 x2 x3 x4 x7 x8 xs (saverOf y))) (inState y) = _
  rw [(canon_stB _ _ _ _ _ _ _ _ _ _ _ _ _ _ _ _ _ _ _ _ _ (saverOf y)).2]

/-- The states that a later point leaves. -/
theorem pieces_B_st (y : S4x128x128.Idx) :
    View.canon (stB a2 h2 a3 h3 a4 h4 a5 h5 a8 h8 a9 h9 a12 h12 x1 x2 x3 x4 x7 x8 xs 32) y = states x1 x2 x3 x4 x7 x8 xs 32 y := by
  have hy : (y 0).val < 4 := (y 0).isLt
  exact (canon_stB _ _ _ _ _ _ _ _ _ _ _ _ _ _ _ _ _ _ _ _ _ 32).1 y (by omega)

end pieces

end Cert.RetFwdIdeal.Unit
-- ==== Proof.RetfTables.lean ====
/- The arrays that the host prepares for the forward kernel, read at an index as the plain formulas. -/
module

public import proofs.«01_k».proof.Proof.RetfPay
public import Idealize.ShloMosaic.Lib.StableHlo.ReadAt

@[expose] public section

set_option maxRecDepth 16384
set_option maxHeartbeats 400000

noncomputable section

namespace Cert.RetFwdIdeal.Tables

open Cert.RetFwdIdeal Cert.RetFwdIdeal.Gen Idealize.ShloMosaic Idealize.ShloMosaic.TcCoe Idealize.SL.Sem Cert.RetSpec

variable (V : Valuation τ sig (Elt Ideal))

/-- The projection by rows. -/
theorem v0_at (p : Fin 8192) (q : Fin 3072) : StableHlo.after hostOps0 V (Proc.devRef .tc main_v0) (ix2 p q)
    = at3 (b := 8192) (c := 3072) (V (Proc.devRef .tc main_arg0)) p.val q.val := by
  after_reads_at
  exact at3_eq _ _ _ _

/-- The cosines, -/
theorem v15_at (p : Fin 8192) (d : Fin 128) : StableHlo.after hostOps0 V (Proc.devRef .tc main_v15) (ix2 p d) = cosF p.val d.val := by
  after_reads_at
  unfold cosF
  split
  · rename_i h
    rw [Nat.mod_eq_of_lt h]
    rfl
  · rename_i h
    have e : d.val % 64 = d.val - 64 := by have := d.isLt; omega
    rw [e]
    rfl

/-- and signed sines. -/
theorem v17_at (p : Fin 8192) (d : Fin 128) : StableHlo.after hostOps0 V (Proc.devRef .tc main_v17) (ix2 p d) = sinF p.val d.val := by
  after_reads_at
  unfold sinF
  split <;> rfl

/-- The decays between a chunk's positions, -/
theorem v38_at (h : Fin 4) (i j : Fin 64) : StableHlo.after hostOps0 V (Proc.devRef .tc main_v38) (ix3 h i j) = dm h.val i.val j.val := by
  after_reads_at
  simp only [num, kd, qd, dm, lg]

/-- from the state before it to a position, -/
theorem v48_at (h : Fin 4) (i : Fin 64) (d : Fin 128) : StableHlo.after hostOps0 V (Proc.devRef .tc main_v48) (ix3 h i d) = qd h.val i.val := by
  after_reads_at
  simp only [num, kd, qd, dm, lg]

/-- from a position to the state after it, -/
theorem v58_at (h : Fin 4) (i : Fin 64) (d : Fin 128) : StableHlo.after hostOps0 V (Proc.devRef .tc main_v58) (ix3 h i d) = kd h.val i.val := by
  after_reads_at
  simp only [num, kd, qd, dm, lg]

/-- and over a whole chunk. -/
theorem v63_at (h : Fin 4) (d e : Fin 128) : StableHlo.after hostOps0 V (Proc.devRef .tc main_v63) (ix3 h d e) = cd h.val := by
  after_reads_at
  simp only [num, cd, lg]

end Cert.RetFwdIdeal.Tables
-- ==== Proof.RetfBlocks.lean ====
/- What the forward kernel's windows read of the arrays that the host prepares. -/
module

public import proofs.«01_k».proof.Proof.RetfTables
public import proofs.«01_k».proof.Proof.Gen.RetFwdIdeal.Value
public import Idealize.ShloMosaic.Lib.Pipeline.ValueKit

@[expose] public section

set_option maxRecDepth 16384

noncomputable section

namespace Cert.RetFwdIdeal.Unit

open Cert.RetFwdIdeal Cert.RetFwdIdeal.Gen Idealize.ShloMosaic Idealize.ShloMosaic.TcCoe Idealize.SL.Sem Cert.RetSpec
open Idealize.ShloMosaic.Pipeline (Dat)

variable (m : (ℓ : Loc nD τ sig) → Buf (Elt Ideal) ℓ) (c : Dev nD)

theorem idx : ∀ t : Fin cfg0.N, win0_0.index t = ![t.val, 2] ∧ win0_1.index t = ![t.val, 3] ∧ win0_2.index t = ![t.val, 4]
    ∧ win0_3.index t = ![t.val, 0] ∧ win0_4.index t = ![t.val, 0] ∧ win0_5.index t = ![0, 0, 0] ∧ win0_6.index t = ![0, 0, 0]
    ∧ win0_7.index t = ![0, 0, 0] ∧ win0_8.index t = ![0, 0, 0] ∧ win0_9.index t = ![t.val, 0]
    ∧ win0_10.index t = ![0, t.val, 0, 0] :=
  (by decide +kernel : ∀ t : Fin grid0.N, _)

/-- Row `r` of the block of grid point `t`: the points go through the sequence in order. -/
def row (t : Fin cfg0.N) (r : Fin 512) : Fin 8192 :=
  ⟨512 * t.val + r.val, by have := r.isLt; have := lt_of_lt_of_eq t.isLt N_0; omega⟩

/-- The projection that the call is given. -/
abbrev proj : ℕ → ℕ → EReal := at3 (m ((c : Thread nD τ).loc main_arg0) : FVec Ideal S1x8192x3072 .f32)

/-- What the kernel finds: the buffers after the host's lines. -/
theorem V_eq (b : Ref sig .tc) : V m c b = StableHlo.after hostOps0 (fun b => m (c, b)) (Proc.devRef .tc b) :=
  rfl

theorem proj_at (p : Fin 8192) (q : Fin 3072) : V m c main_v0 (ix2 p q) = proj m c p.val q.val :=
  (congrFun (V_eq m c main_v0) (ix2 p q)).trans (Tables.v0_at (fun b => m (c, b)) p q)

/-- The queries' columns of a grid point's rows, -/
theorem block0 (t : Fin cfg0.N) (r q : Fin 512) :
    (iblk m c 0 t : Vec Ideal S512x512 .f32) (ix2 r q) = proj m c (row t r).val (1024 + q.val) := by
  blk_simp [iblk]
  have e : (((View.whole main_v0).slice (win0_0.rect t)).emb (ix2 r q) : S8192x3072.Idx) = ix2 (row t r) ⟨1024 + q.val, by omega⟩ := by
    blk_ext [idx t, row]
  exact (congrArg (V m c main_v0) e).trans (proj_at m c _ _)

/-- the keys', -/
theorem block1 (t : Fin cfg0.N) (r q : Fin 512) :
    (iblk m c 1 t : Vec Ideal S512x512 .f32) (ix2 r q) = proj m c (row t r).val (1536 + q.val) := by
  blk_simp [iblk]
  have e : (((View.whole main_v0).slice (win0_1.rect t)).emb (ix2 r q) : S8192x3072.Idx) = ix2 (row t r) ⟨1536 + q.val, by omega⟩ := by
    blk_ext [idx t, row]
  exact (congrArg (V m c main_v0) e).trans (proj_at m c _ _)

/-- the values', -/
theorem block2 (t : Fin cfg0.N) (r q : Fin 512) :
    (iblk m c 2 t : Vec Ideal S512x512 .f32) (ix2 r q) = proj m c (row t r).val (2048 + q.val) := by
  blk_simp [iblk]
  have e : (((View.whole main_v0).slice (win0_2.rect t)).emb (ix2 r q) : S8192x3072.Idx) = ix2 (row t r) ⟨2048 + q.val, by omega⟩ := by
    blk_ext [idx t, row]
  exact (congrArg (V m c main_v0) e).trans (proj_at m c _ _)

/-- the cosines, -/
theorem block3 (t : Fin cfg0.N) (r : Fin 512) (d : Fin 128) :
    (iblk m c 3 t : Vec Ideal S512x128 .f32) (ix2 r d) = cosF (row t r).val d.val := by
  blk_simp [iblk]
  have e : (((View.whole main_v15).slice (win0_3.rect t)).emb (ix2 r d) : S8192x128.Idx) = ix2 (row t r) d := by
    blk_ext [idx t, row]
  exact (congrArg (V m c main_v15) e).trans ((congrFun (V_eq m c main_v15) _).trans (Tables.v15_at _ _ _))

/-- the signed sines, -/
theorem block4 (t : Fin cfg0.N) (r : Fin 512) (d : Fin 128) :
    (iblk m c 4 t : Vec Ideal S512x128 .f32) (ix2 r d) = sinF (row t r).val d.val := by
  blk_simp [iblk]
  have e : (((View.whole main_v17).slice (win0_4.rect t)).emb (ix2 r d) : S8192x128.Idx) = ix2 (row t r) d := by
    blk_ext [idx t, row]
  exact (congrArg (V m c main_v17) e).trans ((congrFun (V_eq m c main_v17) _).trans (Tables.v17_at _ _ _))

/-- the decays between a chunk's positions, -/
theorem block5 (t : Fin cfg0.N) (h : Fin 4) (i j : Fin 64) :
    (iblk m c 5 t : Vec Ideal S4x64x64 .f32) (ix3 h i j) = dm h.val i.val j.val := by
  blk_simp [iblk]
  have e : (((View.whole main_v38).slice (win0_5.rect t)).emb (ix3 h i j) : S4x64x64.Idx) = ix3 h i j := by
    blk_ext [idx t, row]
  exact (congrArg (V m c main_v38) e).trans ((congrFun (V_eq m c main_v38) _).trans (Tables.v38_at _ _ _ _))

/-- from the state before it, -/
theorem block6 (t : Fin cfg0.N) (h : Fin 4) (i : Fin 64) (d : Fin 128) :
    (iblk m c 6 t : Vec Ideal S4x64x128 .f32) (ix3 h i d) = qd h.val i.val := by
  blk_simp [iblk]
  have e : (((View.whole main_v48).slice (win0_6.rect t)).emb (ix3 h i d) : S4x64x128.Idx) = ix3 h i d := by
    blk_ext [idx t, row]
  exact (congrArg (V m c main_v48) e).trans ((congrFun (V_eq m c main_v48) _).trans (Tables.v48_at _ _ _ _))

/-- to the state after it -/
theorem block7 (t : Fin cfg0.N) (h : Fin 4) (i : Fin 64) (d : Fin 128) :
    (iblk m c 7 t : Vec Ideal S4x64x128 .f32) (ix3 h i d) = kd h.val i.val := by
  blk_simp [iblk]
  have e : (((View.whole main_v58).slice (win0_7.rect t)).emb (ix3 h i d) : S4x64x128.Idx) = ix3 h i d := by
    blk_ext [idx t, row]
  exact (congrArg (V m c main_v58) e).trans ((congrFun (V_eq m c main_v58) _).trans (Tables.v58_at _ _ _ _))

/-- and over it, -/
theorem block8 (t : Fin cfg0.N) (h : Fin 4) (d e' : Fin 128) :
    (iblk m c 8 t : Vec Ideal S4x128x128 .f32) (ix3 h d e') = cd h.val := by
  blk_simp [iblk]
  have e : (((View.whole main_v63).slice (win0_8.rect t)).emb (ix3 h d e') : S4x128x128.Idx) = ix3 h d e' := by
    blk_ext [idx t, row]
  exact (congrArg (V m c main_v63) e).trans ((congrFun (V_eq m c main_v63) _).trans (Tables.v63_at _ _ _ _))

/-- The blocks of a grid point. -/
theorem blocks (t : Fin cfg0.N) : Blocks t.val (proj m c) (iblk m c 0 t) (iblk m c 1 t) (iblk m c 2 t) (iblk m c 3 t) (iblk m c 4 t)
    (iblk m c 5 t) (iblk m c 6 t) (iblk m c 7 t) (iblk m c 8 t) where
  lt := lt_of_lt_of_eq t.isLt N_0
  b0 := block0 m c t
  b1 := block1 m c t
  b2 := block2 m c t
  b3 := block3 m c t
  b4 := block4 m c t
  b5 := block5 m c t
  b6 := block6 m c t
  b7 := block7 m c t
  b8 := block8 m c t

end Cert.RetFwdIdeal.Unit
-- ==== Proof.RetfFinal.lean ====
/- The retention and the saved states that the forward kernel leaves, over the whole sequence. -/
module

public import proofs.«01_k».proof.Proof.RetfPoint
public import proofs.«01_k».proof.Proof.RetfBlocks

@[expose] public section

set_option maxRecDepth 16384
set_option maxHeartbeats 400000

noncomputable section

namespace Cert.RetFwdIdeal.Unit

open Cert.RetFwdIdeal Cert.RetFwdIdeal.Gen Idealize.ShloMosaic Idealize.ShloMosaic.TcCoe Idealize.SL.Sem Cert.RetSpec
open Idealize.ShloMosaic.Pipeline (Dat)

variable (m : (ℓ : Loc nD τ sig) → Buf (Elt Ideal) ℓ) (c : Dev nD)

/-- What a first point leaves in the states, -/
theorem carried_A (t : Fin cfg0.N) (h0 : t.val % 16 = 0) : (outsAt0 m c t.val t.isLt).2.2
    = states (iblk m c 1 t) (iblk m c 2 t) (iblk m c 3 t) (iblk m c 4 t) (iblk m c 7 t) (iblk m c 8 t) (k0_pay1 (F := Ideal)) 32 := by
  rw [outsAt0_A m c t h0]
  refine (View.read_writes_junk_eq_canon (Val := Elt Ideal) VS0_0 _).trans ?_
  rw [run_A_st, canon_stA]

/-- and a later one, over what the point before left. -/
theorem carried_B (t : Fin cfg0.N) (h0 : ¬t.val % 16 = 0) : (outsAt0 m c t.val t.isLt).2.2
    = states (iblk m c 1 t) (iblk m c 2 t) (iblk m c 3 t) (iblk m c 4 t) (iblk m c 7 t) (iblk m c 8 t)
      (outsAt0 m c (t.val - 1) (Nat.lt_of_le_of_lt (Nat.sub_le _ _) t.isLt)).2.2 32 := by
  rw [outsAt0_B m c t h0]
  refine (View.read_writes_junk_eq_canon (Val := Elt Ideal) VS0_0 _).trans ?_
  rw [run_B_st]
  funext y
  exact pieces_B_st _ _ _ _ _ _ _ _ _ _ _ _ _ _ _ _ _ _ _ _ _ y

/-- The states between the grid points: the retention's states before the next point's first chunk. -/
theorem carried_at (n : ℕ) (hn : n < cfg0.N) (h : Fin 4) (d e : Fin 128) :
    (outsAt0 m c n hn).2.2 (ix3 h d e) = St (proj m c) h.val d.val e.val (8 * (n + 1)) := by
  induction n generalizing h d e with
  | zero =>
    exact (congrFun (carried_A m c ⟨0, hn⟩ rfl) (ix3 h d e)).trans (left_at (blocks m c ⟨0, hn⟩) (zero_at _) h d e)
  | succ n ih =>
    have hN : n + 1 < 16 := lt_of_lt_of_eq hn N_0
    have h0 : ¬(⟨n + 1, hn⟩ : Fin cfg0.N).val % 16 = 0 := by show ¬(n + 1) % 16 = 0; omega
    exact (congrFun (carried_B m c ⟨n + 1, hn⟩ h0) (ix3 h d e)).trans
      (left_at (blocks m c ⟨n + 1, hn⟩) (fun h d e => ih (Nat.lt_of_succ_lt hn) h d e) h d e)

/-- The retention in a grid point's block, -/
theorem ret_point (t : Fin cfg0.N) (y : S512x512.Idx) : (outsAt0 m c t.val t.isLt).1 y
    = retn (proj m c) ((512 * t.val + (y 0).val) / 64) ((512 * t.val + (y 0).val) % 64) ((y 1).val / 128) ((y 1).val % 128) := by
  by_cases h0 : t.val % 16 = 0
  · rw [outsAt0_A m c t h0]
    refine (congrFun (View.read_writes_junk_eq_canon (Val := Elt Ideal) VO0_9 _) y).trans ?_
    rw [run_A_ret]
    refine (pieces_A_ret _ _ _ _ _ _ _ _ _ _ _ _ _ _ _ _ _ _ _ _ _ _ _ _ _ _ _ _ y).trans ?_
    have ht : t.val = 0 := by have := lt_of_lt_of_eq t.isLt N_0; omega
    exact unit_ret (blocks m c t) (fun h d e => by rw [ht]; exact zero_at _ h d e) y
  · rw [outsAt0_B m c t h0]
    refine (congrFun (View.read_writes_junk_eq_canon (Val := Elt Ideal) VO0_9 _) y).trans ?_
    rw [run_B_ret]
    refine (pieces_B_ret _ _ _ _ _ _ _ _ _ _ _ _ _ _ _ _ _ _ _ _ _ _ _ _ _ _ _ _ _ _ y).trans ?_
    have ht : 8 * t.val = 8 * (t.val - 1 + 1) := by omega
    exact unit_ret (blocks m c t) (fun h d e => by rw [ht]; exact carried_at m c _ _ h d e) y

/-- What a first point leaves of the saved states, -/
theorem saved_A (t : Fin cfg0.N) (h0 : t.val % 16 = 0) : (outsAt0 m c t.val t.isLt).2.1
    = fun y => k0_pay9 (fun j => states (iblk m c 1 t) (iblk m c 2 t) (iblk m c 3 t) (iblk m c 4 t) (iblk m c 7 t) (iblk m c 8 t)
      (k0_pay1 (F := Ideal)) (saverOf y) (stIx (saverOf y) j)) (inState y) := by
  rw [outsAt0_A m c t h0]
  dsimp only
  unfold out0_A_10
  rw [View.read_writes_junk_eq_canon (Val := Elt Ideal) VO0_10, run_A_saved]
  funext y
  exact pieces_A_saved _ _ _ _ _ _ _ _ _ _ _ _ _ _ _ _ _ _ _ y

/-- and a later one, -/
theorem saved_B (t : Fin cfg0.N) (h0 : ¬t.val % 16 = 0) : (outsAt0 m c t.val t.isLt).2.1
    = fun y => k0_pay9 (fun j => states (iblk m c 1 t) (iblk m c 2 t) (iblk m c 3 t) (iblk m c 4 t) (iblk m c 7 t) (iblk m c 8 t)
      (outsAt0 m c (t.val - 1) (Nat.lt_of_le_of_lt (Nat.sub_le _ _) t.isLt)).2.2 (saverOf y) (stIx (saverOf y) j)) (inState y) := by
  rw [outsAt0_B m c t h0]
  dsimp only
  unfold out0_B_10
  rw [View.read_writes_junk_eq_canon (Val := Elt Ideal) VO0_10, run_B_saved]
  funext y
  exact pieces_B_saved _ _ _ _ _ _ _ _ _ _ _ _ _ _ _ _ _ _ _ _ _ y

/-- so of every point. -/
theorem saved_point (t : Fin cfg0.N) (y : S4x8x128x128.Idx) : (outsAt0 m c t.val t.isLt).2.1 y
    = St (proj m c) (y 0).val (y 2).val (y 3).val (8 * t.val + (y 1).val) := by
  by_cases h0 : t.val % 16 = 0
  · have ht : t.val = 0 := by have := lt_of_lt_of_eq t.isLt N_0; omega
    exact (congrFun (saved_A m c t h0) y).trans (unit_saved (blocks m c t) (fun h d e => by rw [ht]; exact zero_at _ h d e) y)
  · have ht : 8 * t.val = 8 * (t.val - 1 + 1) := by omega
    exact (congrFun (saved_B m c t h0) y).trans (unit_saved (blocks m c t) (fun h d e => by rw [ht]; exact carried_at m c _ _ h d e) y)

/-- The retention over the sequence, -/
theorem final_ret (REF : FVec Ideal S8192x512 .f32)
    (href : ∀ p q, REF (ix2 p q) = retn (proj m c) (p.val / 64) (p.val % 64) (q.val / 128) (q.val % 128)) :
    (dats m 0 c).arrAt 9 (cfgs 0).N = REF := by
  refine (dats m 0 c).arrAt_eq_of_covers 9 _ (by decide +kernel) fun t _ y => ?_
  blk_simp
  rw [after0_9]
  have e : (((View.whole main_v64_0).slice (win0_9.rect t)).emb y : S8192x512.Idx) = ix2 (row t (y 0)) (y 1) := by
    blk_ext [idx t, row]
  exact (ret_point m c t y).trans ((href (row t (y 0)) (y 1)).symm.trans (congrArg REF e.symm))

/-- Chunk `n` of the block of grid point `t`. -/
def chunk (t : Fin cfg0.N) (n : Fin 8) : Fin 128 :=
  ⟨8 * t.val + n.val, by have := n.isLt; have := lt_of_lt_of_eq t.isLt N_0; omega⟩

/-- and the saved states. -/
theorem final_saved (REF : FVec Ideal S4x128x128x128 .bf16)
    (href : ∀ h n d e, REF (ix4 h n d e) = St (proj m c) h.val d.val e.val n.val) :
    (dats m 0 c).arrAt 10 (cfgs 0).N = REF := by
  refine (dats m 0 c).arrAt_eq_of_covers 10 _ (by decide +kernel) fun t _ y => ?_
  blk_simp
  rw [after0_10]
  have e : (((View.whole main_v64_1).slice (win0_10.rect t)).emb y : S4x128x128x128.Idx) = ix4 (y 0) (chunk t (y 1)) (y 2) (y 3) := by
    blk_ext [idx t, chunk]
  exact (saved_point m c t y).trans ((href (y 0) (chunk t (y 1)) (y 2) (y 3)).symm.trans (congrArg REF e.symm))

end Cert.RetFwdIdeal.Unit
-- ==== Proof.RetfRefPre.lean ====
/- The host lines before the loop of the reference for the retention, read at an index as the plain formulas. -/
module

public import proofs.«01_k».proof.Proof.Gen.RetFwdReferenceIdeal.Run
public import proofs.«01_k».proof.Proof.RetfSpec
public import Idealize.ShloMosaic.Lib.StableHlo.ReadAt

@[expose] public section

set_option maxRecDepth 16384
set_option maxHeartbeats 400000

noncomputable section

namespace Cert.RetFwdReferenceIdeal.Reads

open Cert.RetFwdReferenceIdeal Cert.RetFwdReferenceIdeal.Gen Idealize.ShloMosaic Idealize.ShloMosaic.TcCoe Idealize.SL.Sem Cert.RetSpec

variable (V : Valuation τ sig (Elt Ideal))

/-- The projection. -/
abbrev pr : ℕ → ℕ → EReal := at3 (b := 8192) (c := 3072) (V (Proc.devRef .tc main_arg0))
theorem pr_at (p : Fin 8192) (q : Fin 3072) : V (Proc.devRef .tc main_arg0) (ix3 0 p q) = pr V p.val q.val := at3_eq _ _ _ _
/-- The rotated queries by chunks, -/
theorem v66_at (h : Fin 4) (n : Fin 128) (i : Fin 64) (d : Fin 128) :
    StableHlo.after hostOps0 V (Proc.devRef .tc main_v66) (ix5 0 h n i d) = qh (pr V) (n.val * 64 + i.val) h.val d.val := by
  after_reads_at
  unfold qh rot
  split
  · after_reads_simp
    pointwise
    simp only [pr_at, lo, hi, cosA, sinA, ang, num, sc]
  · after_reads_simp
    pointwise
    simp only [pr_at, lo, hi, cosA, sinA, ang, num, sc]

/-- the logarithms of the decays -/
theorem v78_at (h : Fin 4) : StableHlo.after hostOps0 V (Proc.devRef .tc main_v78) (ix1 h) = lg h.val := by
  after_reads_at
  simp only [num, lg]

/-- and the chunk's positions, -/
theorem v79_at (i : Fin 64) : StableHlo.after hostOps0 V (Proc.devRef .tc main_v79) (ix1 i) = num i.val := by
  after_reads_at
  simp only [num]

/-- what a chunk's own positions give, -/
theorem v96_at (h : Fin 4) (n : Fin 128) (i : Fin 64) (e : Fin 128) :
    StableHlo.after hostOps0 V (Proc.devRef .tc main_v96) (ix5 0 h n i e)
      = ∑ x : Fin 64, score (pr V) n.val h.val i.val x.val * vh (pr V) (n.val * 64 + x.val) h.val e.val := by
  after_reads_simp
  show (show FVec Ideal S1x4x128x64x128 .f32 from Host.dotGeneral (φ₁ := .f32) (φ₂ := .f32) _ none _ _) _ = _
  pointwise
  refine Finset.sum_congr rfl fun x _ => congrArg₂ (fun x y : EReal => x * y) ?_ ?_
  · unfold score
    refine congrArg₂ (fun x y : EReal => x * y) ?_ ?_
    · refine Eq.trans ?_ (Fin.sum_univ_add (a := 64) (b := 64) fun y : Fin (64 + 64) =>
        qh (pr V) (n.val * 64 + i.val) h.val y.val * kh (pr V) (n.val * 64 + x.val) h.val y.val).symm
      unfold qh kh rot
      refine congrArg₂ (fun x y : EReal => x + y)
        (Finset.sum_congr rfl fun y _ => congrArg₂ (fun x y : EReal => x * y) ?_ (congrArg₂ (fun x y : EReal => x * y) ?_ rfl))
        (Finset.sum_congr rfl fun y _ => congrArg₂ (fun x y : EReal => x * y) ?_ (congrArg₂ (fun x y : EReal => x * y) ?_ rfl))
      · refine Eq.trans ?_ (if_pos (show (Fin.castAdd 64 y).val < 64 from y.isLt)).symm
        after_reads_simp
        pointwise
        simp only [pr_at, lo, hi, cosA, sinA, ang, num, sc, Fin.val_castAdd]
      · refine Eq.trans ?_ (if_pos (show (Fin.castAdd 64 y).val < 64 from y.isLt)).symm
        after_reads_simp
        pointwise
        simp only [pr_at, lo, hi, cosA, sinA, ang, num, sc, Fin.val_castAdd]
      · refine Eq.trans ?_ (if_neg (show ¬(Fin.natAdd 64 y).val < 64 from by rw [Fin.val_natAdd]; omega)).symm
        after_reads_simp
        pointwise
        simp only [pr_at, lo, hi, cosA, sinA, ang, num, sc, Fin.val_natAdd, Nat.add_sub_cancel_left]
      · refine Eq.trans ?_ (if_neg (show ¬(Fin.natAdd 64 y).val < 64 from by rw [Fin.val_natAdd]; omega)).symm
        after_reads_simp
        pointwise
        simp only [pr_at, lo, hi, cosA, sinA, ang, num, sc, Fin.val_natAdd, Nat.add_sub_cancel_left]
    · simp only [num, dm, lg]
  · simp only [pr_at, vh]

/-- What each chunk adds to the state, -/
theorem kv_at (n : Fin 128) (h : Fin 4) (d e : Fin 128) :
    StableHlo.after hostOps0 V (Proc.devRef .tc main_v124_0) (ix5 n 0 h d e) = fwd (pr V) n.val h.val d.val e.val := by
  after_reads_simp
  show (show FVec Ideal S128x1x4x128x128 .f32 from Host.dotGeneral (φ₁ := .f32) (φ₂ := .f32) _ none _ _) _ = _
  pointwise
  unfold fwd kh rot
  refine Finset.sum_congr rfl fun x _ => congrArg₂ (fun x y : EReal => x * y) (congrArg₂ (fun x y : EReal => x * y) ?_ ?_) ?_
  · split
    · after_reads_simp
      pointwise
      simp only [pr_at, lo, hi, cosA, sinA, ang, num, sc]
    · after_reads_simp
      pointwise
      simp only [pr_at, lo, hi, cosA, sinA, ang, num, sc]
  · simp only [kd, lg, num]
  · simp only [pr_at, vh]

/-- the decay over a chunk, -/
theorem decay_at (h : Fin 4) : StableHlo.after hostOps0 V (Proc.devRef .tc main_v124_1) (ix4 0 h 0 0) = cd h.val := by
  after_reads_simp
  show (show S1x4x1x1.Idx → EReal from broadcastInDim _ _ _ _) _ = _
  pointwise
  simp only [cd, lg, num]

/-- and the first state, zero. -/
theorem zero_at (h : Fin 4) (d e : Fin 128) :
    StableHlo.after hostOps0 V (Proc.devRef .tc main_v124_3) (ix4 0 h d e) = (0 : EReal) := by
  after_reads_simp
  show (show S1x4x128x128.Idx → EReal from broadcastInDim _ _ _ _) _ = _
  pointwise

end Cert.RetFwdReferenceIdeal.Reads
-- ==== Proof.RetfRefLoop.lean ====
/- The loop of the reference for the retention: after `k` trips the carried state is the retention's state before
   chunk `k`, and the states before the earlier chunks stay in the array of the states. -/
module

public import proofs.«01_k».proof.Proof.RetfRefPre
public import proofs.«01_k».proof.Proof.RetRefLoop

@[expose] public section

set_option maxRecDepth 16384
set_option maxHeartbeats 400000

noncomputable section

namespace Cert.RetFwdReferenceIdeal.Reads

open Cert.RetFwdReferenceIdeal Cert.RetFwdReferenceIdeal.Gen Cert.RetFwdReferenceIdeal.Value Idealize.ShloMosaic Idealize.ShloMosaic.TcCoe Idealize.ShloMosaic.StableHlo Idealize.SL.Sem Cert.RetSpec

/-- The chunks' parts, the decays, the carried state and the array of the states. -/
abbrev c0 (V : Valuation τ sig (Elt Ideal)) : S128x1x4x128x128.Idx → EReal := V (Proc.devRef .tc main_v124_0)
abbrev c1 (V : Valuation τ sig (Elt Ideal)) : S1x4x1x1.Idx → EReal := V (Proc.devRef .tc main_v124_1)
abbrev c3 (V : Valuation τ sig (Elt Ideal)) : S1x4x128x128.Idx → EReal := V (Proc.devRef .tc main_v124_3)
abbrev c4 (V : Valuation τ sig (Elt Ideal)) : S128x1x4x128x128.Idx → EReal := V (Proc.devRef .tc main_v124_4)

/-- The trip's index is its number. -/
theorem index_at (V : Valuation τ sig (Elt Ideal)) (k : ℕ) (hk : k < 128) (hc : V (Proc.devRef .tc main_v124_2) = fun _ => Scf.iv 0#32 1#32 k)
    (a : Fin 5) :
    ((((![V (Proc.devRef .tc main_v124_2), constantI S_ 32 0#32, constantI S_ 32 0#32, constantI S_ 32 0#32, constantI S_ 32 0#32] : Fin 5 → (⟨S_, .i32⟩ : BufTy).Contents (Elt Ideal))) a (Shape.Idx.first h_S_)).toInt)
      = ((![k, 0, 0, 0, 0] : Fin 5 → ℕ) a : Int) := by
  have e : ((show (⟨S_, .i32⟩ : BufTy).Contents (Elt Ideal) from V (Proc.devRef .tc main_v124_2)) (Shape.Idx.first h_S_)).toInt = (k : Int) := by
    rw [hc]
    show (Scf.iv 0#32 1#32 k).toInt = _
    have : ∀ j : Fin 128, (Scf.iv 0#32 1#32 j.val).toInt = (j.val : Int) := by decide +kernel
    exact this ⟨k, hk⟩
  fin_cases a
  · exact e
  · rfl
  · rfl
  · rfl
  · rfl

/-- The carried state after a trip. -/
theorem step3_at (V : Valuation τ sig (Elt Ideal)) (k : ℕ) (hk : k < 128) (hc : V (Proc.devRef .tc main_v124_2) = fun _ => Scf.iv 0#32 1#32 k)
    (h : Fin 4) (d e : Fin 128) :
    c3 (STEP V) (ix4 0 h d e) = c1 V (ix4 0 h 0 0) * c3 V (ix4 0 h d e) + c0 V (ix5 ⟨k, hk⟩ 0 h d e) := by
  refine (congrFun (STEP_main_v124_3 V) (ix4 0 h d e)).trans ?_
  unfold step_main_v124_3
  refine congrArg₂ (fun x y : EReal => x + y) ?_ (Cert.RetReferenceIdeal.Reads.take_at (c0 V) _ k hk (index_at V k hk hc) _ _ h d e)
  refine congrArg (fun x : EReal => x * c3 V (ix4 0 h d e)) ?_
  show (show S1x4x128x128.Idx → EReal from broadcastInDim _ _ _ (c1 V)) _ = _
  pointwise

/-- The array of the states after a trip, at the trip's chunk -/
theorem step4_on (V : Valuation τ sig (Elt Ideal)) (k : ℕ) (hk : k < 128) (hc : V (Proc.devRef .tc main_v124_2) = fun _ => Scf.iv 0#32 1#32 k)
    (h : Fin 4) (d e : Fin 128) :
    c4 (STEP V) (ix5 ⟨k, hk⟩ 0 h d e) = c3 V (ix4 0 h d e) := by
  refine (congrFun (STEP_main_v124_4 V) _).trans ?_
  unfold step_main_v124_4
  exact Cert.RetReferenceIdeal.Reads.put_on (c4 V) (c3 V) _ k hk (index_at V k hk hc) _ h d e

/-- and at the others. -/
theorem step4_off (V : Valuation τ sig (Elt Ideal)) (k : ℕ) (hk : k < 128) (hc : V (Proc.devRef .tc main_v124_2) = fun _ => Scf.iv 0#32 1#32 k)
    (n : Fin 128) (hn : n.val ≠ k) (h : Fin 4) (d e : Fin 128) :
    c4 (STEP V) (ix5 n 0 h d e) = c4 V (ix5 n 0 h d e) := by
  refine (congrFun (STEP_main_v124_4 V) _).trans ?_
  unfold step_main_v124_4
  exact Cert.RetReferenceIdeal.Reads.put_off (c4 V) (c3 V) _ k hk (index_at V k hk hc) _ n hn h d e

variable (m : (ℓ : Loc nD τ sig) → Buf (Elt Ideal) ℓ) (c : Dev nD)

/-- The contents before the loop, on the buffers it carries, after `k` trips. -/
abbrev tripped (k : ℕ) : Valuation τ sig (Elt Ideal) := STEP^[k] (entryContents preI m c)

theorem tripped_ctr (k : ℕ) : tripped m c k (Proc.devRef .tc main_v124_2) = fun _ => Scf.iv 0#32 1#32 k :=
  (atK_agree m c k main_v124_2 (by decide)).symm.trans (atK_ctr m c k)

theorem tripped_c0 (k : ℕ) : c0 (tripped m c k) = c0 (entryContents preI m c) := by
  induction k with
  | zero => rfl
  | succ k ih =>
    unfold tripped
    rw [Function.iterate_succ_apply']
    exact (STEP_main_v124_0 _).trans ih

theorem tripped_c1 (k : ℕ) : c1 (tripped m c k) = c1 (entryContents preI m c) := by
  induction k with
  | zero => rfl
  | succ k ih =>
    unfold tripped
    rw [Function.iterate_succ_apply']
    exact (STEP_main_v124_1 _).trans ih

/-- The projection before the loop. -/
abbrev P : ℕ → ℕ → EReal := pr (launchContents m c)

/-- After `k` trips the carried state is that before chunk `k`, and those before the first `k` chunks are in the array. -/
theorem tripped_at (k : ℕ) (hk : k ≤ 128) :
    (∀ (h : Fin 4) (d e : Fin 128), c3 (tripped m c k) (ix4 0 h d e) = St (P m c) h.val d.val e.val k)
    ∧ ∀ (n : Fin 128) (h : Fin 4) (d e : Fin 128), n.val < k →
      c4 (tripped m c k) (ix5 n 0 h d e) = St (P m c) h.val d.val e.val n.val := by
  induction k with
  | zero => exact ⟨fun h d e => zero_at (launchContents m c) h d e, fun n h d e hn => absurd hn (Nat.not_lt_zero _)⟩
  | succ k ih =>
    obtain ⟨i3, i4⟩ := ih (by omega)
    have hs : tripped m c (k + 1) = STEP (tripped m c k) := Function.iterate_succ_apply' _ _ _
    rw [hs]
    refine ⟨fun h d e => ?_, fun n h d e hn => ?_⟩
    · rw [step3_at _ k (by omega) (tripped_ctr m c k), tripped_c0, tripped_c1, i3, St]
      exact congrArg₂ (fun x y : EReal => x * St (P m c) h.val d.val e.val k + y) (decay_at (launchContents m c) h)
        (kv_at (launchContents m c) ⟨k, by omega⟩ h d e)
    · by_cases he : n.val = k
      · have e1 : n = ⟨k, by omega⟩ := Fin.ext he
        rw [he, ← i3, e1]
        exact step4_on _ k (by omega) (tripped_ctr m c k) h d e
      · rw [step4_off _ k (by omega) (tripped_ctr m c k) n he]
        exact i4 n h d e (by omega)

/-- After the loop the array holds all the states. -/
theorem states_at (n : Fin 128) (h : Fin 4) (d e : Fin 128) :
    c4 (atK m 128 c) (ix5 n 0 h d e) = St (P m c) h.val d.val e.val n.val := by
  have e1 : c4 (atK m 128 c) = c4 (tripped m c 128) := atK_agree m c 128 main_v124_4 (by decide)
  rw [e1]
  exact (tripped_at m c 128 le_rfl).2 n h d e n.isLt

/-- A buffer that neither the loop's test nor its body writes is, after `k` trips, as before the loop. -/
theorem kept (r : Ref sig .tc) (h : r ∉ condOps_W ++ (while0Ops0_W ++ (while0Ops0_1_W ++ (while0Ops0_2_W ++ while0Ops0_3_W))))
    (k : ℕ) : atK m k c (Proc.devRef .tc r) = entryContents preI m c (Proc.devRef .tc r) := by
  simp only [List.mem_append, not_or] at h
  induction k with
  | zero => rfl
  | succ k ih =>
    refine Eq.trans ?_ ih
    show after while0Ops0_3 (after while0Ops0_2 (after while0Ops0_1 (after while0Ops0 (after condOps (atK m k c))))) _ = _
    rw [after_of_writes_sub while0Ops0_3 _ while0Ops0_3_writes h.2.2.2.2,
      after_of_writes_sub while0Ops0_2 _ while0Ops0_2_writes h.2.2.2.1, after_of_writes_sub while0Ops0_1 _ while0Ops0_1_writes h.2.2.1,
      after_of_writes_sub while0Ops0 _ while0Ops0_writes h.2.1, after_of_writes_sub condOps _ condOps_writes h.1]

end Cert.RetFwdReferenceIdeal.Reads
-- ==== Proof.RetfRefPost.lean ====
/- The results of the reference for the retention, read at an index as the plain formulas, and its run. -/
module

public import proofs.«01_k».proof.Proof.RetfRefLoop

@[expose] public section

set_option maxRecDepth 16384
set_option maxHeartbeats 400000

noncomputable section

namespace Cert.RetFwdReferenceIdeal.Reads

open Cert.RetFwdReferenceIdeal Cert.RetFwdReferenceIdeal.Gen Cert.RetFwdReferenceIdeal.Value Idealize.ShloMosaic Idealize.ShloMosaic.TcCoe Idealize.ShloMosaic.StableHlo Idealize.SL.Sem Cert.RetSpec

/-- The arrays that the lines after the loop read. -/
abbrev cIn (V : Valuation τ sig (Elt Ideal)) : S1x4x128x64x128.Idx → EReal := V (Proc.devRef .tc main_v96)
abbrev cQry (V : Valuation τ sig (Elt Ideal)) : S1x4x128x64x128.Idx → EReal := V (Proc.devRef .tc main_v66)
abbrev cLog (V : Valuation τ sig (Elt Ideal)) : S4.Idx → EReal := V (Proc.devRef .tc main_v78)
abbrev cPos (V : Valuation τ sig (Elt Ideal)) : S64.Idx → EReal := V (Proc.devRef .tc main_v79)

/-- What they hold, of the contents `z` after the loop, with the projection `P`. -/
structure Known (z : Valuation τ sig (Elt Ideal)) (P : ℕ → ℕ → EReal) : Prop where
  st (n : Fin 128) (h : Fin 4) (d e : Fin 128) : c4 z (ix5 n 0 h d e) = St P h.val d.val e.val n.val
  own (h : Fin 4) (n : Fin 128) (i : Fin 64) (e : Fin 128) :
    cIn z (ix5 0 h n i e) = ∑ x : Fin 64, score P n.val h.val i.val x.val * vh P (n.val * 64 + x.val) h.val e.val
  qry (h : Fin 4) (n : Fin 128) (i : Fin 64) (d : Fin 128) : cQry z (ix5 0 h n i d) = qh P (n.val * 64 + i.val) h.val d.val
  log (h : Fin 4) : cLog z (ix1 h) = lg h.val
  pos (i : Fin 64) : cPos z (ix1 i) = num i.val

section post

variable {z : Valuation τ sig (Elt Ideal)} {P : ℕ → ℕ → EReal} (K : Known z P)

include K

/-- The retention, -/
theorem post_ret (p : Fin 8192) (q : Fin 512) : (after hostOps0_1 z (Proc.devRef .tc main_v140) (ix2 p q) : EReal)
    = retn P (p.val / 64) (p.val % 64) (q.val / 128) (q.val % 128) := by
  have hq : q.val / 128 < 4 := by have := q.isLt; omega
  have hn : p.val / 64 < 128 := by have := p.isLt; omega
  after_reads_at
  unfold retn
  refine congrArg₂ (fun x y : EReal => x + y)
    (K.own ⟨q.val / 128, hq⟩ ⟨p.val / 64, hn⟩ ⟨p.val % 64, by omega⟩ ⟨q.val % 128, by omega⟩)
    (Finset.sum_congr rfl fun x _ => congrArg₂ (fun x y : EReal => x * y) (congrArg₂ (fun x y : EReal => x * y)
      (K.qry ⟨q.val / 128, hq⟩ ⟨p.val / 64, hn⟩ ⟨p.val % 64, by omega⟩ x) ?_)
      (K.st ⟨p.val / 64, hn⟩ ⟨q.val / 128, hq⟩ x ⟨q.val % 128, by omega⟩))
  exact congrArg Ideal.exp (congrArg₂ (fun x y : EReal => x * (y + 1)) (K.log ⟨q.val / 128, hq⟩) (K.pos ⟨p.val % 64, by omega⟩))

/-- and the saved states. -/
theorem post_saved (h : Fin 4) (n d e : Fin 128) : (after hostOps0_1 z (Proc.devRef .tc main_v143) (ix4 h n d e) : EReal)
    = St P h.val d.val e.val n.val := by
  after_reads_at
  exact K.st n h d e

end post

variable (m : (ℓ : Loc nD τ sig) → Buf (Elt Ideal) ℓ) (c : Dev nD)

/-- The contents after the loop. -/
def Z : Valuation τ sig (Elt Ideal) := after condOps (atK m 128 c)

theorem Z_eq : Z m c = after condOps (atK m 128 c) := rfl

theorem Z_kept (r : Ref sig .tc) (h : r ∉ condOps_W ++ (while0Ops0_W ++ (while0Ops0_1_W ++ (while0Ops0_2_W ++ while0Ops0_3_W)))) :
    Z m c (Proc.devRef .tc r) = after hostOps0 (launchContents m c) (Proc.devRef .tc r) := by
  rw [Z_eq]
  exact (after_of_writes_sub condOps _ condOps_writes fun hm => h (List.mem_append_left _ hm)).trans (kept m c r h 128)

theorem Z_arg0 : Z m c (Proc.devRef .tc main_arg0) = m ((c.tc : Thread nD τ).loc main_arg0) :=
  (Z_kept m c main_arg0 (by decide +kernel)).trans (after_of_writes_sub hostOps0 _ hostOps0_writes (by decide +kernel))

/-- What is known after the loop. -/
theorem known : Known (Z m c) (P m c) where
  st n h d e := by
    have e1 : c4 (Z m c) = c4 (atK m 128 c) := by rw [Z_eq]; exact cond_keeps (atK m 128 c) main_v124_4 (by decide)
    exact (congrFun e1 _).trans (states_at m c n h d e)
  own h n i e := (congrFun (Z_kept m c main_v96 (by decide +kernel)) _).trans (v96_at (launchContents m c) h n i e)
  qry h n i d := (congrFun (Z_kept m c main_v66 (by decide +kernel)) _).trans (v66_at (launchContents m c) h n i d)
  log h := (congrFun (Z_kept m c main_v78 (by decide +kernel)) _).trans (v78_at (launchContents m c) h)
  pos i := (congrFun (Z_kept m c main_v79 (by decide +kernel)) _).trans (v79_at (launchContents m c) i)

/-- What the reference leaves of the retention, -/
abbrev resR : FVec Ideal S8192x512 .f32 := finalContents condOps preI bodyI postI 128 m c (Proc.devRef .tc main_v140)

/-- and of the states. -/
abbrev resS : FVec Ideal S4x128x128x128 .bf16 := finalContents condOps preI bodyI postI 128 m c (Proc.devRef .tc main_v143)

theorem ret_at (p : Fin 8192) (q : Fin 512) :
    resR m c (ix2 p q) = retn (P m c) (p.val / 64) (p.val % 64) (q.val / 128) (q.val % 128) :=
  post_ret (known m c) p q

theorem saved_at (h : Fin 4) (n d e : Fin 128) : resS m c (ix4 h n d e) = St (P m c) h.val d.val e.val n.val :=
  post_saved (known m c) h n d e

/-- The argument is kept. -/
theorem kept_arg0 : finalContents condOps preI bodyI postI 128 m c (Proc.devRef .tc main_arg0) = m ((c.tc : Thread nD τ).loc main_arg0) := by
  show after hostOps0_1 (Z m c) (Proc.devRef .tc main_arg0) = _
  refine Eq.trans ?_ (Z_arg0 m c)
  refine after_of_forall_not_mem (b := Proc.devRef .tc main_arg0) _ _ (List.forall_iff_forall_mem.mp ?_)
  simp only [hostOps0_1, List.Forall, nullary_writes, unary_writes, binary_writes, reshape_writes, Finset.mem_singleton]
  repeat' apply And.intro
  all_goals exact devRef_ne_of_ne (by decide)

/-- The reference's run: its results and its argument. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v140) = resR m c
    ∧ r.2.mem ((c.tc : Thread nD τ).loc main_v143) = resS m c
    ∧ r.2.mem ((c.tc : Thread nD τ).loc main_arg0) = m ((c.tc : Thread nD τ).loc main_arg0)) :=
  (θ_run (defs (F := Ideal)) _ _).mono
    (fun r h c => ⟨h c main_v140 rfl, h c main_v143 rfl, (h c main_arg0 rfl).trans (kept_arg0 m c)⟩)
    (run_fold m g)

end Cert.RetFwdReferenceIdeal.Reads
-- ==== Proof.RetF.lean ====
module

public import proofs.«01_k».proof.Defs
public import proofs.«01_k».proof.Proof.Gen.RetFwd
public import proofs.«01_k».proof.Proof.Gen.RetFwd.Frame
public import proofs.«01_k».proof.Proof.Gen.RetFwdIdeal.Frame
public import proofs.«01_k».proof.Proof.Gen.RetFwdReferenceIdeal.Run
public import proofs.«01_k».proof.Proof.RetfFinal
public import proofs.«01_k».proof.Proof.RetfRefPost

/-! # The chunked retention: the claims about its forward call -/

@[expose] public section

set_option maxRecDepth 16384

noncomputable section

namespace Cert.RetFwdProof

open Idealize.ShloMosaic Idealize.ShloMosaic.TcCoe Idealize.SL.Sem

/-- The kernel runs and leaves its argument alone. -/
theorem frame : Cert.quiescent_RetFwd := fun m ρ _ => Cert.RetFwd.Gen.frame m ρ

/-- So does its ideal reading. -/
theorem frame_ideal : Cert.quiescent_RetFwdIdeal := fun m ρ _ => Cert.RetFwdIdeal.Gen.frame m ρ

/-- The reference runs and leaves its argument alone; it has no counter. -/
theorem frame_reference : Cert.quiescent_RetFwdReferenceIdeal := fun m g _ =>
  (θ_run Cert.RetFwdReferenceIdeal.defs _ _).mono
    (fun r h => ⟨fun c => (h c).2.2, Idealize.ShloMosaic.sem_eq_zero_of_no_sems (by decide) r.2⟩)
    (Cert.RetFwdReferenceIdeal.Reads.run m g)

/-- The kernel leaves the retention and the states before the chunks, whatever the projection. -/
theorem algebraic : Cert.algebraic_RetFwdIdeal_RetFwdReferenceIdeal := by
  intro m g m' g' _ hagree
  have hP (c : Dev Cert.RetFwdReferenceIdeal.nD) : Cert.RetFwdReferenceIdeal.Reads.P m' c = Cert.RetFwdIdeal.Unit.proj m c :=
    congrArg (fun X => Cert.RetSpec.at3 (b := 8192) (c := 3072) X) (hagree c)
  refine ⟨Cert.RetFwdReferenceIdeal.Reads.resR m', Cert.RetFwdReferenceIdeal.Reads.resS m', ?_, Cert.RetFwdReferenceIdeal.Reads.run m' g'⟩
  refine (θ_run Cert.RetFwdIdeal.defs _ _).mono (fun r h c => ⟨(h c).1.trans ?_, (h c).2.1.trans ?_, (h c).2.2⟩)
    (Cert.RetFwdIdeal.Value.run_blocks m g)
  · refine Cert.RetFwdIdeal.Unit.final_ret m c (Cert.RetFwdReferenceIdeal.Reads.resR m' c) fun p q => ?_
    rw [← hP c]
    exact Cert.RetFwdReferenceIdeal.Reads.ret_at m' c p q
  · refine Cert.RetFwdIdeal.Unit.final_saved m c (Cert.RetFwdReferenceIdeal.Reads.resS m' c) fun h n d e => ?_
    rw [← hP c]
    exact Cert.RetFwdReferenceIdeal.Reads.saved_at m' c h n d e

end Cert.RetFwdProof

end
-- ==== Proof.InFwdKernel.lean ====
module

public import proofs.«01_k».proof.Proof.Gen.InFwdIdeal.Frame
public import proofs.«01_k».proof.Proof.Gen.InFwdReferenceIdeal.Read
public import Idealize.ShloMosaic.Lib.Pipeline.ValueKit
public import Idealize.ShloMosaic.Lib.Pointwise

/-! # The first norm and the input projection: the kernel's rows and the reference's -/

@[expose] public section

set_option maxRecDepth 16384

noncomputable section

namespace Cert.InFwdKernel

open Idealize.ShloMosaic Idealize.ShloMosaic.TcCoe Idealize.SL.Sem
open Idealize.ShloMosaic.Pipeline (Dat)
open Cert.InFwdIdeal Cert.InFwdIdeal.Gen

/-- The reciprocal root of a row's mean square, the small constant added. -/
def rootOf (x : Fin 1024 → EReal) : EReal :=
  Ideal.rsqrt (Ideal.div (∑ k, x k * x k) (Scalar.ofBits (F := Ideal) .f32 0x44800000#32) + Scalar.ofBits (F := Ideal) .f32 0x358637BD#32)

/-- The normalised row times the gain, against one column of the weights. -/
def entry (x g w : Fin 1024 → EReal) : EReal := ∑ k, x k * rootOf x * g k * w k

/-- One block of 512 rows. -/
theorem block (x : Vec Ideal S512x1024 .f32) (g : Vec Ideal S1x1024 .f32) (w : Vec Ideal S1024x3072 .bf16) (r : Fin 512) (j : Fin 3072) :
    k0_pay1 x g w (ix2 r j) = entry (fun k => x (ix2 r k)) (fun k => g (ix2 0 k)) (fun k => w (ix2 k j)) := by
  pointwise [k0_pay1]
  rfl

/-- The reference's rows. -/
theorem reference (x : FVec Ideal S1x8192x1024 .f32) (g : FVec Ideal S1024 .f32) (w : FVec Ideal S1024x3072 .f32) (n : Fin 8192) (j : Fin 3072) :
    Cert.InFwdReferenceIdeal.Read.val_main_v14 (F := Ideal) x g w (ix2 n j)
      = entry (fun k => x (ix3 0 n k)) (fun k => g (ix1 k)) (fun k => w (ix2 k j)) := by
  open Cert.InFwdReferenceIdeal.Read in
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- Row `r` of block `t` is row `512 t + r` of the sequence. -/
def row (t : Fin cfg0.N) (r : Fin 512) : Fin 8192 :=
  ⟨t.val * 512 + r.val, by have h : t.val < 16 := lt_of_lt_of_eq t.isLt N_0; have := r.isLt; omega⟩

theorem x_block (c : Dev nD) (t : Fin cfg0.N) (r : Fin 512) (k : Fin 1024) :
    (iblk m c 0 t : Vec Ideal S512x1024 .f32) (ix2 r k) = (m ((c : Thread nD τ).loc main_arg0) : FVec Ideal S1x8192x1024 .f32) (ix3 0 (row t r) k) := by
  blk_simp [iblk]
  entry_read
  pointwise
  blk_ext [idx t, row]

theorem g_block (c : Dev nD) (t : Fin cfg0.N) (k : Fin 1024) :
    (iblk m c 1 t : Vec Ideal S1x1024 .f32) (ix2 0 k) = (m ((c : Thread nD τ).loc main_arg1) : FVec Ideal S1024 .f32) (ix1 k) := by
  blk_simp [iblk]
  entry_read
  pointwise
  blk_ext [idx t]

theorem w_block (c : Dev nD) (t : Fin cfg0.N) (k : Fin 1024) (j : Fin 3072) :
    (iblk m c 2 t : Vec Ideal S1024x3072 .bf16) (ix2 k j) = (m ((c : Thread nD τ).loc main_arg2) : FVec Ideal S1024x3072 .f32) (ix2 k j) := by
  blk_simp [iblk]
  entry_read
  pointwise
  blk_ext [idx t]

/-- Over the whole sequence the kernel leaves the normalised rows against the weights. -/
theorem final (c : Dev nD) (REF : FVec Ideal S8192x3072 .f32)
    (href : ∀ n j, REF (ix2 n j) = entry (fun k => (m ((c : Thread nD τ).loc main_arg0) : FVec Ideal S1x8192x1024 .f32) (ix3 0 n k))
      (fun k => (m ((c : Thread nD τ).loc main_arg1) : FVec Ideal S1024 .f32) (ix1 k))
      (fun k => (m ((c : Thread nD τ).loc main_arg2) : FVec Ideal S1024x3072 .f32) (ix2 k j))) :
    (dats m 0 c).arrAt 3 (cfgs 0).N = REF := by
  refine (dats m 0 c).arrAt_eq_of_covers 3 _ (by decide +kernel) fun t _ y => ?_
  blk_simp
  rw [after0_3]
  have e : (((View.whole main_v3).slice (win0_3.rect t)).emb y : S8192x3072.Idx) = ix2 (row t (y 0)) (y 1) := by
    blk_ext [idx t, row]
  have hy : (y : S512x3072.Idx) = ix2 (y 0) (y 1) := by idx_ext
  have point : ∀ (r : Fin 512) (j : Fin 3072), k0_pay1 (iblk m c 0 t) (iblk m c 1 t) (iblk m c 2 t) (ix2 r j) = REF (ix2 (row t r) j) := fun r j => by
    rw [block, href]
    simp only [x_block, g_block, w_block]
  have key : k0_pay1 (iblk m c 0 t) (iblk m c 1 t) (iblk m c 2 t) (y : S512x3072.Idx) = REF (((View.whole main_v3).slice (win0_3.rect t)).emb y) :=
    (congrArg (k0_pay1 (iblk m c 0 t) (iblk m c 1 t) (iblk m c 2 t)) hy).trans ((point _ _).trans (congrArg REF e.symm))
  frame_out
  exact key

end Cert.InFwdKernel

end
-- ==== Proof.InFwd.lean ====
module

public import proofs.«01_k».proof.Defs
public import proofs.«01_k».proof.Proof.Gen.InFwd
public import proofs.«01_k».proof.Proof.Gen.InFwd.Frame
public import proofs.«01_k».proof.Proof.Gen.InFwdReferenceIdeal.Run
public import proofs.«01_k».proof.Proof.InFwdKernel

/-! # The first norm and the input projection: the claims about the forward call -/

@[expose] public section

set_option maxRecDepth 16384

noncomputable section

namespace Cert.InFwdProof

open Idealize.ShloMosaic Idealize.ShloMosaic.TcCoe Idealize.SL.Sem

/-- The kernel runs and leaves its arguments alone. -/
theorem frame : Cert.quiescent_InFwd := fun m ρ _ => Cert.InFwd.Gen.frame m ρ

/-- So does its ideal reading. -/
theorem frame_ideal : Cert.quiescent_InFwdIdeal := fun m ρ _ => Cert.InFwdIdeal.Gen.frame m ρ

/-- The reference runs and leaves its arguments alone; it has no counter. -/
theorem frame_reference : Cert.quiescent_InFwdReferenceIdeal := fun m g _ =>
  (θ_run Cert.InFwdReferenceIdeal.defs _ _).mono
    (fun r h => ⟨fun c => (h c).2, Idealize.ShloMosaic.sem_eq_zero_of_no_sems (by decide) r.2⟩)
    (Cert.InFwdReferenceIdeal.Value.run (F := Ideal) m g)

/-- On all arguments the kernel's result is the projection of the normalised rows. -/
theorem algebraic : Cert.algebraic_InFwdIdeal_InFwdReferenceIdeal := by
  pair_intro
  · run_from Cert.InFwdIdeal.Gen.run_main m g
  · run_from Cert.InFwdReferenceIdeal.Value.run m' g'
    exact (Cert.InFwdKernel.final m c (Cert.InFwdReferenceIdeal.Read.val_main_v14 (F := Ideal)
      (m ((c.tc : Thread Cert.InFwdIdeal.nD Cert.InFwdIdeal.τ).loc Cert.InFwdIdeal.main_arg0)) (m ((c.tc : Thread Cert.InFwdIdeal.nD Cert.InFwdIdeal.τ).loc Cert.InFwdIdeal.main_arg1))
      (m ((c.tc : Thread Cert.InFwdIdeal.nD Cert.InFwdIdeal.τ).loc Cert.InFwdIdeal.main_arg2))) fun n j => Cert.InFwdKernel.reference _ _ _ n j).symm

end Cert.InFwdProof

end
-- ==== Proof.OutFwdBlock.lean ====
module

public import proofs.«01_k».proof.Proof.Gen.OutFwdIdeal.Frame
public import Idealize.ShloMosaic.Lib.Pipeline.ValueKit
public import Idealize.ShloMosaic.Lib.Pointwise

/-! # The retention's norm and gate and the output projection: one block of the kernel's rows -/

@[expose] public section

set_option maxRecDepth 16384

noncomputable section

namespace Cert.OutFwdBlock

open Idealize.ShloMosaic Idealize.ShloMosaic.TcCoe Idealize.SL.Sem
open Cert.OutFwdIdeal Cert.OutFwdIdeal.Gen

/-! ## The formulas -/

/-- The mean of a head's 128 entries. -/
def mean (x : Fin 128 → EReal) : EReal := Ideal.div (∑ k, x k) (Scalar.ofBits (F := Ideal) .f32 0x43000000#32)

/-- A head's entries less their mean, over the root of the mean square, the small constant added. -/
def normed (x : Fin 128 → EReal) (k : Fin 128) : EReal :=
  (x k - mean x) * Ideal.rsqrt (Ideal.div (∑ j, (x j - mean x) * (x j - mean x)) (Scalar.ofBits (F := Ideal) .f32 0x43000000#32)
    + Scalar.ofBits (F := Ideal) .f32 0x358637BD#32)

/-- The gate times the gain, the gate by the hyperbolic tangent of half its argument. -/
def gated (a g : EReal) : EReal :=
  a * (Scalar.ofBits (F := Ideal) .f32 0x3F000000#32 * Ideal.tanh (Scalar.ofBits (F := Ideal) .f32 0x3F000000#32 * a)
    + Scalar.ofBits (F := Ideal) .f32 0x3F000000#32) * g

/-- Column `k` of head `h` among the 512. -/
def col (h : Fin 4) (k : Fin 128) : Fin 512 := ⟨128 * h.val + k.val, by omega⟩

/-- The same columns among the 1024 of the joined row: the first 512, -/
def leftCol (k : Fin 512) : Fin 1024 := ⟨k.val, by omega⟩
/-- and those of head `h`. -/
def headCol (h : Fin 4) (k : Fin 128) : Fin 1024 := ⟨512 + 128 * h.val + k.val, by omega⟩

/-! ## The five stores of the joined rows -/

section payloads

variable (v3 : Vec Ideal S512x512 .f32) (v13 : Vec Ideal S1x512 .f32) (x : Vec Ideal S512x128 .f32)

theorem gate_at (r c : Fin 512) : k0_pay5 v3 v13 (ix2 r c) = gated (v3 (ix2 r c)) (v13 (ix2 0 c)) := by
  pointwise [k0_pay5]
  rfl

theorem head0 (r : Fin 512) (k : Fin 128) :
    k0_pay6 v3 v13 x (ix2 r k) = normed (fun j => x (ix2 r j)) k * gated (v3 (ix2 r (col 0 k))) (v13 (ix2 0 (col 0 k))) := by
  have e : (ix2 r (col 0 k) : S512x512.Idx) = ix2 r ⟨k.val, by omega⟩ := by
    congr 1; exact Fin.ext (Nat.zero_add _)
  rw [← gate_at, e]
  pointwise [k0_pay6]
  rfl

theorem head1 (r : Fin 512) (k : Fin 128) :
    k0_pay7 (k0_pay5 v3 v13) x (ix2 r k) = normed (fun j => x (ix2 r j)) k * gated (v3 (ix2 r (col 1 k))) (v13 (ix2 0 (col 1 k))) := by
  rw [← gate_at]
  pointwise [k0_pay7]
  rfl

theorem head2 (r : Fin 512) (k : Fin 128) :
    k0_pay1 (k0_pay8 x) (k0_pay9 (k0_pay5 v3 v13)) (ix2 r k)
      = normed (fun j => x (ix2 r j)) k * gated (v3 (ix2 r (col 2 k))) (v13 (ix2 0 (col 2 k))) := by
  rw [← gate_at]
  pointwise [k0_pay1, k0_pay8, k0_pay9]
  rfl

theorem head3 (r : Fin 512) (k : Fin 128) :
    k0_pay2 (k0_pay5 v3 v13) x (ix2 r k) = normed (fun j => x (ix2 r j)) k * gated (v3 (ix2 r (col 3 k))) (v13 (ix2 0 (col 3 k))) := by
  rw [← gate_at]
  pointwise [k0_pay2]
  rfl

/-- The joined rows against the weights, added to the input. -/
theorem sum_at (y : Vec Ideal S512x1024 .f32) (z : Vec Ideal S512x1024 .bf16) (w : Vec Ideal S1024x1024 .bf16) (r : Fin 512) (j : Fin 1024) :
    k0_pay3 y z w (ix2 r j) = y (ix2 r j) + ∑ k : Fin 1024, z (ix2 r k) * w (ix2 k j) := by
  pointwise [k0_pay3]

end payloads

/-! ## The joined rows read back -/

section stores

variable (u : Vec Ideal S512x512 .bf16) (h0 h1 h2 h3 : Vec Ideal S512x128 .bf16)

/-- The five stores, the last one first. -/
abbrev stores : List (View.Piece (Elt Ideal) S512x1024 .bf16) :=
  [⟨Rect.unit ![0, 896] S512x128.size inb_S512x1024_S512x128_0_896, h3⟩,
   ⟨Rect.unit ![0, 768] S512x128.size inb_S512x1024_S512x128_0_768, h2⟩,
   ⟨Rect.unit ![0, 640] S512x128.size inb_S512x1024_S512x128_0_640, h1⟩,
   ⟨Rect.unit ![0, 512] S512x128.size inb_S512x1024_S512x128_0_512, h0⟩,
   ⟨Rect.unit ![0, 0] S512x512.size inb_S512x1024_S512x512_0_0, u⟩]

/-- Every cell lies in one of the five. -/
theorem covered (y : S512x1024.Idx) : ∃ p ∈ stores u h0 h1 h2 h3, y ∈ p.1.set :=
  View.cover_of_tiledBy (stores u h0 h1 h2 h3) ![512, 128] (by sl_kernel_rfl) y

variable (M : Fin 512 → Fin 1024 → EReal)
  (hu : ∀ r k, u (ix2 r k) = M r (leftCol k)) (e0 : ∀ r k, h0 (ix2 r k) = M r (headCol 0 k)) (e1 : ∀ r k, h1 (ix2 r k) = M r (headCol 1 k))
  (e2 : ∀ r k, h2 (ix2 r k) = M r (headCol 2 k)) (e3 : ∀ r k, h3 (ix2 r k) = M r (headCol 3 k))

include hu e0 e1 e2 e3 in
/-- Read back, they are the whole rows. -/
theorem whole (r : Fin 512) (k : Fin 1024) : View.canon (stores u h0 h1 h2 h3) (ix2 r k) = M r k := by
  have part : ∀ (o : ℕ) (n : ℕ) (f : Fin n → Fin 1024) (hf : ∀ k, (f k).val = o + k.val) (A : (⟨2, ![512, n]⟩ : Shape).Idx → EReal)
      (hA : ∀ r k, A (ix2 r k) = M r (f k)) (x : (⟨2, ![512, n]⟩ : Shape).Idx)
      (hx : ∀ a, ((ix2 r k : S512x1024.Idx) a).val = (![0, o] : Fin 2 → ℕ) a + (x a).val), A x = M r k := by
    intro o n f hf A hA x hx
    have h0 : x 0 = r := Fin.ext ((hx 0).trans (Nat.zero_add _)).symm
    have h1 : f (x 1) = k := Fin.ext ((hf _).trans (hx 1).symm)
    have e : x = ix2 (x 0) (x 1) := by idx_ext
    rw [e]
    exact (hA _ _).trans (by rw [h0]; exact congrArg (M r) h1)
  exact View.canon_eq_of_allAt (stores u h0 h1 h2 h3) (ix2 r k) _ (covered u h0 h1 h2 h3 _)
    (View.allAt_cons_unit _ _ _ _ _ (fun x hx => part 896 128 (headCol 3) (fun _ => rfl) h3 e3 x hx)
    (View.allAt_cons_unit _ _ _ _ _ (fun x hx => part 768 128 (headCol 2) (fun _ => rfl) h2 e2 x hx)
    (View.allAt_cons_unit _ _ _ _ _ (fun x hx => part 640 128 (headCol 1) (fun _ => rfl) h1 e1 x hx)
    (View.allAt_cons_unit _ _ _ _ _ (fun x hx => part 512 128 (headCol 0) (fun _ => rfl) h0 e0 x hx)
    (View.allAt_cons_unit _ _ _ _ _ (fun x hx => part 0 512 leftCol (fun k => (Nat.zero_add _).symm) u hu x hx)
    (View.allAt_nil _ _))))))

/-- The load of the whole buffer reads the same. -/
theorem read {sp : Space} (v : View sig .tc sp S512x1024 .bf16) :
    (v.readCov (stores u h0 h1 h2 h3) (Rect.unit (s := S512x1024) ![0, 0] S512x1024.size inb_S512x1024_S512x1024_0_0).toLoadRect : Vec Ideal S512x1024 .bf16)
      = View.canon (stores u h0 h1 h2 h3) := by
  funext y
  have e : (Rect.unit (s := S512x1024) ![0, 0] S512x1024.size inb_S512x1024_S512x1024_0_0).toLoadRect.idx y = y :=
    funext fun a => Fin.ext (match a with
      | ⟨0, _⟩ => (Nat.zero_add _).trans (Nat.one_mul _)
      | ⟨1, _⟩ => (Nat.zero_add _).trans (Nat.one_mul _))
  have h := congrFun (View.readCov_eq_canon' (Val := Elt Ideal) v (stores u h0 h1 h2 h3)
    (Rect.unit (s := S512x1024) ![0, 0] S512x1024.size inb_S512x1024_S512x1024_0_0).toLoadRect) y
  exact h.trans (congrArg (View.canon (stores u h0 h1 h2 h3)) e)

end stores

end Cert.OutFwdBlock

end
-- ==== Proof.OutFwdRun.lean ====
module

public import proofs.«01_k».proof.Proof.OutFwdBlock
public import Idealize.ShloMosaic.Lib.WholeRead

/-! # The retention's norm and gate and the output projection: what the kernel leaves of one block -/

@[expose] public section

set_option maxRecDepth 16384

noncomputable section

namespace Cert.OutFwdRun

open Idealize.ShloMosaic Idealize.ShloMosaic.TcCoe Idealize.SL.Sem
open Cert.OutFwdIdeal Cert.OutFwdIdeal.Gen Cert.OutFwdBlock

/-- The joined row: the convolution's 512 columns, then the four heads, each normed, gated and scaled. -/
def mixOf (u r a g : Fin 512 → EReal) (k : Fin 1024) : EReal :=
  if h : k.val < 512 then u ⟨k.val, h⟩ else
    normed (fun j => r (col ⟨(k.val - 512) / 128, by omega⟩ j)) ⟨(k.val - 512) % 128, by omega⟩
      * gated (a ⟨k.val - 512, by omega⟩) (g ⟨k.val - 512, by omega⟩)

theorem mixOf_left (u r a g : Fin 512 → EReal) (k : Fin 512) : mixOf u r a g (leftCol k) = u k := dif_pos k.isLt

theorem mixOf_head (u r a g : Fin 512 → EReal) (h : Fin 4) (k : Fin 128) :
    mixOf u r a g (headCol h k) = normed (fun j => r (col h j)) k * gated (a (col h k)) (g (col h k)) := by
  have key : ∀ n : Fin 1024, n.val = 512 + 128 * h.val + k.val → mixOf u r a g n = normed (fun j => r (col h j)) k * gated (a (col h k)) (g (col h k)) := by
    intro n hn
    have e1 : (⟨(n.val - 512) / 128, by omega⟩ : Fin 4) = h := Fin.ext (by show (n.val - 512) / 128 = h.val; omega)
    have e2 : (⟨(n.val - 512) % 128, by omega⟩ : Fin 128) = k := Fin.ext (by show (n.val - 512) % 128 = k.val; omega)
    have e3 : (⟨n.val - 512, by omega⟩ : Fin 512) = col h k := Fin.ext (by show n.val - 512 = 128 * h.val + k.val; omega)
    unfold mixOf
    rw [dif_neg (by omega), e1, e2, e3]
  exact key _ rfl

/-- A load of a part of a buffer held whole. -/
abbrev part {s : Shape} {e : EltTy} (a : Memref sig .tc .vmem s e) (h : a.IsWhole) (x : Vec Ideal s e) (R : Rect s) : Vec Ideal R.shape e :=
  View.readAt (Elt Ideal) a.view R.toLoadRect (h.unread x)

/-- Head `h` of the retention's rows begins at column `128 h`. -/
abbrev heads0 : Rect S512x512 := Rect.unit ![0, 0] S512x128.size inb_S512x512_S512x128_0_0
abbrev heads1 : Rect S512x512 := Rect.unit ![0, 128] S512x128.size inb_S512x512_S512x128_0_128
abbrev heads2 : Rect S512x512 := Rect.unit ![0, 256] S512x128.size inb_S512x512_S512x128_0_256
abbrev heads3 : Rect S512x512 := Rect.unit ![0, 384] S512x128.size inb_S512x512_S512x128_0_384
/-- The whole of a buffer. -/
abbrev all512 : Rect S512x512 := Rect.unit ![0, 0] S512x512.size inb_S512x512_S512x512_0_0
abbrev allGain : Rect S1x512 := Rect.unit ![0, 0] S1x512.size inb_S1x512_S1x512_0_0
abbrev allWeights : Rect S1024x1024 := Rect.unit ![0, 0] S1024x1024.size inb_S1024x1024_S1024x1024_0_0
abbrev allRows : Rect S512x1024 := Rect.unit ![0, 0] S512x1024.size inb_S512x1024_S512x1024_0_0

/-- The five stores, of the loads. -/
abbrev mixed (a1 : Memref sig .tc .vmem S512x512 .bf16) (h1 : a1.IsWhole) (a2 : Memref sig .tc .vmem S512x512 .f32) (h2 : a2.IsWhole)
    (a3 : Memref sig .tc .vmem S512x512 .f32) (h3 : a3.IsWhole) (a4 : Memref sig .tc .vmem S1x512 .f32) (h4 : a4.IsWhole)
    (x0 : Vec Ideal S512x512 .bf16) (x1 x2 : Vec Ideal S512x512 .f32) (x3 : Vec Ideal S1x512 .f32) : List (View.Piece (Elt Ideal) S512x1024 .bf16) :=
  stores (k0_pay4 (part a1 h1 x0 all512)) (k0_pay6 (part a3 h3 x2 all512) (part a4 h4 x3 allGain) (part a2 h2 x1 heads0))
    (k0_pay7 (k0_pay5 (part a3 h3 x2 all512) (part a4 h4 x3 allGain)) (part a2 h2 x1 heads1))
    (k0_pay1 (k0_pay8 (part a2 h2 x1 heads2)) (k0_pay9 (k0_pay5 (part a3 h3 x2 all512) (part a4 h4 x3 allGain))))
    (k0_pay2 (k0_pay5 (part a3 h3 x2 all512) (part a4 h4 x3 allGain)) (part a2 h2 x1 heads3))

/-- The joined rows that a grid point stores. -/
theorem run_mix (c i a1 h1 a2 h2 a3 h3 a4 h4 a5 h5 a6 h6 a7 h7 a8 h8 x0 x1 x2 x3 x4 x5) :
    (kernelRun0_A (F := Ideal) c i a1 h1 a2 h2 a3 h3 a4 h4 a5 h5 a6 h6 a7 h7 a8 h8 x0 x1 x2 x3 x4 x5).2.1
      = mixed a1 h1 a2 h2 a3 h3 a4 h4 x0 x1 x2 x3 := rfl

/-- The rows that it stores of the projection. -/
theorem run_sum (c i a1 h1 a2 h2 a3 h3 a4 h4 a5 h5 a6 h6 a7 h7 a8 h8 x0 x1 x2 x3 x4 x5) :
    (kernelRun0_A (F := Ideal) c i a1 h1 a2 h2 a3 h3 a4 h4 a5 h5 a6 h6 a7 h7 a8 h8 x0 x1 x2 x3 x4 x5).1
      = [⟨allRows, k0_pay3 (part a6 h6 x5 allRows) (a8.view.readCov (mixed a1 h1 a2 h2 a3 h3 a4 h4 x0 x1 x2 x3) allRows.toLoadRect)
          (part a5 h5 x4 allWeights)⟩] := rfl

section at_

variable (a1 : Memref sig .tc .vmem S512x512 .bf16) (h1 : a1.IsWhole) (a2 : Memref sig .tc .vmem S512x512 .f32) (h2 : a2.IsWhole)
  (a3 : Memref sig .tc .vmem S512x512 .f32) (h3 : a3.IsWhole) (a4 : Memref sig .tc .vmem S1x512 .f32) (h4 : a4.IsWhole)
  (x0 : Vec Ideal S512x512 .bf16) (x1 x2 : Vec Ideal S512x512 .f32) (x3 : Vec Ideal S1x512 .f32)

/-- A load of a whole block reads the block. -/
theorem part512 {e : EltTy} (a : Memref sig .tc .vmem S512x512 e) (h : a.IsWhole) (x : Vec Ideal S512x512 e) (r k : Fin 512) :
    (part a h x all512 : Vec Ideal S512x512 e) (ix2 r k) = x (ix2 r k) :=
  (h.readAt_unread x all512.toLoadRect (ix2 r k)).trans (congrArg x (funext fun b => Fin.ext (match b with
    | ⟨0, _⟩ => (Nat.zero_add _).trans (Nat.one_mul _)
    | ⟨1, _⟩ => (Nat.zero_add _).trans (Nat.one_mul _))))

theorem partGain (k : Fin 512) : (part a4 h4 x3 allGain : Vec Ideal S1x512 .f32) (ix2 0 k) = x3 (ix2 0 k) :=
  (h4.readAt_unread x3 allGain.toLoadRect (ix2 0 k)).trans (congrArg x3 (funext fun b => Fin.ext (match b with
    | ⟨0, _⟩ => rfl
    | ⟨1, _⟩ => (Nat.zero_add _).trans (Nat.one_mul _))))

theorem partRows (a6 : Memref sig .tc .vmem S512x1024 .f32) (h6 : a6.IsWhole) (x : Vec Ideal S512x1024 .f32) (r : Fin 512) (k : Fin 1024) :
    (part a6 h6 x allRows : Vec Ideal S512x1024 .f32) (ix2 r k) = x (ix2 r k) :=
  (h6.readAt_unread x allRows.toLoadRect (ix2 r k)).trans (congrArg x (funext fun b => Fin.ext (match b with
    | ⟨0, _⟩ => (Nat.zero_add _).trans (Nat.one_mul _)
    | ⟨1, _⟩ => (Nat.zero_add _).trans (Nat.one_mul _))))

theorem partWeights (a5 : Memref sig .tc .vmem S1024x1024 .bf16) (h5 : a5.IsWhole) (x : Vec Ideal S1024x1024 .bf16) (r k : Fin 1024) :
    (part a5 h5 x allWeights : Vec Ideal S1024x1024 .bf16) (ix2 r k) = x (ix2 r k) :=
  (h5.readAt_unread x allWeights.toLoadRect (ix2 r k)).trans (congrArg x (funext fun b => Fin.ext (match b with
    | ⟨0, _⟩ => (Nat.zero_add _).trans (Nat.one_mul _)
    | ⟨1, _⟩ => (Nat.zero_add _).trans (Nat.one_mul _))))

/-- A load of a head reads the head's columns. -/
theorem partHead (o : ℕ) (inb) (h : Fin 4) (ho : o = 128 * h.val) (r : Fin 512) (k : Fin 128) :
    (part a2 h2 x1 (Rect.unit (s := S512x512) ![0, o] S512x128.size inb) : Vec Ideal S512x128 .f32) (ix2 r k) = x1 (ix2 r (col h k)) :=
  (h2.readAt_unread x1 (Rect.unit (s := S512x512) ![0, o] S512x128.size inb).toLoadRect (ix2 r k)).trans (congrArg x1 (funext fun b => Fin.ext (match b with
    | ⟨0, _⟩ => (Nat.zero_add _).trans (Nat.one_mul _)
    | ⟨1, _⟩ => by show o + 1 * k.val = 128 * h.val + k.val; omega)))

/-- The joined rows read back are the formula's. -/
theorem mixed_at (r : Fin 512) (k : Fin 1024) : View.canon (mixed a1 h1 a2 h2 a3 h3 a4 h4 x0 x1 x2 x3) (ix2 r k)
    = mixOf (fun j => x0 (ix2 r j)) (fun j => x1 (ix2 r j)) (fun j => x2 (ix2 r j)) (fun j => x3 (ix2 0 j)) k := by
  refine whole _ _ _ _ _ (fun r k => mixOf (fun j => x0 (ix2 r j)) (fun j => x1 (ix2 r j)) (fun j => x2 (ix2 r j)) (fun j => x3 (ix2 0 j)) k)
    (fun r k => ?_) (fun r k => ?_) (fun r k => ?_) (fun r k => ?_) (fun r k => ?_) r k
  · refine Eq.trans ?_ (mixOf_left _ _ _ _ k).symm
    pointwise [k0_pay4]
    exact part512 a1 h1 x0 r k
  · rw [mixOf_head _ _ _ _ 0 k, head0]
    simp only [part512, partGain, partHead a2 h2 x1 0 _ 0 rfl]
  · rw [mixOf_head _ _ _ _ 1 k, head1]
    simp only [part512, partGain, partHead a2 h2 x1 128 _ 1 rfl]
  · rw [mixOf_head _ _ _ _ 2 k, head2]
    simp only [part512, partGain, partHead a2 h2 x1 256 _ 2 rfl]
  · rw [mixOf_head _ _ _ _ 3 k, head3]
    simp only [part512, partGain, partHead a2 h2 x1 384 _ 3 rfl]

end at_

end Cert.OutFwdRun

end
-- ==== Proof.MlpReal.lean ====
module

public import proofs.«01_k».proof.Proof.RealLift

/-! # The channel mixer over the reals: its value and its gradients -/

@[expose] public section

noncomputable section

namespace Cert.MlpReal

open Idealize.ShloMosaic Cert.RealLift

/-- The logistic function. -/
def sig (g : ℝ) : ℝ := 1 / (1 + Real.exp (-g))

theorem one_add_exp_ne (g : ℝ) : 1 + Real.exp (-g) ≠ 0 := (add_pos one_pos (Real.exp_pos _)).ne'

/-- The logistic function by the hyperbolic tangent of half its argument. -/
theorem sig_eq (g : ℝ) : 1 / 2 * Real.tanh (1 / 2 * g) + 1 / 2 = sig g := by
  have hu := Real.exp_pos (1 / 2 * g)
  have hv := Real.exp_pos (-(1 / 2 * g))
  have huv : Real.exp (1 / 2 * g) * Real.exp (-(1 / 2 * g)) = 1 := by rw [← Real.exp_add, add_neg_cancel, Real.exp_zero]
  have hg : Real.exp (-g) = Real.exp (-(1 / 2 * g)) * Real.exp (-(1 / 2 * g)) := by rw [← Real.exp_add]; congr 1; ring
  rw [Real.tanh_eq_sinh_div_cosh, Real.sinh_eq, Real.cosh_eq, sig, hg]
  generalize Real.exp (1 / 2 * g) = u at *
  generalize Real.exp (-(1 / 2 * g)) = v at *
  have h1 : u + v ≠ 0 := (add_pos hu hv).ne'
  have h2 : 1 + v * v ≠ 0 := (add_pos one_pos (mul_pos hv hv)).ne'
  rw [show (u - v) / 2 / ((u + v) / 2) = (u - v) / (u + v) by field_simp]
  field_simp
  linear_combination (2 * v) * huv

/-- The normalised row times the gain. -/
def normed (x g : Fin 1024 → ℝ) (k : Fin 1024) : ℝ := x k * rinv x * g k

/-- A row against the columns of a weight. -/
def cols (h : Fin 1024 → ℝ) (w : Fin 1024 → Fin 2816 → ℝ) (k : Fin 2816) : ℝ := ∑ j, h j * w j k

/-- The gated product of the two columns. -/
def gated (g u : ℝ) : ℝ := g * sig g * u

/-- The row that leaves the mixer. -/
def mixed (x : Fin 1024 → ℝ) (a : Fin 2816 → ℝ) (w : Fin 2816 → Fin 1024 → ℝ) (j : Fin 1024) : ℝ := x j + ∑ k, a k * w k j

/-- The cotangent of the gated product. -/
def dact (d : Fin 1024 → ℝ) (w : Fin 2816 → Fin 1024 → ℝ) (k : Fin 2816) : ℝ := ∑ j, d j * w k j

/-- The cotangent of the gate's product, -/
def dgate (a g u : ℝ) : ℝ := a * u * (sig g * (1 + g * (1 - sig g)))

/-- and of the other one. -/
def dup (a g : ℝ) : ℝ := a * (g * sig g)

/-- The cotangent of the normalised row. -/
def dh (p q : Fin 2816 → ℝ) (wg wu : Fin 1024 → Fin 2816 → ℝ) (j : Fin 1024) : ℝ := ∑ k, p k * wg j k + ∑ k, q k * wu j k

end Cert.MlpReal

end
-- ==== Proof.OutFwdReference.lean ====
module

public import proofs.«01_k».proof.Proof.OutFwdRun
public import proofs.«01_k».proof.Proof.MlpReal
public import proofs.«01_k».proof.Proof.Gen.OutFwdReferenceIdeal.Read

/-! # The retention's norm and gate and the output projection: what the reference computes -/

@[expose] public section

set_option maxRecDepth 16384

noncomputable section

namespace Cert.OutFwdReference

open Idealize.ShloMosaic Idealize.ShloMosaic.TcCoe Cert.OutFwdReferenceIdeal Cert.OutFwdReferenceIdeal.Read Cert.OutFwdBlock Cert.OutFwdRun

/-- The logistic function by the hyperbolic tangent, at the infinities too. -/
theorem logistic_eq (a : EReal) : Ideal.ofBits .f32 1056964608#32 * Ideal.tanh (Ideal.ofBits .f32 1056964608#32 * a) + Ideal.ofBits .f32 1056964608#32
    = Ideal.div 1 (1 + Ideal.exp (-a)) := by
  rw [Cert.RealLift.word_half, ← EReal.coe_one]
  induction a with
  | bot =>
    rw [EReal.coe_mul_bot_of_pos (by norm_num), Ideal.tanh_bot, EReal.neg_bot, Ideal.exp_top, EReal.coe_add_top]
    rw [show (-1 : EReal) = ((-1 : ℝ) : EReal) from rfl, ← EReal.coe_mul, ← EReal.coe_add]
    rw [Ideal.div, if_neg EReal.top_ne_zero, EReal.inv_top, mul_zero]
    norm_num
  | top =>
    rw [EReal.coe_mul_top_of_pos (by norm_num), Ideal.tanh_top, EReal.neg_top, Ideal.exp_bot, add_zero, mul_one, ← EReal.coe_add, Cert.RealLift.div_coe _ one_ne_zero]
    norm_num
  | coe x =>
    rw [← EReal.coe_mul, Ideal.tanh_coe, ← EReal.coe_mul, ← EReal.coe_add, Cert.MlpReal.sig_eq, ← EReal.coe_neg, Ideal.exp_coe, ← EReal.coe_add,
      Cert.RealLift.div_coe _ (Cert.MlpReal.one_add_exp_ne x)]
    rfl

variable (u : FVec Ideal S1x8192x512 .f32) (r : FVec Ideal S1x8192x4x128 .f32) (p : FVec Ideal S1x8192x3072 .f32) (g : FVec Ideal S512 .f32)
  (w : FVec Ideal S1024x1024 .f32) (x : FVec Ideal S1x8192x1024 .f32)

/-- The joined row `n` of the arguments. -/
abbrev rowOf (n : Fin 8192) : Fin 1024 → EReal :=
  mixOf (fun k => u (ix3 0 n k)) (fun k => r (ix4 0 n ⟨k.val / 128, by omega⟩ ⟨k.val % 128, by omega⟩)) (fun k => p (ix3 0 n ⟨2560 + k.val, by omega⟩))
    (fun k => g (ix1 k))

/-- A head's entries, normed. -/
theorem normed_at (n : Fin 8192) (h : Fin 4) (k : Fin 128) :
    val_main_v15 (F := Ideal) r (ix3 n h k) * val_main_v19 (F := Ideal) r (ix3 n h k) = normed (fun j => r (ix4 0 n h j)) k := by
  pointwise [val_main_v19, val_main_v18, val_main_v17, val_main_v16, val_main_cst_3, val_main_v15, val_main_v14, val_main_v13, val_main_v12,
    val_main_cst_2, val_main_v11, val_main_v10, val_main_cst_1, val_main_v9, val_main_v8, val_main_v7, val_main_v6, val_main_v5, val_main_cst_0,
    val_main_v4, val_main_v3, val_main_cst, val_main_v2]
  rfl

/-- The gate's argument. -/
theorem gate_at (n : Fin 8192) (k : Fin 512) : val_main_v1 (F := Ideal) p (ix2 n k) = p (ix3 0 n ⟨2560 + k.val, by omega⟩) := by
  pointwise [val_main_v1, val_main_v0]

/-- The heads' normed, scaled and gated columns. -/
theorem gated_at (n : Fin 8192) (h : Fin 4) (k : Fin 128) : val_main_v26 (F := Ideal) r p g (ix2 n (col h k))
    = normed (fun j => r (ix4 0 n h j)) k * gated (p (ix3 0 n ⟨2560 + (col h k).val, by omega⟩)) (g (ix1 (col h k))) := by
  have e1 : ∀ q, (⟨(col h k).val / 128, q⟩ : Fin 4) = h := fun q => Fin.ext (by show (128 * h.val + k.val) / 128 = h.val; omega)
  have e2 : ∀ q, (⟨(col h k).val % 128, q⟩ : Fin 128) = k := fun q => Fin.ext (by show (128 * h.val + k.val) % 128 = k.val; omega)
  pointwise [val_main_v26, val_main_v25, val_main_call0_v5, val_main_call0_v4, val_main_call0_cst_0, val_main_call0_v3, val_main_call0_v2,
    val_main_call0_cst, val_main_call0_v1, val_main_call0_v0, val_main_v24, val_main_v23, val_main_v22, val_main_v21, val_main_v20]
  simp only [e1, e2, gate_at]
  rw [← logistic_eq, mul_assoc, mul_comm (g _)]
  exact congrArg₂ (· * ·) (normed_at r n h k) rfl

/-- The joined rows. -/
theorem mix (n : Fin 8192) (k : Fin 1024) : val_main_v28 (F := Ideal) u r p g (ix2 n k) = rowOf u r p g n k := by
  by_cases hk : k.val < 512
  · refine Eq.trans ?_ (mixOf_left _ _ _ _ ⟨k.val, hk⟩).symm
    pointwise [val_main_v28, val_main_v27]
    rw [dif_pos hk]
  · have e : k = headCol ⟨(k.val - 512) / 128, by omega⟩ ⟨(k.val - 512) % 128, by omega⟩ := Fin.ext (by
      show k.val = 512 + 128 * ((k.val - 512) / 128) + (k.val - 512) % 128; omega)
    generalize (⟨(k.val - 512) / 128, by omega⟩ : Fin 4) = h at e
    generalize (⟨(k.val - 512) % 128, by omega⟩ : Fin 128) = j at e
    subst e
    refine Eq.trans ?_ ((gated_at r p g n h j).trans (Eq.trans ?_ (mixOf_head _ _ _ _ h j).symm))
    · pointwise [val_main_v28]
      rw [dif_neg hk]
      exact congrArg (fun q => val_main_v26 (F := Ideal) r p g (ix2 n q)) (Fin.ext (by
        show 512 + 128 * h.val + j.val - 512 = 128 * h.val + j.val; omega))
    · refine congrArg₂ (· * ·) (congrArg (fun f => normed f j) (funext fun q => ?_)) rfl
      exact congrArg₂ (fun a b => r (ix4 0 n a b)) (Fin.ext (by show h.val = (128 * h.val + q.val) / 128; omega))
        (Fin.ext (by show q.val = (128 * h.val + q.val) % 128; omega))

/-- The projection of the joined rows, added to the input. -/
theorem sum (n : Fin 8192) (j : Fin 1024) : val_main_v31 (F := Ideal) u r p g w x (ix2 n j)
    = x (ix3 0 n j) + ∑ k, rowOf u r p g n k * w (ix2 k j) := by
  pointwise [val_main_v31, val_main_v30, val_main_v29]
  simp only [mix]

/-- The joined rows as they are stored. -/
theorem stored (n : Fin 8192) (k : Fin 1024) : val_main_v32 (F := Ideal) u r p g (ix2 n k) = rowOf u r p g n k := by
  pointwise [val_main_v32]
  exact mix u r p g n k

end Cert.OutFwdReference

end
-- ==== Proof.OutFwdKernel.lean ====
module

public import proofs.«01_k».proof.Proof.OutFwdReference

/-! # The retention's norm and gate and the output projection: what the kernel leaves over the whole sequence -/

@[expose] public section

set_option maxRecDepth 16384

noncomputable section

namespace Cert.OutFwdKernel

open Idealize.ShloMosaic Idealize.ShloMosaic.TcCoe Idealize.SL.Sem
open Idealize.ShloMosaic.Pipeline (Dat)
open Cert.OutFwdIdeal Cert.OutFwdIdeal.Gen Cert.OutFwdBlock Cert.OutFwdRun Cert.OutFwdReference

variable (m : (ℓ : Loc nD τ sig) → Buf (Elt Ideal) ℓ)

theorem idx : ∀ t : Fin cfg0.N, win0_0.index t = ![t.val, 0] ∧ win0_1.index t = ![t.val, 0] ∧ win0_2.index t = ![t.val, 5]
    ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

/-- Row `r` of block `t` is row `512 t + r` of the sequence. -/
def row (t : Fin cfg0.N) (r : Fin 512) : Fin 8192 :=
  ⟨t.val * 512 + r.val, by have h : t.val < 16 := lt_of_lt_of_eq t.isLt N_0; have := r.isLt; omega⟩

variable (c : Dev nD)

/-- The arguments: the convolution's rows, the retention's rows by heads, the first projection, the gain, the weights and the input. -/
abbrev U : FVec Ideal S1x8192x512 .f32 := m ((c : Thread nD τ).loc main_arg0)
abbrev R : FVec Ideal S1x8192x4x128 .f32 := m ((c : Thread nD τ).loc main_arg1)
abbrev P : FVec Ideal S1x8192x3072 .f32 := m ((c : Thread nD τ).loc main_arg2)
abbrev G : FVec Ideal S512 .f32 := m ((c : Thread nD τ).loc main_arg3)
abbrev W : FVec Ideal S1024x1024 .f32 := m ((c : Thread nD τ).loc main_arg4)
abbrev X : FVec Ideal S1x8192x1024 .f32 := m ((c : Thread nD τ).loc main_arg5)

theorem u_block (t : Fin cfg0.N) (r : Fin 512) (k : Fin 512) :
    (iblk m c 0 t : Vec Ideal S512x512 .bf16) (ix2 r k) = U m c (ix3 0 (row t r) k) := by
  blk_simp [iblk]
  entry_read
  pointwise
  blk_ext [idx t, row]

theorem r_block (t : Fin cfg0.N) (r : Fin 512) (k : Fin 512) :
    (iblk m c 1 t : Vec Ideal S512x512 .f32) (ix2 r k) = R m c (ix4 0 (row t r) ⟨k.val / 128, by omega⟩ ⟨k.val % 128, by omega⟩) := by
  blk_simp [iblk]
  entry_read
  pointwise
  blk_ext [idx t, row]

theorem p_block (t : Fin cfg0.N) (r : Fin 512) (k : Fin 512) :
    (iblk m c 2 t : Vec Ideal S512x512 .f32) (ix2 r k) = P m c (ix3 0 (row t r) ⟨2560 + k.val, by omega⟩) := by
  blk_simp [iblk]
  entry_read
  pointwise
  blk_ext [idx t, row]

theorem g_block (t : Fin cfg0.N) (k : Fin 512) : (iblk m c 3 t : Vec Ideal S1x512 .f32) (ix2 0 k) = G m c (ix1 k) := by
  blk_simp [iblk]
  entry_read
  pointwise
  blk_ext [idx t]

theorem w_block (t : Fin cfg0.N) (k j : Fin 1024) : (iblk m c 4 t : Vec Ideal S1024x1024 .bf16) (ix2 k j) = W m c (ix2 k j) := by
  blk_simp [iblk]
  entry_read
  pointwise
  blk_ext [idx t]

theorem x_block (t : Fin cfg0.N) (r : Fin 512) (k : Fin 1024) :
    (iblk m c 5 t : Vec Ideal S512x1024 .f32) (ix2 r k) = X m c (ix3 0 (row t r) k) := by
  blk_simp [iblk]
  entry_read
  pointwise
  blk_ext [idx t, row]

/-- The joined rows of a block are the sequence's. -/
theorem rows_eq (t : Fin cfg0.N) (r : Fin 512) : mixOf (fun j => (iblk m c 0 t : Vec Ideal S512x512 .bf16) (ix2 r j))
    (fun j => (iblk m c 1 t : Vec Ideal S512x512 .f32) (ix2 r j)) (fun j => (iblk m c 2 t : Vec Ideal S512x512 .f32) (ix2 r j))
    (fun j => (iblk m c 3 t : Vec Ideal S1x512 .f32) (ix2 0 j)) = rowOf (U m c) (R m c) (P m c) (G m c) (row t r) := by
  simp only [u_block, r_block, p_block, g_block]

/-- What a grid point leaves of the joined rows, -/
theorem mix_point (t : Fin cfg0.N) (r : Fin 512) (k : Fin 1024) :
    (outsAt0 m c t).2 (ix2 r k) = rowOf (U m c) (R m c) (P m c) (G m c) (row t r) k := by
  unfold outsAt0
  dsimp only
  unfold out0_A_7
  rw [View.read_writes_junk_eq_canon (Val := Elt Ideal) VO0_7, run_mix, mixed_at, rows_eq]

/-- and of their projection. -/
theorem sum_point (t : Fin cfg0.N) (r : Fin 512) (j : Fin 1024) :
    (outsAt0 m c t).1 (ix2 r j) = X m c (ix3 0 (row t r) j) + ∑ k, rowOf (U m c) (R m c) (P m c) (G m c) (row t r) k * W m c (ix2 k j) := by
  unfold outsAt0
  dsimp only
  unfold out0_A_6
  rw [View.read_writes_junk_eq_canon (Val := Elt Ideal) VO0_6, run_sum]
  refine (congrFun (View.canon_unit_zero (funext fun a => match a with | ⟨0, _⟩ => rfl | ⟨1, _⟩ => rfl) _ _) _).trans ?_
  refine (sum_at _ _ _ r j).trans ?_
  refine congrArg₂ (· + ·) ((partRows _ _ _ r j).trans (x_block m c t r j)) (Finset.sum_congr rfl fun k _ => ?_)
  refine congrArg₂ (· * ·) ?_ ((partWeights _ _ _ k j).trans (w_block m c t k j))
  refine (congrFun (OutFwdBlock.read _ _ _ _ _ _) _).trans ?_
  refine (mixed_at _ _ _ _ _ _ _ _ _ _ _ _ r k).trans ?_
  rw [rows_eq]

/-- Over the whole sequence the kernel leaves the joined rows -/
theorem final_mix (REF : FVec Ideal S8192x1024 .bf16) (href : ∀ n k, REF (ix2 n k) = rowOf (U m c) (R m c) (P m c) (G m c) n k) :
    (dats m 0 c).arrAt 7 (cfgs 0).N = REF := by
  refine (dats m 0 c).arrAt_eq_of_covers 7 _ (by decide +kernel) fun t _ y => ?_
  blk_simp
  rw [after0_7]
  have e : (((View.whole main_v7_1).slice (win0_7.rect t)).emb y : S8192x1024.Idx) = ix2 (row t (y 0)) (y 1) := by
    blk_ext [idx t, row]
  have hy : (y : S512x1024.Idx) = ix2 (y 0) (y 1) := by idx_ext
  exact (congrArg (outsAt0 m c t).2 hy).trans ((mix_point m c t _ _).trans ((href _ _).symm.trans (congrArg REF e.symm)))

/-- and their projection added to the input. -/
theorem final_sum (REF : FVec Ideal S8192x1024 .f32)
    (href : ∀ n j, REF (ix2 n j) = X m c (ix3 0 n j) + ∑ k, rowOf (U m c) (R m c) (P m c) (G m c) n k * W m c (ix2 k j)) :
    (dats m 0 c).arrAt 6 (cfgs 0).N = REF := by
  refine (dats m 0 c).arrAt_eq_of_covers 6 _ (by decide +kernel) fun t _ y => ?_
  blk_simp
  rw [after0_6]
  have e : (((View.whole main_v7_0).slice (win0_6.rect t)).emb y : S8192x1024.Idx) = ix2 (row t (y 0)) (y 1) := by
    blk_ext [idx t, row]
  have hy : (y : S512x1024.Idx) = ix2 (y 0) (y 1) := by idx_ext
  exact (congrArg (outsAt0 m c t).1 hy).trans ((sum_point m c t _ _).trans ((href _ _).symm.trans (congrArg REF e.symm)))

end Cert.OutFwdKernel

end
-- ==== Proof.OutFwd.lean ====
module

public import proofs.«01_k».proof.Defs
public import proofs.«01_k».proof.Proof.Gen.OutFwd
public import proofs.«01_k».proof.Proof.Gen.OutFwd.Frame
public import proofs.«01_k».proof.Proof.Gen.OutFwdReferenceIdeal.Run
public import proofs.«01_k».proof.Proof.OutFwdKernel

/-! # The retention's norm and gate and the output projection: the claims about the forward call -/

@[expose] public section

set_option maxRecDepth 16384

noncomputable section

namespace Cert.OutFwdProof

open Idealize.ShloMosaic Idealize.ShloMosaic.TcCoe Idealize.SL.Sem

/-- The kernel runs and leaves its arguments alone. -/
theorem frame : Cert.quiescent_OutFwd := fun m ρ _ => Cert.OutFwd.Gen.frame m ρ

/-- So does its ideal reading. -/
theorem frame_ideal : Cert.quiescent_OutFwdIdeal := fun m ρ _ => Cert.OutFwdIdeal.Gen.frame m ρ

/-- The reference runs and leaves its arguments alone; it has no counter. -/
theorem frame_reference : Cert.quiescent_OutFwdReferenceIdeal := fun m g _ =>
  (θ_run Cert.OutFwdReferenceIdeal.defs _ _).mono
    (fun r h => ⟨fun c => (h c).2.2, Idealize.ShloMosaic.sem_eq_zero_of_no_sems (by decide) r.2⟩)
    (Cert.OutFwdReferenceIdeal.Value.run (F := Ideal) m g)

set_option maxHeartbeats 1600000 in
/-- On all arguments the kernel's two results are the input plus the projection of the joined rows, and the joined rows. -/
theorem algebraic : Cert.algebraic_OutFwdIdeal_OutFwdReferenceIdeal := by
  pair_intro
  · run_from Cert.OutFwdIdeal.Gen.run_main m g
  · run_from Cert.OutFwdReferenceIdeal.Value.run m' g'
    · rw [Cert.OutFwdReferenceIdeal.Read.val_main_v31_eq]
      exact (Cert.OutFwdKernel.final_sum m c _ fun n j => Cert.OutFwdReference.sum _ _ _ _ _ _ n j).symm
    · rw [Cert.OutFwdReferenceIdeal.Read.val_main_v32_eq]
      exact (Cert.OutFwdKernel.final_mix m c _ fun n k => Cert.OutFwdReference.stored _ _ _ _ n k).symm

end Cert.OutFwdProof

end
-- ==== Proof.InProjReal.lean ====
module

public import proofs.«01_k».proof.Proof.RealLift

/-! # The input projection over the reals: the gradients through the product and the norm -/

@[expose] public section

noncomputable section

namespace Cert.InProjReal

open Cert.RealLift

/-- The normalised row times the gain. -/
def normed (x g : Fin 1024 → ℝ) (k : Fin 1024) : ℝ := x k * rinv x * g k

/-- The cotangent of the normalised row: the projection's cotangent against the rows of the weights. -/
def back (p : Fin 3072 → ℝ) (w : Fin 1024 → Fin 3072 → ℝ) (j : Fin 1024) : ℝ := ∑ k, p k * w j k

/-- A sum over the 3072 columns, by the five groups of columns. -/
theorem sum_columns (f : Fin 3072 → EReal) :
    ∑ k : Fin 1024, f ⟨k.val, by omega⟩ + ∑ k : Fin 512, f ⟨1024 + k.val, by omega⟩ + ∑ k : Fin 512, f ⟨1536 + k.val, by omega⟩
        + ∑ k : Fin 512, f ⟨2048 + k.val, by omega⟩ + ∑ k : Fin 512, f ⟨2560 + k.val, by omega⟩ = ∑ k, f k := by
  refine Eq.symm ((Fin.sum_univ_add (M := EReal) (a := 2560) (b := 512) f).trans ?_)
  refine congrArg₂ (fun a b : EReal => a + b) ?_ rfl
  refine (Fin.sum_univ_add (M := EReal) (a := 2048) (b := 512) _).trans ?_
  refine congrArg₂ (fun a b : EReal => a + b) ?_ rfl
  refine (Fin.sum_univ_add (M := EReal) (a := 1536) (b := 512) _).trans ?_
  refine congrArg₂ (fun a b : EReal => a + b) ?_ rfl
  exact Fin.sum_univ_add (M := EReal) (a := 1024) (b := 512) _

end Cert.InProjReal

end
-- ==== Proof.InProjKernel.lean ====
module

public import proofs.«01_k».proof.Proof.Gen.InProjIdeal.Value
public import Idealize.ShloMosaic.Lib.Pipeline.ValueKit
public import Idealize.ShloMosaic.Lib.Pointwise
public import proofs.«01_k».proof.Proof.InProjReal

/-! # What the kernel of the input projection's gradients leaves in its three results -/

@[expose] public section

set_option maxRecDepth 16384

noncomputable section

namespace Cert.InProjKernel

open Idealize.ShloMosaic Idealize.ShloMosaic.TcCoe Idealize.SL.Sem
open Idealize.ShloMosaic.Pipeline (Dat)
open Cert.InProjIdeal Cert.InProjIdeal.Gen Cert.RealLift Cert.InProjReal

/-! ## One block of 512 rows -/

section norm

variable (a b : FVec Ideal S512x1024 .f32) (x : Vec Ideal S512x1024 .f32) (g : Vec Ideal S1x1024 .f32) (d : Vec Ideal S512x1024 .f32)
variable (H X : Fin 512 → Fin 1024 → ℝ) (G : Fin 1024 → ℝ)
variable (hh : ∀ r k, a (ix2 r k) + b (ix2 r k) = ((H r k : ℝ) : EReal)) (hx : ∀ r k, x (ix2 r k) = ((X r k : ℝ) : EReal))
  (hg : ∀ k, g (ix2 0 k) = ((G k : ℝ) : EReal))

include hh hx hg in
/-- The gradient in row `r` of the block, added to the gradient that reaches the row past the projection. -/
theorem dx_block (r : Fin 512) (j : Fin 1024) :
    k0_pay9 a b x g d (ix2 r j) = d (ix2 r j) + ((rmsBack (X r) (fun k => H r k * G k) j : ℝ) : EReal) := by
  pointwise [k0_pay9, k0_pay4, k0_pay5, k0_pay6, k0_pay7, k0_pay8]
  simp only [hh, hx, hg, word_eps, word_1024, rsqrt_row, ← EReal.coe_mul, ← EReal.coe_sub, ← coe_sum,
    div_coe _ (by norm_num : (1024 : ℝ) ≠ 0), ← EReal.coe_add]
  rfl

include hx hg in
/-- The normalised row times the gain. -/
theorem h_block (r : Fin 512) (j : Fin 1024) : k0_pay10 x g (ix2 r j) = ((normed (X r) G j : ℝ) : EReal) := by
  pointwise [k0_pay10, k0_pay5, k0_pay6, k0_pay7, k0_pay8]
  simp only [hx, hg, word_eps, word_1024, rsqrt_row, ← EReal.coe_mul, ← EReal.coe_sub, ← coe_sum,
    div_coe _ (by norm_num : (1024 : ℝ) ≠ 0), ← EReal.coe_add]
  rfl

include hh hx in
/-- The block's part of the gradient in the gain is added to the accumulator. -/
theorem dg_block (o : Vec Ideal S1x1024 .f32) (y : Fin 1) (j : Fin 1024) :
    k0_pay11 a b x o (ix2 y j) = o (ix2 y j) + ((∑ r, H r j * (X r j * rinv (X r)) : ℝ) : EReal) := by
  pointwise [k0_pay11, k0_pay4, k0_pay5, k0_pay7, k0_pay8]
  simp only [hh, hx, word_eps, word_1024, rsqrt_row, ← EReal.coe_mul, ← EReal.coe_sub, ← coe_sum,
    div_coe _ (by norm_num : (1024 : ℝ) ≠ 0), ← EReal.coe_add]

end norm

section product

variable (p0 : Vec Ideal S512x1024 .bf16) (w0 : Vec Ideal S1024x1024 .bf16) (p1 p2 p3 p4 : Vec Ideal S512x512 .bf16)
  (w1 w2 w3 w4 : Vec Ideal S1024x512 .bf16) (P : Fin 512 → Fin 3072 → ℝ) (W : Fin 1024 → Fin 3072 → ℝ)
  (h0 : ∀ r (k : Fin 1024), p0 (ix2 r k) = ((P r ⟨k.val, by omega⟩ : ℝ) : EReal))
  (h1 : ∀ r (k : Fin 512), p1 (ix2 r k) = ((P r ⟨1024 + k.val, by omega⟩ : ℝ) : EReal))
  (h2 : ∀ r (k : Fin 512), p2 (ix2 r k) = ((P r ⟨1536 + k.val, by omega⟩ : ℝ) : EReal))
  (h3 : ∀ r (k : Fin 512), p3 (ix2 r k) = ((P r ⟨2048 + k.val, by omega⟩ : ℝ) : EReal))
  (h4 : ∀ r (k : Fin 512), p4 (ix2 r k) = ((P r ⟨2560 + k.val, by omega⟩ : ℝ) : EReal))
  (g0 : ∀ j (k : Fin 1024), w0 (ix2 j k) = ((W j ⟨k.val, by omega⟩ : ℝ) : EReal))
  (g1 : ∀ j (k : Fin 512), w1 (ix2 j k) = ((W j ⟨1024 + k.val, by omega⟩ : ℝ) : EReal))
  (g2 : ∀ j (k : Fin 512), w2 (ix2 j k) = ((W j ⟨1536 + k.val, by omega⟩ : ℝ) : EReal))
  (g3 : ∀ j (k : Fin 512), w3 (ix2 j k) = ((W j ⟨2048 + k.val, by omega⟩ : ℝ) : EReal))
  (g4 : ∀ j (k : Fin 512), w4 (ix2 j k) = ((W j ⟨2560 + k.val, by omega⟩ : ℝ) : EReal))

include h0 h1 h2 h3 h4 g0 g1 g2 g3 g4 in
/-- The five products together are the product over all the columns. -/
theorem back_block (r : Fin 512) (j : Fin 1024) :
    k0_pay2 p0 w0 p1 w1 p2 w2 p3 w3 (ix2 r j) + k0_pay3 p4 w4 (ix2 r j) = ((back (P r) W j : ℝ) : EReal) := by
  pointwise [k0_pay2, k0_pay3]
  simp only [h0, h1, h2, h3, h4, g0, g1, g2, g3, g4, ← EReal.coe_mul]
  refine (sum_columns fun k => ((P r k * W j k : ℝ) : EReal)).trans ?_
  rw [← coe_sum]
  rfl

end product

/-! ## The blocks read -/

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![0, 0] ∧ win0_8.index t = ![t.val, 0]
    ∧ win0_9.index t = ![t.val, 0] ∧ win0_10.index t = ![t.val, 0] ∧ win0_11.index t = ![0, 0] :=
  (by decide +kernel : ∀ t : Fin grid0.N, _)

/-- Row `r` of block `t` is row `512 t + r` of the sequence. -/
def row (t : Fin cfg0.N) (r : Fin 512) : Fin 8192 :=
  ⟨t.val * 512 + r.val, by have h : t.val < 16 := lt_of_lt_of_eq t.isLt N_0; have := r.isLt; omega⟩

/-- The first 1024 columns of the projection's cotangent, -/
theorem p0_block (c : Dev nD) (t : Fin cfg0.N) (r : Fin 512) (k : Fin 1024) :
    (iblk m c 0 t : Vec Ideal S512x1024 .bf16) (ix2 r k)
      = (m ((c : Thread nD τ).loc main_arg3) : FVec Ideal S1x8192x3072 .f32) (ix3 0 (row t r) ⟨k.val, by omega⟩) := by
  blk_simp [iblk]
  entry_read
  pointwise
  blk_ext [idx t, row]

/-- the next 512, -/
theorem p1_block (c : Dev nD) (t : Fin cfg0.N) (r : Fin 512) (k : Fin 512) :
    (iblk m c 1 t : Vec Ideal S512x512 .bf16) (ix2 r k)
      = (m ((c : Thread nD τ).loc main_arg3) : FVec Ideal S1x8192x3072 .f32) (ix3 0 (row t r) ⟨1024 + k.val, by omega⟩) := by
  blk_simp [iblk]
  entry_read
  pointwise
  blk_ext [idx t, row]

/-- the next 512, -/
theorem p2_block (c : Dev nD) (t : Fin cfg0.N) (r : Fin 512) (k : Fin 512) :
    (iblk m c 2 t : Vec Ideal S512x512 .bf16) (ix2 r k)
      = (m ((c : Thread nD τ).loc main_arg3) : FVec Ideal S1x8192x3072 .f32) (ix3 0 (row t r) ⟨1536 + k.val, by omega⟩) := by
  blk_simp [iblk]
  entry_read
  pointwise
  blk_ext [idx t, row]

/-- the next 512, -/
theorem p3_block (c : Dev nD) (t : Fin cfg0.N) (r : Fin 512) (k : Fin 512) :
    (iblk m c 3 t : Vec Ideal S512x512 .bf16) (ix2 r k)
      = (m ((c : Thread nD τ).loc main_arg3) : FVec Ideal S1x8192x3072 .f32) (ix3 0 (row t r) ⟨2048 + k.val, by omega⟩) := by
  blk_simp [iblk]
  entry_read
  pointwise
  blk_ext [idx t, row]

/-- and the last 512. -/
theorem p4_block (c : Dev nD) (t : Fin cfg0.N) (r : Fin 512) (k : Fin 512) :
    (iblk m c 4 t : Vec Ideal S512x512 .bf16) (ix2 r k)
      = (m ((c : Thread nD τ).loc main_arg3) : FVec Ideal S1x8192x3072 .f32) (ix3 0 (row t r) ⟨2560 + k.val, by omega⟩) := by
  blk_simp [iblk]
  entry_read
  pointwise
  blk_ext [idx t, row]

/-- The weights, read whole at every block. -/
theorem w_block (c : Dev nD) (t : Fin cfg0.N) (j : Fin 1024) (k : Fin 3072) :
    (iblk m c 5 t : Vec Ideal S1024x3072 .bf16) (ix2 j k) = (m ((c : Thread nD τ).loc main_arg2) : FVec Ideal S1024x3072 .f32) (ix2 j k) := by
  blk_simp [iblk]
  entry_read
  pointwise
  blk_ext [idx t]

/-- Row `r` of the input's block `t`. -/
theorem x_block (c : Dev nD) (t : Fin cfg0.N) (r : Fin 512) (k : Fin 1024) :
    (iblk m c 6 t : Vec Ideal S512x1024 .f32) (ix2 r k) = (m ((c : Thread nD τ).loc main_arg0) : FVec Ideal S1x8192x1024 .f32) (ix3 0 (row t r) k) := by
  blk_simp [iblk]
  entry_read
  pointwise
  blk_ext [idx t, row]

/-- The gain, read whole at every block. -/
theorem g_block (c : Dev nD) (t : Fin cfg0.N) (k : Fin 1024) :
    (iblk m c 7 t : Vec Ideal S1x1024 .f32) (ix2 0 k) = (m ((c : Thread nD τ).loc main_arg1) : FVec Ideal S1024 .f32) (ix1 k) := by
  blk_simp [iblk]
  entry_read
  pointwise
  blk_ext [idx t]

/-- Row `r` of the block `t` of the gradient that reaches the input past the projection. -/
theorem d_block (c : Dev nD) (t : Fin cfg0.N) (r : Fin 512) (k : Fin 1024) :
    (iblk m c 8 t : Vec Ideal S512x1024 .f32) (ix2 r k) = (m ((c : Thread nD τ).loc main_arg4) : FVec Ideal S1x8192x1024 .f32) (ix3 0 (row t r) k) := by
  blk_simp [iblk]
  entry_read
  pointwise
  blk_ext [idx t, row]

/-- The product's first part, over the first 2560 columns, at a block, -/
abbrev productA (c : Dev nD) (t : Fin cfg0.N) : FVec Ideal S512x1024 .f32 :=
  k0_pay2 (iblk m c 0 t) (View.ld (iblk m c 5 t) (Rect.unit ![0, 0] ![1024, 1024] inb_S1024x3072_S1024x1024_0_0))
    (iblk m c 1 t) (View.ld (iblk m c 5 t) (Rect.unit ![0, 1024] ![1024, 512] inb_S1024x3072_S1024x512_0_1024))
    (iblk m c 2 t) (View.ld (iblk m c 5 t) (Rect.unit ![0, 1536] ![1024, 512] inb_S1024x3072_S1024x512_0_1536))
    (iblk m c 3 t) (View.ld (iblk m c 5 t) (Rect.unit ![0, 2048] ![1024, 512] inb_S1024x3072_S1024x512_0_2048))

/-- and its second, over the last 512. -/
abbrev productB (c : Dev nD) (t : Fin cfg0.N) : FVec Ideal S512x1024 .f32 :=
  k0_pay3 (iblk m c 4 t) (View.ld (iblk m c 5 t) (Rect.unit ![0, 2560] ![1024, 512] inb_S1024x3072_S1024x512_0_2560))

/-- A group of columns of the weights, loaded by itself. -/
theorem ld_columns {n : ℕ} (w : Vec Ideal S1024x3072 .bf16) (o : ℕ) (h : ∀ a : Fin 2, (![0, o] : Fin 2 → ℕ) a + (![1024, n] : Fin 2 → ℕ) a ≤ S1024x3072.size a)
    (j : Fin 1024) (k : Fin n) (hk : o + k.val < 3072) :
    View.ld w (Rect.unit ![0, o] ![1024, n] h) (ix2 j k) = w (ix2 j ⟨o + k.val, hk⟩) :=
  congrArg w (funext fun a => Fin.ext (match a with
    | ⟨0, _⟩ => (by show 0 + 1 * j.val = j.val; omega)
    | ⟨1, _⟩ => (by show o + 1 * k.val = o + k.val; omega)))

/-! ## The three results -/

section results

variable (c : Dev nD) (X : Fin 8192 → Fin 1024 → ℝ) (G : Fin 1024 → ℝ) (W : Fin 1024 → Fin 3072 → ℝ) (P : Fin 8192 → Fin 3072 → ℝ)
variable (hx : ∀ n k, (m ((c : Thread nD τ).loc main_arg0) : FVec Ideal S1x8192x1024 .f32) (ix3 0 n k) = ((X n k : ℝ) : EReal))
  (hg : ∀ k, (m ((c : Thread nD τ).loc main_arg1) : FVec Ideal S1024 .f32) (ix1 k) = ((G k : ℝ) : EReal))
  (hw : ∀ j k, (m ((c : Thread nD τ).loc main_arg2) : FVec Ideal S1024x3072 .f32) (ix2 j k) = ((W j k : ℝ) : EReal))
  (hp : ∀ n k, (m ((c : Thread nD τ).loc main_arg3) : FVec Ideal S1x8192x3072 .f32) (ix3 0 n k) = ((P n k : ℝ) : EReal))

variable (D : Fin 8192 → Fin 1024 → EReal)
  (hd : ∀ n k, (m ((c : Thread nD τ).loc main_arg4) : FVec Ideal S1x8192x1024 .f32) (ix3 0 n k) = D n k)

include hw hp in
/-- The cotangent of the normalised rows, at a block. -/
theorem back_point (t : Fin cfg0.N) (r : Fin 512) (j : Fin 1024) :
    productA m c t (ix2 r j) + productB m c t (ix2 r j) = ((back (P (row t r)) W j : ℝ) : EReal) :=
  have col {n : ℕ} (o : ℕ) (h) (hn : o + n ≤ 3072) (j : Fin 1024) (k : Fin n) :
      View.ld (iblk m c 5 t : Vec Ideal S1024x3072 .bf16) (Rect.unit ![0, o] ![1024, n] h) (ix2 j k)
        = ((W j ⟨o + k.val, by omega⟩ : ℝ) : EReal) :=
    (ld_columns _ o h j k (by omega)).trans ((w_block m c t j _).trans (hw _ _))
  back_block _ _ _ _ _ _ _ _ _ _ (fun r => P (row t r)) W
    (fun r k => (p0_block m c t r k).trans (hp _ _)) (fun r k => (p1_block m c t r k).trans (hp _ _))
    (fun r k => (p2_block m c t r k).trans (hp _ _)) (fun r k => (p3_block m c t r k).trans (hp _ _))
    (fun r k => (p4_block m c t r k).trans (hp _ _))
    (fun j k => (col 0 _ (by omega) j k).trans (by simp only [Nat.zero_add])) (fun j k => col 1024 _ (by omega) j k)
    (fun j k => col 1536 _ (by omega) j k) (fun j k => col 2048 _ (by omega) j k) (fun j k => col 2560 _ (by omega) j k) r j

include hx hg hw hp hd in
/-- One cell of the gradient in the input, at the block that writes it. -/
theorem dx_point (t : Fin cfg0.N) (y : S512x1024.Idx) :
    k0_pay9 (productA m c t) (productB m c t) (iblk m c 6 t) (iblk m c 7 t) (iblk m c 8 t) y
      = D (row t (y 0)) (y 1) + ((rmsBack (X (row t (y 0))) (fun k => back (P (row t (y 0))) W k * G k) (y 1) : ℝ) : EReal) := by
  have hy : y = ix2 (y 0) (y 1) := by idx_ext
  rw [hy]
  refine (dx_block _ _ _ _ _ (fun r => back (P (row t r)) W) (fun r => X (row t r)) G (back_point m c W P hw hp t)
    (fun r k => (x_block m c t r k).trans (hx _ _)) (fun k => (g_block m c t k).trans (hg _)) _ _).trans ?_
  exact congrArg (fun a : EReal => a + _) ((d_block m c t _ _).trans (hd _ _))

include hx hg hw hp hd in
/-- The gradient in the input, row by row. -/
theorem final_dx (REF : FVec Ideal S8192x1024 .f32)
    (href : ∀ n j, REF (ix2 n j) = D n j + ((rmsBack (X n) (fun k => back (P n) W k * G k) j : ℝ) : EReal)) :
    (dats m 0 c).arrAt 9 (cfgs 0).N = REF := by
  refine (dats m 0 c).arrAt_eq_of_covers 9 _ (by decide +kernel) fun t _ y => ?_
  blk_simp
  rw [after0_9]
  have e : (((View.whole main_v11_0).slice (win0_9.rect t)).emb y : S8192x1024.Idx) = ix2 (row t (y 0)) (y 1) := by
    blk_ext [idx t, row]
  have key := (dx_point m c X G W P hx hg hw hp D hd t y).trans ((href _ _).symm.trans (congrArg REF e.symm))
  by_cases h0 : t.val % 16 = 0
  · rw [outsAt0_A m c t h0]
    frame_out
    exact key
  · rw [outsAt0_B m c t h0]
    frame_out
    exact key

include hx hg in
/-- The normalised rows times the gain. -/
theorem final_h (REF : FVec Ideal S8192x1024 .bf16) (href : ∀ n j, REF (ix2 n j) = ((normed (X n) G j : ℝ) : EReal)) :
    (dats m 0 c).arrAt 10 (cfgs 0).N = REF := by
  refine (dats m 0 c).arrAt_eq_of_covers 10 _ (by decide +kernel) fun t _ y => ?_
  blk_simp
  rw [after0_10]
  have e : (((View.whole main_v11_1).slice (win0_10.rect t)).emb y : S8192x1024.Idx) = ix2 (row t (y 0)) (y 1) := by
    blk_ext [idx t, row]
  have hy : (y : S512x1024.Idx) = ix2 (y 0) (y 1) := by idx_ext
  have key : k0_pay10 (iblk m c 6 t) (iblk m c 7 t) (y : S512x1024.Idx) = REF (((View.whole main_v11_1).slice (win0_10.rect t)).emb y) :=
    (congrArg (k0_pay10 (iblk m c 6 t) (iblk m c 7 t)) hy).trans ((h_block _ _ (fun r => X (row t r)) G
      (fun r k => (x_block m c t r k).trans (hx _ _)) (fun k => (g_block m c t k).trans (hg _)) _ _).trans
      ((href _ _).symm.trans (congrArg REF e.symm)))
  by_cases h0 : t.val % 16 = 0
  · rw [outsAt0_A m c t h0]
    frame_out
    exact key
  · rw [outsAt0_B m c t h0]
    frame_out
    exact key

include hx hw hp in
/-- A block's part of the gradient in the gain, at the block's point. -/
theorem dg_point (t : Fin cfg0.N) (o : Vec Ideal S1x1024 .f32) (y : S1x1024.Idx) :
    k0_pay11 (productA m c t) (productB m c t) (iblk m c 6 t) o y
      = o y + ((∑ r, back (P (row t r)) W (y 1) * (X (row t r) (y 1) * rinv (X (row t r))) : ℝ) : EReal) := by
  have hy : y = ix2 (y 0) (y 1) := by idx_ext
  rw [hy]
  exact dg_block _ _ _ (fun r => back (P (row t r)) W) (fun r => X (row t r)) (back_point m c W P hw hp t)
    (fun r k => (x_block m c t r k).trans (hx _ _)) o _ _

/-- A sum over the sixteen blocks and their rows is the sum over the sequence. -/
theorem sum_rows (f : Fin 8192 → ℝ) : ∑ p : Fin cfg0.N, ((∑ r, f (row p r) : ℝ) : EReal) = ((∑ n, f n : ℝ) : EReal) := by
  rw [← coe_sum]
  congr 1
  exact Fin.sum_mul_add_congr (S := cfg0.N) (n := 512) (F := fun p r => f (row p r)) (f := f) fun s k hl => rfl

include hx hw hp in
/-- The gain's accumulator ends at the gradient summed over the sequence. -/
theorem final_dg (REF : FVec Ideal S1x1024 .f32)
    (href : ∀ y j, REF (ix2 y j) = ((∑ n, back (P n) W j * (X n j * rinv (X n)) : ℝ) : EReal)) :
    (dats m 0 c).arrAt 11 (cfgs 0).N = REF := by
  refine (dats m 0 c).arrAt_eq_of_after_last 11 t0_15 (by decide +kernel) _ fun j => ?_
  blk_simp
  have z : ∀ y, k0_pay1 (F := Ideal) y = 0 := fun y => by pointwise [k0_pay1]
  rw [after0_11, Pipeline.eq_sum_fin_of_reset_step_apply_last (fun n h => (outsAt0 m c n h).2.2) 16 (fun _ => 0)
    (fun p (y : S1x1024.Idx) => ((∑ r, back (P (row p r)) W (y 1) * (X (row p r) (y 1) * rinv (X (row p r))) : ℝ) : EReal))
    (fun t h y => by rw [outsAt0_A m c t h]; dsimp only; frame_out; exact (dg_point m c X W P hx hw hp t _ y).trans (congrArg (fun a : EReal => a + _) (z y)))
    (fun t h y => by rw [outsAt0_B m c t h]; dsimp only; frame_out; exact dg_point m c X W P hx hw hp t _ y) (le_of_eq N_0) t0_15 rfl _]
  have hy : (j : S1x1024.Idx) = ix2 (j 0) (j 1) := by idx_ext
  exact (zero_add (M := EReal) _).trans ((sum_rows fun n => back (P n) W (j 1) * (X n (j 1) * rinv (X n))).trans
    ((href _ _).symm.trans (congrArg REF hy.symm)))

end results

end Cert.InProjKernel

end
-- ==== Proof.InProjReference.lean ====
module

public import proofs.«01_k».proof.Proof.Gen.InProjReferenceIdeal.Read
public import Idealize.ShloMosaic.Lib.Pointwise
public import proofs.«01_k».proof.Proof.InProjReal

/-! # What the reference of the input projection's gradients computes, of real arguments -/

@[expose] public section

set_option maxRecDepth 16384

noncomputable section

namespace Cert.InProjReference

open Idealize.ShloMosaic Idealize.ShloMosaic.TcCoe Cert.InProjReferenceIdeal Cert.InProjReferenceIdeal.Read Cert.RealLift Cert.InProjReal

variable (x : FVec Ideal S1x8192x1024 .f32) (g : FVec Ideal S1024 .f32) (w : FVec Ideal S1024x3072 .f32) (p : FVec Ideal S1x8192x3072 .f32)
  (d : FVec Ideal S1x8192x1024 .f32)
variable (X : Fin 8192 → Fin 1024 → ℝ) (G : Fin 1024 → ℝ) (W : Fin 1024 → Fin 3072 → ℝ) (P : Fin 8192 → Fin 3072 → ℝ)
variable (hx : ∀ n k, x (ix3 0 n k) = ((X n k : ℝ) : EReal)) (hg : ∀ k, g (ix1 k) = ((G k : ℝ) : EReal))
  (hw : ∀ j k, w (ix2 j k) = ((W j k : ℝ) : EReal)) (hp : ∀ n k, p (ix3 0 n k) = ((P n k : ℝ) : EReal))

include hw hp in
/-- The cotangent of the normalised rows. -/
theorem cot (n : Fin 8192) (j : Fin 1024) : val_main_v22 (F := Ideal) w p (ix2 n j) = ((back (P n) W j : ℝ) : EReal) := by
  pointwise [val_main_v22, val_main_v21, val_main_v20, val_main_v19, val_main_cst_3]
  simp only [hw, hp, ← EReal.coe_mul, ← coe_sum]
  rfl

include hx in
/-- The reciprocal root of a row's mean square. -/
theorem root (n : Fin 8192) (y : Fin 1) : val_main_v8 (F := Ideal) x (ix2 n y) = ((rinv (X n) : ℝ) : EReal) := by
  pointwise [val_main_v8, val_main_v7, val_main_v6, val_main_v5, val_main_v4, val_main_v3, val_main_v2, val_main_v1, val_main_v0, val_main_cst,
    val_main_cst_0, val_main_cst_1]
  simp only [hx, word_eps, word_1024, rsqrt_row, ← EReal.coe_mul, ← coe_sum, div_coe _ (by norm_num : (1024 : ℝ) ≠ 0), ← EReal.coe_add]

include hx hg in
/-- The normalised rows times the gain. -/
theorem h (n : Fin 8192) (j : Fin 1024) : val_main_v44 (F := Ideal) x g (ix2 n j) = ((normed (X n) G j : ℝ) : EReal) := by
  pointwise [val_main_v44, val_main_v16, val_main_v15, val_main_v14, val_main_v13, val_main_v12, val_main_v0]
  simp only [hx, hg, root x X hx, ← EReal.coe_mul]
  rfl

include hx hw hp in
/-- The gradient in the gain. -/
theorem dg (y : Fin 1) (j : Fin 1024) :
    val_main_v45 (F := Ideal) x w p (ix2 y j) = ((∑ n, back (P n) W j * (X n j * rinv (X n)) : ℝ) : EReal) := by
  pointwise [val_main_v45, val_main_v28, val_main_v25, val_main_v24, val_main_v23, val_main_v13, val_main_v12, val_main_v0, val_main_cst_4,
    val_main_cst_5]
  simp only [hx, root x X hx, cot w p W P hw hp, Finset.univ_unique, Finset.sum_singleton, ← EReal.coe_mul, ← coe_sum]
  congr 1
  exact Finset.sum_congr rfl fun n _ => mul_comm _ _

include hx hg hw hp in
/-- The gradient in the input row `n`. -/
theorem dx (n : Fin 8192) (j : Fin 1024) :
    val_main_v43 (F := Ideal) x g w p d (ix2 n j)
      = d (ix3 0 n j) + ((rmsBack (X n) (fun k => back (P n) W k * G k) j : ℝ) : EReal) := by
  pointwise [val_main_v43, val_main_v42, val_main_v41, val_main_v40, val_main_v39, val_main_v38, val_main_v37, val_main_v36, val_main_v35,
    val_main_v34, val_main_v33, val_main_v32, val_main_v31, val_main_v30, val_main_v29, val_main_v27, val_main_v26, val_main_v18, val_main_v14,
    val_main_v11, val_main_v10, val_main_v9, val_main_v7, val_main_v6, val_main_v5, val_main_v4, val_main_v3, val_main_v2, val_main_v1, val_main_v0,
    val_main_cst, val_main_cst_0, val_main_cst_1, val_main_cst_2, val_main_cst_6, val_main_cst_7, val_main_cst_8]
  simp only [hx, hg, root x X hx, cot w p W P hw hp, word_eps, word_1024, word_neg_half, rsqrt_row_div, Finset.univ_unique,
    Finset.sum_singleton, ← EReal.coe_mul, ← coe_sum, div_coe _ (by norm_num : (1024 : ℝ) ≠ 0), ← EReal.coe_add, add_assoc]
  rw [rmsBack_eq]
  congr 2
  ring

end Cert.InProjReference

end
-- ==== Proof.InProjFinite.lean ====
module

public import proofs.«01_k».proof.Pre_in_finite
public import proofs.«01_k».proof.Proof.Gen.Pre_in_finite
public import proofs.«01_k».proof.Proof.RealLift

/-! # What the precondition of the input projection's gradients says -/

@[expose] public section

noncomputable section

namespace Cert.InProjFinite

open Idealize.ShloMosaic Cert.Pre_in_finite

/-- Under the precondition the first four arguments are arrays of real numbers. -/
theorem reals [Cert.Pre_in_finite.Facts] (x : FVec Ideal S1x8192x1024 .f32) (g : FVec Ideal S1024 .f32) (w : FVec Ideal S1024x3072 .f32)
    (p : FVec Ideal S1x8192x3072 .f32) (d : FVec Ideal S1x8192x1024 .f32) (h : Cert.Pre_in_finite.fn (F := Ideal) x g w p d = fun _ => 1#1) :
    (∃ X : S1x8192x1024.Idx → ℝ, ∀ i, x i = ((X i : ℝ) : EReal)) ∧ (∃ G : S1024.Idx → ℝ, ∀ i, g i = ((G i : ℝ) : EReal))
      ∧ (∃ W : S1024x3072.Idx → ℝ, ∀ i, w i = ((W i : ℝ) : EReal)) ∧ ∃ P : S1x8192x3072.Idx → ℝ, ∀ i, p i = ((P i : ℝ) : EReal) := by
  have e := congrFun h (fun a => a.elim0)
  haveI : Subsingleton S_.Idx := ⟨fun a b => funext fun i => i.elim0⟩
  obtain ⟨e, e4⟩ := IntOp.andi_eq_one.mp e
  obtain ⟨e, e3⟩ := IntOp.andi_eq_one.mp e
  obtain ⟨e1, e2⟩ := IntOp.andi_eq_one.mp e
  exact ⟨RealLift.exists_reals x _ (fun _ => RealLift.word_infinity) _ _ _ _ e1,
    RealLift.exists_reals g _ (fun _ => RealLift.word_infinity) _ _ _ _ e2,
    RealLift.exists_reals w _ (fun _ => RealLift.word_infinity) _ _ _ _ e3,
    RealLift.exists_reals p _ (fun _ => RealLift.word_infinity) _ _ _ _ e4⟩

end Cert.InProjFinite

end
-- ==== Proof.InProj.lean ====
module

public import proofs.«01_k».proof.Defs
public import proofs.«01_k».proof.Proof.Gen.InProj
public import proofs.«01_k».proof.Proof.Gen.InProj.Frame
public import proofs.«01_k».proof.Proof.Gen.InProjIdeal.Frame
public import proofs.«01_k».proof.Proof.Gen.InProjReferenceIdeal.Run
public import proofs.«01_k».proof.Proof.InProjKernel
public import proofs.«01_k».proof.Proof.InProjReference
public import proofs.«01_k».proof.Proof.InProjFinite

/-! # The input projection: the claims about the call of its gradients -/

@[expose] public section

set_option maxRecDepth 16384

noncomputable section

namespace Cert.InProjProof

open Idealize.ShloMosaic Idealize.ShloMosaic.TcCoe Idealize.SL.Sem

/-- The kernel runs and leaves its arguments alone. -/
theorem frame : Cert.quiescent_InProj := fun m ρ _ => Cert.InProj.Gen.frame m ρ

/-- So does its ideal reading. -/
theorem frame_ideal : Cert.quiescent_InProjIdeal := fun m ρ _ => Cert.InProjIdeal.Gen.frame m ρ

theorem frame_ideal_pre : Cert.quiescent_InProjIdeal_pre_in_finite := fun m ρ _ => Cert.InProjIdeal.Gen.frame m ρ

/-- The reference runs and leaves its arguments alone; it has no counter. -/
theorem frame_reference : Cert.quiescent_InProjReferenceIdeal := fun m g _ =>
  (θ_run Cert.InProjReferenceIdeal.defs _ _).mono
    (fun r h => ⟨fun c => (h c).2.2.2, Idealize.ShloMosaic.sem_eq_zero_of_no_sems (by decide) r.2⟩)
    (Cert.InProjReferenceIdeal.Value.run (F := Ideal) m g)

theorem frame_reference_pre : Cert.quiescent_InProjReferenceIdeal_pre_in_finite := fun m g _ => frame_reference m g trivial

set_option maxHeartbeats 1600000 in
/-- On finite arguments the kernel's three results are the gradient in the input, the normalised rows and the gradient in the gain. -/
theorem algebraic : Cert.algebraic_InProjIdeal_InProjReferenceIdeal_pre_in_finite := by
  pair_intro
  · run_from Cert.InProjIdeal.Gen.run_main m g
  · run_from Cert.InProjReferenceIdeal.Value.run m' g'
    all_goals
      obtain ⟨⟨X, hX⟩, ⟨G, hG⟩, ⟨W, hW⟩, ⟨P, hP⟩⟩ := Cert.InProjFinite.reals _ _ _ _ _ (hpre c)
    · rw [Cert.InProjReferenceIdeal.Read.val_main_v43_eq, (hagree c).1, (hagree c).2.1, (hagree c).2.2.1, (hagree c).2.2.2.1, (hagree c).2.2.2.2]
      exact (Cert.InProjKernel.final_dx m c (fun n k => X (ix3 0 n k)) (fun k => G (ix1 k)) (fun j k => W (ix2 j k)) (fun n k => P (ix3 0 n k))
          (fun _ _ => hX _) (fun _ => hG _) (fun _ _ => hW _) (fun _ _ => hP _) _ (fun _ _ => rfl) _
          (Cert.InProjReference.dx _ _ _ _ _ _ _ _ _ (fun _ _ => hX _) (fun _ => hG _) (fun _ _ => hW _) (fun _ _ => hP _))).symm
    · exact (Cert.InProjKernel.final_h m c (fun n k => X (ix3 0 n k)) (fun k => G (ix1 k)) (fun _ _ => hX _) (fun _ => hG _) _
          (Cert.InProjReference.h _ _ _ _ (fun _ _ => hX _) (fun _ => hG _))).symm
    · exact (Cert.InProjKernel.final_dg m c (fun n k => X (ix3 0 n k)) (fun j k => W (ix2 j k)) (fun n k => P (ix3 0 n k))
          (fun _ _ => hX _) (fun _ _ => hW _) (fun _ _ => hP _) _
          (Cert.InProjReference.dg _ _ _ _ _ _ (fun _ _ => hX _) (fun _ _ => hW _) (fun _ _ => hP _))).symm

end Cert.InProjProof

end
-- ==== Proof.MlpBlock.lean ====
module

public import proofs.«01_k».proof.Proof.Gen.MlpIdeal.Frame
public import Idealize.ShloMosaic.Lib.Pointwise
public import proofs.«01_k».proof.Proof.MlpReal

/-! # The channel mixer's two bodies, on one block of 256 rows of real numbers -/

@[expose] public section

set_option maxRecDepth 16384

noncomputable section

namespace Cert.MlpBlock

open Idealize.ShloMosaic Idealize.ShloMosaic.TcCoe
open Cert.MlpIdeal Cert.MlpIdeal.Gen Cert.RealLift Cert.MlpReal

/-! ## The forward body -/

section forward

variable (x : Vec Ideal S256x1024 .f32) (g : Vec Ideal S1x1024 .f32) (wg wu : Vec Ideal S1408x1024 .bf16)
variable (X : Fin 256 → Fin 1024 → ℝ) (G : Fin 1024 → ℝ) (WG WU : Fin 1024 → Fin 2816 → ℝ) (e : Fin 1408 → Fin 2816)
variable (hx : ∀ r k, x (ix2 r k) = ((X r k : ℝ) : EReal)) (hg : ∀ k, g (ix2 0 k) = ((G k : ℝ) : EReal))
  (hwg : ∀ k j, wg (ix2 k j) = ((WG j (e k) : ℝ) : EReal)) (hwu : ∀ k j, wu (ix2 k j) = ((WU j (e k) : ℝ) : EReal))

include hx hg in
/-- The normalised rows. -/
theorem h_block (r : Fin 256) (j : Fin 1024) : k0_pay8 x g (ix2 r j) = ((normed (X r) G j : ℝ) : EReal) := by
  pointwise [k0_pay8, k0_pay7]
  simp only [hx, hg, word_eps, word_1024, rsqrt_row, ← EReal.coe_mul, ← EReal.coe_sub, ← coe_sum,
    div_coe _ (by norm_num : (1024 : ℝ) ≠ 0), ← EReal.coe_add]
  rfl

section half

variable (h : FVec Ideal S256x1024 .bf16) (H : Fin 256 → Fin 1024 → ℝ) (hh : ∀ r j, h (ix2 r j) = ((H r j : ℝ) : EReal))

include hh hwg in
/-- The gate's product in half the columns, -/
theorem gate_half (r : Fin 256) (k : Fin 1408) : k0_pay1 h wg (ix2 r k) = ((cols (H r) WG (e k) : ℝ) : EReal) := by
  pointwise [k0_pay1]
  simp only [hh, hwg, ← EReal.coe_mul, ← coe_sum]
  rfl

include hh hwu in
/-- the other product, -/
theorem up_half (r : Fin 256) (k : Fin 1408) : k0_pay2 h wu (ix2 r k) = ((cols (H r) WU (e k) : ℝ) : EReal) := by
  pointwise [k0_pay2]
  simp only [hh, hwu, ← EReal.coe_mul, ← coe_sum]
  rfl

include hh hwg hwu in
/-- and the gated product. -/
theorem act_half (r : Fin 256) (k : Fin 1408) :
    k0_pay5 h wg wu (ix2 r k) = ((gated (cols (H r) WG (e k)) (cols (H r) WU (e k)) : ℝ) : EReal) := by
  pointwise [k0_pay5]
  simp only [gate_half wg WG e hwg h H hh, up_half wu WU e hwu h H hh, word_half, Ideal.tanh_coe, ← EReal.coe_mul, ← EReal.coe_add, sig_eq]
  rfl

end half

/-- The first half's payloads are the second half's, of the normalised rows. -/
theorem gate_first : k0_pay11 x g wg = k0_pay3 (k0_pay8 x g) wg := rfl
theorem up_first : k0_pay12 x g wu = k0_pay4 (k0_pay8 x g) wu := rfl
theorem act_first : k0_pay13 x g wg wu = k0_pay5 (k0_pay8 x g) wg wu := rfl

section mix

variable (a : Vec Ideal S256x2816 .bf16) (w : Vec Ideal S2816x1024 .bf16) (A : Fin 256 → Fin 2816 → ℝ) (W : Fin 2816 → Fin 1024 → ℝ)
variable (ha : ∀ r k, a (ix2 r k) = ((A r k : ℝ) : EReal)) (hw : ∀ k j, w (ix2 k j) = ((W k j : ℝ) : EReal))

include hx ha hw in
/-- The rows that leave the mixer. -/
theorem mix_block (r : Fin 256) (j : Fin 1024) : k0_pay6 (k0_pay7 x) a w (ix2 r j) = ((mixed (X r) (A r) W j : ℝ) : EReal) := by
  pointwise [k0_pay6, k0_pay7]
  simp only [hx, ha, hw, ← EReal.coe_mul, ← coe_sum, ← EReal.coe_add]
  rfl

end mix

end forward

/-! ## The backward body -/

section backward

variable (d : Vec Ideal S256x1024 .f32) (w : Vec Ideal S1408x1024 .bf16) (ga up : Vec Ideal S256x1408 .bf16)
variable (D : Fin 256 → Fin 1024 → ℝ) (W : Fin 2816 → Fin 1024 → ℝ) (GA UP : Fin 256 → Fin 2816 → ℝ) (e : Fin 1408 → Fin 2816)
variable (hd : ∀ r j, d (ix2 r j) = ((D r j : ℝ) : EReal)) (hw : ∀ k j, w (ix2 k j) = ((W (e k) j : ℝ) : EReal))
  (hga : ∀ r k, ga (ix2 r k) = ((GA r (e k) : ℝ) : EReal)) (hup : ∀ r k, up (ix2 r k) = ((UP r (e k) : ℝ) : EReal))

include hd hw in
/-- The cotangent of the gated product, in half the columns, -/
theorem dact_half (r : Fin 256) (k : Fin 1408) : k1_pay10 (k1_pay4 d) w (ix2 r k) = ((dact (D r) W (e k) : ℝ) : EReal) := by
  pointwise [k1_pay10, k1_pay4, k1_pay3]
  simp only [hd, hw, ← EReal.coe_mul, ← coe_sum]
  rfl

include hd hw hga hup in
/-- of the gate's product, -/
theorem dgate_half (r : Fin 256) (k : Fin 1408) :
    k1_pay13 (k1_pay4 d) w ga up (ix2 r k) = ((dgate (dact (D r) W (e k)) (GA r (e k)) (UP r (e k)) : ℝ) : EReal) := by
  pointwise [k1_pay13, k1_pay11, k1_pay12]
  simp only [hga, hup, dact_half d w D W e hd hw, word_half, word_one, Ideal.tanh_coe, ← EReal.coe_mul, ← EReal.coe_add, ← EReal.coe_sub, sig_eq]
  rfl

include hd hw hga in
/-- and of the other one. -/
theorem dup_half (r : Fin 256) (k : Fin 1408) :
    k1_pay14 (k1_pay4 d) w ga (ix2 r k) = ((dup (dact (D r) W (e k)) (GA r (e k)) : ℝ) : EReal) := by
  pointwise [k1_pay14, k1_pay11, k1_pay12]
  simp only [hga, dact_half d w D W e hd hw, word_half, word_one, Ideal.tanh_coe, ← EReal.coe_mul, ← EReal.coe_add, ← EReal.coe_sub, sig_eq]
  rfl

theorem dgate_first : k1_pay8 d w ga up = k1_pay13 (k1_pay4 d) w ga up := rfl
theorem dup_first : k1_pay9 d w ga = k1_pay14 (k1_pay4 d) w ga := rfl

section norm

variable (p q : Vec Ideal S256x2816 .bf16) (wg wu : Vec Ideal S2816x1024 .bf16) (x : Vec Ideal S256x1024 .f32) (g : Vec Ideal S1x1024 .f32)
variable (P Q : Fin 256 → Fin 2816 → ℝ) (WG WU : Fin 1024 → Fin 2816 → ℝ) (X : Fin 256 → Fin 1024 → ℝ) (G : Fin 1024 → ℝ)
variable (hp : ∀ r k, p (ix2 r k) = ((P r k : ℝ) : EReal)) (hq : ∀ r k, q (ix2 r k) = ((Q r k : ℝ) : EReal))
  (hwg : ∀ k j, wg (ix2 k j) = ((WG j k : ℝ) : EReal)) (hwu : ∀ k j, wu (ix2 k j) = ((WU j k : ℝ) : EReal))
  (hx : ∀ r k, x (ix2 r k) = ((X r k : ℝ) : EReal)) (hg : ∀ k, g (ix2 0 k) = ((G k : ℝ) : EReal))

include hp hq hwg hwu in
/-- The cotangent of the normalised rows. -/
theorem dh_block (r : Fin 256) (j : Fin 1024) :
    k1_pay16 (k1_pay15 p wg) q wu (ix2 r j) = ((dh (P r) (Q r) WG WU j : ℝ) : EReal) := by
  pointwise [k1_pay16, k1_pay15]
  simp only [hp, hq, hwg, hwu, ← EReal.coe_mul, ← coe_sum, ← EReal.coe_add]
  rfl

include hd hp hq hwg hwu hx hg in
/-- The gradient in the rows. -/
theorem dx_block (r : Fin 256) (j : Fin 1024) :
    k1_pay21 (k1_pay3 d) (k1_pay15 p wg) q wu x g (ix2 r j)
      = ((D r j + rmsBack (X r) (fun k => dh (P r) (Q r) WG WU k * G k) j : ℝ) : EReal) := by
  pointwise [k1_pay21, k1_pay17, k1_pay18, k1_pay19, k1_pay20, k1_pay3]
  simp only [dh_block p q wg wu P Q WG WU hp hq hwg hwu, hd, hx, hg, word_eps, word_1024, rsqrt_row, ← EReal.coe_mul, ← EReal.coe_sub, ← coe_sum,
    div_coe _ (by norm_num : (1024 : ℝ) ≠ 0), ← EReal.coe_add]
  rfl

include hx hg in
/-- The normalised rows, computed again. -/
theorem h_again (r : Fin 256) (j : Fin 1024) : k1_pay23 x g (ix2 r j) = ((normed (X r) G j : ℝ) : EReal) := by
  pointwise [k1_pay23, k1_pay17, k1_pay18, k1_pay19, k1_pay20]
  simp only [hx, hg, word_eps, word_1024, rsqrt_row, ← EReal.coe_mul, ← EReal.coe_sub, ← coe_sum,
    div_coe _ (by norm_num : (1024 : ℝ) ≠ 0), ← EReal.coe_add]
  rfl

include hp hq hwg hwu hx in
/-- The block's part of the gradient in the gain is added to the accumulator. -/
theorem dg_block (o : Vec Ideal S1x1024 .f32) (y : Fin 1) (j : Fin 1024) :
    k1_pay1 (k1_pay22 (k1_pay15 p wg) q wu x) (k1_pay24 o) (ix2 y j)
      = o (ix2 y j) + ((∑ r, dh (P r) (Q r) WG WU j * (X r j * rinv (X r)) : ℝ) : EReal) := by
  pointwise [k1_pay1, k1_pay24, k1_pay22, k1_pay17, k1_pay19, k1_pay20]
  simp only [dh_block p q wg wu P Q WG WU hp hq hwg hwu, hx, word_eps, word_1024, rsqrt_row, ← EReal.coe_mul, ← EReal.coe_sub, ← coe_sum,
    div_coe _ (by norm_num : (1024 : ℝ) ≠ 0), ← EReal.coe_add]

end norm

end backward

end Cert.MlpBlock

end
-- ==== Proof.MlpHalves.lean ====
module

public import proofs.«01_k».proof.Proof.MlpBlock
public import Idealize.ShloMosaic.Lib.Pipeline.ValueKit

/-! # The channel mixer's two halves of the columns: stored one after the other, and loaded by themselves -/

@[expose] public section

set_option maxRecDepth 16384

noncomputable section

namespace Cert.MlpHalves

open Idealize.ShloMosaic Idealize.ShloMosaic.TcCoe Idealize.SL.Sem
open Cert.MlpIdeal Cert.MlpIdeal.Gen

/-- A column of the first half, -/
def fst (k : Fin 1408) : Fin 2816 := ⟨k.val, by omega⟩
/-- and of the second. -/
def snd (k : Fin 1408) : Fin 2816 := ⟨1408 + k.val, by omega⟩

section stores

variable (A B : Vec Ideal S256x1408 .bf16) (F : Fin 256 → Fin 2816 → ℝ)
  (ha : ∀ r k, A (ix2 r k) = ((F r (fst k) : ℝ) : EReal)) (hb : ∀ r k, B (ix2 r k) = ((F r (snd k) : ℝ) : EReal))

/-- The two stores, the later one first. -/
abbrev stores : List (View.Piece (Elt Ideal) S256x2816 .bf16) :=
  [⟨Rect.unit ![0, 1408] ![256, 1408] inb_S256x2816_S256x1408_0_1408, B⟩,
   ⟨Rect.unit ![0, 0] ![256, 1408] inb_S256x2816_S256x1408_0_0, A⟩]

/-- Every cell lies in one of the two. -/
theorem covered (y : S256x2816.Idx) : ∃ p ∈ stores A B, y ∈ p.1.set :=
  View.cover_of_tiledL (stores A B) ![256, 1408] (by sl_kernel_rfl) y

include ha hb in
/-- Read back, they are the whole rows. -/
theorem whole (r : Fin 256) (k : Fin 2816) : View.canon (stores A B) (ix2 r k) = ((F r k : ℝ) : EReal) :=
  View.canon_eq_of_allAt (stores A B) (ix2 r k) _ (covered A B _)
    (View.allAt_cons_unit _ _ _ _ _
      (fun x hx => by
        have h0 : r = x 0 := Fin.ext ((hx 0).trans (Nat.zero_add _))
        have h1 : k = snd (x 1) := Fin.ext (hx 1)
        have e : x = ix2 (x 0) (x 1) := by idx_ext
        rw [h0, h1, e]
        exact hb (x 0) (x 1))
      (View.allAt_cons_unit _ _ _ _ _
        (fun x hx => by
          have h0 : r = x 0 := Fin.ext ((hx 0).trans (Nat.zero_add _))
          have h1 : k = fst (x 1) := Fin.ext ((hx 1).trans (Nat.zero_add _))
          have e : x = ix2 (x 0) (x 1) := by idx_ext
          rw [h0, h1, e]
          exact ha (x 0) (x 1))
        (View.allAt_nil _ _)))

include ha hb in
/-- So does the load of the whole buffer. -/
theorem read {sp : Space} (v : View sig .tc sp S256x2816 .bf16) (r : Fin 256) (k : Fin 2816) :
    (v.readCov (stores A B) (Rect.unit (s := S256x2816) ![0, 0] ![256, 2816] inb_S256x2816_S256x2816_0_0).toLoadRect : Vec Ideal S256x2816 .bf16) (ix2 r k)
      = ((F r k : ℝ) : EReal) := by
  have e : (Rect.unit (s := S256x2816) ![0, 0] ![256, 2816] inb_S256x2816_S256x2816_0_0).toLoadRect.idx (ix2 r k) = ix2 r k :=
    funext fun a => Fin.ext (match a with
      | ⟨0, _⟩ => (Nat.zero_add _).trans (Nat.one_mul _)
      | ⟨1, _⟩ => (Nat.zero_add _).trans (Nat.one_mul _))
  have h := congrFun (View.readCov_eq_canon' (Val := Elt Ideal) v (stores A B)
    (Rect.unit (s := S256x2816) ![0, 0] ![256, 2816] inb_S256x2816_S256x2816_0_0).toLoadRect) (ix2 r k)
  exact h.trans ((congrArg (View.canon (stores A B)) e).trans (whole A B F ha hb r k))

end stores

/-! ## Loads of one half -/

theorem rows_first (w : Vec Ideal S2816x1024 .bf16) (k : Fin 1408) (j : Fin 1024) :
    View.ld w (Rect.unit ![0, 0] ![1408, 1024] inb_S2816x1024_S1408x1024_0_0) (ix2 k j) = w (ix2 (fst k) j) :=
  congrArg w (funext fun a => Fin.ext (match a with
    | ⟨0, _⟩ => (by show 0 + 1 * k.val = k.val; omega)
    | ⟨1, _⟩ => (by show 0 + 1 * j.val = j.val; omega)))

theorem rows_second (w : Vec Ideal S2816x1024 .bf16) (k : Fin 1408) (j : Fin 1024) :
    View.ld w (Rect.unit ![1408, 0] ![1408, 1024] inb_S2816x1024_S1408x1024_1408_0) (ix2 k j) = w (ix2 (snd k) j) :=
  congrArg w (funext fun a => Fin.ext (match a with
    | ⟨0, _⟩ => (by show 1408 + 1 * k.val = 1408 + k.val; omega)
    | ⟨1, _⟩ => (by show 0 + 1 * j.val = j.val; omega)))

theorem columns_first (w : Vec Ideal S256x2816 .bf16) (r : Fin 256) (k : Fin 1408) :
    View.ld w (Rect.unit ![0, 0] ![256, 1408] inb_S256x2816_S256x1408_0_0) (ix2 r k) = w (ix2 r (fst k)) :=
  congrArg w (funext fun a => Fin.ext (match a with
    | ⟨0, _⟩ => (by show 0 + 1 * r.val = r.val; omega)
    | ⟨1, _⟩ => (by show 0 + 1 * k.val = k.val; omega)))

theorem columns_second (w : Vec Ideal S256x2816 .bf16) (r : Fin 256) (k : Fin 1408) :
    View.ld w (Rect.unit ![0, 1408] ![256, 1408] inb_S256x2816_S256x1408_0_1408) (ix2 r k) = w (ix2 r (snd k)) :=
  congrArg w (funext fun a => Fin.ext (match a with
    | ⟨0, _⟩ => (by show 0 + 1 * r.val = r.val; omega)
    | ⟨1, _⟩ => (by show 1408 + 1 * k.val = 1408 + k.val; omega)))

end Cert.MlpHalves

end
-- ==== Proof.MlpForward.lean ====
module

public import proofs.«01_k».proof.Proof.MlpHalves

/-! # What the channel mixer's forward call leaves in its four results -/

@[expose] public section

set_option maxRecDepth 16384

noncomputable section

namespace Cert.MlpForward

open Idealize.ShloMosaic Idealize.ShloMosaic.TcCoe Idealize.SL.Sem
open Idealize.ShloMosaic.Pipeline (Dat)
open Cert.MlpIdeal Cert.MlpIdeal.Gen Cert.RealLift Cert.MlpReal Cert.MlpBlock Cert.MlpHalves

variable (V : (c : Dev nD) → (b : Ref sig .tc) → Buf (Elt Ideal) ((c : Thread nD τ).loc b))

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- Row `r` of block `t` is row `256 t + r` of the sequence. -/
def row (t : Fin cfg0.N) (r : Fin 256) : Fin 8192 :=
  ⟨t.val * 256 + r.val, by have h : t.val < 32 := lt_of_lt_of_eq t.isLt N_0; have := r.isLt; omega⟩

/-! ## The blocks read -/

theorem x_block (c : Dev nD) (t : Fin cfg0.N) (r : Fin 256) (k : Fin 1024) :
    (iblk0 V c 0 t : Vec Ideal S256x1024 .f32) (ix2 r k) = (V c main_v0 : FVec Ideal S8192x1024 .f32) (ix2 (row t r) k) := by
  blk_simp [iblk0]
  blk_ext [idx t, row]

theorem g_block (c : Dev nD) (t : Fin cfg0.N) (k : Fin 1024) :
    (iblk0 V c 1 t : Vec Ideal S1x1024 .f32) (ix2 0 k) = (V c main_v1 : FVec Ideal S1x1024 .f32) (ix2 0 k) := by
  blk_simp [iblk0]
  blk_ext [idx t]

theorem wg_block (c : Dev nD) (t : Fin cfg0.N) (k : Fin 2816) (j : Fin 1024) :
    (iblk0 V c 2 t : Vec Ideal S2816x1024 .bf16) (ix2 k j) = (V c main_v3 : FVec Ideal S2816x1024 .bf16) (ix2 k j) := by
  blk_simp [iblk0]
  blk_ext [idx t]

theorem wu_block (c : Dev nD) (t : Fin cfg0.N) (k : Fin 2816) (j : Fin 1024) :
    (iblk0 V c 3 t : Vec Ideal S2816x1024 .bf16) (ix2 k j) = (V c main_v5 : FVec Ideal S2816x1024 .bf16) (ix2 k j) := by
  blk_simp [iblk0]
  blk_ext [idx t]

theorem wd_block (c : Dev nD) (t : Fin cfg0.N) (k : Fin 2816) (j : Fin 1024) :
    (iblk0 V c 4 t : Vec Ideal S2816x1024 .bf16) (ix2 k j) = (V c main_v6 : FVec Ideal S2816x1024 .bf16) (ix2 k j) := by
  blk_simp [iblk0]
  blk_ext [idx t]

/-! ## The results -/

section results

variable (c : Dev nD) (X : Fin 8192 → Fin 1024 → ℝ) (G : Fin 1024 → ℝ) (WG WU : Fin 1024 → Fin 2816 → ℝ) (WD : Fin 2816 → Fin 1024 → ℝ)
variable (hx : ∀ n k, (V c main_v0 : FVec Ideal S8192x1024 .f32) (ix2 n k) = ((X n k : ℝ) : EReal))
  (hg : ∀ k, (V c main_v1 : FVec Ideal S1x1024 .f32) (ix2 0 k) = ((G k : ℝ) : EReal))
  (hwg : ∀ k j, (V c main_v3 : FVec Ideal S2816x1024 .bf16) (ix2 k j) = ((WG j k : ℝ) : EReal))
  (hwu : ∀ k j, (V c main_v5 : FVec Ideal S2816x1024 .bf16) (ix2 k j) = ((WU j k : ℝ) : EReal))
  (hwd : ∀ k j, (V c main_v6 : FVec Ideal S2816x1024 .bf16) (ix2 k j) = ((WD k j : ℝ) : EReal))

/-- The gate's product in a row of the sequence, -/
abbrev gates (n : Fin 8192) (k : Fin 2816) : ℝ := cols (normed (X n) G) WG k
/-- and the gated product. -/
abbrev acts (n : Fin 8192) (k : Fin 2816) : ℝ := gated (gates X G WG n k) (gates X G WU n k)

include hx hg in
/-- The normalised rows of a block. -/
theorem h_point (t : Fin cfg0.N) (r : Fin 256) (j : Fin 1024) :
    k0_pay8 (iblk0 V c 0 t) (iblk0 V c 1 t) (ix2 r j) = ((normed (X (row t r)) G j : ℝ) : EReal) :=
  h_block _ _ (fun r => X (row t r)) G (fun r k => (x_block V c t r k).trans (hx _ _)) (fun k => (g_block V c t k).trans (hg _)) r j

include hwg in
theorem wg_first (t : Fin cfg0.N) (k : Fin 1408) (j : Fin 1024) :
    View.ld (iblk0 V c 2 t : Vec Ideal S2816x1024 .bf16) (Rect.unit ![0, 0] ![1408, 1024] inb_S2816x1024_S1408x1024_0_0) (ix2 k j)
      = ((WG j (fst k) : ℝ) : EReal) := (rows_first _ k j).trans ((wg_block V c t _ j).trans (hwg _ _))
include hwg in
theorem wg_second (t : Fin cfg0.N) (k : Fin 1408) (j : Fin 1024) :
    View.ld (iblk0 V c 2 t : Vec Ideal S2816x1024 .bf16) (Rect.unit ![1408, 0] ![1408, 1024] inb_S2816x1024_S1408x1024_1408_0) (ix2 k j)
      = ((WG j (snd k) : ℝ) : EReal) := (rows_second _ k j).trans ((wg_block V c t _ j).trans (hwg _ _))
include hwu in
theorem wu_first (t : Fin cfg0.N) (k : Fin 1408) (j : Fin 1024) :
    View.ld (iblk0 V c 3 t : Vec Ideal S2816x1024 .bf16) (Rect.unit ![0, 0] ![1408, 1024] inb_S2816x1024_S1408x1024_0_0) (ix2 k j)
      = ((WU j (fst k) : ℝ) : EReal) := (rows_first _ k j).trans ((wu_block V c t _ j).trans (hwu _ _))
include hwu in
theorem wu_second (t : Fin cfg0.N) (k : Fin 1408) (j : Fin 1024) :
    View.ld (iblk0 V c 3 t : Vec Ideal S2816x1024 .bf16) (Rect.unit ![1408, 0] ![1408, 1024] inb_S2816x1024_S1408x1024_1408_0) (ix2 k j)
      = ((WU j (snd k) : ℝ) : EReal) := (rows_second _ k j).trans ((wu_block V c t _ j).trans (hwu _ _))

include hx hg hwg hwu in
theorem act_first_point (t : Fin cfg0.N) (r : Fin 256) (k : Fin 1408) :
    k0_pay13 (iblk0 V c 0 t) (iblk0 V c 1 t)
        (View.ld (iblk0 V c 2 t : Vec Ideal S2816x1024 .bf16) (Rect.unit ![0, 0] ![1408, 1024] inb_S2816x1024_S1408x1024_0_0))
        (View.ld (iblk0 V c 3 t : Vec Ideal S2816x1024 .bf16) (Rect.unit ![0, 0] ![1408, 1024] inb_S2816x1024_S1408x1024_0_0)) (ix2 r k)
      = ((acts X G WG WU (row t r) (fst k) : ℝ) : EReal) := by
  rw [act_first]
  exact act_half _ _ WG WU fst (wg_first V c WG hwg t) (wu_first V c WU hwu t) _ (fun r => normed (X (row t r)) G)
    (h_point V c X G hx hg t) r k

include hx hg hwg hwu in
theorem act_second_point (t : Fin cfg0.N) (r : Fin 256) (k : Fin 1408) :
    k0_pay5 (k0_pay8 (iblk0 V c 0 t) (iblk0 V c 1 t))
        (View.ld (iblk0 V c 2 t : Vec Ideal S2816x1024 .bf16) (Rect.unit ![1408, 0] ![1408, 1024] inb_S2816x1024_S1408x1024_1408_0))
        (View.ld (iblk0 V c 3 t : Vec Ideal S2816x1024 .bf16) (Rect.unit ![1408, 0] ![1408, 1024] inb_S2816x1024_S1408x1024_1408_0)) (ix2 r k)
      = ((acts X G WG WU (row t r) (snd k) : ℝ) : EReal) :=
  act_half _ _ WG WU snd (wg_second V c WG hwg t) (wu_second V c WU hwu t) _ (fun r => normed (X (row t r)) G)
    (h_point V c X G hx hg t) r k

include hx hg hwg hwu hwd in
/-- The rows that leave the mixer. -/
theorem final_y (REF : FVec Ideal S8192x1024 .f32)
    (href : ∀ n j, REF (ix2 n j) = ((mixed (X n) (acts X G WG WU n) WD j : ℝ) : EReal)) :
    (dat0 V c).arrAt 5 cfg0.N = REF := by
  refine (dat0 V c).arrAt_eq_of_covers 5 _ (by decide +kernel) fun t _ y => ?_
  blk_simp
  rw [after0_5]
  have e : (((View.whole main_v7_0).slice (win0_5.rect t)).emb y : S8192x1024.Idx) = ix2 (row t (y 0)) (y 1) := by
    blk_ext [idx t, row]
  have hy : (y : S256x1024.Idx) = ix2 (y 0) (y 1) := by idx_ext
  dsimp only [outsAt0]
  frame_out
  refine Eq.trans ?_ ((href _ _).symm.trans (congrArg REF e.symm))
  refine (congrArg _ hy).trans ?_
  exact mix_block _ (fun r => X (row t r)) (fun r k => (x_block V c t r k).trans (hx _ _)) _ _ (fun r => acts X G WG WU (row t r)) WD
    (fun r k => read _ _ (fun r => acts X G WG WU (row t r)) (act_first_point V c X G WG WU hx hg hwg hwu t)
      (act_second_point V c X G WG WU hx hg hwg hwu t) _ r k)
    (fun k j => (wd_block V c t k j).trans (hwd _ _)) (y 0) (y 1)

include hx hg hwg in
/-- The gate's product, saved. -/
theorem final_gate (REF : FVec Ideal S8192x2816 .bf16) (href : ∀ n k, REF (ix2 n k) = ((gates X G WG n k : ℝ) : EReal)) :
    (dat0 V c).arrAt 6 cfg0.N = REF := by
  refine (dat0 V c).arrAt_eq_of_covers 6 _ (by decide +kernel) fun t _ y => ?_
  blk_simp
  rw [after0_6]
  have e : (((View.whole main_v7_1).slice (win0_6.rect t)).emb y : S8192x2816.Idx) = ix2 (row t (y 0)) (y 1) := by
    blk_ext [idx t, row]
  have hy : (y : S256x2816.Idx) = ix2 (y 0) (y 1) := by idx_ext
  dsimp only [outsAt0]
  frame_out
  refine Eq.trans ?_ ((href _ _).symm.trans (congrArg REF e.symm))
  refine (congrArg _ hy).trans ?_
  exact whole _ _ (fun r => gates X G WG (row t r))
    (fun r k => by
      rw [gate_first]
      exact gate_half _ WG fst (wg_first V c WG hwg t) _ (fun r => normed (X (row t r)) G) (h_point V c X G hx hg t) r k)
    (fun r k => gate_half _ WG snd (wg_second V c WG hwg t) _ (fun r => normed (X (row t r)) G) (h_point V c X G hx hg t) r k) (y 0) (y 1)

include hx hg hwu in
/-- The other product, saved. -/
theorem final_up (REF : FVec Ideal S8192x2816 .bf16) (href : ∀ n k, REF (ix2 n k) = ((gates X G WU n k : ℝ) : EReal)) :
    (dat0 V c).arrAt 7 cfg0.N = REF := by
  refine (dat0 V c).arrAt_eq_of_covers 7 _ (by decide +kernel) fun t _ y => ?_
  blk_simp
  rw [after0_7]
  have e : (((View.whole main_v7_2).slice (win0_7.rect t)).emb y : S8192x2816.Idx) = ix2 (row t (y 0)) (y 1) := by
    blk_ext [idx t, row]
  have hy : (y : S256x2816.Idx) = ix2 (y 0) (y 1) := by idx_ext
  dsimp only [outsAt0]
  frame_out
  refine Eq.trans ?_ ((href _ _).symm.trans (congrArg REF e.symm))
  refine (congrArg _ hy).trans ?_
  exact whole _ _ (fun r => gates X G WU (row t r))
    (fun r k => by
      rw [up_first]
      exact up_half _ WU fst (wu_first V c WU hwu t) _ (fun r => normed (X (row t r)) G) (h_point V c X G hx hg t) r k)
    (fun r k => up_half _ WU snd (wu_second V c WU hwu t) _ (fun r => normed (X (row t r)) G) (h_point V c X G hx hg t) r k) (y 0) (y 1)

include hx hg hwg hwu in
/-- The gated product. -/
theorem final_act (REF : FVec Ideal S8192x2816 .bf16) (href : ∀ n k, REF (ix2 n k) = ((acts X G WG WU n k : ℝ) : EReal)) :
    (dat0 V c).arrAt 8 cfg0.N = REF := by
  refine (dat0 V c).arrAt_eq_of_covers 8 _ (by decide +kernel) fun t _ y => ?_
  blk_simp
  rw [after0_8]
  have e : (((View.whole main_v7_3).slice (win0_8.rect t)).emb y : S8192x2816.Idx) = ix2 (row t (y 0)) (y 1) := by
    blk_ext [idx t, row]
  have hy : (y : S256x2816.Idx) = ix2 (y 0) (y 1) := by idx_ext
  dsimp only [outsAt0]
  frame_out
  refine Eq.trans ?_ ((href _ _).symm.trans (congrArg REF e.symm))
  refine (congrArg _ hy).trans ?_
  exact whole _ _ (fun r => acts X G WG WU (row t r)) (act_first_point V c X G WG WU hx hg hwg hwu t)
    (act_second_point V c X G WG WU hx hg hwg hwu t) (y 0) (y 1)

end results

end Cert.MlpForward

end
-- ==== Proof.MlpBackward.lean ====
module

public import proofs.«01_k».proof.Proof.MlpHalves

/-! # What the channel mixer's backward call leaves in its five results -/

@[expose] public section

set_option maxRecDepth 16384

noncomputable section

namespace Cert.MlpBackward

open Idealize.ShloMosaic Idealize.ShloMosaic.TcCoe Idealize.SL.Sem
open Idealize.ShloMosaic.Pipeline (Dat)
open Cert.MlpIdeal Cert.MlpIdeal.Gen Cert.RealLift Cert.MlpReal Cert.MlpBlock Cert.MlpHalves

variable (V : (c : Dev nD) → (b : Ref sig .tc) → Buf (Elt Ideal) ((c : Thread nD τ).loc b))

theorem idx : ∀ t : Fin cfg1.N, win1_0.index t = ![t.val, 0] ∧ win1_1.index t = ![t.val, 0] ∧ win1_2.index t = ![0, 0]
    ∧ win1_3.index t = ![t.val, 0] ∧ win1_4.index t = ![t.val, 0] ∧ win1_5.index t = ![0, 0] ∧ win1_6.index t = ![0, 0]
    ∧ win1_7.index t = ![0, 0] ∧ win1_8.index t = ![t.val, 0] ∧ win1_9.index t = ![t.val, 0] ∧ win1_10.index t = ![t.val, 0]
    ∧ win1_11.index t = ![t.val, 0] ∧ win1_12.index t = ![0, 0] :=
  (by decide +kernel : ∀ t : Fin grid1.N, _)

/-- Row `r` of block `t` is row `256 t + r` of the sequence. -/
def row (t : Fin cfg1.N) (r : Fin 256) : Fin 8192 :=
  ⟨t.val * 256 + r.val, by have h : t.val < 32 := lt_of_lt_of_eq t.isLt N_1; have := r.isLt; omega⟩

/-! ## The blocks read -/

theorem d_block (c : Dev nD) (t : Fin cfg1.N) (r : Fin 256) (k : Fin 1024) :
    (iblk1 V c 0 t : Vec Ideal S256x1024 .f32) (ix2 r k) = (V c main_v8 : FVec Ideal S8192x1024 .f32) (ix2 (row t r) k) := by
  blk_simp [iblk1]
  blk_ext [idx t, row]

theorem x_block (c : Dev nD) (t : Fin cfg1.N) (r : Fin 256) (k : Fin 1024) :
    (iblk1 V c 1 t : Vec Ideal S256x1024 .f32) (ix2 r k) = (V c main_v0 : FVec Ideal S8192x1024 .f32) (ix2 (row t r) k) := by
  blk_simp [iblk1]
  blk_ext [idx t, row]

theorem g_block (c : Dev nD) (t : Fin cfg1.N) (k : Fin 1024) :
    (iblk1 V c 2 t : Vec Ideal S1x1024 .f32) (ix2 0 k) = (V c main_v1 : FVec Ideal S1x1024 .f32) (ix2 0 k) := by
  blk_simp [iblk1]
  blk_ext [idx t]

theorem gate_block (c : Dev nD) (t : Fin cfg1.N) (r : Fin 256) (k : Fin 2816) :
    (iblk1 V c 3 t : Vec Ideal S256x2816 .bf16) (ix2 r k) = (V c main_v7_1 : FVec Ideal S8192x2816 .bf16) (ix2 (row t r) k) := by
  blk_simp [iblk1]
  blk_ext [idx t, row]

theorem up_block (c : Dev nD) (t : Fin cfg1.N) (r : Fin 256) (k : Fin 2816) :
    (iblk1 V c 4 t : Vec Ideal S256x2816 .bf16) (ix2 r k) = (V c main_v7_2 : FVec Ideal S8192x2816 .bf16) (ix2 (row t r) k) := by
  blk_simp [iblk1]
  blk_ext [idx t, row]

theorem wg_block (c : Dev nD) (t : Fin cfg1.N) (k : Fin 2816) (j : Fin 1024) :
    (iblk1 V c 5 t : Vec Ideal S2816x1024 .bf16) (ix2 k j) = (V c main_v3 : FVec Ideal S2816x1024 .bf16) (ix2 k j) := by
  blk_simp [iblk1]
  blk_ext [idx t]

theorem wu_block (c : Dev nD) (t : Fin cfg1.N) (k : Fin 2816) (j : Fin 1024) :
    (iblk1 V c 6 t : Vec Ideal S2816x1024 .bf16) (ix2 k j) = (V c main_v5 : FVec Ideal S2816x1024 .bf16) (ix2 k j) := by
  blk_simp [iblk1]
  blk_ext [idx t]

theorem wd_block (c : Dev nD) (t : Fin cfg1.N) (k : Fin 2816) (j : Fin 1024) :
    (iblk1 V c 7 t : Vec Ideal S2816x1024 .bf16) (ix2 k j) = (V c main_v6 : FVec Ideal S2816x1024 .bf16) (ix2 k j) := by
  blk_simp [iblk1]
  blk_ext [idx t]

/-! ## The two halves of a block's cotangents, as the body stores them -/

section halves

variable (c : Dev nD) (t : Fin cfg1.N)

/-- The down projection's rows, by halves, -/
abbrev wdFirst : Vec Ideal S1408x1024 .bf16 :=
  View.ld (iblk1 V c 7 t : Vec Ideal S2816x1024 .bf16) (Rect.unit ![0, 0] ![1408, 1024] inb_S2816x1024_S1408x1024_0_0)
abbrev wdSecond : Vec Ideal S1408x1024 .bf16 :=
  View.ld (iblk1 V c 7 t : Vec Ideal S2816x1024 .bf16) (Rect.unit ![1408, 0] ![1408, 1024] inb_S2816x1024_S1408x1024_1408_0)
/-- the saved gate's columns, -/
abbrev gateFirst : Vec Ideal S256x1408 .bf16 :=
  View.ld (iblk1 V c 3 t : Vec Ideal S256x2816 .bf16) (Rect.unit ![0, 0] ![256, 1408] inb_S256x2816_S256x1408_0_0)
abbrev gateSecond : Vec Ideal S256x1408 .bf16 :=
  View.ld (iblk1 V c 3 t : Vec Ideal S256x2816 .bf16) (Rect.unit ![0, 1408] ![256, 1408] inb_S256x2816_S256x1408_0_1408)
/-- and the other product's. -/
abbrev upFirst : Vec Ideal S256x1408 .bf16 :=
  View.ld (iblk1 V c 4 t : Vec Ideal S256x2816 .bf16) (Rect.unit ![0, 0] ![256, 1408] inb_S256x2816_S256x1408_0_0)
abbrev upSecond : Vec Ideal S256x1408 .bf16 :=
  View.ld (iblk1 V c 4 t : Vec Ideal S256x2816 .bf16) (Rect.unit ![0, 1408] ![256, 1408] inb_S256x2816_S256x1408_0_1408)

/-- The gate's cotangent, by halves, -/
abbrev gateCotFirst : Vec Ideal S256x1408 .bf16 := k1_pay8 (iblk1 V c 0 t) (wdFirst V c t) (gateFirst V c t) (upFirst V c t)
abbrev gateCotSecond : Vec Ideal S256x1408 .bf16 := k1_pay13 (k1_pay4 (iblk1 V c 0 t)) (wdSecond V c t) (gateSecond V c t) (upSecond V c t)
/-- and the other product's. -/
abbrev upCotFirst : Vec Ideal S256x1408 .bf16 := k1_pay9 (iblk1 V c 0 t) (wdFirst V c t) (gateFirst V c t)
abbrev upCotSecond : Vec Ideal S256x1408 .bf16 := k1_pay14 (k1_pay4 (iblk1 V c 0 t)) (wdSecond V c t) (gateSecond V c t)

/-- Both read back whole. -/
abbrev gateCotWhole : Vec Ideal S256x2816 .bf16 :=
  (ms1_9 t).view.readCov (stores (gateCotFirst V c t) (gateCotSecond V c t))
    (Rect.unit (s := S256x2816) ![0, 0] ![256, 2816] inb_S256x2816_S256x2816_0_0).toLoadRect
abbrev upCotWhole : Vec Ideal S256x2816 .bf16 :=
  (ms1_10 t).view.readCov (stores (upCotFirst V c t) (upCotSecond V c t))
    (Rect.unit (s := S256x2816) ![0, 0] ![256, 2816] inb_S256x2816_S256x2816_0_0).toLoadRect

end halves

/-! ## The results -/

section results

variable (c : Dev nD) (X D : Fin 8192 → Fin 1024 → ℝ) (G : Fin 1024 → ℝ) (GA UP : Fin 8192 → Fin 2816 → ℝ) (WG WU : Fin 1024 → Fin 2816 → ℝ)
  (WD : Fin 2816 → Fin 1024 → ℝ)
variable (hd : ∀ n k, (V c main_v8 : FVec Ideal S8192x1024 .f32) (ix2 n k) = ((D n k : ℝ) : EReal))
  (hx : ∀ n k, (V c main_v0 : FVec Ideal S8192x1024 .f32) (ix2 n k) = ((X n k : ℝ) : EReal))
  (hg : ∀ k, (V c main_v1 : FVec Ideal S1x1024 .f32) (ix2 0 k) = ((G k : ℝ) : EReal))
  (hga : ∀ n k, (V c main_v7_1 : FVec Ideal S8192x2816 .bf16) (ix2 n k) = ((GA n k : ℝ) : EReal))
  (hup : ∀ n k, (V c main_v7_2 : FVec Ideal S8192x2816 .bf16) (ix2 n k) = ((UP n k : ℝ) : EReal))
  (hwg : ∀ k j, (V c main_v3 : FVec Ideal S2816x1024 .bf16) (ix2 k j) = ((WG j k : ℝ) : EReal))
  (hwu : ∀ k j, (V c main_v5 : FVec Ideal S2816x1024 .bf16) (ix2 k j) = ((WU j k : ℝ) : EReal))
  (hwd : ∀ k j, (V c main_v6 : FVec Ideal S2816x1024 .bf16) (ix2 k j) = ((WD k j : ℝ) : EReal))

/-- The gate's cotangent in row `n`, -/
abbrev gateCot (n : Fin 8192) (k : Fin 2816) : ℝ := dgate (dact (D n) WD k) (GA n k) (UP n k)
/-- and the other product's. -/
abbrev upCot (n : Fin 8192) (k : Fin 2816) : ℝ := dup (dact (D n) WD k) (GA n k)

include hd hga hup hwd in
theorem gate_first (t : Fin cfg1.N) (r : Fin 256) (k : Fin 1408) :
    gateCotFirst V c t (ix2 r k) = ((gateCot D GA UP WD (row t r) (fst k) : ℝ) : EReal) :=
  (congrFun (dgate_first _ _ _ _) _).trans (dgate_half _ _ _ _ (fun r => D (row t r)) WD (fun r => GA (row t r)) (fun r => UP (row t r)) fst
    (fun r j => (d_block V c t r j).trans (hd _ _)) (fun k j => (rows_first _ k j).trans ((wd_block V c t _ j).trans (hwd _ _)))
    (fun r k => (columns_first _ r k).trans ((gate_block V c t r _).trans (hga _ _)))
    (fun r k => (columns_first _ r k).trans ((up_block V c t r _).trans (hup _ _))) r k)

include hd hga hup hwd in
theorem gate_second (t : Fin cfg1.N) (r : Fin 256) (k : Fin 1408) :
    gateCotSecond V c t (ix2 r k) = ((gateCot D GA UP WD (row t r) (snd k) : ℝ) : EReal) :=
  dgate_half _ _ _ _ (fun r => D (row t r)) WD (fun r => GA (row t r)) (fun r => UP (row t r)) snd
    (fun r j => (d_block V c t r j).trans (hd _ _)) (fun k j => (rows_second _ k j).trans ((wd_block V c t _ j).trans (hwd _ _)))
    (fun r k => (columns_second _ r k).trans ((gate_block V c t r _).trans (hga _ _)))
    (fun r k => (columns_second _ r k).trans ((up_block V c t r _).trans (hup _ _))) r k

include hd hga hwd in
theorem up_first (t : Fin cfg1.N) (r : Fin 256) (k : Fin 1408) :
    upCotFirst V c t (ix2 r k) = ((upCot D GA WD (row t r) (fst k) : ℝ) : EReal) :=
  (congrFun (dup_first _ _ _) _).trans (dup_half _ _ _ (fun r => D (row t r)) WD (fun r => GA (row t r)) fst
    (fun r j => (d_block V c t r j).trans (hd _ _)) (fun k j => (rows_first _ k j).trans ((wd_block V c t _ j).trans (hwd _ _)))
    (fun r k => (columns_first _ r k).trans ((gate_block V c t r _).trans (hga _ _))) r k)

include hd hga hwd in
theorem up_second (t : Fin cfg1.N) (r : Fin 256) (k : Fin 1408) :
    upCotSecond V c t (ix2 r k) = ((upCot D GA WD (row t r) (snd k) : ℝ) : EReal) :=
  dup_half _ _ _ (fun r => D (row t r)) WD (fun r => GA (row t r)) snd
    (fun r j => (d_block V c t r j).trans (hd _ _)) (fun k j => (rows_second _ k j).trans ((wd_block V c t _ j).trans (hwd _ _)))
    (fun r k => (columns_second _ r k).trans ((gate_block V c t r _).trans (hga _ _))) r k

include hd hga hup hwd in
theorem gate_whole (t : Fin cfg1.N) (r : Fin 256) (k : Fin 2816) :
    gateCotWhole V c t (ix2 r k) = ((gateCot D GA UP WD (row t r) k : ℝ) : EReal) :=
  read _ _ (fun r => gateCot D GA UP WD (row t r)) (gate_first V c D GA UP WD hd hga hup hwd t) (gate_second V c D GA UP WD hd hga hup hwd t) _ r k

include hd hga hwd in
theorem up_whole (t : Fin cfg1.N) (r : Fin 256) (k : Fin 2816) :
    upCotWhole V c t (ix2 r k) = ((upCot D GA WD (row t r) k : ℝ) : EReal) :=
  read _ _ (fun r => upCot D GA WD (row t r)) (up_first V c D GA WD hd hga hwd t) (up_second V c D GA WD hd hga hwd t) _ r k

include hd hga hup hwd in
/-- The gate's cotangent. -/
theorem final_dgate (REF : FVec Ideal S8192x2816 .bf16) (href : ∀ n k, REF (ix2 n k) = ((gateCot D GA UP WD n k : ℝ) : EReal)) :
    (dat1 V c).arrAt 9 cfg1.N = REF := by
  refine (dat1 V c).arrAt_eq_of_covers 9 _ (by decide +kernel) fun t _ y => ?_
  blk_simp
  rw [after1_9]
  have e : (((View.whole main_v9_1).slice (win1_9.rect t)).emb y : S8192x2816.Idx) = ix2 (row t (y 0)) (y 1) := by
    blk_ext [idx t, row]
  have hy : (y : S256x2816.Idx) = ix2 (y 0) (y 1) := by idx_ext
  have key : View.canon (stores (gateCotFirst V c t) (gateCotSecond V c t)) (y : S256x2816.Idx)
      = REF (((View.whole main_v9_1).slice (win1_9.rect t)).emb y) :=
    ((congrArg _ hy).trans (whole _ _ (fun r => gateCot D GA UP WD (row t r)) (gate_first V c D GA UP WD hd hga hup hwd t)
      (gate_second V c D GA UP WD hd hga hup hwd t) (y 0) (y 1))).trans ((href _ _).symm.trans (congrArg REF e.symm))
  by_cases h0 : t.val % 32 = 0
  · rw [outsAt1_A V c t h0]
    dsimp only
    frame_out
    exact key
  · rw [outsAt1_B V c t h0]
    dsimp only
    frame_out
    exact key

include hd hga hwd in
/-- The other product's cotangent. -/
theorem final_dup (REF : FVec Ideal S8192x2816 .bf16) (href : ∀ n k, REF (ix2 n k) = ((upCot D GA WD n k : ℝ) : EReal)) :
    (dat1 V c).arrAt 10 cfg1.N = REF := by
  refine (dat1 V c).arrAt_eq_of_covers 10 _ (by decide +kernel) fun t _ y => ?_
  blk_simp
  rw [after1_10]
  have e : (((View.whole main_v9_2).slice (win1_10.rect t)).emb y : S8192x2816.Idx) = ix2 (row t (y 0)) (y 1) := by
    blk_ext [idx t, row]
  have hy : (y : S256x2816.Idx) = ix2 (y 0) (y 1) := by idx_ext
  have key : View.canon (stores (upCotFirst V c t) (upCotSecond V c t)) (y : S256x2816.Idx)
      = REF (((View.whole main_v9_2).slice (win1_10.rect t)).emb y) :=
    ((congrArg _ hy).trans (whole _ _ (fun r => upCot D GA WD (row t r)) (up_first V c D GA WD hd hga hwd t)
      (up_second V c D GA WD hd hga hwd t) (y 0) (y 1))).trans ((href _ _).symm.trans (congrArg REF e.symm))
  by_cases h0 : t.val % 32 = 0
  · rw [outsAt1_A V c t h0]
    dsimp only
    frame_out
    exact key
  · rw [outsAt1_B V c t h0]
    dsimp only
    frame_out
    exact key

include hx hg in
/-- The normalised rows, computed again. -/
theorem final_h (REF : FVec Ideal S8192x1024 .bf16) (href : ∀ n j, REF (ix2 n j) = ((normed (X n) G j : ℝ) : EReal)) :
    (dat1 V c).arrAt 11 cfg1.N = REF := by
  refine (dat1 V c).arrAt_eq_of_covers 11 _ (by decide +kernel) fun t _ y => ?_
  blk_simp
  rw [after1_11]
  have e : (((View.whole main_v9_3).slice (win1_11.rect t)).emb y : S8192x1024.Idx) = ix2 (row t (y 0)) (y 1) := by
    blk_ext [idx t, row]
  have hy : (y : S256x1024.Idx) = ix2 (y 0) (y 1) := by idx_ext
  have key : k1_pay23 (iblk1 V c 1 t) (iblk1 V c 2 t) (y : S256x1024.Idx) = REF (((View.whole main_v9_3).slice (win1_11.rect t)).emb y) :=
    (congrArg (k1_pay23 (iblk1 V c 1 t) (iblk1 V c 2 t)) hy).trans ((h_again _ _ (fun r => X (row t r)) G
      (fun r k => (x_block V c t r k).trans (hx _ _)) (fun k => (g_block V c t k).trans (hg _)) _ _).trans
      ((href _ _).symm.trans (congrArg REF e.symm)))
  by_cases h0 : t.val % 32 = 0
  · rw [outsAt1_A V c t h0]
    dsimp only
    frame_out
    exact key
  · rw [outsAt1_B V c t h0]
    dsimp only
    frame_out
    exact key

include hd hx hg hga hup hwg hwu hwd in
/-- The gradient in the input, row by row. -/
theorem final_dx (REF : FVec Ideal S8192x1024 .f32)
    (href : ∀ n j, REF (ix2 n j)
      = ((D n j + rmsBack (X n) (fun k => dh (gateCot D GA UP WD n) (upCot D GA WD n) WG WU k * G k) j : ℝ) : EReal)) :
    (dat1 V c).arrAt 8 cfg1.N = REF := by
  refine (dat1 V c).arrAt_eq_of_covers 8 _ (by decide +kernel) fun t _ y => ?_
  blk_simp
  rw [after1_8]
  have e : (((View.whole main_v9_0).slice (win1_8.rect t)).emb y : S8192x1024.Idx) = ix2 (row t (y 0)) (y 1) := by
    blk_ext [idx t, row]
  have hy : (y : S256x1024.Idx) = ix2 (y 0) (y 1) := by idx_ext
  have key : k1_pay21 (k1_pay3 (iblk1 V c 0 t)) (k1_pay15 (gateCotWhole V c t) (iblk1 V c 5 t)) (upCotWhole V c t) (iblk1 V c 6 t)
      (iblk1 V c 1 t) (iblk1 V c 2 t) (y : S256x1024.Idx) = REF (((View.whole main_v9_0).slice (win1_8.rect t)).emb y) :=
    (congrArg _ hy).trans ((dx_block (iblk1 V c 0 t) (fun r => D (row t r)) (fun r j => (d_block V c t r j).trans (hd _ _)) _ _ _ _ _ _
      (fun r => gateCot D GA UP WD (row t r)) (fun r => upCot D GA WD (row t r)) WG WU (fun r => X (row t r)) G
      (gate_whole V c D GA UP WD hd hga hup hwd t) (up_whole V c D GA WD hd hga hwd t)
      (fun k j => (wg_block V c t k j).trans (hwg _ _)) (fun k j => (wu_block V c t k j).trans (hwu _ _))
      (fun r k => (x_block V c t r k).trans (hx _ _)) (fun k => (g_block V c t k).trans (hg _)) (y 0) (y 1)).trans
      ((href _ _).symm.trans (congrArg REF e.symm)))
  by_cases h0 : t.val % 32 = 0
  · rw [outsAt1_A V c t h0]
    dsimp only
    frame_out
    exact key
  · rw [outsAt1_B V c t h0]
    dsimp only
    frame_out
    exact key

/-- A row's part of the gradient in the gain. -/
abbrev gainPart (n : Fin 8192) (j : Fin 1024) : ℝ :=
  dh (gateCot D GA UP WD n) (upCot D GA WD n) WG WU j * (X n j * rinv (X n))

include hd hx hga hup hwg hwu hwd in
/-- A block's part of the gradient in the gain, at the block's point. -/
theorem dg_point (t : Fin cfg1.N) (o : Vec Ideal S1x1024 .f32) (y : S1x1024.Idx) :
    k1_pay1 (k1_pay22 (k1_pay15 (gateCotWhole V c t) (iblk1 V c 5 t)) (upCotWhole V c t) (iblk1 V c 6 t) (iblk1 V c 1 t)) (k1_pay24 o) y
      = o y + ((∑ r, gainPart X D GA UP WG WU WD (row t r) (y 1) : ℝ) : EReal) := by
  have hy : y = ix2 (y 0) (y 1) := by idx_ext
  rw [hy]
  exact dg_block _ _ _ _ _ (fun r => gateCot D GA UP WD (row t r)) (fun r => upCot D GA WD (row t r)) WG WU (fun r => X (row t r))
    (gate_whole V c D GA UP WD hd hga hup hwd t) (up_whole V c D GA WD hd hga hwd t)
    (fun k j => (wg_block V c t k j).trans (hwg _ _)) (fun k j => (wu_block V c t k j).trans (hwu _ _))
    (fun r k => (x_block V c t r k).trans (hx _ _)) o _ _

/-- The last block. -/
def last : Fin cfg1.N := ⟨31, lt_of_lt_of_eq (by decide) N_1.symm⟩

/-- A sum over the blocks and their rows is the sum over the sequence. -/
theorem sum_rows (f : Fin 8192 → ℝ) : ∑ p : Fin cfg1.N, ((∑ r, f (row p r) : ℝ) : EReal) = ((∑ n, f n : ℝ) : EReal) := by
  rw [← coe_sum]
  congr 1
  exact Fin.sum_mul_add_congr (S := cfg1.N) (n := 256) (F := fun p r => f (row p r)) (f := f) fun s k hl => rfl

include hd hx hga hup hwg hwu hwd in
/-- The gain's accumulator ends at the gradient summed over the sequence. -/
theorem final_dg (REF : FVec Ideal S1x1024 .f32)
    (href : ∀ y j, REF (ix2 y j) = ((∑ n, gainPart X D GA UP WG WU WD n j : ℝ) : EReal)) :
    (dat1 V c).arrAt 12 cfg1.N = REF := by
  refine (dat1 V c).arrAt_eq_of_after_last 12 last (by decide +kernel) _ fun j => ?_
  blk_simp
  have z : ∀ y, k1_pay2 (F := Ideal) y = 0 := fun y => by pointwise [k1_pay2]
  rw [after1_12, Pipeline.eq_sum_fin_of_reset_step_apply_last (fun n h => (outsAt1 V c n h).2.2.2.2) 32 (fun _ => 0)
    (fun p (y : S1x1024.Idx) => ((∑ r, gainPart X D GA UP WG WU WD (row p r) (y 1) : ℝ) : EReal))
    (fun t h y => by
      rw [outsAt1_A V c t h]; dsimp only; frame_out
      exact (dg_point V c X D GA UP WG WU WD hd hx hga hup hwg hwu hwd t _ y).trans (congrArg (fun a : EReal => a + _) (z y)))
    (fun t h y => by
      rw [outsAt1_B V c t h]; dsimp only; frame_out
      exact dg_point V c X D GA UP WG WU WD hd hx hga hup hwg hwu hwd t _ y) (le_of_eq N_1) last rfl _]
  have hy : (j : S1x1024.Idx) = ix2 (j 0) (j 1) := by idx_ext
  exact (zero_add (M := EReal) _).trans ((sum_rows fun n => gainPart X D GA UP WG WU WD n (j 1)).trans
    ((href _ _).symm.trans (congrArg REF hy.symm)))

end results

end Cert.MlpBackward

end
-- ==== Proof.MlpRun.lean ====
module

public import proofs.«01_k».proof.Proof.MlpForward
public import proofs.«01_k».proof.Proof.MlpBackward

/-! # The channel mixer's two calls, one after the other: what the whole run leaves, and what the second finds -/

@[expose] public section

set_option maxRecDepth 16384

noncomputable section

namespace Cert.MlpRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MlpIdeal Cert.MlpIdeal.Gen

variable (m : (ℓ : Loc nD τ sig) → Buf (Elt Ideal) ℓ) (ρ : Dev nD → PrngReg)

/-! ## What a buffer holds at the end -/

/-- A result of the first call is left alone by the second. -/
theorem kept (c : Dev nD) (b : Ref sig .tc) (h : ∀ w, Pipeline.arrRef spec1 w ≠ b) (h' : b ∉ hostOps1_W) :
    W4 m ρ c (Proc.devRef .tc b) = W2 m ρ c (Proc.devRef .tc b) := (W4_of_ne m ρ c b h).trans (W3_of m ρ c b h')

theorem end_y (c : Dev nD) : W4 m ρ c (Proc.devRef .tc main_v7_0) = (dat0 (V1 m ρ) c).arrAt 5 cfg0.N :=
  (kept m ρ c main_v7_0 (by decide) (by decide)).trans (W2_arr m ρ c 5)
theorem end_act (c : Dev nD) : W4 m ρ c (Proc.devRef .tc main_v7_3) = (dat0 (V1 m ρ) c).arrAt 8 cfg0.N :=
  (kept m ρ c main_v7_3 (by decide) (by decide)).trans (W2_arr m ρ c 8)

set_option backward.isDefEq.respectTransparency.types false in
/-- The two calls run one after the other, and every buffer that outlives them ends as the second one left it. -/
theorem run_all : θ_run defs (onTc (τ := τ) (main (F := Ideal))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-- The seven results and the arguments at the end of the run. -/
theorem run : θ_run defs (onTc (τ := τ) (main (F := Ideal))) ⟨m, fun _ => 0, ρ⟩ (fun r => ∀ c : Dev nD,
      r.2.mem ((c.tc : Thread nD τ).loc main_v7_0) = (dat0 (V1 m ρ) c).arrAt 5 cfg0.N
      ∧ r.2.mem ((c.tc : Thread nD τ).loc main_v7_3) = (dat0 (V1 m ρ) c).arrAt 8 cfg0.N
      ∧ r.2.mem ((c.tc : Thread nD τ).loc main_v9_0) = (dat1 (V3 m ρ) c).arrAt 8 cfg1.N
      ∧ r.2.mem ((c.tc : Thread nD τ).loc main_v9_1) = (dat1 (V3 m ρ) c).arrAt 9 cfg1.N
      ∧ r.2.mem ((c.tc : Thread nD τ).loc main_v9_2) = (dat1 (V3 m ρ) c).arrAt 10 cfg1.N
      ∧ r.2.mem ((c.tc : Thread nD τ).loc main_v9_3) = (dat1 (V3 m ρ) c).arrAt 11 cfg1.N
      ∧ r.2.mem ((c.tc : Thread nD τ).loc main_v9_4) = (dat1 (V3 m ρ) c).arrAt 12 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v7_0 (by decide))).trans (end_y m ρ c), (h c _ (mem_uc main_v7_3 (by decide))).trans (end_act m ρ c),
     (h c _ (mem_uc main_v9_0 (by decide))).trans (W4_arr m ρ c 8), (h c _ (mem_uc main_v9_1 (by decide))).trans (W4_arr m ρ c 9),
     (h c _ (mem_uc main_v9_2 (by decide))).trans (W4_arr m ρ c 10), (h c _ (mem_uc main_v9_3 (by decide))).trans (W4_arr m ρ c 11),
     (h c _ (mem_uc main_v9_4 (by decide))).trans (W4_arr m ρ c 12),
     (h c _ (mem_uc main_arg0 (by decide))).trans (W4_main_arg0 m ρ c), (h c _ (mem_uc main_arg1 (by decide))).trans (W4_main_arg1 m ρ c),
     (h c _ (mem_uc main_arg2 (by decide))).trans (W4_main_arg2 m ρ c), (h c _ (mem_uc main_arg3 (by decide))).trans (W4_main_arg3 m ρ c),
     (h c _ (mem_uc main_arg4 (by decide))).trans (W4_main_arg4 m ρ c), (h c _ (mem_uc main_arg5 (by decide))).trans (W4_main_arg5 m ρ c)⟩)
    (run_all m ρ)

/-! ## What the first call finds -/

theorem x1 (c : Dev nD) (n : Fin 8192) (k : Fin 1024) :
    (V1 m ρ c main_v0 : FVec Ideal S8192x1024 .f32) (ix2 n k)
      = (m ((c : Thread nD τ).loc main_arg0) : FVec Ideal S1x8192x1024 .f32) (ix3 0 n k) := by
  dsimp only [V1, W1]
  entry_read
  dsimp only [W0]
  pointwise
  blk_ext

theorem g1 (c : Dev nD) (k : Fin 1024) :
    (V1 m ρ c main_v1 : FVec Ideal S1x1024 .f32) (ix2 0 k) = (m ((c : Thread nD τ).loc main_arg1) : FVec Ideal S1024 .f32) (ix1 k) := by
  dsimp only [V1, W1]
  entry_read
  dsimp only [W0]
  pointwise
  blk_ext

theorem wg1 (c : Dev nD) (k : Fin 2816) (j : Fin 1024) :
    (V1 m ρ c main_v3 : FVec Ideal S2816x1024 .bf16) (ix2 k j)
      = (m ((c : Thread nD τ).loc main_arg2) : FVec Ideal S1024x2816 .f32) (ix2 j k) := by
  dsimp only [V1, W1]
  entry_read
  dsimp only [W0]
  pointwise
  blk_ext

theorem wu1 (c : Dev nD) (k : Fin 2816) (j : Fin 1024) :
    (V1 m ρ c main_v5 : FVec Ideal S2816x1024 .bf16) (ix2 k j)
      = (m ((c : Thread nD τ).loc main_arg3) : FVec Ideal S1024x2816 .f32) (ix2 j k) := by
  dsimp only [V1, W1]
  entry_read
  dsimp only [W0]
  pointwise
  blk_ext

theorem wd1 (c : Dev nD) (k : Fin 2816) (j : Fin 1024) :
    (V1 m ρ c main_v6 : FVec Ideal S2816x1024 .bf16) (ix2 k j)
      = (m ((c : Thread nD τ).loc main_arg4) : FVec Ideal S2816x1024 .f32) (ix2 k j) := by
  dsimp only [V1, W1]
  entry_read
  dsimp only [W0]
  pointwise
  blk_ext

/-! ## What the second call finds -/

/-- The host lines between the calls leave everything but the cotangent's copy alone, and the first call its inputs. -/
theorem same (c : Dev nD) (b : Ref sig .tc) (h : b ∉ hostOps1_W) (h' : ∀ w : Fin cfg0.W, Pipeline.arrRef spec0 w = b → (cfg0.win w).isOut = false) :
    V3 m ρ c b = V1 m ρ c b := (W3_of m ρ c b h).trans (W2_of m ρ c b h')

theorem gate3 (c : Dev nD) : V3 m ρ c main_v7_1 = (dat0 (V1 m ρ) c).arrAt 6 cfg0.N :=
  (W3_of m ρ c main_v7_1 (by decide)).trans (W2_arr m ρ c 6)
theorem up3 (c : Dev nD) : V3 m ρ c main_v7_2 = (dat0 (V1 m ρ) c).arrAt 7 cfg0.N :=
  (W3_of m ρ c main_v7_2 (by decide)).trans (W2_arr m ρ c 7)

theorem d3 (c : Dev nD) (n : Fin 8192) (k : Fin 1024) :
    (V3 m ρ c main_v8 : FVec Ideal S8192x1024 .f32) (ix2 n k)
      = (m ((c : Thread nD τ).loc main_arg5) : FVec Ideal S1x8192x1024 .f32) (ix3 0 n k) := by
  have e : W2 m ρ c (Proc.devRef .tc main_arg5) = m ((c : Thread nD τ).loc main_arg5) := W2_args m ρ c main_arg5 (by decide)
  dsimp only [V3, W3]
  entry_read
  rw [e]
  pointwise
  blk_ext

theorem x3 (c : Dev nD) : V3 m ρ c main_v0 = V1 m ρ c main_v0 := same m ρ c main_v0 (by decide) (by decide)
theorem g3 (c : Dev nD) : V3 m ρ c main_v1 = V1 m ρ c main_v1 := same m ρ c main_v1 (by decide) (by decide)
theorem wg3 (c : Dev nD) : V3 m ρ c main_v3 = V1 m ρ c main_v3 := same m ρ c main_v3 (by decide) (by decide)
theorem wu3 (c : Dev nD) : V3 m ρ c main_v5 = V1 m ρ c main_v5 := same m ρ c main_v5 (by decide) (by decide)
theorem wd3 (c : Dev nD) : V3 m ρ c main_v6 = V1 m ρ c main_v6 := same m ρ c main_v6 (by decide) (by decide)

end Cert.MlpRun

end
-- ==== Proof.MlpKernel.lean ====
module

public import proofs.«01_k».proof.Proof.MlpRun

/-! # What the channel mixer's two calls leave, of real arguments -/

@[expose] public section

set_option maxRecDepth 16384

noncomputable section

namespace Cert.MlpKernel

open Idealize.ShloMosaic Idealize.ShloMosaic.TcCoe Idealize.SL.Sem
open Cert.MlpIdeal Cert.MlpIdeal.Gen Cert.RealLift Cert.MlpReal Cert.MlpRun
open Cert.MlpForward (gates acts)
open Cert.MlpBackward (gateCot upCot gainPart)

variable (m : (ℓ : Loc nD τ sig) → Buf (Elt Ideal) ℓ) (ρ : Dev nD → PrngReg) (c : Dev nD)
variable (X : Fin 8192 → Fin 1024 → ℝ) (G : Fin 1024 → ℝ) (WG WU : Fin 1024 → Fin 2816 → ℝ) (WD : Fin 2816 → Fin 1024 → ℝ)
  (D : Fin 8192 → Fin 1024 → ℝ)
variable (hx : ∀ n k, (m ((c : Thread nD τ).loc main_arg0) : FVec Ideal S1x8192x1024 .f32) (ix3 0 n k) = ((X n k : ℝ) : EReal))
  (hg : ∀ k, (m ((c : Thread nD τ).loc main_arg1) : FVec Ideal S1024 .f32) (ix1 k) = ((G k : ℝ) : EReal))
  (hwg : ∀ j k, (m ((c : Thread nD τ).loc main_arg2) : FVec Ideal S1024x2816 .f32) (ix2 j k) = ((WG j k : ℝ) : EReal))
  (hwu : ∀ j k, (m ((c : Thread nD τ).loc main_arg3) : FVec Ideal S1024x2816 .f32) (ix2 j k) = ((WU j k : ℝ) : EReal))
  (hwd : ∀ k j, (m ((c : Thread nD τ).loc main_arg4) : FVec Ideal S2816x1024 .f32) (ix2 k j) = ((WD k j : ℝ) : EReal))
  (hd : ∀ n k, (m ((c : Thread nD τ).loc main_arg5) : FVec Ideal S1x8192x1024 .f32) (ix3 0 n k) = ((D n k : ℝ) : EReal))

/-! ## The forward call -/

include hx hg hwg hwu hwd in
/-- The rows that leave the mixer. -/
theorem y (REF : FVec Ideal S8192x1024 .f32) (href : ∀ n j, REF (ix2 n j) = ((mixed (X n) (acts X G WG WU n) WD j : ℝ) : EReal)) :
    (dat0 (V1 m ρ) c).arrAt 5 cfg0.N = REF :=
  MlpForward.final_y (V1 m ρ) c X G WG WU WD (fun n k => (x1 m ρ c n k).trans (hx n k)) (fun k => (g1 m ρ c k).trans (hg k))
    (fun k j => (wg1 m ρ c k j).trans (hwg j k)) (fun k j => (wu1 m ρ c k j).trans (hwu j k)) (fun k j => (wd1 m ρ c k j).trans (hwd k j)) REF href

include hx hg hwg hwu in
/-- The gated product. -/
theorem act (REF : FVec Ideal S8192x2816 .bf16) (href : ∀ n k, REF (ix2 n k) = ((acts X G WG WU n k : ℝ) : EReal)) :
    (dat0 (V1 m ρ) c).arrAt 8 cfg0.N = REF :=
  MlpForward.final_act (V1 m ρ) c X G WG WU (fun n k => (x1 m ρ c n k).trans (hx n k)) (fun k => (g1 m ρ c k).trans (hg k))
    (fun k j => (wg1 m ρ c k j).trans (hwg j k)) (fun k j => (wu1 m ρ c k j).trans (hwu j k)) REF href

/-! ## What the backward call finds -/

include hx in
theorem x_in (n : Fin 8192) (k : Fin 1024) : (V3 m ρ c main_v0 : FVec Ideal S8192x1024 .f32) (ix2 n k) = ((X n k : ℝ) : EReal) :=
  (congrFun (x3 m ρ c) _).trans ((x1 m ρ c n k).trans (hx n k))
include hg in
theorem g_in (k : Fin 1024) : (V3 m ρ c main_v1 : FVec Ideal S1x1024 .f32) (ix2 0 k) = ((G k : ℝ) : EReal) :=
  (congrFun (g3 m ρ c) _).trans ((g1 m ρ c k).trans (hg k))
include hwg in
theorem wg_in (k : Fin 2816) (j : Fin 1024) : (V3 m ρ c main_v3 : FVec Ideal S2816x1024 .bf16) (ix2 k j) = ((WG j k : ℝ) : EReal) :=
  (congrFun (wg3 m ρ c) _).trans ((wg1 m ρ c k j).trans (hwg j k))
include hwu in
theorem wu_in (k : Fin 2816) (j : Fin 1024) : (V3 m ρ c main_v5 : FVec Ideal S2816x1024 .bf16) (ix2 k j) = ((WU j k : ℝ) : EReal) :=
  (congrFun (wu3 m ρ c) _).trans ((wu1 m ρ c k j).trans (hwu j k))
include hwd in
theorem wd_in (k : Fin 2816) (j : Fin 1024) : (V3 m ρ c main_v6 : FVec Ideal S2816x1024 .bf16) (ix2 k j) = ((WD k j : ℝ) : EReal) :=
  (congrFun (wd3 m ρ c) _).trans ((wd1 m ρ c k j).trans (hwd k j))
include hd in
theorem d_in (n : Fin 8192) (k : Fin 1024) : (V3 m ρ c main_v8 : FVec Ideal S8192x1024 .f32) (ix2 n k) = ((D n k : ℝ) : EReal) :=
  (d3 m ρ c n k).trans (hd n k)

include hx hg hwg in
/-- The gate's product that the forward call saved, -/
theorem gate_in (n : Fin 8192) (k : Fin 2816) :
    (V3 m ρ c main_v7_1 : FVec Ideal S8192x2816 .bf16) (ix2 n k) = ((gates X G WG n k : ℝ) : EReal) :=
  congrFun ((gate3 m ρ c).trans (MlpForward.final_gate (V1 m ρ) c X G WG (fun n k => (x1 m ρ c n k).trans (hx n k))
    (fun k => (g1 m ρ c k).trans (hg k)) (fun k j => (wg1 m ρ c k j).trans (hwg j k))
    (fun i => ((gates X G WG (i 0) (i 1) : ℝ) : EReal)) (fun _ _ => rfl))) (ix2 n k)

include hx hg hwu in
/-- and the other one. -/
theorem up_in (n : Fin 8192) (k : Fin 2816) :
    (V3 m ρ c main_v7_2 : FVec Ideal S8192x2816 .bf16) (ix2 n k) = ((gates X G WU n k : ℝ) : EReal) :=
  congrFun ((up3 m ρ c).trans (MlpForward.final_up (V1 m ρ) c X G WU (fun n k => (x1 m ρ c n k).trans (hx n k))
    (fun k => (g1 m ρ c k).trans (hg k)) (fun k j => (wu1 m ρ c k j).trans (hwu j k))
    (fun i => ((gates X G WU (i 0) (i 1) : ℝ) : EReal)) (fun _ _ => rfl))) (ix2 n k)

/-! ## The backward call -/

include hx hg hwg hwu hwd hd in
/-- The gradient in the input. -/
theorem dx (REF : FVec Ideal S8192x1024 .f32)
    (href : ∀ n j, REF (ix2 n j) = ((D n j + rmsBack (X n) (fun k => dh (gateCot D (gates X G WG) (gates X G WU) WD n)
      (upCot D (gates X G WG) WD n) WG WU k * G k) j : ℝ) : EReal)) : (dat1 (V3 m ρ) c).arrAt 8 cfg1.N = REF :=
  MlpBackward.final_dx (V3 m ρ) c X D G (gates X G WG) (gates X G WU) WG WU WD (d_in m ρ c D hd) (x_in m ρ c X hx) (g_in m ρ c G hg)
    (gate_in m ρ c X G WG hx hg hwg) (up_in m ρ c X G WU hx hg hwu) (wg_in m ρ c WG hwg) (wu_in m ρ c WU hwu) (wd_in m ρ c WD hwd) REF href

include hx hg hwg hwu hwd hd in
/-- The gate's cotangent. -/
theorem dgate (REF : FVec Ideal S8192x2816 .bf16)
    (href : ∀ n k, REF (ix2 n k) = ((gateCot D (gates X G WG) (gates X G WU) WD n k : ℝ) : EReal)) : (dat1 (V3 m ρ) c).arrAt 9 cfg1.N = REF :=
  MlpBackward.final_dgate (V3 m ρ) c D (gates X G WG) (gates X G WU) WD (d_in m ρ c D hd)
    (gate_in m ρ c X G WG hx hg hwg) (up_in m ρ c X G WU hx hg hwu) (wd_in m ρ c WD hwd) REF href

include hx hg hwg hwd hd in
/-- The other product's cotangent. -/
theorem dup (REF : FVec Ideal S8192x2816 .bf16)
    (href : ∀ n k, REF (ix2 n k) = ((upCot D (gates X G WG) WD n k : ℝ) : EReal)) : (dat1 (V3 m ρ) c).arrAt 10 cfg1.N = REF :=
  MlpBackward.final_dup (V3 m ρ) c D (gates X G WG) WD (d_in m ρ c D hd) (gate_in m ρ c X G WG hx hg hwg) (wd_in m ρ c WD hwd) REF href

include hx hg in
/-- The normalised rows. -/
theorem h2 (REF : FVec Ideal S8192x1024 .bf16) (href : ∀ n j, REF (ix2 n j) = ((normed (X n) G j : ℝ) : EReal)) :
    (dat1 (V3 m ρ) c).arrAt 11 cfg1.N = REF :=
  MlpBackward.final_h (V3 m ρ) c X G (x_in m ρ c X hx) (g_in m ρ c G hg) REF href

include hx hg hwg hwu hwd hd in
/-- The gradient in the gain. -/
theorem dg (REF : FVec Ideal S1x1024 .f32)
    (href : ∀ y j, REF (ix2 y j) = ((∑ n, gainPart X D (gates X G WG) (gates X G WU) WG WU WD n j : ℝ) : EReal)) :
    (dat1 (V3 m ρ) c).arrAt 12 cfg1.N = REF :=
  MlpBackward.final_dg (V3 m ρ) c X D (gates X G WG) (gates X G WU) WG WU WD (d_in m ρ c D hd) (x_in m ρ c X hx)
    (gate_in m ρ c X G WG hx hg hwg) (up_in m ρ c X G WU hx hg hwu) (wg_in m ρ c WG hwg) (wu_in m ρ c WU hwu) (wd_in m ρ c WD hwd) REF href

end Cert.MlpKernel

end
-- ==== Proof.MlpReference.lean ====
module

public import proofs.«01_k».proof.Proof.Gen.MlpReferenceIdeal.Read
public import Idealize.ShloMosaic.Lib.Pointwise
public import proofs.«01_k».proof.Proof.MlpReal

/-! # What the reference of the channel mixer computes, of real arguments -/

@[expose] public section

set_option maxRecDepth 16384

noncomputable section

namespace Cert.MlpReference

open Idealize.ShloMosaic Idealize.ShloMosaic.TcCoe Cert.MlpReferenceIdeal Cert.MlpReferenceIdeal.Read Cert.RealLift Cert.MlpReal

variable (x : FVec Ideal S1x8192x1024 .f32) (g : FVec Ideal S1024 .f32) (wg wu : FVec Ideal S1024x2816 .f32) (wd : FVec Ideal S2816x1024 .f32)
  (d : FVec Ideal S1x8192x1024 .f32)
variable (X : Fin 8192 → Fin 1024 → ℝ) (G : Fin 1024 → ℝ) (WG WU : Fin 1024 → Fin 2816 → ℝ) (WD : Fin 2816 → Fin 1024 → ℝ)
  (D : Fin 8192 → Fin 1024 → ℝ)
variable (hx : ∀ n k, x (ix3 0 n k) = ((X n k : ℝ) : EReal)) (hg : ∀ k, g (ix1 k) = ((G k : ℝ) : EReal))
  (hwg : ∀ j k, wg (ix2 j k) = ((WG j k : ℝ) : EReal)) (hwu : ∀ j k, wu (ix2 j k) = ((WU j k : ℝ) : EReal))
  (hwd : ∀ k j, wd (ix2 k j) = ((WD k j : ℝ) : EReal)) (hd : ∀ n k, d (ix3 0 n k) = ((D n k : ℝ) : EReal))

include hx in
/-- The reciprocal root of a row's mean square. -/
theorem root (n : Fin 8192) (y : Fin 1) : val_main_v9 (F := Ideal) x (ix2 n y) = ((rinv (X n) : ℝ) : EReal) := by
  pointwise [val_main_v9, val_main_v8, val_main_v7, val_main_v6, val_main_v5, val_main_v4, val_main_v3, val_main_v2, val_main_v0, val_main_cst,
    val_main_cst_0, val_main_cst_1]
  simp only [hx, word_eps, word_1024, rsqrt_row, ← EReal.coe_mul, ← coe_sum, div_coe _ (by norm_num : (1024 : ℝ) ≠ 0), ← EReal.coe_add]

include hx hg in
/-- The normalised rows. -/
theorem h_at (n : Fin 8192) (j : Fin 1024) : val_main_v17 (F := Ideal) x g (ix2 n j) = ((normed (X n) G j : ℝ) : EReal) := by
  pointwise [val_main_v17, val_main_v16, val_main_v15, val_main_v14, val_main_v13, val_main_v0]
  simp only [hx, hg, root x X hx, ← EReal.coe_mul]
  rfl

include hx hg hwg in
/-- The gate's product, -/
theorem gate_at (n : Fin 8192) (k : Fin 2816) :
    val_main_v18 (F := Ideal) x g wg (ix2 n k) = ((cols (normed (X n) G) WG k : ℝ) : EReal) := by
  pointwise [val_main_v18]
  simp only [hwg, h_at x g X G hx hg, ← EReal.coe_mul, ← coe_sum]
  rfl

include hx hg hwu in
/-- the other one, -/
theorem up_at (n : Fin 8192) (k : Fin 2816) :
    val_main_v19 (F := Ideal) x g wu (ix2 n k) = ((cols (normed (X n) G) WU k : ℝ) : EReal) := by
  pointwise [val_main_v19]
  simp only [hwu, h_at x g X G hx hg, ← EReal.coe_mul, ← coe_sum]
  rfl

include hx hg hwg in
/-- the gate's logistic, -/
theorem sig_at (n : Fin 8192) (k : Fin 2816) :
    val_main_v20_2 (F := Ideal) x g wg (ix2 n k) = ((sig (cols (normed (X n) G) WG k) : ℝ) : EReal) := by
  pointwise [val_main_v20_2, val_main_call0_v0, val_main_call0_v1, val_main_call0_cst, val_main_call0_v2, val_main_call0_v3,
    val_main_call0_cst_0, val_main_call0_v4]
  simp only [gate_at x g wg X G WG hx hg hwg, word_one, ← EReal.coe_one, Ideal.exp_coe, ← EReal.coe_neg, ← EReal.coe_add, div_coe _ (one_add_exp_ne _)]
  rfl

include hx hg hwg hwu in
/-- and the gated product. -/
theorem act_at (n : Fin 8192) (k : Fin 2816) :
    val_main_v21 (F := Ideal) x g wg wu (ix2 n k)
      = ((gated (cols (normed (X n) G) WG k) (cols (normed (X n) G) WU k) : ℝ) : EReal) := by
  pointwise [val_main_v21, val_main_v20_0]
  simp only [gate_at x g wg X G WG hx hg hwg, sig_at x g wg X G WG hx hg hwg, up_at x g wu X G WU hx hg hwu, ← EReal.coe_mul]
  rfl

include hx hg hwg hwu in
theorem act (n : Fin 8192) (k : Fin 2816) :
    val_main_v56 (F := Ideal) x g wg wu (ix2 n k)
      = ((gated (cols (normed (X n) G) WG k) (cols (normed (X n) G) WU k) : ℝ) : EReal) := by
  pointwise [val_main_v56]
  exact act_at x g wg wu X G WG WU hx hg hwg hwu n k

include hx hg hwg hwu hwd in
/-- The rows that leave the mixer. -/
theorem y (n : Fin 8192) (j : Fin 1024) :
    val_main_v23 (F := Ideal) x g wg wu wd (ix2 n j)
      = ((mixed (X n) (fun k => gated (cols (normed (X n) G) WG k) (cols (normed (X n) G) WU k)) WD j : ℝ) : EReal) := by
  pointwise [val_main_v23, val_main_v22, val_main_v0]
  simp only [hx, hwd, act_at x g wg wu X G WG WU hx hg hwg hwu, ← EReal.coe_mul, ← coe_sum, ← EReal.coe_add]
  rfl

include hd hwd in
/-- The cotangent of the gated product, -/
theorem dact_at (n : Fin 8192) (k : Fin 2816) :
    val_main_v26 (F := Ideal) wd d (ix2 n k) = ((dact (D n) WD k : ℝ) : EReal) := by
  pointwise [val_main_v26, val_main_v25, val_main_v24, val_main_cst_3, val_main_v1]
  simp only [hd, hwd, word_zero, ← EReal.coe_mul, ← coe_sum, ← EReal.coe_add]
  rfl

/-- The gate's cotangent in row `n`, -/
abbrev gateCot (n : Fin 8192) (k : Fin 2816) : ℝ :=
  dgate (dact (D n) WD k) (cols (normed (X n) G) WG k) (cols (normed (X n) G) WU k)
/-- and the other one's. -/
abbrev upCot (n : Fin 8192) (k : Fin 2816) : ℝ := dup (dact (D n) WD k) (cols (normed (X n) G) WG k)

include hx hg hwg hwd hd in
theorem dup_at (n : Fin 8192) (k : Fin 2816) :
    val_main_v27 (F := Ideal) x g wg wd d (ix2 n k) = ((upCot X G WG WD D n k : ℝ) : EReal) := by
  pointwise [val_main_v27, val_main_v20_0]
  simp only [gate_at x g wg X G WG hx hg hwg, sig_at x g wg X G WG hx hg hwg, dact_at wd d WD D hwd hd, ← EReal.coe_mul]
  congr 1
  exact mul_comm _ _

include hx hg hwg hwu hwd hd in
theorem dgate_at (n : Fin 8192) (k : Fin 2816) :
    val_main_v29 (F := Ideal) x g wg wu wd d (ix2 n k) = ((gateCot X G WG WU WD D n k : ℝ) : EReal) := by
  pointwise [val_main_v29, val_main_call1_v0, val_main_call1_v1, val_main_call1_v2, val_main_v28, val_main_v20_1, val_main_call0_v6,
    val_main_call0_v7, val_main_call0_cst_1]
  simp only [gate_at x g wg X G WG hx hg hwg, sig_at x g wg X G WG hx hg hwg, up_at x g wu X G WU hx hg hwu,
    dact_at wd d WD D hwd hd, word_one, ← EReal.coe_one, ← EReal.coe_mul, ← EReal.coe_sub, ← EReal.coe_add]
  congr 1
  unfold gateCot dgate
  ring

include hx hg hwg hwu hwd hd in
theorem dgate' (n : Fin 8192) (k : Fin 2816) :
    val_main_v57 (F := Ideal) x g wg wu wd d (ix2 n k) = ((gateCot X G WG WU WD D n k : ℝ) : EReal) := by
  pointwise [val_main_v57]
  exact dgate_at x g wg wu wd d X G WG WU WD D hx hg hwg hwu hwd hd n k

include hx hg hwg hwd hd in
theorem dup' (n : Fin 8192) (k : Fin 2816) :
    val_main_v58 (F := Ideal) x g wg wd d (ix2 n k) = ((upCot X G WG WD D n k : ℝ) : EReal) := by
  pointwise [val_main_v58]
  exact dup_at x g wg wd d X G WG WD D hx hg hwg hwd hd n k

include hx hg in
theorem h2 (n : Fin 8192) (j : Fin 1024) : val_main_v59 (F := Ideal) x g (ix2 n j) = ((normed (X n) G j : ℝ) : EReal) := by
  pointwise [val_main_v59]
  exact h_at x g X G hx hg n j

include hx hg hwg hwu hwd hd in
/-- The cotangent of the normalised rows. -/
theorem dh_at (n : Fin 8192) (j : Fin 1024) :
    val_main_v34 (F := Ideal) x g wg wu wd d (ix2 n j)
      = ((dh (gateCot X G WG WU WD D n) (upCot X G WG WD D n) WG WU j : ℝ) : EReal) := by
  pointwise [val_main_v34, val_main_v33, val_main_v32, val_main_v31, val_main_v30, val_main_cst_4]
  simp only [hwg, hwu, dgate_at x g wg wu wd d X G WG WU WD D hx hg hwg hwu hwd hd, dup_at x g wg wd d X G WG WD D hx hg hwg hwd hd,
    word_zero, ← EReal.coe_mul, ← coe_sum, ← EReal.coe_add]
  congr 1
  exact add_comm _ _

include hx hg hwg hwu hwd hd in
/-- The gradient in the gain. -/
theorem dg (y : Fin 1) (j : Fin 1024) :
    val_main_v60 (F := Ideal) x g wg wu wd d (ix2 y j)
      = ((∑ n, dh (gateCot X G WG WU WD D n) (upCot X G WG WD D n) WG WU j * (X n j * rinv (X n)) : ℝ) : EReal) := by
  pointwise [val_main_v60, val_main_v40, val_main_v37, val_main_v36, val_main_v35, val_main_v14, val_main_v13, val_main_v0, val_main_cst_5,
    val_main_cst_6]
  simp only [hx, root x X hx, dh_at x g wg wu wd d X G WG WU WD D hx hg hwg hwu hwd hd, Finset.univ_unique, Finset.sum_singleton,
    ← EReal.coe_mul, ← coe_sum]
  congr 1
  exact Finset.sum_congr rfl fun n _ => mul_comm _ _

include hx hg hwg hwu hwd hd in
/-- The gradient in the row `n`. -/
theorem dx (n : Fin 8192) (j : Fin 1024) :
    val_main_v55 (F := Ideal) x g wg wu wd d (ix2 n j)
      = ((D n j + rmsBack (X n) (fun k => dh (gateCot X G WG WU WD D n) (upCot X G WG WD D n) WG WU k * G k) j : ℝ) : EReal) := by
  pointwise [val_main_v55, val_main_v54, val_main_v53, val_main_v52, val_main_v51, val_main_v50, val_main_v49, val_main_v48, val_main_v47,
    val_main_v46, val_main_v45, val_main_v44, val_main_v43, val_main_v42, val_main_v41, val_main_v39, val_main_v38, val_main_v15,
    val_main_v12, val_main_v11, val_main_v10, val_main_v8, val_main_v7, val_main_v6, val_main_v5, val_main_v4, val_main_v3, val_main_v2,
    val_main_v1, val_main_v0, val_main_v13, val_main_v14, val_main_v16,
    val_main_cst, val_main_cst_0, val_main_cst_1, val_main_cst_2, val_main_cst_7, val_main_cst_8, val_main_cst_9]
  simp only [hx, hg, hd, root x X hx, dh_at x g wg wu wd d X G WG WU WD D hx hg hwg hwu hwd hd, word_eps, word_1024, word_neg_half, rsqrt_row_div,
    Finset.univ_unique, Finset.sum_singleton, ← EReal.coe_mul, ← coe_sum, div_coe _ (by norm_num : (1024 : ℝ) ≠ 0), ← EReal.coe_add, add_assoc]
  rw [rmsBack_eq]
  congr 1
  ring

end Cert.MlpReference

end
-- ==== Proof.MlpFinite.lean ====
module

public import proofs.«01_k».proof.Pre_mlp_finite
public import proofs.«01_k».proof.Proof.Gen.Pre_mlp_finite
public import proofs.«01_k».proof.Proof.RealLift

/-! # What the precondition of the channel mixer says -/

@[expose] public section

noncomputable section

namespace Cert.MlpFinite

open Idealize.ShloMosaic Cert.Pre_mlp_finite

/-- Under the precondition the six arguments are arrays of real numbers. -/
theorem reals [Cert.Pre_mlp_finite.Facts] (x : FVec Ideal S1x8192x1024 .f32) (g : FVec Ideal S1024 .f32) (wg wu : FVec Ideal S1024x2816 .f32)
    (wd : FVec Ideal S2816x1024 .f32) (d : FVec Ideal S1x8192x1024 .f32)
    (h : Cert.Pre_mlp_finite.fn (F := Ideal) x g wg wu wd d = fun _ => 1#1) :
    (∃ X : S1x8192x1024.Idx → ℝ, ∀ i, x i = ((X i : ℝ) : EReal)) ∧ (∃ G : S1024.Idx → ℝ, ∀ i, g i = ((G i : ℝ) : EReal))
      ∧ (∃ WG : S1024x2816.Idx → ℝ, ∀ i, wg i = ((WG i : ℝ) : EReal)) ∧ (∃ WU : S1024x2816.Idx → ℝ, ∀ i, wu i = ((WU i : ℝ) : EReal))
      ∧ (∃ WD : S2816x1024.Idx → ℝ, ∀ i, wd i = ((WD i : ℝ) : EReal)) ∧ ∃ D : S1x8192x1024.Idx → ℝ, ∀ i, d i = ((D i : ℝ) : EReal) := by
  have e := congrFun h (fun a => a.elim0)
  haveI : Subsingleton S_.Idx := ⟨fun a b => funext fun i => i.elim0⟩
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e1, e2⟩ := IntOp.andi_eq_one.mp e
  exact ⟨RealLift.exists_reals x _ (fun _ => RealLift.word_infinity) _ _ _ _ e1,
    RealLift.exists_reals g _ (fun _ => RealLift.word_infinity) _ _ _ _ e2,
    RealLift.exists_reals wg _ (fun _ => RealLift.word_infinity) _ _ _ _ e3,
    RealLift.exists_reals wu _ (fun _ => RealLift.word_infinity) _ _ _ _ e4,
    RealLift.exists_reals wd _ (fun _ => RealLift.word_infinity) _ _ _ _ e5,
    RealLift.exists_reals d _ (fun _ => RealLift.word_infinity) _ _ _ _ e6⟩

end Cert.MlpFinite

end
-- ==== Proof.Mlp.lean ====
module

public import proofs.«01_k».proof.Defs
public import proofs.«01_k».proof.Proof.Gen.Mlp
public import proofs.«01_k».proof.Proof.Gen.Mlp.Frame
public import proofs.«01_k».proof.Proof.Gen.MlpIdeal.Frame
public import proofs.«01_k».proof.Proof.Gen.MlpReferenceIdeal.Run
public import proofs.«01_k».proof.Proof.MlpKernel
public import proofs.«01_k».proof.Proof.MlpReference
public import proofs.«01_k».proof.Proof.MlpFinite

/-! # The channel mixer: the claims about its forward and its backward call -/

@[expose] public section

set_option maxRecDepth 16384

noncomputable section

namespace Cert.MlpProof

open Idealize.ShloMosaic Idealize.ShloMosaic.TcCoe Idealize.SL.Sem

/-- The kernel runs and leaves its arguments alone. -/
theorem frame : Cert.quiescent_Mlp := fun m ρ _ => Cert.Mlp.Gen.frame m ρ

/-- So does its ideal reading. -/
theorem frame_ideal : Cert.quiescent_MlpIdeal := fun m ρ _ => Cert.MlpIdeal.Gen.frame m ρ

theorem frame_ideal_pre : Cert.quiescent_MlpIdeal_pre_mlp_finite := fun m ρ _ => Cert.MlpIdeal.Gen.frame m ρ

/-- The reference runs and leaves its arguments alone; it has no counter. -/
theorem frame_reference : Cert.quiescent_MlpReferenceIdeal := fun m g _ =>
  (θ_run Cert.MlpReferenceIdeal.defs _ _).mono
    (fun r h => ⟨fun c => (h c).2.2.2.2.2.2.2, Idealize.ShloMosaic.sem_eq_zero_of_no_sems (by decide) r.2⟩)
    (Cert.MlpReferenceIdeal.Value.run (F := Ideal) m g)

theorem frame_reference_pre : Cert.quiescent_MlpReferenceIdeal_pre_mlp_finite := fun m g _ => frame_reference m g trivial

set_option maxHeartbeats 3200000 in
/-- On finite arguments the two calls' seven results are the mixer's rows and gated product, and its gradients. -/
theorem algebraic : Cert.algebraic_MlpIdeal_MlpReferenceIdeal_pre_mlp_finite := by
  pair_intro
  · run_from Cert.MlpRun.run m g
  · run_from Cert.MlpReferenceIdeal.Value.run m' g'
    all_goals
      obtain ⟨⟨X, hX⟩, ⟨G, hG⟩, ⟨WG, hWG⟩, ⟨WU, hWU⟩, ⟨WD, hWD⟩, ⟨D, hD⟩⟩ := Cert.MlpFinite.reals _ _ _ _ _ _ (hpre c)
      obtain ⟨a0, a1, a2, a3, a4, a5⟩ := hagree c
    · rw [Cert.MlpReferenceIdeal.Read.val_main_v23_eq]
      exact (Cert.MlpKernel.y m g c (fun n k => X (ix3 0 n k)) (fun k => G (ix1 k)) (fun j k => WG (ix2 j k)) (fun j k => WU (ix2 j k))
        (fun k j => WD (ix2 k j)) (fun _ _ => hX _) (fun _ => hG _) (fun _ _ => hWG _) (fun _ _ => hWU _) (fun _ _ => hWD _) _
        (Cert.MlpReference.y _ _ _ _ _ _ _ _ _ _ (fun _ _ => hX _) (fun _ => hG _) (fun _ _ => hWG _) (fun _ _ => hWU _) (fun _ _ => hWD _))).symm
    · rw [Cert.MlpReferenceIdeal.Read.val_main_v56_eq]
      exact (Cert.MlpKernel.act m g c (fun n k => X (ix3 0 n k)) (fun k => G (ix1 k)) (fun j k => WG (ix2 j k)) (fun j k => WU (ix2 j k))
        (fun _ _ => hX _) (fun _ => hG _) (fun _ _ => hWG _) (fun _ _ => hWU _) _
        (Cert.MlpReference.act _ _ _ _ _ _ _ _ (fun _ _ => hX _) (fun _ => hG _) (fun _ _ => hWG _) (fun _ _ => hWU _))).symm
    · rw [Cert.MlpReferenceIdeal.Read.val_main_v55_eq, a0, a1, a2, a3, a4, a5]
      exact (Cert.MlpKernel.dx m g c (fun n k => X (ix3 0 n k)) (fun k => G (ix1 k)) (fun j k => WG (ix2 j k)) (fun j k => WU (ix2 j k))
        (fun k j => WD (ix2 k j)) (fun n k => D (ix3 0 n k)) (fun _ _ => hX _) (fun _ => hG _) (fun _ _ => hWG _) (fun _ _ => hWU _)
        (fun _ _ => hWD _) (fun _ _ => hD _) _
        (Cert.MlpReference.dx _ _ _ _ _ _ _ _ _ _ _ _ (fun _ _ => hX _) (fun _ => hG _) (fun _ _ => hWG _) (fun _ _ => hWU _)
          (fun _ _ => hWD _) (fun _ _ => hD _))).symm
    · rw [Cert.MlpReferenceIdeal.Read.val_main_v57_eq, a0, a1, a2, a3, a4, a5]
      exact (Cert.MlpKernel.dgate m g c (fun n k => X (ix3 0 n k)) (fun k => G (ix1 k)) (fun j k => WG (ix2 j k)) (fun j k => WU (ix2 j k))
        (fun k j => WD (ix2 k j)) (fun n k => D (ix3 0 n k)) (fun _ _ => hX _) (fun _ => hG _) (fun _ _ => hWG _) (fun _ _ => hWU _)
        (fun _ _ => hWD _) (fun _ _ => hD _) _
        (Cert.MlpReference.dgate' _ _ _ _ _ _ _ _ _ _ _ _ (fun _ _ => hX _) (fun _ => hG _) (fun _ _ => hWG _) (fun _ _ => hWU _)
          (fun _ _ => hWD _) (fun _ _ => hD _))).symm
    · rw [Cert.MlpReferenceIdeal.Read.val_main_v58_eq]
      exact (Cert.MlpKernel.dup m g c (fun n k => X (ix3 0 n k)) (fun k => G (ix1 k)) (fun j k => WG (ix2 j k))
        (fun k j => WD (ix2 k j)) (fun n k => D (ix3 0 n k)) (fun _ _ => hX _) (fun _ => hG _) (fun _ _ => hWG _)
        (fun _ _ => hWD _) (fun _ _ => hD _) _
        (Cert.MlpReference.dup' _ _ _ _ _ _ _ _ _ _ (fun _ _ => hX _) (fun _ => hG _) (fun _ _ => hWG _)
          (fun _ _ => hWD _) (fun _ _ => hD _))).symm
    · rw [Cert.MlpReferenceIdeal.Read.val_main_v59_eq]
      exact (Cert.MlpKernel.h2 m g c (fun n k => X (ix3 0 n k)) (fun k => G (ix1 k)) (fun _ _ => hX _) (fun _ => hG _) _
        (Cert.MlpReference.h2 _ _ _ _ (fun _ _ => hX _) (fun _ => hG _))).symm
    · rw [Cert.MlpReferenceIdeal.Read.val_main_v60_eq, a0, a1, a2, a3, a4, a5]
      exact (Cert.MlpKernel.dg m g c (fun n k => X (ix3 0 n k)) (fun k => G (ix1 k)) (fun j k => WG (ix2 j k)) (fun j k => WU (ix2 j k))
        (fun k j => WD (ix2 k j)) (fun n k => D (ix3 0 n k)) (fun _ _ => hX _) (fun _ => hG _) (fun _ _ => hWG _) (fun _ _ => hWU _)
        (fun _ _ => hWD _) (fun _ _ => hD _) _
        (Cert.MlpReference.dg _ _ _ _ _ _ _ _ _ _ _ _ (fun _ _ => hX _) (fun _ => hG _) (fun _ _ => hWG _) (fun _ _ => hWU _)
          (fun _ _ => hWD _) (fun _ _ => hD _))).symm

end Cert.MlpProof

end
-- ==== Proof.lean ====
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.Pre_loss_finite
public import proofs.«01_k».proof.Proof.Loss
public import proofs.«01_k».proof.Proof.Gen.Ret
public import proofs.«01_k».proof.Proof.Gen.Ret.Frame
public import proofs.«01_k».proof.Proof.Gen.RetIdeal
public import proofs.«01_k».proof.Proof.Gen.RetIdeal.Value
public import proofs.«01_k».proof.Proof.Gen.RetIdeal.Frame
public import proofs.«01_k».proof.Proof.Gen.RetReferenceIdeal
public import proofs.«01_k».proof.Proof.Gen.RetReferenceIdeal.Run
public import proofs.«01_k».proof.Proof.Ret
public import proofs.«01_k».proof.Proof.Gen.RetQ
public import proofs.«01_k».proof.Proof.Gen.RetQIdeal
public import proofs.«01_k».proof.Proof.Gen.RetQReferenceIdeal
public import proofs.«01_k».proof.Proof.Gen.RetQReferenceIdeal.Run
public import proofs.«01_k».proof.Proof.RetQ
public import proofs.«01_k».proof.Proof.Gen.RetFwd
public import proofs.«01_k».proof.Proof.Gen.RetFwd.Frame
public import proofs.«01_k».proof.Proof.Gen.RetFwdIdeal
public import proofs.«01_k».proof.Proof.Gen.RetFwdIdeal.Value
public import proofs.«01_k».proof.Proof.Gen.RetFwdIdeal.Frame
public import proofs.«01_k».proof.Proof.Gen.RetFwdReferenceIdeal
public import proofs.«01_k».proof.Proof.Gen.RetFwdReferenceIdeal.Run
public import proofs.«01_k».proof.Proof.RetF
public import proofs.«01_k».proof.Proof.Gen.InFwd
public import proofs.«01_k».proof.Proof.Gen.InFwd.Frame
public import proofs.«01_k».proof.Proof.Gen.InFwdIdeal
public import proofs.«01_k».proof.Proof.Gen.InFwdIdeal.Frame
public import proofs.«01_k».proof.Proof.Gen.InFwdReferenceIdeal
public import proofs.«01_k».proof.Proof.Gen.InFwdReferenceIdeal.Run
public import proofs.«01_k».proof.Proof.Gen.InFwdReferenceIdeal.Read
public import proofs.«01_k».proof.Proof.InFwd
public import proofs.«01_k».proof.Proof.Gen.OutFwd
public import proofs.«01_k».proof.Proof.Gen.OutFwd.Frame
public import proofs.«01_k».proof.Proof.Gen.OutFwdIdeal
public import proofs.«01_k».proof.Proof.Gen.OutFwdIdeal.Frame
public import proofs.«01_k».proof.Proof.Gen.OutFwdReferenceIdeal
public import proofs.«01_k».proof.Proof.Gen.OutFwdReferenceIdeal.Run
public import proofs.«01_k».proof.Proof.Gen.OutFwdReferenceIdeal.Read
public import proofs.«01_k».proof.Proof.OutFwd
public import proofs.«01_k».proof.Proof.Gen.InProj
public import proofs.«01_k».proof.Proof.Gen.InProj.Frame
public import proofs.«01_k».proof.Proof.Gen.InProjIdeal
public import proofs.«01_k».proof.Proof.Gen.InProjIdeal.Value
public import proofs.«01_k».proof.Proof.Gen.InProjIdeal.Frame
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.Pre_in_finite
public import proofs.«01_k».proof.Proof.InProj
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.Gen.Pre_mlp_finite
public import proofs.«01_k».proof.Proof.Mlp
public import Idealize.ShloMosaic.Adequacy
public import Idealize.ShloMosaic.Init

@[expose] public section

noncomputable section

namespace Cert.Proof

theorem claim : Cert.Claim := ⟨Cert.Loss.Gen.facts, Cert.LossIdeal.Gen.facts, Cert.LossReferenceIdeal.Gen.facts,
  Cert.Ret.Gen.facts, Cert.RetIdeal.Gen.facts, Cert.RetReferenceIdeal.Gen.facts,
  Cert.RetQ.Gen.facts, Cert.RetQIdeal.Gen.facts, Cert.RetQReferenceIdeal.Gen.facts,
  Cert.RetFwd.Gen.facts, Cert.RetFwdIdeal.Gen.facts, Cert.RetFwdReferenceIdeal.Gen.facts,
  Cert.InFwd.Gen.facts, Cert.InFwdIdeal.Gen.facts, Cert.InFwdReferenceIdeal.Gen.facts,
  Cert.OutFwd.Gen.facts, Cert.OutFwdIdeal.Gen.facts, Cert.OutFwdReferenceIdeal.Gen.facts,
  Cert.InProj.Gen.facts, Cert.InProjIdeal.Gen.facts, Cert.InProjReferenceIdeal.Gen.facts,
  Cert.Mlp.Gen.facts, Cert.MlpIdeal.Gen.facts, Cert.MlpReferenceIdeal.Gen.facts,
  Cert.Pre_loss_finite.Gen.facts, Cert.Pre_in_finite.Gen.facts, Cert.Pre_mlp_finite.Gen.facts,
  LossProof.frame, LossProof.frame_ideal, LossProof.frame_ideal_pre, LossProof.frame_reference, LossProof.frame_reference_pre,
  RetProof.frame, RetProof.frame_ideal, RetProof.frame_reference,
  RetQProof.frame, RetQProof.frame_ideal, RetQProof.frame_reference,
  RetFwdProof.frame, RetFwdProof.frame_ideal, RetFwdProof.frame_reference,
  InFwdProof.frame, InFwdProof.frame_ideal, InFwdProof.frame_reference,
  OutFwdProof.frame, OutFwdProof.frame_ideal, OutFwdProof.frame_reference,
  InProjProof.frame, InProjProof.frame_ideal, InProjProof.frame_ideal_pre, InProjProof.frame_reference, InProjProof.frame_reference_pre,
  MlpProof.frame, MlpProof.frame_ideal, MlpProof.frame_ideal_pre, MlpProof.frame_reference, MlpProof.frame_reference_pre,
  trivial, LossProof.algebraic, trivial, RetProof.algebraic, trivial, RetQProof.algebraic, trivial, RetFwdProof.algebraic,
  trivial, InFwdProof.algebraic, trivial, OutFwdProof.algebraic,
  trivial, InProjProof.algebraic, trivial, MlpProof.algebraic⟩

end Cert.Proof

end
